-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_in_range5 : Cert.Pre_in_range5.Facts] (m : (ℓ : Loc Cert.Kernel5.nD Cert.Kernel5.τ Cert.Kernel5.sig) → Buf (Elt Bits) ℓ) : Prop :=
  ∀ c : Dev Cert.Kernel5.nD,
    (Cert.Pre_in_range5.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3))) = (fun _ => 1#1)

def Pre_Kernel5Ideal [hPre_in_range5 : Cert.Pre_in_range5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_in_range5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Kernel5Ideal_routed [hPre_routed : Cert.Pre_routed.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_routed.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_routed.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_routed [hPre_routed : Cert.Pre_routed.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_routed.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_routed.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2 = (fun _ => 1#1)

def Pre_Kernel6 [hPre_in_range6 : Cert.Pre_in_range6.Facts] (m : (ℓ : Loc Cert.Kernel6.nD Cert.Kernel6.τ Cert.Kernel6.sig) → Buf (Elt Bits) ℓ) : Prop :=
  ∀ c : Dev Cert.Kernel6.nD,
    (Cert.Pre_in_range6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3))) = (fun _ => 1#1)

def Pre_Kernel6Ideal [hPre_in_range6 : Cert.Pre_in_range6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_in_range6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Kernel6Ideal_dispatched [hPre_dispatched : Cert.Pre_dispatched.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_dispatched.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_dispatched.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_dispatched [hPre_dispatched : Cert.Pre_dispatched.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_dispatched.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_dispatched.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] [hPre_in_range5 : Cert.Pre_in_range5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] [hPre_in_range5 : Cert.Pre_in_range5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_routed [hKernel5Ideal : Cert.Kernel5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_routed m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_routed [hReference5Ideal : Cert.Reference5Ideal.Facts] [hPre_routed : Cert.Pre_routed.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_routed m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] [hPre_in_range6 : Cert.Pre_in_range6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] [hPre_in_range6 : Cert.Pre_in_range6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_dispatched [hKernel6Ideal : Cert.Kernel6Ideal.Facts] [hPre_dispatched : Cert.Pre_dispatched.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_dispatched m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_dispatched [hReference6Ideal : Cert.Reference6Ideal.Facts] [hPre_dispatched : Cert.Pre_dispatched.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_dispatched m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v19_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_routed [hKernel5Ideal : Cert.Kernel5Ideal.Facts] [hReference5Ideal : Cert.Reference5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_routed m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_dispatched [hKernel6Ideal : Cert.Kernel6Ideal.Facts] [hReference6Ideal : Cert.Reference6Ideal.Facts] [hPre_dispatched : Cert.Pre_dispatched.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_dispatched m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v10_0)) (v1 : (c : Dev Cert.Kernel7Ideal.nD) → Buf (Elt Ideal) ((c.tc : Thread Cert.Kernel7Ideal.nD Cert.Kernel7Ideal.τ).loc Cert.Kernel7Ideal.main_v10_1)) (v2 : (c : Dev Cert.Kernel7Ideal.nD) → Buf (Elt Ideal) ((c.tc : Thread Cert.Kernel7Ideal.nD Cert.Kernel7Ideal.τ).loc Cert.Kernel7Ideal.main_v10_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10_0) = v0 c
          ∧ r.2.mem ((c.tc : Thread Cert.Kernel7Ideal.nD Cert.Kernel7Ideal.τ).loc Cert.Kernel7Ideal.main_v10_1) = v1 c
          ∧ r.2.mem ((c.tc : Thread Cert.Kernel7Ideal.nD Cert.Kernel7Ideal.τ).loc Cert.Kernel7Ideal.main_v10_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_v28) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)) (v3 : (c : Dev Cert.Kernel12Ideal.nD) → Buf (Elt Ideal) ((c.tc : Thread Cert.Kernel12Ideal.nD Cert.Kernel12Ideal.τ).loc Cert.Kernel12Ideal.main_v4_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_v4_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_v32) = v1 c
          ∧ r.2.mem ((c.tc : Thread Cert.Reference12Ideal.nD Cert.Reference12Ideal.τ).loc Cert.Reference12Ideal.main_v33) = v2 c
          ∧ r.2.mem ((c.tc : Thread Cert.Reference12Ideal.nD Cert.Reference12Ideal.τ).loc Cert.Reference12Ideal.main_v41) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v39) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_in_range5 : Cert.Pre_in_range5.Facts) (hPre_routed : Cert.Pre_routed.Facts) (hPre_in_range6 : Cert.Pre_in_range6.Facts) (hPre_dispatched : Cert.Pre_dispatched.Facts) (hPre_finite12 : Cert.Pre_finite12.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_in_range5 := hPre_in_range5)
    ∧ quiescent_Kernel5Ideal (hKernel5Ideal := hKernel5Ideal) (hPre_in_range5 := hPre_in_range5)
    ∧ quiescent_Kernel5Ideal_pre_routed (hKernel5Ideal := hKernel5Ideal) (hPre_routed := hPre_routed)
    ∧ quiescent_Reference5Ideal (hReference5Ideal := hReference5Ideal)
    ∧ quiescent_Reference5Ideal_pre_routed (hReference5Ideal := hReference5Ideal) (hPre_routed := hPre_routed)
    ∧ quiescent_Kernel6 (hKernel6 := hKernel6) (hPre_in_range6 := hPre_in_range6)
    ∧ quiescent_Kernel6Ideal (hKernel6Ideal := hKernel6Ideal) (hPre_in_range6 := hPre_in_range6)
    ∧ quiescent_Kernel6Ideal_pre_dispatched (hKernel6Ideal := hKernel6Ideal) (hPre_dispatched := hPre_dispatched)
    ∧ quiescent_Reference6Ideal (hReference6Ideal := hReference6Ideal)
    ∧ quiescent_Reference6Ideal_pre_dispatched (hReference6Ideal := hReference6Ideal) (hPre_dispatched := hPre_dispatched)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_routed (hKernel5Ideal := hKernel5Ideal) (hReference5Ideal := hReference5Ideal) (hPre_routed := hPre_routed)
    ∧ preserves_Kernel6_Kernel6Ideal
    ∧ algebraic_Kernel6Ideal_Reference6Ideal_pre_dispatched (hKernel6Ideal := hKernel6Ideal) (hReference6Ideal := hReference6Ideal) (hPre_dispatched := hPre_dispatched)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal_pre_finite13 (hKernel13Ideal := hKernel13Ideal) (hReference13Ideal := hReference13Ideal) (hPre_finite13 := hPre_finite13)
-- ==== Pre_dispatched.lean ====
abbrev S22656x2048 : Shape := ⟨2, ![22656, 2048]⟩
abbrev S177 : Shape := ⟨1, ![177]⟩
abbrev S1 : Shape := ⟨1, ![1]⟩
abbrev S2x32x2048x2048 : Shape := ⟨4, ![2, 32, 2048, 2048]⟩
abbrev S177x128x2048 : Shape := ⟨3, ![177, 128, 2048]⟩
abbrev S_ : Shape := ⟨0, ![]⟩

class Facts : Prop where
  shapeCasts_S1_S_ : S1.ShapeCasts S_
  bcast_S_S177x128x2048 : S_.BroadcastsInDim S177x128x2048 (![] : Fin 0 → Fin S177x128x2048.rank)
  bcast_S_S177 : S_.BroadcastsInDim S177 (![] : Fin 0 → Fin S177.rank)
  shapeCasts_S22656x2048_S177x128x2048 : S22656x2048.ShapeCasts S177x128x2048

variable [Facts]

def fn {F : FTy → Type} [FloatOps F] (main_arg0 : FVec F S22656x2048 .f32) (main_arg1 : IVec S177 32) (main_arg2 : IVec S1 32) (main_arg3 : FVec F S2x32x2048x2048 .f32) : IVec S177 1 × IVec S177x128x2048 1 :=
  let main_v0 : IVec S177x128x2048 32 := iotaInDim S177x128x2048 32 0
  let main_v1 : IVec S_ 32 := shapeCast S_ main_arg2 shapeCasts_S1_S_
  let main_v2 : IVec S177x128x2048 32 := broadcastInDim S177x128x2048 ![] bcast_S_S177x128x2048 main_v1
  let main_v3 : IVec S177x128x2048 1 := cmpi .slt main_v0 main_v2
  let main_c : IVec S_ 32 := constantI S_ 32 0#32
  let main_v4 : IVec S177 32 := broadcastInDim S177 ![] bcast_S_S177 main_c
  let main_v5 : IVec S177 1 := cmpi .sge main_arg1 main_v4
  let main_c_0 : IVec S_ 32 := constantI S_ 32 32#32
  let main_v6 : IVec S177 32 := broadcastInDim S177 ![] bcast_S_S177 main_c_0
  let main_v7 : IVec S177 1 := cmpi .slt main_arg1 main_v6
  let main_v8 : IVec S177 1 := andi main_v5 main_v7
  let main_v9 : FVec F S177x128x2048 .f32 := shapeCast S177x128x2048 main_arg0 shapeCasts_S22656x2048_S177x128x2048
  let main_cst : FVec F S_ .f32 := constant S_ .f32 0x00000000#32
  let main_v10 : FVec F S177x128x2048 .f32 := broadcastInDim S177x128x2048 ![] bcast_S_S177x128x2048 main_cst
  let main_v11 : IVec S177x128x2048 1 := cmpf .oeq main_v9 main_v10
  let main_v12 : IVec S177x128x2048 1 := ori main_v3 main_v11
  (main_v8, main_v12)
-- ==== Pre_finite.lean ====
abbrev S9280x2048 : Shape := ⟨2, ![9280, 2048]⟩
abbrev S128x32x64x64 : Shape := ⟨4, ![128, 32, 64, 64]⟩
abbrev S_ : Shape := ⟨0, ![]⟩

class Facts : Prop where
  bcast_S_S9280x2048 : S_.BroadcastsInDim S9280x2048 (![] : Fin 0 → Fin S9280x2048.rank)
  reducesTo_S9280x2048_S_d0_1 : S9280x2048.ReducesTo [0, 1] S_
  h_S_ : 0 < S_.numel
  bcast_S_S128x32x64x64 : S_.BroadcastsInDim S128x32x64x64 (![] : Fin 0 → Fin S128x32x64x64.rank)
  reducesTo_S128x32x64x64_S_d0_1_2_3 : S128x32x64x64.ReducesTo [0, 1, 2, 3] S_

variable [Facts]

def fn_part1 {F : FTy → Type} [FloatOps F] (main_arg4 : FVec F S9280x2048 .f32) (main_arg5 : FVec F S9280x2048 .f32) (main_arg6 : FVec F S128x32x64x64 .f32) (main_v13 : IVec S_ 1) (main_v16 : IVec S9280x2048 1) : IVec S_ 1 :=
  let main_c_5 : IVec S_ 1 := constantI S_ 1 1#1
  let main_v17 : IVec S_ 1 := (fun x v => Host.reduce IntOp.andi x v reducesTo_S9280x2048_S_d0_1 h_S_) main_v16 main_c_5
  let main_v18 : IVec S_ 1 := andi main_v13 main_v17
  let main_v19 : FVec F S9280x2048 .f32 := Host.absf main_arg4
  let main_cst_6 : FVec F S_ .f32 := constant S_ .f32 0x7F800000#32
  let main_v20 : FVec F S9280x2048 .f32 := broadcastInDim S9280x2048 ![] bcast_S_S9280x2048 main_cst_6
  let main_v21 : IVec S9280x2048 1 := cmpf .olt main_v19 main_v20
  let main_c_7 : IVec S_ 1 := constantI S_ 1 1#1
  let main_v22 : IVec S_ 1 := (fun x v => Host.reduce IntOp.andi x v reducesTo_S9280x2048_S_d0_1 h_S_) main_v21 main_c_7
  let main_v23 : IVec S_ 1 := andi main_v18 main_v22
  let main_v24 : FVec F S9280x2048 .f32 := Host.absf main_arg5
  let main_cst_8 : FVec F S_ .f32 := constant S_ .f32 0x7F800000#32
  let main_v25 : FVec F S9280x2048 .f32 := broadcastInDim S9280x2048 ![] bcast_S_S9280x2048 main_cst_8
  let main_v26 : IVec S9280x2048 1 := cmpf .olt main_v24 main_v25
  let main_c_9 : IVec S_ 1 := constantI S_ 1 1#1
  let main_v27 : IVec S_ 1 := (fun x v => Host.reduce IntOp.andi x v reducesTo_S9280x2048_S_d0_1 h_S_) main_v26 main_c_9
  let main_v28 : IVec S_ 1 := andi main_v23 main_v27
  let main_v29 : FVec F S128x32x64x64 .f32 := Host.absf main_arg6
  let main_cst_10 : FVec F S_ .f32 := constant S_ .f32 0x7F800000#32
  let main_v30 : FVec F S128x32x64x64 .f32 := broadcastInDim S128x32x64x64 ![] bcast_S_S128x32x64x64 main_cst_10
  let main_v31 : IVec S128x32x64x64 1 := cmpf .olt main_v29 main_v30
  let main_c_11 : IVec S_ 1 := constantI S_ 1 1#1
  let main_v32 : IVec S_ 1 := (fun x v => Host.reduce IntOp.andi x v reducesTo_S128x32x64x64_S_d0_1_2_3 h_S_) main_v31 main_c_11
  let main_v33 : IVec S_ 1 := andi main_v28 main_v32
  main_v33

def fn {F : FTy → Type} [FloatOps F] (main_arg0 : FVec F S9280x2048 .f32) (main_arg1 : FVec F S9280x2048 .f32) (main_arg2 : FVec F S9280x2048 .f32) (main_arg3 : FVec F S9280x2048 .f32) (main_arg4 : FVec F S9280x2048 .f32) (main_arg5 : FVec F S9280x2048 .f32) (main_arg6 : FVec F S128x32x64x64 .f32) : IVec S_ 1 :=
  let main_v0 : FVec F S9280x2048 .f32 := Host.absf main_arg0
  let main_cst : FVec F S_ .f32 := constant S_ .f32 0x7F800000#32
  let main_v1 : FVec F S9280x2048 .f32 := broadcastInDim S9280x2048 ![] bcast_S_S9280x2048 main_cst
  let main_v2 : IVec S9280x2048 1 := cmpf .olt main_v0 main_v1
  let main_c : IVec S_ 1 := constantI S_ 1 1#1
  let main_v3 : IVec S_ 1 := (fun x v => Host.reduce IntOp.andi x v reducesTo_S9280x2048_S_d0_1 h_S_) main_v2 main_c
  let main_v4 : FVec F S9280x2048 .f32 := Host.absf main_arg1
  let main_cst_0 : FVec F S_ .f32 := constant S_ .f32 0x7F800000#32
  let main_v5 : FVec F S9280x2048 .f32 := broadcastInDim S9280x2048 ![] bcast_S_S9280x2048 main_cst_0
  let main_v6 : IVec S9280x2048 1 := cmpf .olt main_v4 main_v5
  let main_c_1 : IVec S_ 1 := constantI S_ 1 1#1
  let main_v7 : IVec S_ 1 := (fun x v => Host.reduce IntOp.andi x v reducesTo_S9280x2048_S_d0_1 h_S_) main_v6 main_c_1
  let main_v8 : IVec S_ 1 := andi main_v3 main_v7
  let main_v9 : FVec F S9280x2048 .f32 := Host.absf main_arg2
  let main_cst_2 : FVec F S_ .f32 := constant S_ .f32 0x7F800000#32
  let main_v10 : FVec F S9280x2048 .f32 := broadcastInDim S9280x2048 ![] bcast_S_S9280x2048 main_cst_2
  let main_v11 : IVec S9280x2048 1 := cmpf .olt main_v9 main_v10
  let main_c_3 : IVec S_ 1 := constantI S_ 1 1#1
  let main_v12 : IVec S_ 1 := (fun x v => Host.reduce IntOp.andi x v reducesTo_S9280x2048_S_d0_1 h_S_) main_v11 main_c_3
  let main_v13 : IVec S_ 1 := andi main_v8 main_v12
  let main_v14 : FVec F S9280x2048 .f32 := Host.absf main_arg3
  let main_cst_4 : FVec F S_ .f32 := constant S_ .f32 0x7F800000#32
  let main_v15 : FVec F S9280x2048 .f32 := broadcastInDim S9280x2048 ![] bcast_S_S9280x2048 main_cst_4
  let main_v16 : IVec S9280x2048 1 := cmpf .olt main_v14 main_v15
  fn_part1 (F := F) main_arg4 main_arg5 main_arg6 main_v13 main_v16
-- ==== Pre_finite12.lean ====
abbrev S9280x2048 : Shape := ⟨2, ![9280, 2048]⟩
abbrev S2048 : Shape := ⟨1, ![2048]⟩
abbrev S_ : Shape := ⟨0, ![]⟩

class Facts : Prop where
  bcast_S_S9280x2048 : S_.BroadcastsInDim S9280x2048 (![] : Fin 0 → Fin S9280x2048.rank)
  reducesTo_S9280x2048_S_d0_1 : S9280x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S9280x2048 .f32) (main_arg1 : FVec F S9280x2048 .f32) (main_arg2 : FVec F S9280x2048 .f32) (main_arg3 : FVec F S2048 .f32) (main_arg4 : FVec F S2048 .f32) (main_arg5 : FVec F S2048 .f32) (main_arg6 : FVec F S2048 .f32) : IVec S_ 1 :=
  let main_v0 : FVec F S9280x2048 .f32 := Host.absf main_arg0
  let main_cst : FVec F S_ .f32 := constant S_ .f32 0x7F800000#32
  let main_v1 : FVec F S9280x2048 .f32 := broadcastInDim S9280x2048 ![] bcast_S_S9280x2048 main_cst
  let main_v2 : IVec S9280x2048 1 := cmpf .olt main_v0 main_v1
  let main_c : IVec S_ 1 := constantI S_ 1 1#1
  let main_v3 : IVec S_ 1 := (fun x v => Host.reduce IntOp.andi x v reducesTo_S9280x2048_S_d0_1 h_S_) main_v2 main_c
  let main_v4 : FVec F S2048 .f32 := Host.absf main_arg5
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Pre_finite13.lean ====
abbrev S9280x2048 : Shape := ⟨2, ![9280, 2048]⟩
abbrev S32x64 : Shape := ⟨2, ![32, 64]⟩
abbrev S2048 : Shape := ⟨1, ![2048]⟩
abbrev S_ : Shape := ⟨0, ![]⟩

class Facts : Prop where
  bcast_S_S9280x2048 : S_.BroadcastsInDim S9280x2048 (![] : Fin 0 → Fin S9280x2048.rank)
  reducesTo_S9280x2048_S_d0_1 : S9280x2048.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_

variable [Facts]

def fn_part1 {F : FTy → Type} [FloatOps F] (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  main_v18

def fn {F : FTy → Type} [FloatOps F] (main_arg0 : FVec F S9280x2048 .f32) (main_arg1 : FVec F S9280x2048 .f32) (main_arg2 : FVec F S9280x2048 .f32) (main_arg3 : FVec F S9280x2048 .f32) (main_arg4 : FVec F S9280x2048 .f32) (main_arg5 : FVec F S32x64 .f32) (main_arg6 : FVec F S2048 .f32) (main_arg7 : FVec F S2048 .f32) : IVec S_ 1 :=
  let main_v0 : FVec F S9280x2048 .f32 := Host.absf main_arg0
  let main_cst : FVec F S_ .f32 := constant S_ .f32 0x7F800000#32
  let main_v1 : FVec F S9280x2048 .f32 := broadcastInDim S9280x2048 ![] bcast_S_S9280x2048 main_cst
  let main_v2 : IVec S9280x2048 1 := cmpf .olt main_v0 main_v1
  let main_c : IVec S_ 1 := constantI S_ 1 1#1
  let main_v3 : IVec S_ 1 := (fun x v => Host.reduce IntOp.andi x v reducesTo_S9280x2048_S_d0_1 h_S_) main_v2 main_c
  let main_v4 : FVec F S9280x2048 .f32 := Host.absf main_arg1
  let main_cst_0 : FVec F S_ .f32 := constant S_ .f32 0x7F800000#32
  let main_v5 : FVec F S9280x2048 .f32 := broadcastInDim S9280x2048 ![] bcast_S_S9280x2048 main_cst_0
  let main_v6 : IVec S9280x2048 1 := cmpf .olt main_v4 main_v5
  let main_c_1 : IVec S_ 1 := constantI S_ 1 1#1
  let main_v7 : IVec S_ 1 := (fun x v => Host.reduce IntOp.andi x v reducesTo_S9280x2048_S_d0_1 h_S_) main_v6 main_c_1
  let main_v8 : IVec S_ 1 := andi main_v3 main_v7
  let main_v9 : FVec F S9280x2048 .f32 := Host.absf main_arg2
  let main_cst_2 : FVec F S_ .f32 := constant S_ .f32 0x7F800000#32
  let main_v10 : FVec F S9280x2048 .f32 := broadcastInDim S9280x2048 ![] bcast_S_S9280x2048 main_cst_2
  let main_v11 : IVec S9280x2048 1 := cmpf .olt main_v9 main_v10
  let main_c_3 : IVec S_ 1 := constantI S_ 1 1#1
  let main_v12 : IVec S_ 1 := (fun x v => Host.reduce IntOp.andi x v reducesTo_S9280x2048_S_d0_1 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_v13 main_v16
-- ==== Pre_in_range5.lean ====
abbrev S22656x1024 : Shape := ⟨2, ![22656, 1024]⟩
abbrev S177 : Shape := ⟨1, ![177]⟩
abbrev S1 : Shape := ⟨1, ![1]⟩
abbrev S2x32x1024x2048 : Shape := ⟨4, ![2, 32, 1024, 2048]⟩
abbrev S_ : Shape := ⟨0, ![]⟩

class Facts : Prop where
  bcast_S_S177 : S_.BroadcastsInDim S177 (![] : Fin 0 → Fin S177.rank)

variable [Facts]

def fn {F : FTy → Type} [FloatOps F] (main_arg0 : FVec F S22656x1024 .f32) (main_arg1 : IVec S177 32) (main_arg2 : IVec S1 32) (main_arg3 : FVec F S2x32x1024x2048 .f32) : IVec S177 1 :=
  let main_c : IVec S_ 32 := constantI S_ 32 0#32
  let main_v0 : IVec S177 32 := broadcastInDim S177 ![] bcast_S_S177 main_c
  let main_v1 : IVec S177 1 := cmpi .sge main_arg1 main_v0
  let main_c_0 : IVec S_ 32 := constantI S_ 32 32#32
  let main_v2 : IVec S177 32 := broadcastInDim S177 ![] bcast_S_S177 main_c_0
  let main_v3 : IVec S177 1 := cmpi .slt main_arg1 main_v2
  let main_v4 : IVec S177 1 := andi main_v1 main_v3
  main_v4
-- ==== Pre_in_range6.lean ====
abbrev S22656x2048 : Shape := ⟨2, ![22656, 2048]⟩
abbrev S177 : Shape := ⟨1, ![177]⟩
abbrev S1 : Shape := ⟨1, ![1]⟩
abbrev S2x32x2048x2048 : Shape := ⟨4, ![2, 32, 2048, 2048]⟩
abbrev S_ : Shape := ⟨0, ![]⟩

class Facts : Prop where
  bcast_S_S177 : S_.BroadcastsInDim S177 (![] : Fin 0 → Fin S177.rank)

variable [Facts]

def fn {F : FTy → Type} [FloatOps F] (main_arg0 : FVec F S22656x2048 .f32) (main_arg1 : IVec S177 32) (main_arg2 : IVec S1 32) (main_arg3 : FVec F S2x32x2048x2048 .f32) : IVec S177 1 :=
  let main_c : IVec S_ 32 := constantI S_ 32 0#32
  let main_v0 : IVec S177 32 := broadcastInDim S177 ![] bcast_S_S177 main_c
  let main_v1 : IVec S177 1 := cmpi .sge main_arg1 main_v0
  let main_c_0 : IVec S_ 32 := constantI S_ 32 32#32
  let main_v2 : IVec S177 32 := broadcastInDim S177 ![] bcast_S_S177 main_c_0
  let main_v3 : IVec S177 1 := cmpi .slt main_arg1 main_v2
  let main_v4 : IVec S177 1 := andi main_v1 main_v3
  main_v4
-- ==== Pre_routed.lean ====
abbrev S22656x1024 : Shape := ⟨2, ![22656, 1024]⟩
abbrev S177 : Shape := ⟨1, ![177]⟩
abbrev S1 : Shape := ⟨1, ![1]⟩
abbrev S2x32x1024x2048 : Shape := ⟨4, ![2, 32, 1024, 2048]⟩
abbrev S177x128x1024 : Shape := ⟨3, ![177, 128, 1024]⟩
abbrev S_ : Shape := ⟨0, ![]⟩

class Facts : Prop where
  shapeCasts_S1_S_ : S1.ShapeCasts S_
  bcast_S_S177x128x1024 : S_.BroadcastsInDim S177x128x1024 (![] : Fin 0 → Fin S177x128x1024.rank)
  bcast_S_S177 : S_.BroadcastsInDim S177 (![] : Fin 0 → Fin S177.rank)
  shapeCasts_S22656x1024_S177x128x1024 : S22656x1024.ShapeCasts S177x128x1024

variable [Facts]

def fn {F : FTy → Type} [FloatOps F] (main_arg0 : FVec F S22656x1024 .f32) (main_arg1 : IVec S177 32) (main_arg2 : IVec S1 32) (main_arg3 : FVec F S2x32x1024x2048 .f32) : IVec S177 1 × IVec S177x128x1024 1 :=
  let main_v0 : IVec S177x128x1024 32 := iotaInDim S177x128x1024 32 0
  let main_v1 : IVec S_ 32 := shapeCast S_ main_arg2 shapeCasts_S1_S_
  let main_v2 : IVec S177x128x1024 32 := broadcastInDim S177x128x1024 ![] bcast_S_S177x128x1024 main_v1
  let main_v3 : IVec S177x128x1024 1 := cmpi .slt main_v0 main_v2
  let main_c : IVec S_ 32 := constantI S_ 32 0#32
  let main_v4 : IVec S177 32 := broadcastInDim S177 ![] bcast_S_S177 main_c
  let main_v5 : IVec S177 1 := cmpi .sge main_arg1 main_v4
  let main_c_0 : IVec S_ 32 := constantI S_ 32 32#32
  let main_v6 : IVec S177 32 := broadcastInDim S177 ![] bcast_S_S177 main_c_0
  let main_v7 : IVec S177 1 := cmpi .slt main_arg1 main_v6
  let main_v8 : IVec S177 1 := andi main_v5 main_v7
  let main_v9 : FVec F S177x128x1024 .f32 := shapeCast S177x128x1024 main_arg0 shapeCasts_S22656x1024_S177x128x1024
  let main_cst : FVec F S_ .f32 := constant S_ .f32 0x00000000#32
  let main_v10 : FVec F S177x128x1024 .f32 := broadcastInDim S177x128x1024 ![] bcast_S_S177x128x1024 main_cst
  let main_v11 : IVec S177x128x1024 1 := cmpf .oeq main_v9 main_v10
  let main_v12 : IVec S177x128x1024 1 := ori main_v3 main_v11
  (main_v8, main_v12)
-- ==== Kernel.lean ====
abbrev S9280x2048 : Shape := ⟨2, ![9280, 2048]⟩
abbrev S128x32x64x64 : Shape := ⟨4, ![128, 32, 64, 64]⟩
abbrev S1024x2048 : Shape := ⟨2, ![1024, 2048]⟩
abbrev S8x2048 : Shape := ⟨2, ![8, 2048]⟩
abbrev S1x32x64x64 : Shape := ⟨4, ![1, 32, 64, 64]⟩
abbrev S1024x128 : Shape := ⟨2, ![1024, 128]⟩
abbrev S1x1x64x64 : Shape := ⟨4, ![1, 1, 64, 64]⟩
abbrev S64x64 : Shape := ⟨2, ![64, 64]⟩
abbrev S64x128 : Shape := ⟨2, ![64, 128]⟩
abbrev S256x128 : Shape := ⟨2, ![256, 128]⟩
abbrev S8x128 : Shape := ⟨2, ![8, 128]⟩
abbrev S128x8 : Shape := ⟨2, ![128, 8]⟩
abbrev S1x128 : Shape := ⟨2, ![1, 128]⟩
abbrev S1024x256 : Shape := ⟨2, ![1024, 256]⟩
abbrev S64x1 : Shape := ⟨2, ![64, 1]⟩
abbrev S16x64x128 : Shape := ⟨3, ![16, 64, 128]⟩
abbrev S16x128 : Shape := ⟨2, ![16, 128]⟩

abbrev nBuf : Space → Nat
  | .hbm => 9
  | .vmem => 19
  | .smem => 0
  | _ => 0

abbrev bufTy : (tb : Table) → Fin (tcTables nBuf tb) → BufTy
  | .hbm, ⟨0, _⟩ => ⟨S9280x2048, .f32⟩
  | .hbm, ⟨1, _⟩ => ⟨S9280x2048, .f32⟩
  | .hbm, ⟨2, _⟩ => ⟨S9280x2048, .f32⟩
  | .hbm, ⟨3, _⟩ => ⟨S9280x2048, .f32⟩
  | .hbm, ⟨4, _⟩ => ⟨S9280x2048, .f32⟩
  | .hbm, ⟨5, _⟩ => ⟨S9280x2048, .f32⟩
  | .hbm, ⟨6, _⟩ => ⟨S128x32x64x64, .f32⟩
  | .hbm, ⟨7, _⟩ => ⟨S1024x2048, .f32⟩
  | .hbm, ⟨8, _⟩ => ⟨S128x32x64x64, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S8x2048, .f32⟩
  | .local _ .vmem, ⟨9, _⟩ => ⟨S8x2048, .f32⟩
  | .local _ .vmem, ⟨10, _⟩ => ⟨S8x2048, .f32⟩
  | .local _ .vmem, ⟨11, _⟩ => ⟨S8x2048, .f32⟩
  | .local _ .vmem, ⟨12, _⟩ => ⟨S1x32x64x64, .f32⟩
  | .local _ .vmem, ⟨13, _⟩ => ⟨S1x32x64x64, .f32⟩
  | .local _ .vmem, ⟨14, _⟩ => ⟨S8x2048, .f32⟩
  | .local _ .vmem, ⟨15, _⟩ => ⟨S8x2048, .f32⟩
  | .local _ .vmem, ⟨16, _⟩ => ⟨S1x32x64x64, .f32⟩
  | .local _ .vmem, ⟨17, _⟩ => ⟨S1x32x64x64, .f32⟩
  | .local _ .vmem, ⟨18, _⟩ => ⟨S1024x128, .f32⟩
  | _, _ => ⟨S9280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![128, 1], ![false, false]⟩

def k0_mult1 : BitVec 32 :=
  let c0_i32_24 : BitVec 32 := 0#32
  let c8_i32 : BitVec 32 := 8#32
  let v93 : BitVec 32 := Scalar.muli c0_i32_24 c8_i32
  v93
def k0_off1 : Fin 2 → Nat :=
  let c0_i32_24 : BitVec 32 := 0#32
  let c8_i32 : BitVec 32 := 8#32
  let v93 : BitVec 32 := Scalar.muli c0_i32_24 c8_i32
  let v94 : BitVec 32 := v93
  let v95 : Index := Scalar.indexCast v94
  let c0 : Index := 0#32
  ![v95.toNat, 0]
def k0_cond2 (i : grid0.Coords) : BitVec 1 :=
  let arg1 : BitVec 32 := BitVec.ofNat 32 (i 1).val
  let c0_i32_67 : BitVec 32 := 0#32
  let v3338 : BitVec 1 := Scalar.cmpi .eq arg1 c0_i32_67
  let v3339 : BitVec 32 := Scalar.extui v3338
  let c0_i32_68 : BitVec 32 := 0#32
  let v3340 : BitVec 1 := Scalar.cmpi .ne v3339 c0_i32_68
  v3340

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1032_i32 : BitVec 32 := 1032#32
  let v1 : BitVec 32 := Scalar.addi c1032_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1032_i32 : BitVec 32 := 1032#32
  let v1 : BitVec 32 := Scalar.addi c1032_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1032_i32 : BitVec 32 := 1032#32
  let v1 : BitVec 32 := Scalar.addi c1032_i32 v0
  let v2 : BitVec 32 := Scalar.addi v1 arg1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1032_i32 : BitVec 32 := 1032#32
  let v1 : BitVec 32 := Scalar.addi c1032_i32 v0
  let v2 : BitVec 32 := Scalar.addi v1 arg1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1032_i32 : BitVec 32 := 1032#32
  let v1 : BitVec 32 := Scalar.addi c1032_i32 v0
  let v2 : BitVec 32 := Scalar.addi v1 arg1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1032_i32 : BitVec 32 := 1032#32
  let v1 : BitVec 32 := Scalar.addi c1032_i32 v0
  let v2 : BitVec 32 := Scalar.addi v1 arg1
  let c0_i32 : BitVec 32 := 0#32
  let c0_i32_0 : BitVec 32 := 0#32
  ![v2.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S9280x2048 : Shape := ⟨2, ![9280, 2048]⟩
abbrev S128x32x64x64 : Shape := ⟨4, ![128, 32, 64, 64]⟩
abbrev S1024x2048 : Shape := ⟨2, ![1024, 2048]⟩
abbrev S128x8x32x64 : Shape := ⟨4, ![128, 8, 32, 64]⟩
abbrev S8x128x32x64 : Shape := ⟨4, ![8, 128, 32, 64]⟩
abbrev S_ : Shape := ⟨0, ![]⟩
abbrev S1x128x32x64 : Shape := ⟨4, ![1, 128, 32, 64]⟩
abbrev S128x32x64 : Shape := ⟨3, ![128, 32, 64]⟩
abbrev S128x32x1x64 : Shape := ⟨4, ![128, 32, 1, 64]⟩
abbrev S128x32x64x1 : Shape := ⟨4, ![128, 32, 64, 1]⟩

abbrev nBuf : Space → Nat
  | .hbm => 96
  | .vmem => 0
  | .smem => 0
  | _ => 0

abbrev bufTy : (tb : Table) → Fin (tcTables nBuf tb) → BufTy
  | .hbm, ⟨0, _⟩ => ⟨S9280x2048, .f32⟩
  | .hbm, ⟨1, _⟩ => ⟨S9280x2048, .f32⟩
  | .hbm, ⟨2, _⟩ => ⟨S9280x2048, .f32⟩
  | .hbm, ⟨3, _⟩ => ⟨S9280x2048, .f32⟩
  | .hbm, ⟨4, _⟩ => ⟨S9280x2048, .f32⟩
  | .hbm, ⟨5, _⟩ => ⟨S9280x2048, .f32⟩
  | .hbm, ⟨6, _⟩ => ⟨S128x32x64x64, .f32⟩
  | .hbm, ⟨7, _⟩ => ⟨S1024x2048, .f32⟩
  | .hbm, ⟨8, _⟩ => ⟨S128x8x32x64, .f32⟩
  | .hbm, ⟨9, _⟩ => ⟨S8x128x32x64, .f32⟩
  | .hbm, ⟨10, _⟩ => ⟨S1024x2048, .f32⟩
  | .hbm, ⟨11, _⟩ => ⟨S128x8x32x64, .f32⟩
  | .hbm, ⟨12, _⟩ => ⟨S8x128x32x64, .f32⟩
  | .hbm, ⟨13, _⟩ => ⟨S1024x2048, .f32⟩
  | .hbm, ⟨14, _⟩ => ⟨S128x8x32x64, .f32⟩
  | .hbm, ⟨15, _⟩ => ⟨S8x128x32x64, .f32⟩
  | .hbm, ⟨16, _⟩ => ⟨S1024x2048, .f32⟩
  | .hbm, ⟨17, _⟩ => ⟨S128x8x32x64, .f32⟩
  | .hbm, ⟨18, _⟩ => ⟨S8x128x32x64, .f32⟩
  | .hbm, ⟨19, _⟩ => ⟨S1024x2048, .f32⟩
  | .hbm, ⟨20, _⟩ => ⟨S128x8x32x64, .f32⟩
  | .hbm, ⟨21, _⟩ => ⟨S8x128x32x64, .f32⟩
  | .hbm, ⟨22, _⟩ => ⟨S1024x2048, .f32⟩
  | .hbm, ⟨23, _⟩ => ⟨S128x8x32x64, .f32⟩
  | .hbm, ⟨24, _⟩ => ⟨S8x128x32x64, .f32⟩
  | .hbm, ⟨25, _⟩ => ⟨S_, .f32⟩
  | .hbm, ⟨26, _⟩ => ⟨S8x128x32x64, .f32⟩
  | .hbm, ⟨27, _⟩ => ⟨S_, .i32⟩
  | .hbm, ⟨28, _⟩ => ⟨S8x128x32x64, .f32⟩
  | .hbm, ⟨29, _⟩ => ⟨S8x128x32x64, .f32⟩
  | .hbm, ⟨30, _⟩ => ⟨S8x128x32x64, .f32⟩
  | .hbm, ⟨31, _⟩ => ⟨S8x128x32x64, .f32⟩
  | .hbm, ⟨32, _⟩ => ⟨S8x128x32x64, .f32⟩
  | .hbm, ⟨33, _⟩ => ⟨S8x128x32x64, .f32⟩
  | .hbm, ⟨34, _⟩ => ⟨S_, .i32⟩
  | .hbm, ⟨35, _⟩ => ⟨S128x32x64x64, .f32⟩
  | .hbm, ⟨36, _⟩ => ⟨S8x128x32x64, .f32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x128x32x64, .f32⟩
  | .hbm, ⟨43, _⟩ => ⟨S128x32x64, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x128x32x64, .f32⟩
  | .hbm, ⟨48, _⟩ => ⟨S128x32x64, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x128x32x64, .f32⟩
  | .hbm, ⟨53, _⟩ => ⟨S128x32x64, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x128x32x64, .f32⟩
  | .hbm, ⟨58, _⟩ => ⟨S128x32x64, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x128x32x64, .f32⟩
  | .hbm, ⟨63, _⟩ => ⟨S128x32x64, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x128x32x64, .f32⟩
  | .hbm, ⟨68, _⟩ => ⟨S128x32x64, .f32⟩
  | .hbm, ⟨69, _⟩ => ⟨S128x32x64, .f32⟩
  | .hbm, ⟨70, _⟩ => ⟨S128x32x64, .f32⟩
  | .hbm, ⟨71, _⟩ => ⟨S128x32x1x64, .f32⟩
  | .hbm, ⟨72, _⟩ => ⟨S128x32x64x64, .f32⟩
  | .hbm, ⟨73, _⟩ => ⟨S128x32x64x64, .f32⟩
  | .hbm, ⟨74, _⟩ => ⟨S128x32x64x1, .f32⟩
  | .hbm, ⟨75, _⟩ => ⟨S128x32x1x64, .f32⟩
  | .hbm, ⟨76, _⟩ => ⟨S128x32x64x64, .f32⟩
  | .hbm, ⟨77, _⟩ => ⟨S128x32x64x64, .f32⟩
  | .hbm, ⟨78, _⟩ => ⟨S128x32x64x64, .f32⟩
  | .hbm, ⟨79, _⟩ => ⟨S128x32x64x64, .f32⟩
  | .hbm, ⟨80, _⟩ => ⟨S128x32x64x1, .f32⟩
  | .hbm, ⟨81, _⟩ => ⟨S128x32x1x64, .f32⟩
  | .hbm, ⟨82, _⟩ => ⟨S128x32x64x64, .f32⟩
  | .hbm, ⟨83, _⟩ => ⟨S128x32x64x64, .f32⟩
  | .hbm, ⟨84, _⟩ => ⟨S128x32x64x64, .f32⟩
  | .hbm, ⟨85, _⟩ => ⟨S128x32x64x64, .f32⟩
  | .hbm, ⟨86, _⟩ => ⟨S128x32x64, .f32⟩
  | .hbm, ⟨87, _⟩ => ⟨S1x128x32x64, .f32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S8x128x32x64, .f32⟩
  | .hbm, ⟨92, _⟩ => ⟨S_, .i32⟩
  | .hbm, ⟨93, _⟩ => ⟨S_, .i32⟩
  | .hbm, ⟨94, _⟩ => ⟨S128x8x32x64, .f32⟩
  | .hbm, ⟨95, _⟩ => ⟨S1024x2048, .f32⟩
  | _, _ => ⟨S9280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_c : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev main_v19_5 : Ref sig .tc := ⟨.hbm, 33, rfl⟩
abbrev main_v19_6 : Ref sig .tc := ⟨.hbm, 34, rfl⟩
abbrev main_v19_7 : Ref sig .tc := ⟨.hbm, 35, rfl⟩
abbrev main_v19_8 : Ref sig .tc := ⟨.hbm, 36, rfl⟩
abbrev main_while0c_c_8 : Ref sig .tc := ⟨.hbm, 37, rfl⟩
abbrev main_while0c_v22 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_c_1 : Ref sig .tc := ⟨.hbm, 41, rfl⟩
abbrev main_while0b_call0_v0 : Ref sig .tc := ⟨.hbm, 42, rfl⟩
abbrev main_while0b_v22 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_v0 : Ref sig .tc := ⟨.hbm, 47, rfl⟩
abbrev main_while0b_v23 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_call2_c_1 : Ref sig .tc := ⟨.hbm, 51, rfl⟩
abbrev main_while0b_call2_v0 : Ref sig .tc := ⟨.hbm, 52, rfl⟩
abbrev main_while0b_v24 : Ref sig .tc := ⟨.hbm, 53, rfl⟩
abbrev main_while0b_call3_c : Ref sig .tc := ⟨.hbm, 54, rfl⟩
abbrev main_while0b_call3_c_0 : Ref sig .tc := ⟨.hbm, 55, rfl⟩
abbrev main_while0b_call3_c_1 : Ref sig .tc := ⟨.hbm, 56, rfl⟩
abbrev main_while0b_call3_v0 : Ref sig .tc := ⟨.hbm, 57, rfl⟩
abbrev main_while0b_v25 : Ref sig .tc := ⟨.hbm, 58, rfl⟩
abbrev main_while0b_call4_c : Ref sig .tc := ⟨.hbm, 59, rfl⟩
abbrev main_while0b_call4_c_0 : Ref sig .tc := ⟨.hbm, 60, rfl⟩
abbrev main_while0b_call4_c_1 : Ref sig .tc := ⟨.hbm, 61, rfl⟩
abbrev main_while0b_call4_v0 : Ref sig .tc := ⟨.hbm, 62, rfl⟩
abbrev main_while0b_v26 : Ref sig .tc := ⟨.hbm, 63, rfl⟩
abbrev main_while0b_call5_c : Ref sig .tc := ⟨.hbm, 64, rfl⟩
abbrev main_while0b_call5_c_0 : Ref sig .tc := ⟨.hbm, 65, rfl⟩
abbrev main_while0b_call5_c_1 : Ref sig .tc := ⟨.hbm, 66, rfl⟩
abbrev main_while0b_call5_v0 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_v36 : Ref sig .tc := ⟨.hbm, 77, rfl⟩
abbrev main_while0b_v37 : Ref sig .tc := ⟨.hbm, 78, rfl⟩
abbrev main_while0b_v38 : Ref sig .tc := ⟨.hbm, 79, rfl⟩
abbrev main_while0b_v39 : Ref sig .tc := ⟨.hbm, 80, rfl⟩
abbrev main_while0b_v40 : Ref sig .tc := ⟨.hbm, 81, rfl⟩
abbrev main_while0b_v41 : Ref sig .tc := ⟨.hbm, 82, rfl⟩
abbrev main_while0b_v42 : Ref sig .tc := ⟨.hbm, 83, rfl⟩
abbrev main_while0b_v43 : Ref sig .tc := ⟨.hbm, 84, rfl⟩
abbrev main_while0b_v44 : Ref sig .tc := ⟨.hbm, 85, rfl⟩
abbrev main_while0b_v45 : Ref sig .tc := ⟨.hbm, 86, rfl⟩
abbrev main_while0b_call6_v0 : Ref sig .tc := ⟨.hbm, 87, rfl⟩
abbrev main_while0b_call6_c : Ref sig .tc := ⟨.hbm, 88, rfl⟩
abbrev main_while0b_call6_c_0 : Ref sig .tc := ⟨.hbm, 89, rfl⟩
abbrev main_while0b_call6_c_1 : Ref sig .tc := ⟨.hbm, 90, rfl⟩
abbrev main_while0b_v46 : Ref sig .tc := ⟨.hbm, 91, rfl⟩
abbrev main_while0b_c_8 : Ref sig .tc := ⟨.hbm, 92, rfl⟩
abbrev main_while0b_v47 : Ref sig .tc := ⟨.hbm, 93, rfl⟩
abbrev main_v20 : Ref sig .tc := ⟨.hbm, 94, rfl⟩
abbrev main_v21 : Ref sig .tc := ⟨.hbm, 95, rfl⟩

abbrev nD : Nat := 1
abbrev τ : Topo := Topo.v7x

variable {F : FTy → Type} [FloatOps F]

abbrev main_while0_count : Scf.Loop 32 := ⟨0#32, 8#32, 1#32⟩
-- ==== Kernel2.lean ====
abbrev S9280x2048 : Shape := ⟨2, ![9280, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S9280x2048, .f32⟩
  | .hbm, ⟨1, _⟩ => ⟨S2048x2048, .f32⟩
  | .hbm, ⟨2, _⟩ => ⟨S9280x2048, .f32⟩
  | .hbm, ⟨3, _⟩ => ⟨S9280x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | _, _ => ⟨S9280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S9280x2048 : Shape := ⟨2, ![9280, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S9280x2048, .f32⟩
  | .hbm, ⟨1, _⟩ => ⟨S2048x2048, .f32⟩
  | .hbm, ⟨2, _⟩ => ⟨S9280x2048, .f32⟩
  | .hbm, ⟨3, _⟩ => ⟨S9280x2048, .f32⟩
  | .hbm, ⟨4, _⟩ => ⟨S9280x2048, .f32⟩
  | _, _ => ⟨S9280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel3.lean ====
abbrev S9280x2048 : Shape := ⟨2, ![9280, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S9280x2048, .f32⟩
  | .hbm, ⟨1, _⟩ => ⟨S9280x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S9280x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x1024, .f32⟩
  | .local _ .vmem, ⟨6, _⟩ => ⟨S2048x1024, .f32⟩
  | .local _ .vmem, ⟨7, _⟩ => ⟨S512x1024, .f32⟩
  | .local _ .vmem, ⟨8, _⟩ => ⟨S512x1024, .f32⟩
  | .local _ .vmem, ⟨9, _⟩ => ⟨S2048x1024, .bf16⟩
  | _, _ => ⟨S9280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S9280x2048 : Shape := ⟨2, ![9280, 2048]⟩
abbrev S2048 : Shape := ⟨1, ![2048]⟩
abbrev S2048x2048 : Shape := ⟨2, ![2048, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S9280x2048, .f32⟩
  | .hbm, ⟨1, _⟩ => ⟨S9280x2048, .f32⟩
  | .hbm, ⟨2, _⟩ => ⟨S2048, .f32⟩
  | .hbm, ⟨3, _⟩ => ⟨S2048x2048, .f32⟩
  | .hbm, ⟨4, _⟩ => ⟨S9280x2048, .f32⟩
  | .hbm, ⟨5, _⟩ => ⟨S1x2048, .f32⟩
  | .hbm, ⟨6, _⟩ => ⟨S9280x2048, .f32⟩
  | .hbm, ⟨7, _⟩ => ⟨S9280x2048, .f32⟩
  | .hbm, ⟨8, _⟩ => ⟨S9280x2048, .f32⟩
  | .hbm, ⟨9, _⟩ => ⟨S9280x2048, .f32⟩
  | _, _ => ⟨S9280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S9280x2048 : Shape := ⟨2, ![9280, 2048]⟩
abbrev S2048x6144 : Shape := ⟨2, ![2048, 6144]⟩
abbrev S128 : Shape := ⟨1, ![128]⟩
abbrev S1x128 : Shape := ⟨2, ![1, 128]⟩
abbrev S9280x6144 : Shape := ⟨2, ![9280, 6144]⟩
abbrev S512x2048 : Shape := ⟨2, ![512, 2048]⟩
abbrev S2048x1024 : Shape := ⟨2, ![2048, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S9280x2048, .f32⟩
  | .hbm, ⟨1, _⟩ => ⟨S2048x6144, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S9280x6144, .f32⟩
  | .local _ .vmem, ⟨0, _⟩ => ⟨S512x2048, .f32⟩
  | .local _ .vmem, ⟨1, _⟩ => ⟨S512x2048, .f32⟩
  | .local _ .vmem, ⟨2, _⟩ => ⟨S2048x1024, .f32⟩
  | .local _ .vmem, ⟨3, _⟩ => ⟨S2048x1024, .f32⟩
  | .local _ .vmem, ⟨4, _⟩ => ⟨S1x128, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | _, _ => ⟨S9280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![6, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S9280x2048 : Shape := ⟨2, ![9280, 2048]⟩
abbrev S2048x6144 : Shape := ⟨2, ![2048, 6144]⟩
abbrev S128 : Shape := ⟨1, ![128]⟩
abbrev S9280x6144 : Shape := ⟨2, ![9280, 6144]⟩
abbrev S9280x16x128 : Shape := ⟨3, ![9280, 16, 128]⟩
abbrev S_ : Shape := ⟨0, ![]⟩
abbrev S9280x16 : Shape := ⟨2, ![9280, 16]⟩
abbrev S9280x16x1 : Shape := ⟨3, ![9280, 16, 1]⟩
abbrev S1x1x128 : Shape := ⟨3, ![1, 1, 128]⟩

abbrev nBuf : Space → Nat
  | .hbm => 45
  | .vmem => 0
  | .smem => 0
  | _ => 0

abbrev bufTy : (tb : Table) → Fin (tcTables nBuf tb) → BufTy
  | .hbm, ⟨0, _⟩ => ⟨S9280x2048, .f32⟩
  | .hbm, ⟨1, _⟩ => ⟨S2048x6144, .f32⟩
  | .hbm, ⟨2, _⟩ => ⟨S128, .f32⟩
  | .hbm, ⟨3, _⟩ => ⟨S128, .f32⟩
  | .hbm, ⟨4, _⟩ => ⟨S9280x6144, .f32⟩
  | .hbm, ⟨5, _⟩ => ⟨S9280x2048, .f32⟩
  | .hbm, ⟨6, _⟩ => ⟨S9280x2048, .f32⟩
  | .hbm, ⟨7, _⟩ => ⟨S9280x2048, .f32⟩
  | .hbm, ⟨8, _⟩ => ⟨S9280x16x128, .f32⟩
  | .hbm, ⟨9, _⟩ => ⟨S9280x16x128, .f32⟩
  | .hbm, ⟨10, _⟩ => ⟨S_, .f32⟩
  | .hbm, ⟨11, _⟩ => ⟨S9280x16, .f32⟩
  | .hbm, ⟨12, _⟩ => ⟨S9280x16x1, .f32⟩
  | .hbm, ⟨13, _⟩ => ⟨S_, .f32⟩
  | .hbm, ⟨14, _⟩ => ⟨S9280x16x1, .f32⟩
  | .hbm, ⟨15, _⟩ => ⟨S9280x16x1, .f32⟩
  | .hbm, ⟨16, _⟩ => ⟨S_, .f32⟩
  | .hbm, ⟨17, _⟩ => ⟨S9280x16x1, .f32⟩
  | .hbm, ⟨18, _⟩ => ⟨S9280x16x1, .f32⟩
  | .hbm, ⟨19, _⟩ => ⟨S9280x16x1, .f32⟩
  | .hbm, ⟨20, _⟩ => ⟨S9280x16x128, .f32⟩
  | .hbm, ⟨21, _⟩ => ⟨S9280x16x128, .f32⟩
  | .hbm, ⟨22, _⟩ => ⟨S1x1x128, .f32⟩
  | .hbm, ⟨23, _⟩ => ⟨S9280x16x128, .f32⟩
  | .hbm, ⟨24, _⟩ => ⟨S9280x16x128, .f32⟩
  | .hbm, ⟨25, _⟩ => ⟨S9280x16x128, .f32⟩
  | .hbm, ⟨26, _⟩ => ⟨S9280x16x128, .f32⟩
  | .hbm, ⟨27, _⟩ => ⟨S_, .f32⟩
  | .hbm, ⟨28, _⟩ => ⟨S9280x16, .f32⟩
  | .hbm, ⟨29, _⟩ => ⟨S9280x16x1, .f32⟩
  | .hbm, ⟨30, _⟩ => ⟨S_, .f32⟩
  | .hbm, ⟨31, _⟩ => ⟨S9280x16x1, .f32⟩
  | .hbm, ⟨32, _⟩ => ⟨S9280x16x1, .f32⟩
  | .hbm, ⟨33, _⟩ => ⟨S_, .f32⟩
  | .hbm, ⟨34, _⟩ => ⟨S9280x16x1, .f32⟩
  | .hbm, ⟨35, _⟩ => ⟨S9280x16x1, .f32⟩
  | .hbm, ⟨36, _⟩ => ⟨S9280x16x1, .f32⟩
  | .hbm, ⟨37, _⟩ => ⟨S9280x16x128, .f32⟩
  | .hbm, ⟨38, _⟩ => ⟨S9280x16x128, .f32⟩
  | .hbm, ⟨39, _⟩ => ⟨S1x1x128, .f32⟩
  | .hbm, ⟨40, _⟩ => ⟨S9280x16x128, .f32⟩
  | .hbm, ⟨41, _⟩ => ⟨S9280x16x128, .f32⟩
  | .hbm, ⟨42, _⟩ => ⟨S9280x2048, .f32⟩
  | .hbm, ⟨43, _⟩ => ⟨S9280x2048, .f32⟩
  | .hbm, ⟨44, _⟩ => ⟨S9280x6144, .f32⟩
  | _, _ => ⟨S9280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel5.lean ====
abbrev S22656x1024 : Shape := ⟨2, ![22656, 1024]⟩
abbrev S177 : Shape := ⟨1, ![177]⟩
abbrev S1 : Shape := ⟨1, ![1]⟩
abbrev S2x32x1024x2048 : Shape := ⟨4, ![2, 32, 1024, 2048]⟩
abbrev S22656x2048 : Shape := ⟨2, ![22656, 2048]⟩
abbrev S128x1024 : Shape := ⟨2, ![128, 1024]⟩
abbrev S1x1x1024x2048 : Shape := ⟨4, ![1, 1, 1024, 2048]⟩
abbrev S128x2048 : Shape := ⟨2, ![128, 2048]⟩
abbrev S1024x2048 : Shape := ⟨2, ![1024, 2048]⟩

abbrev nBuf : Space → Nat
  | .hbm => 3
  | .vmem => 7
  | .smem => 2
  | _ => 0

abbrev bufTy : (tb : Table) → Fin (tcTables nBuf tb) → BufTy
  | .hbm, ⟨0, _⟩ => ⟨S22656x1024, .f32⟩
  | .hbm, ⟨1, _⟩ => ⟨S2x32x1024x2048, .f32⟩
  | .hbm, ⟨2, _⟩ => ⟨S22656x2048, .f32⟩
  | .local _ .vmem, ⟨0, _⟩ => ⟨S128x1024, .f32⟩
  | .local _ .vmem, ⟨1, _⟩ => ⟨S128x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S128x2048, .f32⟩
  | .local _ .vmem, ⟨5, _⟩ => ⟨S128x2048, .f32⟩
  | .local _ .vmem, ⟨6, _⟩ => ⟨S1024x2048, .bf16⟩
  | .local _ .smem, ⟨0, _⟩ => ⟨S177, .i32⟩
  | .local _ .smem, ⟨1, _⟩ => ⟨S1, .i32⟩
  | _, _ => ⟨S22656x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 177], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.subi arg1 c1_i32
  let c0_i32 : BitVec 32 := 0#32
  let v3 : BitVec 32 := Scalar.maxsi v2 c0_i32
  let v4 : Index := Scalar.indexCast v3
  ![v4.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S177.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S177) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S22656x1024 : Shape := ⟨2, ![22656, 1024]⟩
abbrev S177 : Shape := ⟨1, ![177]⟩
abbrev S1 : Shape := ⟨1, ![1]⟩
abbrev S2x32x1024x2048 : Shape := ⟨4, ![2, 32, 1024, 2048]⟩
abbrev S177x128x1024 : Shape := ⟨3, ![177, 128, 1024]⟩
abbrev S_ : Shape := ⟨0, ![]⟩
abbrev S177x1 : Shape := ⟨2, ![177, 1]⟩
abbrev S177x4 : Shape := ⟨2, ![177, 4]⟩
abbrev S177x1x1x1024x2048 : Shape := ⟨5, ![177, 1, 1, 1024, 2048]⟩
abbrev S177x1024x2048 : Shape := ⟨3, ![177, 1024, 2048]⟩
abbrev S177x128x2048 : Shape := ⟨3, ![177, 128, 2048]⟩
abbrev S22656x2048 : Shape := ⟨2, ![22656, 2048]⟩

abbrev nBuf : Space → Nat
  | .hbm => 45
  | .vmem => 0
  | .smem => 0
  | _ => 0

abbrev bufTy : (tb : Table) → Fin (tcTables nBuf tb) → BufTy
  | .hbm, ⟨0, _⟩ => ⟨S22656x1024, .f32⟩
  | .hbm, ⟨1, _⟩ => ⟨S177, .i32⟩
  | .hbm, ⟨2, _⟩ => ⟨S1, .i32⟩
  | .hbm, ⟨3, _⟩ => ⟨S2x32x1024x2048, .f32⟩
  | .hbm, ⟨4, _⟩ => ⟨S177x128x1024, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S177, .i32⟩
  | .hbm, ⟨15, _⟩ => ⟨S177, .i1⟩
  | .hbm, ⟨16, _⟩ => ⟨S_, .i32⟩
  | .hbm, ⟨17, _⟩ => ⟨S177, .i32⟩
  | .hbm, ⟨18, _⟩ => ⟨S177, .i32⟩
  | .hbm, ⟨19, _⟩ => ⟨S177, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S177x1, .i32⟩
  | .hbm, ⟨37, _⟩ => ⟨S177x1, .i32⟩
  | .hbm, ⟨38, _⟩ => ⟨S177x1, .i32⟩
  | .hbm, ⟨39, _⟩ => ⟨S177x1, .i32⟩
  | .hbm, ⟨40, _⟩ => ⟨S177x4, .i32⟩
  | .hbm, ⟨41, _⟩ => ⟨S177x1x1x1024x2048, .f32⟩
  | .hbm, ⟨42, _⟩ => ⟨S177x1024x2048, .f32⟩
  | .hbm, ⟨43, _⟩ => ⟨S177x128x2048, .f32⟩
  | .hbm, ⟨44, _⟩ => ⟨S22656x2048, .f32⟩
  | _, _ => ⟨S22656x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_c_1 : Ref sig .tc := ⟨.hbm, 8, rfl⟩
abbrev main_c_2 : Ref sig .tc := ⟨.hbm, 9, rfl⟩
abbrev main_v2 : Ref sig .tc := ⟨.hbm, 10, rfl⟩
abbrev main_c_3 : Ref sig .tc := ⟨.hbm, 11, rfl⟩
abbrev main_v3 : Ref sig .tc := ⟨.hbm, 12, rfl⟩
abbrev main_c_4 : Ref sig .tc := ⟨.hbm, 13, rfl⟩
abbrev main_v4 : Ref sig .tc := ⟨.hbm, 14, rfl⟩
abbrev main_v5 : Ref sig .tc := ⟨.hbm, 15, rfl⟩
abbrev main_c_5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_6 : Ref sig .tc := ⟨.hbm, 20, rfl⟩
abbrev main_c_7 : Ref sig .tc := ⟨.hbm, 21, rfl⟩
abbrev main_v9 : Ref sig .tc := ⟨.hbm, 22, rfl⟩
abbrev main_c_8 : Ref sig .tc := ⟨.hbm, 23, rfl⟩
abbrev main_c_9 : Ref sig .tc := ⟨.hbm, 24, rfl⟩
abbrev main_v10 : Ref sig .tc := ⟨.hbm, 25, rfl⟩
abbrev main_c_10 : Ref sig .tc := ⟨.hbm, 26, rfl⟩
abbrev main_v11 : Ref sig .tc := ⟨.hbm, 27, rfl⟩
abbrev main_c_11 : Ref sig .tc := ⟨.hbm, 28, rfl⟩
abbrev main_c_12 : Ref sig .tc := ⟨.hbm, 29, rfl⟩
abbrev main_v12 : Ref sig .tc := ⟨.hbm, 30, rfl⟩
abbrev main_c_13 : Ref sig .tc := ⟨.hbm, 31, rfl⟩
abbrev main_c_14 : Ref sig .tc := ⟨.hbm, 32, rfl⟩
abbrev main_v13 : Ref sig .tc := ⟨.hbm, 33, rfl⟩
abbrev main_c_15 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel6.lean ====
abbrev S22656x2048 : Shape := ⟨2, ![22656, 2048]⟩
abbrev S177 : Shape := ⟨1, ![177]⟩
abbrev S1 : Shape := ⟨1, ![1]⟩
abbrev S2x32x2048x2048 : Shape := ⟨4, ![2, 32, 2048, 2048]⟩
abbrev S22656x1024 : Shape := ⟨2, ![22656, 1024]⟩
abbrev S128x2048 : Shape := ⟨2, ![128, 2048]⟩
abbrev S1x1x2048x1024 : Shape := ⟨4, ![1, 1, 2048, 1024]⟩
abbrev S128x1024 : Shape := ⟨2, ![128, 1024]⟩
abbrev S2048x1024 : Shape := ⟨2, ![2048, 1024]⟩

abbrev nBuf : Space → Nat
  | .hbm => 3
  | .vmem => 10
  | .smem => 2
  | _ => 0

abbrev bufTy : (tb : Table) → Fin (tcTables nBuf tb) → BufTy
  | .hbm, ⟨0, _⟩ => ⟨S22656x2048, .f32⟩
  | .hbm, ⟨1, _⟩ => ⟨S2x32x2048x2048, .f32⟩
  | .hbm, ⟨2, _⟩ => ⟨S22656x1024, .f32⟩
  | .local _ .vmem, ⟨0, _⟩ => ⟨S128x2048, .f32⟩
  | .local _ .vmem, ⟨1, _⟩ => ⟨S128x2048, .f32⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x2048x1024, .f32⟩
  | .local _ .vmem, ⟨5, _⟩ => ⟨S1x1x2048x1024, .f32⟩
  | .local _ .vmem, ⟨6, _⟩ => ⟨S128x1024, .f32⟩
  | .local _ .vmem, ⟨7, _⟩ => ⟨S128x1024, .f32⟩
  | .local _ .vmem, ⟨8, _⟩ => ⟨S2048x1024, .bf16⟩
  | .local _ .vmem, ⟨9, _⟩ => ⟨S2048x1024, .bf16⟩
  | .local _ .smem, ⟨0, _⟩ => ⟨S177, .i32⟩
  | .local _ .smem, ⟨1, _⟩ => ⟨S1, .i32⟩
  | _, _ => ⟨S22656x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 177], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.subi arg1 c1_i32
  let c0_i32 : BitVec 32 := 0#32
  let v3 : BitVec 32 := Scalar.maxsi v2 c0_i32
  let v4 : Index := Scalar.indexCast v3
  ![v4.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S177.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S177) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S177.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S177) ![v0.toNat] S1.size (k0_off1_inb i)) numel1_S1
  let c1_i32 : BitVec 32 := 1#32
  let v2 : BitVec 32 := Scalar.addi c1_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S22656x2048 : Shape := ⟨2, ![22656, 2048]⟩
abbrev S177 : Shape := ⟨1, ![177]⟩
abbrev S1 : Shape := ⟨1, ![1]⟩
abbrev S2x32x2048x2048 : Shape := ⟨4, ![2, 32, 2048, 2048]⟩
abbrev S177x128x2048 : Shape := ⟨3, ![177, 128, 2048]⟩
abbrev S_ : Shape := ⟨0, ![]⟩
abbrev S177x1 : Shape := ⟨2, ![177, 1]⟩
abbrev S177x4 : Shape := ⟨2, ![177, 4]⟩
abbrev S177x1x1x2048x2048 : Shape := ⟨5, ![177, 1, 1, 2048, 2048]⟩
abbrev S177x2048x2048 : Shape := ⟨3, ![177, 2048, 2048]⟩
abbrev S177x128x1024 : Shape := ⟨3, ![177, 128, 1024]⟩
abbrev S22656x1024 : Shape := ⟨2, ![22656, 1024]⟩

abbrev nBuf : Space → Nat
  | .hbm => 57
  | .vmem => 0
  | .smem => 0
  | _ => 0

abbrev bufTy : (tb : Table) → Fin (tcTables nBuf tb) → BufTy
  | .hbm, ⟨0, _⟩ => ⟨S22656x2048, .f32⟩
  | .hbm, ⟨1, _⟩ => ⟨S177, .i32⟩
  | .hbm, ⟨2, _⟩ => ⟨S1, .i32⟩
  | .hbm, ⟨3, _⟩ => ⟨S2x32x2048x2048, .f32⟩
  | .hbm, ⟨4, _⟩ => ⟨S177x128x2048, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S177, .i32⟩
  | .hbm, ⟨15, _⟩ => ⟨S177, .i1⟩
  | .hbm, ⟨16, _⟩ => ⟨S_, .i32⟩
  | .hbm, ⟨17, _⟩ => ⟨S177, .i32⟩
  | .hbm, ⟨18, _⟩ => ⟨S177, .i32⟩
  | .hbm, ⟨19, _⟩ => ⟨S177, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S177x1, .i32⟩
  | .hbm, ⟨37, _⟩ => ⟨S177x1, .i32⟩
  | .hbm, ⟨38, _⟩ => ⟨S177x1, .i32⟩
  | .hbm, ⟨39, _⟩ => ⟨S177x1, .i32⟩
  | .hbm, ⟨40, _⟩ => ⟨S177x4, .i32⟩
  | .hbm, ⟨41, _⟩ => ⟨S177x1x1x2048x2048, .f32⟩
  | .hbm, ⟨42, _⟩ => ⟨S177x2048x2048, .f32⟩
  | .hbm, ⟨43, _⟩ => ⟨S177x128x2048, .f32⟩
  | .hbm, ⟨44, _⟩ => ⟨S177x128x1024, .f32⟩
  | .hbm, ⟨45, _⟩ => ⟨S177x128x1024, .f32⟩
  | .hbm, ⟨46, _⟩ => ⟨S177x128x1024, .f32⟩
  | .hbm, ⟨47, _⟩ => ⟨S177x128x1024, .f32⟩
  | .hbm, ⟨48, _⟩ => ⟨S_, .f32⟩
  | .hbm, ⟨49, _⟩ => ⟨S177x128x1024, .f32⟩
  | .hbm, ⟨50, _⟩ => ⟨S177x128x1024, .f32⟩
  | .hbm, ⟨51, _⟩ => ⟨S_, .f32⟩
  | .hbm, ⟨52, _⟩ => ⟨S177x128x1024, .f32⟩
  | .hbm, ⟨53, _⟩ => ⟨S177x128x1024, .f32⟩
  | .hbm, ⟨54, _⟩ => ⟨S177x128x1024, .f32⟩
  | .hbm, ⟨55, _⟩ => ⟨S177x128x1024, .f32⟩
  | .hbm, ⟨56, _⟩ => ⟨S22656x1024, .f32⟩
  | _, _ => ⟨S22656x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_c_1 : Ref sig .tc := ⟨.hbm, 8, rfl⟩
abbrev main_c_2 : Ref sig .tc := ⟨.hbm, 9, rfl⟩
abbrev main_v2 : Ref sig .tc := ⟨.hbm, 10, rfl⟩
abbrev main_c_3 : Ref sig .tc := ⟨.hbm, 11, rfl⟩
abbrev main_v3 : Ref sig .tc := ⟨.hbm, 12, rfl⟩
abbrev main_c_4 : Ref sig .tc := ⟨.hbm, 13, rfl⟩
abbrev main_v4 : Ref sig .tc := ⟨.hbm, 14, rfl⟩
abbrev main_v5 : Ref sig .tc := ⟨.hbm, 15, rfl⟩
abbrev main_c_5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_6 : Ref sig .tc := ⟨.hbm, 20, rfl⟩
abbrev main_c_7 : Ref sig .tc := ⟨.hbm, 21, rfl⟩
abbrev main_v9 : Ref sig .tc := ⟨.hbm, 22, rfl⟩
abbrev main_c_8 : Ref sig .tc := ⟨.hbm, 23, rfl⟩
abbrev main_c_9 : Ref sig .tc := ⟨.hbm, 24, rfl⟩
abbrev main_v10 : Ref sig .tc := ⟨.hbm, 25, rfl⟩
abbrev main_c_10 : Ref sig .tc := ⟨.hbm, 26, rfl⟩
abbrev main_v11 : Ref sig .tc := ⟨.hbm, 27, rfl⟩
abbrev main_c_11 : Ref sig .tc := ⟨.hbm, 28, rfl⟩
abbrev main_c_12 : Ref sig .tc := ⟨.hbm, 29, rfl⟩
abbrev main_v12 : Ref sig .tc := ⟨.hbm, 30, rfl⟩
abbrev main_c_13 : Ref sig .tc := ⟨.hbm, 31, rfl⟩
abbrev main_c_14 : Ref sig .tc := ⟨.hbm, 32, rfl⟩
abbrev main_v13 : Ref sig .tc := ⟨.hbm, 33, rfl⟩
abbrev main_c_15 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩

abbrev nD : Nat := 1
abbrev τ : Topo := Topo.v7x

variable {F : FTy → Type} [FloatOps F]
-- ==== Kernel7.lean ====
abbrev S9280x2048 : Shape := ⟨2, ![9280, 2048]⟩
abbrev S6x2048 : Shape := ⟨2, ![6, 2048]⟩
abbrev S2048x96 : Shape := ⟨2, ![2048, 96]⟩
abbrev S2048x256 : Shape := ⟨2, ![2048, 256]⟩
abbrev S1x2048 : Shape := ⟨2, ![1, 2048]⟩
abbrev S2048 : Shape := ⟨1, ![2048]⟩
abbrev S3x2048 : Shape := ⟨2, ![3, 2048]⟩
abbrev S9280x96 : Shape := ⟨2, ![9280, 96]⟩
abbrev S9280x256 : Shape := ⟨2, ![9280, 256]⟩
abbrev S512x2048 : Shape := ⟨2, ![512, 2048]⟩
abbrev S512x96 : Shape := ⟨2, ![512, 96]⟩
abbrev S512x256 : Shape := ⟨2, ![512, 256]⟩

abbrev nBuf : Space → Nat
  | .hbm => 19
  | .vmem => 14
  | .smem => 0
  | _ => 0

abbrev bufTy : (tb : Table) → Fin (tcTables nBuf tb) → BufTy
  | .hbm, ⟨0, _⟩ => ⟨S9280x2048, .f32⟩
  | .hbm, ⟨1, _⟩ => ⟨S9280x2048, .f32⟩
  | .hbm, ⟨2, _⟩ => ⟨S6x2048, .f32⟩
  | .hbm, ⟨3, _⟩ => ⟨S2048x96, .f32⟩
  | .hbm, ⟨4, _⟩ => ⟨S2048x96, .f32⟩
  | .hbm, ⟨5, _⟩ => ⟨S2048x256, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S3x2048, .f32⟩
  | .hbm, ⟨16, _⟩ => ⟨S9280x96, .f32⟩
  | .hbm, ⟨17, _⟩ => ⟨S9280x96, .f32⟩
  | .hbm, ⟨18, _⟩ => ⟨S9280x256, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S3x2048, .f32⟩
  | .local _ .vmem, ⟨5, _⟩ => ⟨S2048x96, .f32⟩
  | .local _ .vmem, ⟨6, _⟩ => ⟨S2048x96, .f32⟩
  | .local _ .vmem, ⟨7, _⟩ => ⟨S2048x256, .f32⟩
  | .local _ .vmem, ⟨8, _⟩ => ⟨S512x96, .f32⟩
  | .local _ .vmem, ⟨9, _⟩ => ⟨S512x96, .f32⟩
  | .local _ .vmem, ⟨10, _⟩ => ⟨S512x96, .f32⟩
  | .local _ .vmem, ⟨11, _⟩ => ⟨S512x96, .f32⟩
  | .local _ .vmem, ⟨12, _⟩ => ⟨S512x256, .f32⟩
  | .local _ .vmem, ⟨13, _⟩ => ⟨S512x256, .f32⟩
  | _, _ => ⟨S9280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S9280x2048 : Shape := ⟨2, ![9280, 2048]⟩
abbrev S6x2048 : Shape := ⟨2, ![6, 2048]⟩
abbrev S2048x96 : Shape := ⟨2, ![2048, 96]⟩
abbrev S2048x256 : Shape := ⟨2, ![2048, 256]⟩
abbrev S1x2048 : Shape := ⟨2, ![1, 2048]⟩
abbrev S2048 : Shape := ⟨1, ![2048]⟩
abbrev S9280x96 : Shape := ⟨2, ![9280, 96]⟩
abbrev S9280x256 : Shape := ⟨2, ![9280, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S9280x2048, .f32⟩
  | .hbm, ⟨1, _⟩ => ⟨S9280x2048, .f32⟩
  | .hbm, ⟨2, _⟩ => ⟨S6x2048, .f32⟩
  | .hbm, ⟨3, _⟩ => ⟨S2048x96, .f32⟩
  | .hbm, ⟨4, _⟩ => ⟨S2048x96, .f32⟩
  | .hbm, ⟨5, _⟩ => ⟨S2048x256, .f32⟩
  | .hbm, ⟨6, _⟩ => ⟨S9280x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S9280x2048, .f32⟩
  | .hbm, ⟨11, _⟩ => ⟨S9280x2048, .f32⟩
  | .hbm, ⟨12, _⟩ => ⟨S9280x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S9280x2048, .f32⟩
  | .hbm, ⟨17, _⟩ => ⟨S9280x2048, .f32⟩
  | .hbm, ⟨18, _⟩ => ⟨S9280x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S9280x2048, .f32⟩
  | .hbm, ⟨23, _⟩ => ⟨S9280x2048, .f32⟩
  | .hbm, ⟨24, _⟩ => ⟨S9280x2048, .f32⟩
  | .hbm, ⟨25, _⟩ => ⟨S9280x96, .f32⟩
  | .hbm, ⟨26, _⟩ => ⟨S9280x96, .f32⟩
  | .hbm, ⟨27, _⟩ => ⟨S9280x96, .f32⟩
  | .hbm, ⟨28, _⟩ => ⟨S9280x256, .f32⟩
  | .hbm, ⟨29, _⟩ => ⟨S9280x256, .f32⟩
  | .hbm, ⟨30, _⟩ => ⟨S9280x256, .f32⟩
  | .hbm, ⟨31, _⟩ => ⟨S_, .f32⟩
  | .hbm, ⟨32, _⟩ => ⟨S9280x256, .f32⟩
  | .hbm, ⟨33, _⟩ => ⟨S9280x256, .f32⟩
  | .hbm, ⟨34, _⟩ => ⟨S_, .f32⟩
  | .hbm, ⟨35, _⟩ => ⟨S9280x256, .f32⟩
  | .hbm, ⟨36, _⟩ => ⟨S9280x256, .f32⟩
  | _, _ => ⟨S9280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel8.lean ====
abbrev S9280x256 : Shape := ⟨2, ![9280, 256]⟩
abbrev S256x2048 : Shape := ⟨2, ![256, 2048]⟩
abbrev S9280x2048 : Shape := ⟨2, ![9280, 2048]⟩
abbrev S512x256 : Shape := ⟨2, ![512, 256]⟩
abbrev S256x1024 : Shape := ⟨2, ![256, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9280x256, .f32⟩
  | .hbm, ⟨1, _⟩ => ⟨S256x2048, .f32⟩
  | .hbm, ⟨2, _⟩ => ⟨S9280x2048, .f32⟩
  | .local _ .vmem, ⟨0, _⟩ => ⟨S512x256, .f32⟩
  | .local _ .vmem, ⟨1, _⟩ => ⟨S512x256, .f32⟩
  | .local _ .vmem, ⟨2, _⟩ => ⟨S256x1024, .f32⟩
  | .local _ .vmem, ⟨3, _⟩ => ⟨S256x1024, .f32⟩
  | .local _ .vmem, ⟨4, _⟩ => ⟨S512x1024, .f32⟩
  | .local _ .vmem, ⟨5, _⟩ => ⟨S512x1024, .f32⟩
  | .local _ .vmem, ⟨6, _⟩ => ⟨S256x1024, .bf16⟩
  | _, _ => ⟨S9280x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S9280x256 : Shape := ⟨2, ![9280, 256]⟩
abbrev S256x2048 : Shape := ⟨2, ![256, 2048]⟩
abbrev S9280x2048 : Shape := ⟨2, ![9280, 2048]⟩

abbrev nBuf : Space → Nat
  | .hbm => 3
  | .vmem => 0
  | .smem => 0
  | _ => 0

abbrev bufTy : (tb : Table) → Fin (tcTables nBuf tb) → BufTy
  | .hbm, ⟨0, _⟩ => ⟨S9280x256, .f32⟩
  | .hbm, ⟨1, _⟩ => ⟨S256x2048, .f32⟩
  | .hbm, ⟨2, _⟩ => ⟨S9280x2048, .f32⟩
  | _, _ => ⟨S9280x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S9280x96 : Shape := ⟨2, ![9280, 96]⟩
abbrev S96x2048 : Shape := ⟨2, ![96, 2048]⟩
abbrev S9280x2048 : Shape := ⟨2, ![9280, 2048]⟩
abbrev S512x96 : Shape := ⟨2, ![512, 96]⟩
abbrev S96x1024 : Shape := ⟨2, ![96, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9280x96, .f32⟩
  | .hbm, ⟨1, _⟩ => ⟨S96x2048, .f32⟩
  | .hbm, ⟨2, _⟩ => ⟨S9280x2048, .f32⟩
  | .local _ .vmem, ⟨0, _⟩ => ⟨S512x96, .f32⟩
  | .local _ .vmem, ⟨1, _⟩ => ⟨S512x96, .f32⟩
  | .local _ .vmem, ⟨2, _⟩ => ⟨S96x1024, .f32⟩
  | .local _ .vmem, ⟨3, _⟩ => ⟨S96x1024, .f32⟩
  | .local _ .vmem, ⟨4, _⟩ => ⟨S512x1024, .f32⟩
  | .local _ .vmem, ⟨5, _⟩ => ⟨S512x1024, .f32⟩
  | .local _ .vmem, ⟨6, _⟩ => ⟨S96x1024, .bf16⟩
  | _, _ => ⟨S9280x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S96x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S9280x96 : Shape := ⟨2, ![9280, 96]⟩
abbrev S96x2048 : Shape := ⟨2, ![96, 2048]⟩
abbrev S9280x2048 : Shape := ⟨2, ![9280, 2048]⟩

abbrev nBuf : Space → Nat
  | .hbm => 3
  | .vmem => 0
  | .smem => 0
  | _ => 0

abbrev bufTy : (tb : Table) → Fin (tcTables nBuf tb) → BufTy
  | .hbm, ⟨0, _⟩ => ⟨S9280x96, .f32⟩
  | .hbm, ⟨1, _⟩ => ⟨S96x2048, .f32⟩
  | .hbm, ⟨2, _⟩ => ⟨S9280x2048, .f32⟩
  | _, _ => ⟨S9280x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S9280x2048 : Shape := ⟨2, ![9280, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S9280x2048, .f32⟩
  | .hbm, ⟨1, _⟩ => ⟨S2048, .f32⟩
  | .hbm, ⟨2, _⟩ => ⟨S1x2048, .f32⟩
  | .hbm, ⟨3, _⟩ => ⟨S9280x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S9280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S9280x2048 : Shape := ⟨2, ![9280, 2048]⟩
abbrev S2048 : Shape := ⟨1, ![2048]⟩
abbrev S_ : Shape := ⟨0, ![]⟩
abbrev S9280 : Shape := ⟨1, ![9280]⟩
abbrev S9280x1 : Shape := ⟨2, ![9280, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S9280x2048, .f32⟩
  | .hbm, ⟨1, _⟩ => ⟨S2048, .f32⟩
  | .hbm, ⟨2, _⟩ => ⟨S9280x2048, .f32⟩
  | .hbm, ⟨3, _⟩ => ⟨S_, .f32⟩
  | .hbm, ⟨4, _⟩ => ⟨S9280, .f32⟩
  | .hbm, ⟨5, _⟩ => ⟨S9280x1, .f32⟩
  | .hbm, ⟨6, _⟩ => ⟨S_, .f32⟩
  | .hbm, ⟨7, _⟩ => ⟨S9280x1, .f32⟩
  | .hbm, ⟨8, _⟩ => ⟨S9280x1, .f32⟩
  | .hbm, ⟨9, _⟩ => ⟨S_, .f32⟩
  | .hbm, ⟨10, _⟩ => ⟨S9280x1, .f32⟩
  | .hbm, ⟨11, _⟩ => ⟨S9280x1, .f32⟩
  | .hbm, ⟨12, _⟩ => ⟨S9280x1, .f32⟩
  | .hbm, ⟨13, _⟩ => ⟨S9280x2048, .f32⟩
  | .hbm, ⟨14, _⟩ => ⟨S9280x2048, .f32⟩
  | .hbm, ⟨15, _⟩ => ⟨S1x2048, .f32⟩
  | .hbm, ⟨16, _⟩ => ⟨S9280x2048, .f32⟩
  | .hbm, ⟨17, _⟩ => ⟨S9280x2048, .f32⟩
  | _, _ => ⟨S9280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel11.lean ====
abbrev S9280x2048 : Shape := ⟨2, ![9280, 2048]⟩
abbrev S2048x4 : Shape := ⟨2, ![2048, 4]⟩
abbrev S2048x32 : Shape := ⟨2, ![2048, 32]⟩
abbrev S2048x36 : Shape := ⟨2, ![2048, 36]⟩
abbrev S9280x36 : Shape := ⟨2, ![9280, 36]⟩
abbrev S512x2048 : Shape := ⟨2, ![512, 2048]⟩
abbrev S512x36 : Shape := ⟨2, ![512, 36]⟩

abbrev nBuf : Space → Nat
  | .hbm => 5
  | .vmem => 6
  | .smem => 0
  | _ => 0

abbrev bufTy : (tb : Table) → Fin (tcTables nBuf tb) → BufTy
  | .hbm, ⟨0, _⟩ => ⟨S9280x2048, .f32⟩
  | .hbm, ⟨1, _⟩ => ⟨S2048x4, .f32⟩
  | .hbm, ⟨2, _⟩ => ⟨S2048x32, .f32⟩
  | .hbm, ⟨3, _⟩ => ⟨S2048x36, .f32⟩
  | .hbm, ⟨4, _⟩ => ⟨S9280x36, .f32⟩
  | .local _ .vmem, ⟨0, _⟩ => ⟨S512x2048, .f32⟩
  | .local _ .vmem, ⟨1, _⟩ => ⟨S512x2048, .f32⟩
  | .local _ .vmem, ⟨2, _⟩ => ⟨S2048x36, .f32⟩
  | .local _ .vmem, ⟨3, _⟩ => ⟨S512x36, .f32⟩
  | .local _ .vmem, ⟨4, _⟩ => ⟨S512x36, .f32⟩
  | .local _ .vmem, ⟨5, _⟩ => ⟨S2048x36, .bf16⟩
  | _, _ => ⟨S9280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x36 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x36 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S9280x2048 : Shape := ⟨2, ![9280, 2048]⟩
abbrev S2048x4 : Shape := ⟨2, ![2048, 4]⟩
abbrev S2048x32 : Shape := ⟨2, ![2048, 32]⟩
abbrev S9280x4 : Shape := ⟨2, ![9280, 4]⟩
abbrev S9280x32 : Shape := ⟨2, ![9280, 32]⟩
abbrev S9280x36 : Shape := ⟨2, ![9280, 36]⟩

abbrev nBuf : Space → Nat
  | .hbm => 6
  | .vmem => 0
  | .smem => 0
  | _ => 0

abbrev bufTy : (tb : Table) → Fin (tcTables nBuf tb) → BufTy
  | .hbm, ⟨0, _⟩ => ⟨S9280x2048, .f32⟩
  | .hbm, ⟨1, _⟩ => ⟨S2048x4, .f32⟩
  | .hbm, ⟨2, _⟩ => ⟨S2048x32, .f32⟩
  | .hbm, ⟨3, _⟩ => ⟨S9280x4, .f32⟩
  | .hbm, ⟨4, _⟩ => ⟨S9280x32, .f32⟩
  | .hbm, ⟨5, _⟩ => ⟨S9280x36, .f32⟩
  | _, _ => ⟨S9280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S9280x2048 : Shape := ⟨2, ![9280, 2048]⟩
abbrev S2048 : Shape := ⟨1, ![2048]⟩
abbrev S1x2048 : Shape := ⟨2, ![1, 2048]⟩
abbrev S256x2048 : Shape := ⟨2, ![256, 2048]⟩
abbrev S256x128 : Shape := ⟨2, ![256, 128]⟩
abbrev S256x256 : Shape := ⟨2, ![256, 256]⟩

abbrev nBuf : Space → Nat
  | .hbm => 15
  | .vmem => 18
  | .smem => 0
  | _ => 0

abbrev bufTy : (tb : Table) → Fin (tcTables nBuf tb) → BufTy
  | .hbm, ⟨0, _⟩ => ⟨S9280x2048, .f32⟩
  | .hbm, ⟨1, _⟩ => ⟨S9280x2048, .f32⟩
  | .hbm, ⟨2, _⟩ => ⟨S9280x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S9280x2048, .f32⟩
  | .hbm, ⟨12, _⟩ => ⟨S9280x2048, .f32⟩
  | .hbm, ⟨13, _⟩ => ⟨S9280x2048, .f32⟩
  | .hbm, ⟨14, _⟩ => ⟨S9280x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S9280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference12Ideal.lean ====
abbrev S9280x2048 : Shape := ⟨2, ![9280, 2048]⟩
abbrev S2048 : Shape := ⟨1, ![2048]⟩
abbrev S1x2048 : Shape := ⟨2, ![1, 2048]⟩
abbrev S_ : Shape := ⟨0, ![]⟩
abbrev S9280x32x64 : Shape := ⟨3, ![9280, 32, 64]⟩
abbrev S9280x32 : Shape := ⟨2, ![9280, 32]⟩
abbrev S9280x32x1 : Shape := ⟨3, ![9280, 32, 1]⟩

abbrev nBuf : Space → Nat
  | .hbm => 69
  | .vmem => 0
  | .smem => 0
  | _ => 0

abbrev bufTy : (tb : Table) → Fin (tcTables nBuf tb) → BufTy
  | .hbm, ⟨0, _⟩ => ⟨S9280x2048, .f32⟩
  | .hbm, ⟨1, _⟩ => ⟨S9280x2048, .f32⟩
  | .hbm, ⟨2, _⟩ => ⟨S9280x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S9280x2048, .f32⟩
  | .hbm, ⟨9, _⟩ => ⟨S9280x2048, .f32⟩
  | .hbm, ⟨10, _⟩ => ⟨S9280x2048, .f32⟩
  | .hbm, ⟨11, _⟩ => ⟨S_, .f32⟩
  | .hbm, ⟨12, _⟩ => ⟨S9280x2048, .f32⟩
  | .hbm, ⟨13, _⟩ => ⟨S9280x2048, .f32⟩
  | .hbm, ⟨14, _⟩ => ⟨S9280x2048, .f32⟩
  | .hbm, ⟨15, _⟩ => ⟨S9280x2048, .f32⟩
  | .hbm, ⟨16, _⟩ => ⟨S9280x2048, .i1⟩
  | .hbm, ⟨17, _⟩ => ⟨S9280x2048, .f32⟩
  | .hbm, ⟨18, _⟩ => ⟨S9280x2048, .f32⟩
  | .hbm, ⟨19, _⟩ => ⟨S9280x2048, .f32⟩
  | .hbm, ⟨20, _⟩ => ⟨S9280x2048, .f32⟩
  | .hbm, ⟨21, _⟩ => ⟨S9280x2048, .f32⟩
  | .hbm, ⟨22, _⟩ => ⟨S9280x2048, .f32⟩
  | .hbm, ⟨23, _⟩ => ⟨S9280x2048, .f32⟩
  | .hbm, ⟨24, _⟩ => ⟨S9280x2048, .f32⟩
  | .hbm, ⟨25, _⟩ => ⟨S9280x2048, .f32⟩
  | .hbm, ⟨26, _⟩ => ⟨S_, .f32⟩
  | .hbm, ⟨27, _⟩ => ⟨S9280x2048, .f32⟩
  | .hbm, ⟨28, _⟩ => ⟨S9280x2048, .f32⟩
  | .hbm, ⟨29, _⟩ => ⟨S9280x2048, .f32⟩
  | .hbm, ⟨30, _⟩ => ⟨S9280x2048, .f32⟩
  | .hbm, ⟨31, _⟩ => ⟨S9280x2048, .f32⟩
  | .hbm, ⟨32, _⟩ => ⟨S1x2048, .f32⟩
  | .hbm, ⟨33, _⟩ => ⟨S9280x2048, .f32⟩
  | .hbm, ⟨34, _⟩ => ⟨S9280x2048, .f32⟩
  | .hbm, ⟨35, _⟩ => ⟨S9280x2048, .f32⟩
  | .hbm, ⟨36, _⟩ => ⟨S9280x2048, .f32⟩
  | .hbm, ⟨37, _⟩ => ⟨S_, .f32⟩
  | .hbm, ⟨38, _⟩ => ⟨S9280x2048, .f32⟩
  | .hbm, ⟨39, _⟩ => ⟨S9280x2048, .f32⟩
  | .hbm, ⟨40, _⟩ => ⟨S_, .f32⟩
  | .hbm, ⟨41, _⟩ => ⟨S9280x2048, .f32⟩
  | .hbm, ⟨42, _⟩ => ⟨S9280x2048, .f32⟩
  | .hbm, ⟨43, _⟩ => ⟨S1x2048, .f32⟩
  | .hbm, ⟨44, _⟩ => ⟨S9280x2048, .f32⟩
  | .hbm, ⟨45, _⟩ => ⟨S9280x2048, .f32⟩
  | .hbm, ⟨46, _⟩ => ⟨S9280x32x64, .f32⟩
  | .hbm, ⟨47, _⟩ => ⟨S9280x32x64, .f32⟩
  | .hbm, ⟨48, _⟩ => ⟨S_, .f32⟩
  | .hbm, ⟨49, _⟩ => ⟨S9280x32, .f32⟩
  | .hbm, ⟨50, _⟩ => ⟨S9280x32x1, .f32⟩
  | .hbm, ⟨51, _⟩ => ⟨S9280x32x1, .f32⟩
  | .hbm, ⟨52, _⟩ => ⟨S_, .f32⟩
  | .hbm, ⟨53, _⟩ => ⟨S9280x32x1, .f32⟩
  | .hbm, ⟨54, _⟩ => ⟨S9280x32x1, .f32⟩
  | .hbm, ⟨55, _⟩ => ⟨S9280x32x64, .f32⟩
  | .hbm, ⟨56, _⟩ => ⟨S9280x32x64, .f32⟩
  | .hbm, ⟨57, _⟩ => ⟨S9280x2048, .f32⟩
  | .hbm, ⟨58, _⟩ => ⟨S9280x2048, .f32⟩
  | .hbm, ⟨59, _⟩ => ⟨S_, .f32⟩
  | .hbm, ⟨60, _⟩ => ⟨S9280x2048, .f32⟩
  | .hbm, ⟨61, _⟩ => ⟨S9280x2048, .f32⟩
  | .hbm, ⟨62, _⟩ => ⟨S1x2048, .f32⟩
  | .hbm, ⟨63, _⟩ => ⟨S9280x2048, .f32⟩
  | .hbm, ⟨64, _⟩ => ⟨S9280x2048, .f32⟩
  | .hbm, ⟨65, _⟩ => ⟨S_, .f32⟩
  | .hbm, ⟨66, _⟩ => ⟨S9280x2048, .f32⟩
  | .hbm, ⟨67, _⟩ => ⟨S9280x2048, .f32⟩
  | .hbm, ⟨68, _⟩ => ⟨S9280x2048, .f32⟩
  | _, _ => ⟨S9280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]
-- ==== Kernel13.lean ====
abbrev S9280x2048 : Shape := ⟨2, ![9280, 2048]⟩
abbrev S32x64 : Shape := ⟨2, ![32, 64]⟩
abbrev S2048 : Shape := ⟨1, ![2048]⟩
abbrev S1x2048 : Shape := ⟨2, ![1, 2048]⟩
abbrev S256x2048 : Shape := ⟨2, ![256, 2048]⟩
abbrev S256x128 : Shape := ⟨2, ![256, 128]⟩
abbrev S256x256 : Shape := ⟨2, ![256, 256]⟩

abbrev nBuf : Space → Nat
  | .hbm => 13
  | .vmem => 15
  | .smem => 0
  | _ => 0

abbrev bufTy : (tb : Table) → Fin (tcTables nBuf tb) → BufTy
  | .hbm, ⟨0, _⟩ => ⟨S9280x2048, .f32⟩
  | .hbm, ⟨1, _⟩ => ⟨S9280x2048, .f32⟩
  | .hbm, ⟨2, _⟩ => ⟨S9280x2048, .f32⟩
  | .hbm, ⟨3, _⟩ => ⟨S9280x2048, .f32⟩
  | .hbm, ⟨4, _⟩ => ⟨S9280x2048, .f32⟩
  | .hbm, ⟨5, _⟩ => ⟨S32x64, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S9280x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | _, _ => ⟨S9280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S9280x2048 : Shape := ⟨2, ![9280, 2048]⟩
abbrev S32x64 : Shape := ⟨2, ![32, 64]⟩
abbrev S2048 : Shape := ⟨1, ![2048]⟩
abbrev S9280x32x64 : Shape := ⟨3, ![9280, 32, 64]⟩
abbrev S_ : Shape := ⟨0, ![]⟩
abbrev S9280x32 : Shape := ⟨2, ![9280, 32]⟩
abbrev S9280x32x1 : Shape := ⟨3, ![9280, 32, 1]⟩
abbrev S1x2048 : Shape := ⟨2, ![1, 2048]⟩
abbrev S1x32x64 : Shape := ⟨3, ![1, 32, 64]⟩

abbrev nBuf : Space → Nat
  | .hbm => 54
  | .vmem => 0
  | .smem => 0
  | _ => 0

abbrev bufTy : (tb : Table) → Fin (tcTables nBuf tb) → BufTy
  | .hbm, ⟨0, _⟩ => ⟨S9280x2048, .f32⟩
  | .hbm, ⟨1, _⟩ => ⟨S9280x2048, .f32⟩
  | .hbm, ⟨2, _⟩ => ⟨S9280x2048, .f32⟩
  | .hbm, ⟨3, _⟩ => ⟨S9280x2048, .f32⟩
  | .hbm, ⟨4, _⟩ => ⟨S9280x2048, .f32⟩
  | .hbm, ⟨5, _⟩ => ⟨S32x64, .f32⟩
  | .hbm, ⟨6, _⟩ => ⟨S2048, .f32⟩
  | .hbm, ⟨7, _⟩ => ⟨S2048, .f32⟩
  | .hbm, ⟨8, _⟩ => ⟨S9280x32x64, .f32⟩
  | .hbm, ⟨9, _⟩ => ⟨S9280x32x64, .f32⟩
  | .hbm, ⟨10, _⟩ => ⟨S9280x32x64, .f32⟩
  | .hbm, ⟨11, _⟩ => ⟨S9280x32x64, .f32⟩
  | .hbm, ⟨12, _⟩ => ⟨S_, .f32⟩
  | .hbm, ⟨13, _⟩ => ⟨S9280x32, .f32⟩
  | .hbm, ⟨14, _⟩ => ⟨S9280x32x1, .f32⟩
  | .hbm, ⟨15, _⟩ => ⟨S_, .f32⟩
  | .hbm, ⟨16, _⟩ => ⟨S9280x32x1, .f32⟩
  | .hbm, ⟨17, _⟩ => ⟨S9280x32x1, .f32⟩
  | .hbm, ⟨18, _⟩ => ⟨S9280x32x64, .f32⟩
  | .hbm, ⟨19, _⟩ => ⟨S9280x32x64, .f32⟩
  | .hbm, ⟨20, _⟩ => ⟨S9280x32x64, .f32⟩
  | .hbm, ⟨21, _⟩ => ⟨S_, .f32⟩
  | .hbm, ⟨22, _⟩ => ⟨S9280x32, .f32⟩
  | .hbm, ⟨23, _⟩ => ⟨S9280x32x1, .f32⟩
  | .hbm, ⟨24, _⟩ => ⟨S_, .f32⟩
  | .hbm, ⟨25, _⟩ => ⟨S9280x32x1, .f32⟩
  | .hbm, ⟨26, _⟩ => ⟨S9280x32x1, .f32⟩
  | .hbm, ⟨27, _⟩ => ⟨S9280x32x64, .f32⟩
  | .hbm, ⟨28, _⟩ => ⟨S9280x32x64, .f32⟩
  | .hbm, ⟨29, _⟩ => ⟨S_, .f32⟩
  | .hbm, ⟨30, _⟩ => ⟨S9280x32x1, .f32⟩
  | .hbm, ⟨31, _⟩ => ⟨S9280x32x1, .f32⟩
  | .hbm, ⟨32, _⟩ => ⟨S9280x32x1, .f32⟩
  | .hbm, ⟨33, _⟩ => ⟨S9280x32x64, .f32⟩
  | .hbm, ⟨34, _⟩ => ⟨S9280x32x64, .f32⟩
  | .hbm, ⟨35, _⟩ => ⟨S9280x2048, .f32⟩
  | .hbm, ⟨36, _⟩ => ⟨S1x2048, .f32⟩
  | .hbm, ⟨37, _⟩ => ⟨S9280x2048, .f32⟩
  | .hbm, ⟨38, _⟩ => ⟨S9280x2048, .f32⟩
  | .hbm, ⟨39, _⟩ => ⟨S1x2048, .f32⟩
  | .hbm, ⟨40, _⟩ => ⟨S9280x2048, .f32⟩
  | .hbm, ⟨41, _⟩ => ⟨S9280x2048, .f32⟩
  | .hbm, ⟨42, _⟩ => ⟨S9280x32x64, .f32⟩
  | .hbm, ⟨43, _⟩ => ⟨S1x32x64, .f32⟩
  | .hbm, ⟨44, _⟩ => ⟨S9280x32x64, .f32⟩
  | .hbm, ⟨45, _⟩ => ⟨S9280x32x64, .f32⟩
  | .hbm, ⟨46, _⟩ => ⟨S_, .f32⟩
  | .hbm, ⟨47, _⟩ => ⟨S9280x32, .f32⟩
  | .hbm, ⟨48, _⟩ => ⟨S9280x32x1, .f32⟩
  | .hbm, ⟨49, _⟩ => ⟨S9280x32x64, .f32⟩
  | .hbm, ⟨50, _⟩ => ⟨S9280x32x64, .f32⟩
  | .hbm, ⟨51, _⟩ => ⟨S9280x2048, .f32⟩
  | .hbm, ⟨52, _⟩ => ⟨S9280x2048, .f32⟩
  | .hbm, ⟨53, _⟩ => ⟨S9280x2048, .f32⟩
  | _, _ => ⟨S9280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.WkvModel.lean ====
/-
  One token of the recurrence as the kernel computes it, over every head at once: the state of one sequence is a
  1024 by 128 matrix in which rows 64p .. 64p+63 hold head 2p in columns 0 .. 63 and head 2p+1 in columns 64 .. 127.
-/
module

public import Idealize.ShloMosaic.Lib.Pointwise
public import Idealize.ShloMosaic.Run

@[expose] public section

noncomputable section

namespace Wkv

open Idealize.ShloMosaic

variable {F : FTy → Type} [FloatOps F]

abbrev SBlk : Shape := ⟨2, ![8, 2048]⟩
abbrev SMat : Shape := ⟨2, ![1024, 128]⟩
abbrev SWts : Shape := ⟨2, ![256, 128]⟩
abbrev STwo : Shape := ⟨2, ![1024, 256]⟩
abbrev SHd : Shape := ⟨2, ![64, 128]⟩
abbrev SSq : Shape := ⟨2, ![64, 64]⟩
abbrev SRow : Shape := ⟨2, ![1, 128]⟩
abbrev SCol : Shape := ⟨2, ![64, 1]⟩
abbrev SStrip : Shape := ⟨2, ![8, 128]⟩
abbrev SStripT : Shape := ⟨2, ![128, 8]⟩
abbrev SOut : Shape := ⟨2, ![16, 128]⟩
abbrev SCube : Shape := ⟨3, ![16, 64, 128]⟩

theorem slices_row (j : Fin 8) (p : Fin 16) : SBlk.Slices ![j.val, 128 * p.val] SRow :=
  ⟨rfl, fun a => match a with
    | ⟨0, _⟩ => by show j.val + 1 ≤ 8; omega
    | ⟨1, _⟩ => by show 128 * p.val + 128 ≤ 2048; omega⟩

theorem slices_strip (p : Fin 16) : SBlk.Slices ![0, 128 * p.val] SStrip :=
  ⟨rfl, fun a => match a with
    | ⟨0, _⟩ => by show 0 + 8 ≤ 8; omega
    | ⟨1, _⟩ => by show 128 * p.val + 128 ≤ 2048; omega⟩

theorem slices_col (j : Fin 8) (h : Fin 2) : SStripT.Slices ![64 * h.val, j.val] SCol :=
  ⟨rfl, fun a => match a with
    | ⟨0, _⟩ => by show 64 * h.val + 64 ≤ 128; omega
    | ⟨1, _⟩ => by show j.val + 1 ≤ 8; omega⟩

theorem slices_out (p : Fin 16) : SOut.Slices ![p.val, 0] SRow :=
  ⟨rfl, fun a => match a with
    | ⟨0, _⟩ => by show p.val + 1 ≤ 16; omega
    | ⟨1, _⟩ => by show 0 + 128 ≤ 128; omega⟩

/-- Equal pieces end to end, from the same relation between the bare shapes. -/
theorem cat_ofFn {α : Type} {s t : Shape} {a : Fin t.rank} {N : Nat} (f : Fin N → s.Idx → α)
    (h : Shape.Concatenates (List.replicate N s) t a) :
    Shape.Concatenates ((List.ofFn fun n : Fin N => (⟨s, f n⟩ : (s : Shape) × (s.Idx → α))).map (·.1)) t a := by
  have e : (List.ofFn fun n : Fin N => (⟨s, f n⟩ : (s : Shape) × (s.Idx → α))).map (·.1) = List.replicate N s := by
    rw [List.map_ofFn]; exact List.ofFn_const N s
  rw [e]; exact h

theorem cat_pairs : Shape.Concatenates (List.replicate 16 SHd) SMat 0 := by decide
theorem cat_heads : Shape.Concatenates [SSq, SSq] SHd 1 := by decide
theorem cat_two : Shape.Concatenates [SMat, SMat] STwo 1 := by decide
theorem cat_tokens : Shape.Concatenates (List.replicate 8 SRow) SStrip 0 := by decide
theorem cat_strips : Shape.Concatenates (List.replicate 16 SStrip) SBlk 1 := by decide

/-- The dot of the doubled matrix with the head-sum weights. -/
def dims : DotDims STwo SWts SMat where
  lhsContracting := [1]
  rhsContracting := [0]
  lhsNonContracting := [0]
  rhsNonContracting := [1]
  lhsBatch := []
  rhsBatch := []
  wf := by decide

/-- Token `j`'s row of pair `p`, repeated down the pair's 64 rows. -/
def row (x : FVec F SBlk .f32) (j : Fin 8) (p : Fin 16) : FVec F SHd .f32 :=
  broadcastTo SHd (shapeCast SRow (extractStridedSlice SRow ![j.val, 128 * p.val] x (slices_row j p)) (by decide)) (by decide)

/-- Token `j`'s row over all pairs. -/
def rows (x : FVec F SBlk .f32) (j : Fin 8) : FVec F SMat .f32 :=
  concatenate SMat 0 (List.ofFn fun p : Fin 16 => (⟨SHd, row x j p⟩ : (s : Shape) × (s.Idx → F .f32))) (cat_ofFn _ cat_pairs)

/-- Pair `p`'s strip of the block, tokens along the columns. -/
def strip (x : FVec F SBlk .f32) (p : Fin 16) : FVec F SStripT .f32 :=
  transpose SStripT [1, 0] (extractStridedSlice SStrip ![0, 128 * p.val] x (slices_strip p)) (by decide)

/-- Token `j`'s entries of one head of pair `p`, one per row, repeated along the head's 64 columns. -/
def half (x : FVec F SBlk .f32) (j : Fin 8) (p : Fin 16) (h : Fin 2) : FVec F SSq .f32 :=
  broadcastTo SSq (shapeCast SCol (extractStridedSlice SCol ![64 * h.val, j.val] (strip x p) (slices_col j h)) (by decide)) (by decide)

/-- Both heads of pair `p` side by side. -/
def col (x : FVec F SBlk .f32) (j : Fin 8) (p : Fin 16) : FVec F SHd .f32 :=
  concatenate SHd 1 [⟨SSq, half x j p 0⟩, ⟨SSq, half x j p 1⟩] cat_heads

/-- Token `j`'s entries down the rows, over all pairs. -/
def cols (x : FVec F SBlk .f32) (j : Fin 8) : FVec F SMat .f32 :=
  concatenate SMat 0 (List.ofFn fun p : Fin 16 => (⟨SHd, col x j p⟩ : (s : Shape) × (s.Idx → F .f32))) (cat_ofFn _ cat_pairs)

/-- The sum over each head's columns, as the kernel takes it: the high half and the rest of each entry, side by
    side, times the weights. -/
def headSum (w : FVec F SWts .bf16) (t : FVec F SMat .f32) : FVec F SMat .f32 :=
  matmul dims none
    (concatenate STwo 1 [⟨SMat, truncf .bf16 t (by decide)⟩,
      ⟨SMat, truncf .bf16 (subf t (extf .f32 (truncf .bf16 t (by decide)) (by decide))) (by decide)⟩] cat_two)
    w (constant SMat .f32 0x00000000#32)

/-- The state after token `j`. -/
def step (w : FVec F SWts .bf16) (d k v kk b : FVec F SBlk .f32) (j : Fin 8) (s : FVec F SMat .f32) : FVec F SMat .f32 :=
  addf (subf (mulf s (rows d j)) (mulf (headSum w (mulf s (rows kk j))) (rows b j))) (mulf (cols v j) (rows k j))

/-- The state before token `n` of the eight. -/
def state (w : FVec F SWts .bf16) (d k v kk b : FVec F SBlk .f32) (s : FVec F SMat .f32) : (n : Nat) → n ≤ 8 → FVec F SMat .f32
  | 0, _ => s
  | n + 1, h => step w d k v kk b ⟨n, h⟩ (state w d k v kk b s n (Nat.le_of_succ_le h))

/-- What token `j` reads out of the state, one row per pair. -/
def out (w : FVec F SWts .bf16) (sel : IVec SMat 1) (r : FVec F SBlk .f32) (j : Fin 8) (s : FVec F SMat .f32) : FVec F SOut .f32 :=
  multiReduction .add [1] SOut
    (shapeCast SCube (select sel (headSum w (mulf s (rows r j))) (broadcast SMat (Scalar.ofBits .f32 0x00000000#32))) (by decide))
    0x00000000#32 (by decide) (.inl rfl) rfl

/-- Pair `p`'s eight read-out rows. -/
def outStrip (o : Fin 8 → FVec F SOut .f32) (p : Fin 16) : FVec F SStrip .f32 :=
  concatenate SStrip 0
    (List.ofFn fun j : Fin 8 => (⟨SRow, extractStridedSlice SRow ![p.val, 0] (o j) (slices_out p)⟩ : (s : Shape) × (s.Idx → F .f32)))
    (cat_ofFn _ cat_tokens)

/-- The block of read-outs. -/
def outs (o : Fin 8 → FVec F SOut .f32) : FVec F SBlk .f32 :=
  concatenate SBlk 1 (List.ofFn fun p : Fin 16 => (⟨SStrip, outStrip o p⟩ : (s : Shape) × (s.Idx → F .f32))) (cat_ofFn _ cat_strips)

end Wkv

end
-- ==== Proof.WkvMatch.lean ====
/-
  The kernel's run, token by token, is the model's.
-/
module

public import proofs.«01_k».proof.Proof.Gen.KernelIdeal.Value
public import proofs.«01_k».proof.Proof.WkvModel

@[expose] public section

set_option maxRecDepth 16384

noncomputable section

namespace Cert.KernelIdeal.WkvRun

open Cert.KernelIdeal Cert.KernelIdeal.Gen Idealize.ShloMosaic Idealize.ShloMosaic.TcCoe Idealize.SL.Sem

variable {F : FTy → Type} [FloatOps F]
variable (c : Dev nD) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S8x2048 .f32) (harg7 : arg7.IsWhole) (arg8 : Memref sig .tc .vmem S1x32x64x64 .f32) (harg8 : arg8.IsWhole) (arg11 : Memref sig .tc .vmem S1024x128 .f32)
  (x0 x1 x2 x3 x4 x5 : Vec F S8x2048 .f32) (x6 : Vec F S1x32x64x64 .f32)

/-- The head-sum weights. -/
def wts : FVec F S256x128 .bf16 := k0_pay59 kernelRun0_A.sl.v64 kernelRun0_A.sl.v88

/-- The loaded block of `v`. -/
def vld : FVec F S8x2048 .f32 := View.readAt (Elt F) arg5.view (Rect.unit k0_off1 S8x2048.size k0_off1_inb).toLoadRect (harg5.unread x3)

/-- One token over the loaded blocks. -/
def stp (j : Fin 8) (s : FVec F S1024x128 .f32) : FVec F S1024x128 .f32 :=
  Wkv.step wts (kernelRun0_A.sl.r_1 c arg3 harg3 x1) (kernelRun0_A.sl.r_2 c arg4 harg4 x2) (vld arg5 harg5 x3)
    (kernelRun0_A.sl.r_3 c arg6 harg6 x4) (kernelRun0_A.sl.r_4 c arg7 harg7 x5) j s

theorem state_0 : kernelRun0_A.sl.r_43 c arg3 harg3 arg4 harg4 arg5 harg5 arg6 harg6 arg7 harg7 arg8 harg8 arg11 x1 x2 x3 x4 x5 x6
    = stp c arg3 harg3 arg4 harg4 arg5 harg5 arg6 harg6 arg7 harg7 x1 x2 x3 x4 x5 0 (kernelRun0_A.sl.v107 c arg8 harg8 arg11 x6) := rfl

theorem state_1 : kernelRun0_A.sl.r_79 c arg3 harg3 arg4 harg4 arg5 harg5 arg6 harg6 arg7 harg7 arg8 harg8 arg11 x1 x2 x3 x4 x5 x6
    = stp c arg3 harg3 arg4 harg4 arg5 harg5 arg6 harg6 arg7 harg7 x1 x2 x3 x4 x5 1 (kernelRun0_A.sl.r_43 c arg3 harg3 arg4 harg4 arg5 harg5 arg6 harg6 arg7 harg7 arg8 harg8 arg11 x1 x2 x3 x4 x5 x6) := rfl

theorem state_2 : kernelRun0_A.sl.r_117 c arg3 harg3 arg4 harg4 arg5 harg5 arg6 harg6 arg7 harg7 arg8 harg8 arg11 x1 x2 x3 x4 x5 x6
    = stp c arg3 harg3 arg4 harg4 arg5 harg5 arg6 harg6 arg7 harg7 x1 x2 x3 x4 x5 2 (kernelRun0_A.sl.r_79 c arg3 harg3 arg4 harg4 arg5 harg5 arg6 harg6 arg7 harg7 arg8 harg8 arg11 x1 x2 x3 x4 x5 x6) := rfl

theorem state_3 : kernelRun0_A.sl.r_169 c arg3 harg3 arg4 harg4 arg5 harg5 arg6 harg6 arg7 harg7 arg8 harg8 arg11 x1 x2 x3 x4 x5 x6
    = stp c arg3 harg3 arg4 harg4 arg5 harg5 arg6 harg6 arg7 harg7 x1 x2 x3 x4 x5 3 (kernelRun0_A.sl.r_117 c arg3 harg3 arg4 harg4 arg5 harg5 arg6 harg6 arg7 harg7 arg8 harg8 arg11 x1 x2 x3 x4 x5 x6) := rfl

theorem state_4 : kernelRun0_A.sl.r_222 c arg3 harg3 arg4 harg4 arg5 harg5 arg6 harg6 arg7 harg7 arg8 harg8 arg11 x1 x2 x3 x4 x5 x6
    = stp c arg3 harg3 arg4 harg4 arg5 harg5 arg6 harg6 arg7 harg7 x1 x2 x3 x4 x5 4 (kernelRun0_A.sl.r_169 c arg3 harg3 arg4 harg4 arg5 harg5 arg6 harg6 arg7 harg7 arg8 harg8 arg11 x1 x2 x3 x4 x5 x6) := rfl

theorem state_5 : kernelRun0_A.sl.r_252 c arg3 harg3 arg4 harg4 arg5 harg5 arg6 harg6 arg7 harg7 arg8 harg8 arg11 x1 x2 x3 x4 x5 x6
    = stp c arg3 harg3 arg4 harg4 arg5 harg5 arg6 harg6 arg7 harg7 x1 x2 x3 x4 x5 5 (kernelRun0_A.sl.r_222 c arg3 harg3 arg4 harg4 arg5 harg5 arg6 harg6 arg7 harg7 arg8 harg8 arg11 x1 x2 x3 x4 x5 x6) := rfl

theorem state_6 : kernelRun0_A.sl.r_284 c arg3 harg3 arg4 harg4 arg5 harg5 arg6 harg6 arg7 harg7 arg8 harg8 arg11 x1 x2 x3 x4 x5 x6
    = stp c arg3 harg3 arg4 harg4 arg5 harg5 arg6 harg6 arg7 harg7 x1 x2 x3 x4 x5 6 (kernelRun0_A.sl.r_252 c arg3 harg3 arg4 harg4 arg5 harg5 arg6 harg6 arg7 harg7 arg8 harg8 arg11 x1 x2 x3 x4 x5 x6) := rfl

theorem state_7 : kernelRun0_A.sl.r_314 c arg3 harg3 arg4 harg4 arg5 harg5 arg6 harg6 arg7 harg7 arg8 harg8 arg11 x1 x2 x3 x4 x5 x6
    = stp c arg3 harg3 arg4 harg4 arg5 harg5 arg6 harg6 arg7 harg7 x1 x2 x3 x4 x5 7 (kernelRun0_A.sl.r_284 c arg3 harg3 arg4 harg4 arg5 harg5 arg6 harg6 arg7 harg7 arg8 harg8 arg11 x1 x2 x3 x4 x5 x6) := rfl

theorem out_0 : kernelRun0_A.sl.r_57 c arg2 harg2 arg3 harg3 arg4 harg4 arg5 harg5 arg6 harg6 arg7 harg7 arg8 harg8 arg11 x0 x1 x2 x3 x4 x5 x6
    = Wkv.out wts kernelRun0_A.sl.v22 (kernelRun0_A.sl.r c arg2 harg2 x0) 0 (kernelRun0_A.sl.r_43 c arg3 harg3 arg4 harg4 arg5 harg5 arg6 harg6 arg7 harg7 arg8 harg8 arg11 x1 x2 x3 x4 x5 x6) := rfl

theorem out_1 : kernelRun0_A.sl.r_84 c arg2 harg2 arg3 harg3 arg4 harg4 arg5 harg5 arg6 harg6 arg7 harg7 arg8 harg8 arg11 x0 x1 x2 x3 x4 x5 x6
    = Wkv.out wts kernelRun0_A.sl.v22 (kernelRun0_A.sl.r c arg2 harg2 x0) 1 (kernelRun0_A.sl.r_79 c arg3 harg3 arg4 harg4 arg5 harg5 arg6 harg6 arg7 harg7 arg8 harg8 arg11 x1 x2 x3 x4 x5 x6) := rfl

theorem out_2 : kernelRun0_A.sl.r_134 c arg2 harg2 arg3 harg3 arg4 harg4 arg5 harg5 arg6 harg6 arg7 harg7 arg8 harg8 arg11 x0 x1 x2 x3 x4 x5 x6
    = Wkv.out wts kernelRun0_A.sl.v22 (kernelRun0_A.sl.r c arg2 harg2 x0) 2 (kernelRun0_A.sl.r_117 c arg3 harg3 arg4 harg4 arg5 harg5 arg6 harg6 arg7 harg7 arg8 harg8 arg11 x1 x2 x3 x4 x5 x6) := rfl

theorem out_3 : kernelRun0_A.sl.r_178 c arg2 harg2 arg3 harg3 arg4 harg4 arg5 harg5 arg6 harg6 arg7 harg7 arg8 harg8 arg11 x0 x1 x2 x3 x4 x5 x6
    = Wkv.out wts kernelRun0_A.sl.v22 (kernelRun0_A.sl.r c arg2 harg2 x0) 3 (kernelRun0_A.sl.r_169 c arg3 harg3 arg4 harg4 arg5 harg5 arg6 harg6 arg7 harg7 arg8 harg8 arg11 x1 x2 x3 x4 x5 x6) := rfl

theorem out_4 : kernelRun0_A.sl.r_224 c arg2 harg2 arg3 harg3 arg4 harg4 arg5 harg5 arg6 harg6 arg7 harg7 arg8 harg8 arg11 x0 x1 x2 x3 x4 x5 x6
    = Wkv.out wts kernelRun0_A.sl.v22 (kernelRun0_A.sl.r c arg2 harg2 x0) 4 (kernelRun0_A.sl.r_222 c arg3 harg3 arg4 harg4 arg5 harg5 arg6 harg6 arg7 harg7 arg8 harg8 arg11 x1 x2 x3 x4 x5 x6) := rfl

theorem out_5 : kernelRun0_A.sl.r_264 c arg2 harg2 arg3 harg3 arg4 harg4 arg5 harg5 arg6 harg6 arg7 harg7 arg8 harg8 arg11 x0 x1 x2 x3 x4 x5 x6
    = Wkv.out wts kernelRun0_A.sl.v22 (kernelRun0_A.sl.r c arg2 harg2 x0) 5 (kernelRun0_A.sl.r_252 c arg3 harg3 arg4 harg4 arg5 harg5 arg6 harg6 arg7 harg7 arg8 harg8 arg11 x1 x2 x3 x4 x5 x6) := rfl

theorem out_6 : kernelRun0_A.sl.r_288 c arg2 harg2 arg3 harg3 arg4 harg4 arg5 harg5 arg6 harg6 arg7 harg7 arg8 harg8 arg11 x0 x1 x2 x3 x4 x5 x6
    = Wkv.out wts kernelRun0_A.sl.v22 (kernelRun0_A.sl.r c arg2 harg2 x0) 6 (kernelRun0_A.sl.r_284 c arg3 harg3 arg4 harg4 arg5 harg5 arg6 harg6 arg7 harg7 arg8 harg8 arg11 x1 x2 x3 x4 x5 x6) := rfl

theorem out_7 : kernelRun0_A.sl.r_329 c arg2 harg2 arg3 harg3 arg4 harg4 arg5 harg5 arg6 harg6 arg7 harg7 arg8 harg8 arg11 x0 x1 x2 x3 x4 x5 x6
    = Wkv.out wts kernelRun0_A.sl.v22 (kernelRun0_A.sl.r c arg2 harg2 x0) 7 (kernelRun0_A.sl.r_314 c arg3 harg3 arg4 harg4 arg5 harg5 arg6 harg6 arg7 harg7 arg8 harg8 arg11 x1 x2 x3 x4 x5 x6) := rfl

end Cert.KernelIdeal.WkvRun

end
-- ==== Proof.WkvPieces.lean ====
/-
  What the kernel's run loads and stores, as functions of the blocks: the state's first contents, the state block it
  leaves, the output block it leaves.
-/
module

public import proofs.«01_k».proof.Proof.WkvMatch
public import Idealize.ShloMosaic.Lib.Pipeline.Value

@[expose] public section

set_option maxRecDepth 16384

noncomputable section

namespace Cert.KernelIdeal.WkvRun

open Cert.KernelIdeal Cert.KernelIdeal.Gen Idealize.ShloMosaic Idealize.ShloMosaic.TcCoe Idealize.SL.Sem

variable {F : FTy → Type} [FloatOps F]
variable (c : Dev nD) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S8x2048 .f32) (harg7 : arg7.IsWhole) (arg8 : Memref sig .tc .vmem S1x32x64x64 .f32) (harg8 : arg8.IsWhole) (arg11 : Memref sig .tc .vmem S1024x128 .f32)
  (x0 x1 x2 x3 x4 x5 : Vec F S8x2048 .f32) (x6 : Vec F S1x32x64x64 .f32)

theorem inb_head (g : Fin 32) : ∀ a, (![0, g.val, 0, 0] : Fin 4 → Nat) a + S1x1x64x64.size a ≤ S1x32x64x64.size a := fun a => match a with
  | ⟨0, _⟩ => by show 0 + 1 ≤ 1; omega
  | ⟨1, _⟩ => by show g.val + 1 ≤ 32; omega
  | ⟨2, _⟩ => by show 0 + 64 ≤ 64; omega
  | ⟨3, _⟩ => by show 0 + 64 ≤ 64; omega

theorem inb_pair (p : Fin 16) : ∀ a, (![64 * p.val, 0] : Fin 2 → Nat) a + S64x128.size a ≤ S1024x128.size a := fun a => match a with
  | ⟨0, _⟩ => by show 64 * p.val + 64 ≤ 1024; omega
  | ⟨1, _⟩ => by show 0 + 128 ≤ 128; omega

theorem slices_head (h : Fin 2) : S64x128.Slices ![0, 64 * h.val] S64x64 :=
  ⟨rfl, fun a => match a with
    | ⟨0, _⟩ => by show 0 + 64 ≤ 64; omega
    | ⟨1, _⟩ => by show 64 * h.val + 64 ≤ 128; omega⟩

/-- Head `g` of the loaded state, as a square matrix. -/
def headOf (y : Vec F S1x32x64x64 .f32) (g : Fin 32) : FVec F S64x64 .f32 :=
  shapeCast S64x64 (s := S1x1x64x64) (fun x => y ((Rect.unit (s := S1x32x64x64) ![0, g.val, 0, 0] S1x1x64x64.size (inb_head g)).idx x)) (by decide)

/-- Pair `p`'s two heads side by side. -/
def pairOf (y : Vec F S1x32x64x64 .f32) (p : Fin 16) : FVec F S64x128 .f32 :=
  shapeCast S64x128 (concatenate S64x128 1 [⟨S64x64, headOf y ⟨2 * p.val, by omega⟩⟩, ⟨S64x64, headOf y ⟨2 * p.val + 1, by omega⟩⟩] Wkv.cat_heads) (by decide)

/-- The sixteen stores that fill the state's matrix. -/
def fills (y : Vec F S1x32x64x64 .f32) : List (View.Piece (Elt F) S1024x128 .f32) :=
  List.ofFn fun q : Fin 16 => ⟨Rect.unit ![64 * q.rev.val, 0] S64x128.size (inb_pair q.rev), pairOf y q.rev⟩

theorem fills_eq : kernelRun0_A.sl.HS0_16 c arg8 harg8 x6 = fills (arg8.view.read (Elt F) (harg8.unread x6)) := rfl

/-- Pair `p` of the last state read back. -/
def back (s : FVec F S1024x128 .f32) (y : Vec F S1x32x64x64 .f32) (arg11 : Memref sig .tc .vmem S1024x128 .f32) (p : Fin 16) : FVec F S64x128 .f32 :=
  arg11.view.readCov ((⟨Rect.unit ![0, 0] S1024x128.size inb_S1024x128_S1024x128_0_0, s⟩ : View.Piece (Elt F) S1024x128 .f32) :: fills y)
    (Rect.unit (s := S1024x128) ![64 * p.val, 0] S64x128.size (inb_pair p)).toLoadRect

/-- Head `g` of the last state, as it is stored. -/
def leaf (s : FVec F S1024x128 .f32) (y : Vec F S1x32x64x64 .f32) (arg11 : Memref sig .tc .vmem S1024x128 .f32) (g : Fin 32) : FVec F S1x1x64x64 .f32 :=
  shapeCast S1x1x64x64 (extractStridedSlice S64x64 ![0, 64 * (g.val % 2)] (back s y arg11 ⟨g.val / 2, by omega⟩) (slices_head ⟨g.val % 2, by omega⟩)) (by decide)

/-- The thirty-two stores that leave the state block. -/
def leaves (s : FVec F S1024x128 .f32) (y : Vec F S1x32x64x64 .f32) (arg11 : Memref sig .tc .vmem S1024x128 .f32) : List (View.Piece (Elt F) S1x32x64x64 .f32) :=
  List.ofFn fun q : Fin 32 => ⟨Rect.unit ![0, q.rev.val, 0, 0] S1x1x64x64.size (inb_head q.rev),
    leaf s y arg11 q.rev⟩

variable (i : grid0.Coords) (arg9 : Memref sig .tc .vmem S8x2048 .f32) (harg9 : arg9.IsWhole) (arg10 : Memref sig .tc .vmem S1x32x64x64 .f32) (harg10 : arg10.IsWhole)
  (harg11 : arg11.IsWhole) (hc0 : _) (hc1 : _)

theorem leaves_eq : (kernelRun0_A c i arg2 harg2 arg3 harg3 arg4 harg4 arg5 harg5 arg6 harg6 arg7 harg7 arg8 harg8 arg9 harg9 arg10 harg10 arg11 harg11 hc0 hc1 x0 x1 x2 x3 x4 x5 x6).2.1
    = leaves (k0_pay518 (kernelRun0_A.sl.r_314 c arg3 harg3 arg4 harg4 arg5 harg5 arg6 harg6 arg7 harg7 arg8 harg8 arg11 x1 x2 x3 x4 x5 x6)) (arg8.view.read (Elt F) (harg8.unread x6)) arg11 := rfl

/-- The eight tokens' read-outs. -/
def reads : Fin 8 → FVec F S16x128 .f32 := ![
  kernelRun0_A.sl.r_57 c arg2 harg2 arg3 harg3 arg4 harg4 arg5 harg5 arg6 harg6 arg7 harg7 arg8 harg8 arg11 x0 x1 x2 x3 x4 x5 x6,
  kernelRun0_A.sl.r_84 c arg2 harg2 arg3 harg3 arg4 harg4 arg5 harg5 arg6 harg6 arg7 harg7 arg8 harg8 arg11 x0 x1 x2 x3 x4 x5 x6,
  kernelRun0_A.sl.r_134 c arg2 harg2 arg3 harg3 arg4 harg4 arg5 harg5 arg6 harg6 arg7 harg7 arg8 harg8 arg11 x0 x1 x2 x3 x4 x5 x6,
  kernelRun0_A.sl.r_178 c arg2 harg2 arg3 harg3 arg4 harg4 arg5 harg5 arg6 harg6 arg7 harg7 arg8 harg8 arg11 x0 x1 x2 x3 x4 x5 x6,
  kernelRun0_A.sl.r_224 c arg2 harg2 arg3 harg3 arg4 harg4 arg5 harg5 arg6 harg6 arg7 harg7 arg8 harg8 arg11 x0 x1 x2 x3 x4 x5 x6,
  kernelRun0_A.sl.r_264 c arg2 harg2 arg3 harg3 arg4 harg4 arg5 harg5 arg6 harg6 arg7 harg7 arg8 harg8 arg11 x0 x1 x2 x3 x4 x5 x6,
  kernelRun0_A.sl.r_288 c arg2 harg2 arg3 harg3 arg4 harg4 arg5 harg5 arg6 harg6 arg7 harg7 arg8 harg8 arg11 x0 x1 x2 x3 x4 x5 x6,
  kernelRun0_A.sl.r_329 c arg2 harg2 arg3 harg3 arg4 harg4 arg5 harg5 arg6 harg6 arg7 harg7 arg8 harg8 arg11 x0 x1 x2 x3 x4 x5 x6]

theorem outs_eq : (kernelRun0_A c i arg2 harg2 arg3 harg3 arg4 harg4 arg5 harg5 arg6 harg6 arg7 harg7 arg8 harg8 arg9 harg9 arg10 harg10 arg11 harg11 hc0 hc1 x0 x1 x2 x3 x4 x5 x6).1
    = [⟨Rect.unit k0_off1 S8x2048.size k0_off1_inb, Wkv.outs (reads c arg2 harg2 arg3 harg3 arg4 harg4 arg5 harg5 arg6 harg6 arg7 harg7 arg8 harg8 arg11 x0 x1 x2 x3 x4 x5 x6)⟩] := rfl

end Cert.KernelIdeal.WkvRun

end
-- ==== Proof.WkvIndex.lean ====
/-
  The model's matrices read at an index, over the extended reals.
-/
module

public import proofs.«01_k».proof.Proof.WkvModel
public import Idealize.ShloMosaic.Lib.Pipeline.Value
public import Mathlib.Algebra.BigOperators.Fin

@[expose] public section

set_option maxRecDepth 16384

noncomputable section

namespace Wkv

open Idealize.ShloMosaic Idealize.ShloMosaic.Pointwise

section Moves
variable {F : FTy → Type} [FloatOps F]

/-- Row `v` of pair `p`. -/
abbrev ri (p : Fin 16) (v : Fin 64) : Fin 1024 := ⟨64 * p.val + v.val, by omega⟩
/-- Column `k` of a pair's head `h`. -/
abbrev ci (h : Fin 2) (k : Fin 64) : Fin 128 := ⟨64 * h.val + k.val, by omega⟩
/-- Entry `k` of head `h` of pair `p` in a token's row. -/
abbrev bi (p : Fin 16) (h : Fin 2) (k : Fin 64) : Fin 2048 := ⟨128 * p.val + 64 * h.val + k.val, by omega⟩

theorem row_apply (x : FVec F SBlk .f32) (j : Fin 8) (p : Fin 16) (v : Fin 64) (h : Fin 2) (k : Fin 64) :
    row x j p (ix2 v (ci h k)) = x (ix2 j (bi p h k)) := by
  pointwise [row]
  exact congrArg (fun n => x (ix2 j n)) (Fin.ext (by show 128 * p.val + (64 * h.val + k.val) = _; simp only [bi]; omega))

theorem half_apply (x : FVec F SBlk .f32) (j : Fin 8) (p : Fin 16) (h : Fin 2) (v k : Fin 64) :
    half x j p h (ix2 v k) = x (ix2 j (bi p h v)) := by
  pointwise [half, strip]
  exact congrArg (fun n => x (ix2 j n)) (Fin.ext (by show 128 * p.val + (64 * h.val + v.val) = _; simp only [bi]; omega))

theorem rows_apply (x : FVec F SBlk .f32) (j : Fin 8) (p : Fin 16) (v : Fin 64) (h : Fin 2) (k : Fin 64) :
    rows x j (ix2 (ri p v) (ci h k)) = x (ix2 j (bi p h k)) := by
  rw [rows, concatenate_ofFn_apply (t := SMat) (s₁ := SHd) 0 (fun p => row x j p) _ rfl 64 rfl _ p
    (by show (64 * p.val + v.val) / 64 = p.val; omega) (ix2 v (ci h k)) (by show v.val = (64 * p.val + v.val) % 64; omega)
    (fun b => match b with | ⟨0, _⟩ => fun h => absurd rfl h | ⟨1, _⟩ => fun _ => rfl), row_apply]

theorem col_apply (x : FVec F SBlk .f32) (j : Fin 8) (p : Fin 16) (v : Fin 64) (h : Fin 2) (k : Fin 64) :
    col x j p (ix2 v (ci h k)) = x (ix2 j (bi p h v)) := by
  unfold col
  match h with
  | 0 =>
    rw [concatenate_pair_apply_left (t := SHd) (s₁ := SSq) (s₂ := SSq) 1 _ _ _ _ rfl (ix2 v k)
      (fun b => match b with | ⟨0, _⟩ => rfl | ⟨1, _⟩ => by show k.val = 64 * 0 + k.val; omega), half_apply]
  | 1 =>
    rw [concatenate_pair_apply_right (t := SHd) (s₁ := SSq) (s₂ := SSq) 1 _ _ _ _ rfl rfl (ix2 v k)
      (fun b => match b with | ⟨0, _⟩ => fun _ => rfl | ⟨1, _⟩ => fun h => absurd rfl h)
      (by show k.val + 64 = 64 * 1 + k.val; omega), half_apply]

theorem cols_apply (x : FVec F SBlk .f32) (j : Fin 8) (p : Fin 16) (v : Fin 64) (h : Fin 2) (k : Fin 64) :
    cols x j (ix2 (ri p v) (ci h k)) = x (ix2 j (bi p h v)) := by
  rw [cols, concatenate_ofFn_apply (t := SMat) (s₁ := SHd) 0 (fun p => col x j p) _ rfl 64 rfl _ p
    (by show (64 * p.val + v.val) / 64 = p.val; omega) (ix2 v (ci h k)) (by show v.val = (64 * p.val + v.val) % 64; omega)
    (fun b => match b with | ⟨0, _⟩ => fun h => absurd rfl h | ⟨1, _⟩ => fun _ => rfl), col_apply]

theorem outStrip_apply (o : Fin 8 → FVec F SOut .f32) (p : Fin 16) (j : Fin 8) (l : Fin 128) :
    outStrip o p (ix2 j l) = o j (ix2 p l) := by
  rw [outStrip, concatenate_ofFn_apply (t := SStrip) (s₁ := SRow) 0 (fun j => extractStridedSlice SRow ![p.val, 0] (o j) (slices_out p)) _ rfl 1 rfl _ j
    (by show j.val / 1 = j.val; omega) (ix2 0 l) (by show 0 = j.val % 1; omega)
    (fun b => match b with | ⟨0, _⟩ => fun h => absurd rfl h | ⟨1, _⟩ => fun _ => rfl)]
  pointwise

theorem outs_apply (o : Fin 8 → FVec F SOut .f32) (j : Fin 8) (p : Fin 16) (h : Fin 2) (k : Fin 64) :
    outs o (ix2 j (bi p h k)) = o j (ix2 p (ci h k)) := by
  rw [outs, concatenate_ofFn_apply (t := SBlk) (s₁ := SStrip) 1 (fun p => outStrip o p) _ rfl 128 rfl _ p
    (by show (128 * p.val + 64 * h.val + k.val) / 128 = p.val; omega) (ix2 j (ci h k))
    (by show 64 * h.val + k.val = (128 * p.val + 64 * h.val + k.val) % 128; omega)
    (fun b => match b with | ⟨0, _⟩ => fun _ => rfl | ⟨1, _⟩ => fun h => absurd rfl h), outStrip_apply]

end Moves

/-- The head-sum weights: one where the row and the column lie in the same head. -/
def IsWts (w : FVec Ideal SWts .bf16) : Prop :=
  ∀ (k : Fin 256) (l : Fin 128), w (ix2 k l) = if k.val % 128 / 64 = l.val / 64 then (1 : EReal) else 0

/-- The selection mask: set where the row within a pair is the column within a head. -/
def IsSel (sel : IVec SMat 1) : Prop :=
  ∀ (p : Fin 16) (v : Fin 64) (h : Fin 2) (k : Fin 64), sel (ix2 (ri p v) (ci h k)) = if v = k then 1#1 else 0#1

theorem coe_sum {N : Nat} (f : Fin N → ℝ) : ∑ k, ((f k : ℝ) : EReal) = ((∑ k, f k : ℝ) : EReal) := by
  induction N with
  | zero => simp
  | succ n ih => rw [Fin.sum_univ_succ, Fin.sum_univ_succ, EReal.coe_add, ih]

/-- A sum over a pair's columns, head by head. -/
theorem sum_heads (f : Fin 128 → EReal) : ∑ x, f x = ∑ k, f (ci 0 k) + ∑ k, f (ci 1 k) := by
  rw [Fin.sum_univ_two_halves 64 64 rfl]
  congr 1

theorem headSum_apply (w : FVec Ideal SWts .bf16) (hw : IsWts w) (t : FVec Ideal SMat .f32) (i : Fin 1024) (T : Fin 2 → Fin 64 → ℝ)
    (ht : ∀ h k, t (ix2 i (ci h k)) = ((T h k : ℝ) : EReal)) (h : Fin 2) (k : Fin 64) :
    headSum w t (ix2 i (ci h k)) = ((∑ k' : Fin 64, T h k' : ℝ) : EReal) := by
  unfold headSum
  pointwise [dims]
  have hw' : ∀ (x : Fin 2) (k' : Fin 64), w (ix2 ⟨(ci x k').val, by omega⟩ (ci h k)) = if x = h then (1 : EReal) else 0 := fun x k' => by
    rw [hw]
    have : (64 * x.val + k'.val) % 128 / 64 = (64 * h.val + k.val) / 64 ↔ x = h := by rw [Fin.ext_iff]; omega
    simp only [this]
  have e2 : ∀ (x : Fin 2) (k' : Fin 64), (t (ix2 i (ci x k')) - t (ix2 i (ci x k'))) * w (ix2 ⟨128 + (ci x k').val, by omega⟩ (ci h k)) = 0 :=
    fun x k' => by rw [ht, ← EReal.coe_sub, sub_self, EReal.coe_zero, zero_mul]
  rw [sum_heads, sum_heads]
  simp only [e2, hw', ht, Finset.sum_const_zero, add_zero]
  rw [← coe_sum]
  match h with
  | 0 => simp
  | 1 => simp

/-- Head `h` of pair `p`. -/
abbrev hd (p : Fin 16) (h : Fin 2) : Fin 32 := ⟨2 * p.val + h.val, by omega⟩

/-- A token's row of the block is the real vectors `X`, one per head. -/
def RowIs (x : FVec Ideal SBlk .f32) (j : Fin 8) (X : Fin 32 → Fin 64 → ℝ) : Prop :=
  ∀ p h k, x (ix2 j (bi p h k)) = ((X (hd p h) k : ℝ) : EReal)

/-- The state's matrix is the real matrices `S`, one per head. -/
def StIs (s : FVec Ideal SMat .f32) (S : Fin 32 → Fin 64 → Fin 64 → ℝ) : Prop :=
  ∀ p v h k, s (ix2 (ri p v) (ci h k)) = ((S (hd p h) v k : ℝ) : EReal)

/-- One token's step over the reals. -/
def stepR (d k v kk b : Fin 32 → Fin 64 → ℝ) (S : Fin 32 → Fin 64 → Fin 64 → ℝ) (g : Fin 32) (i l : Fin 64) : ℝ :=
  S g i l * d g l - (∑ k' : Fin 64, S g i k' * kk g k') * b g l + v g i * k g l

theorem step_is (w : FVec Ideal SWts .bf16) (hw : IsWts w) (d k v kk b : FVec Ideal SBlk .f32) (j : Fin 8) (s : FVec Ideal SMat .f32)
    {D K V KK B : Fin 32 → Fin 64 → ℝ} {S : Fin 32 → Fin 64 → Fin 64 → ℝ} (hd' : RowIs d j D) (hk : RowIs k j K) (hv : RowIs v j V)
    (hkk : RowIs kk j KK) (hb : RowIs b j B) (hs : StIs s S) : StIs (step w d k v kk b j s) (stepR D K V KK B S) := by
  intro p i h l
  have e := headSum_apply w hw (mulf s (rows kk j)) (ri p i) (fun h k => S (hd p h) i k * KK (hd p h) k)
    (fun h k => by
      show s _ * rows kk j _ = _
      rw [hs, rows_apply, hkk, EReal.coe_mul]) h l
  show (s _ * rows d j _ - headSum w (mulf s (rows kk j)) _ * rows b j _) + cols v j _ * rows k j _ = _
  rw [e, rows_apply, rows_apply, rows_apply, cols_apply, hs, hd', hb, hv, hk]
  simp only [stepR, EReal.coe_add, EReal.coe_sub, EReal.coe_mul]

theorem out_is (w : FVec Ideal SWts .bf16) (hw : IsWts w) (sel : IVec SMat 1) (hsel : IsSel sel) (r : FVec Ideal SBlk .f32) (j : Fin 8)
    (s : FVec Ideal SMat .f32) {R : Fin 32 → Fin 64 → ℝ} {S : Fin 32 → Fin 64 → Fin 64 → ℝ} (hr : RowIs r j R) (hs : StIs s S)
    (p : Fin 16) (h : Fin 2) (l : Fin 64) :
    out w sel r j s (ix2 p (ci h l)) = ((∑ k' : Fin 64, S (hd p h) l k' * R (hd p h) k' : ℝ) : EReal) := by
  unfold out
  pointwise
  have e : ∀ x : Fin 64, Scalar.select (sel (ix2 (⟨p.val * 64 + x.val, by omega⟩ : Fin 1024) (⟨64 * h.val + l.val, by omega⟩ : Fin 128)))
      (headSum w (mulf s (rows r j)) (ix2 (⟨p.val * 64 + x.val, by omega⟩ : Fin 1024) (⟨64 * h.val + l.val, by omega⟩ : Fin 128))) (0 : EReal)
      = if x = l then ((∑ k' : Fin 64, S (hd p h) l k' * R (hd p h) k' : ℝ) : EReal) else 0 := fun x => by
    rw [show (⟨p.val * 64 + x.val, by omega⟩ : Fin 1024) = ri p x from Fin.ext (by show p.val * 64 + x.val = 64 * p.val + x.val; omega),
      show (⟨64 * h.val + l.val, by omega⟩ : Fin 128) = ci h l from rfl, hsel,
      headSum_apply w hw (mulf s (rows r j)) (ri p x) (fun h k => S (hd p h) x k * R (hd p h) k)
        (fun h k => by
          show s _ * rows r j _ = _
          rw [hs, rows_apply, hr, EReal.coe_mul]) h l]
    by_cases hx : x = l
    · subst hx; simp [Scalar.select]
    · simp [Scalar.select, hx]
  refine (Finset.sum_congr rfl fun x _ => e x).trans ?_
  rw [Finset.sum_ite_eq' Finset.univ l]
  simp

/-- The state after `n` tokens, over the reals. -/
def stR (D K V KK B : Fin 8 → Fin 32 → Fin 64 → ℝ) (S : Fin 32 → Fin 64 → Fin 64 → ℝ) : (n : Nat) → n ≤ 8 → Fin 32 → Fin 64 → Fin 64 → ℝ
  | 0, _ => S
  | n + 1, h => stepR (D ⟨n, h⟩) (K ⟨n, h⟩) (V ⟨n, h⟩) (KK ⟨n, h⟩) (B ⟨n, h⟩) (stR D K V KK B S n (Nat.le_of_succ_le h))

/-- What token `j` reads out, over the reals. -/
def outR (D K V KK B R : Fin 8 → Fin 32 → Fin 64 → ℝ) (S : Fin 32 → Fin 64 → Fin 64 → ℝ) (j : Fin 8) (g : Fin 32) (l : Fin 64) : ℝ :=
  ∑ k : Fin 64, stR D K V KK B S (j.val + 1) j.isLt g l k * R j g k

/-- The sample tokens' entries: token `j` of sequence `t`, head `g`, entry `k`, of an array over all tokens. -/
def tok (X : Fin 9280 → Fin 2048 → ℝ) (t : Fin 128) (j : Fin 8) (g : Fin 32) (k : Fin 64) : ℝ :=
  X ⟨8256 + 8 * t.val + j.val, by omega⟩ ⟨64 * g.val + k.val, by omega⟩

end Wkv

end
-- ==== Proof.WkvConst.lean ====
/-
  The kernel's two constant matrices: the head-sum weights and the selection mask.
-/
module

public import proofs.«01_k».proof.Proof.WkvMatch
public import proofs.«01_k».proof.Proof.WkvIndex

@[expose] public section

set_option maxRecDepth 16384

noncomputable section

namespace Cert.KernelIdeal.WkvRun

open Cert.KernelIdeal Cert.KernelIdeal.Gen Idealize.ShloMosaic Idealize.ShloMosaic.Pointwise Wkv

theorem v64_row (k : Fin 256) (l : Fin 128) : kernelRun0_A.sl.v64 (ix2 k l) = kernelRun0_A.sl.v64 (ix2 k 0) := rfl
theorem v88_col (k : Fin 256) (l : Fin 128) : kernelRun0_A.sl.v88 (ix2 k l) = kernelRun0_A.sl.v88 (ix2 0 l) := rfl

theorem v64_val : ∀ k : Fin 256, kernelRun0_A.sl.v64 (ix2 k 0) = BitVec.ofNat 32 (k.val % 128 / 64) := by decide +kernel
theorem v88_val : ∀ l : Fin 128, kernelRun0_A.sl.v88 (ix2 0 l) = BitVec.ofNat 32 (l.val / 64) := by decide +kernel

theorem ofNat_eq_iff {a b : Nat} (ha : a < 4294967296) (hb : b < 4294967296) : BitVec.ofNat 32 a = BitVec.ofNat 32 b ↔ a = b := by
  constructor
  · intro h
    have := congrArg BitVec.toNat h
    simpa [BitVec.toNat_ofNat, Nat.mod_eq_of_lt ha, Nat.mod_eq_of_lt hb] using this
  · rintro rfl; rfl

theorem isWts : IsWts (wts (F := Ideal)) := by
  intro k l
  unfold wts k0_pay59
  pointwise
  rw [v64_row, v88_col, v64_val, v88_val]
  show (((BitVec.setWidth 32 (IntOp.cmpi .eq (BitVec.ofNat 32 (k.val % 128 / 64)) (BitVec.ofNat 32 (l.val / 64)))).toInt : ℝ) : EReal) = _
  by_cases h : k.val % 128 / 64 = l.val / 64
  · rw [if_pos h, h]
    simp [IntOp.cmpi]
  · have h' : BitVec.ofNat 32 (k.val % 128 / 64) ≠ BitVec.ofNat 32 (l.val / 64) :=
      fun e => h ((ofNat_eq_iff (by omega) (by omega)).1 e)
    rw [if_neg h]
    simp [IntOp.cmpi, beq_eq_false_iff_ne.2 h']

theorem v3_row (k : Fin 64) (l : Fin 128) : kernelRun0_A.sl.v3 (ix2 k l) = BitVec.ofNat 32 k.val := by
  unfold kernelRun0_A.sl.v3; pointwise
theorem v20_col (k : Fin 64) (l : Fin 128) : kernelRun0_A.sl.v20 (ix2 k l) = kernelRun0_A.sl.v20 (ix2 0 l) := rfl
theorem v20_val : ∀ l : Fin 128, kernelRun0_A.sl.v20 (ix2 0 l) = BitVec.ofNat 32 (l.val % 64) := by decide +kernel

theorem v22_ofFn : kernelRun0_A.sl.v22 = concatenate SMat 0
    (List.ofFn fun _ : Fin 16 => (⟨SHd, cmpi .eq kernelRun0_A.sl.v3 kernelRun0_A.sl.v20⟩ : (s : Shape) × (s.Idx → BitVec 1))) (cat_ofFn _ cat_pairs) := rfl

theorem isSel : IsSel kernelRun0_A.sl.v22 := by
  intro p v h k
  rw [v22_ofFn, concatenate_ofFn_apply (t := SMat) (s₁ := SHd) 0 (fun _ => cmpi .eq kernelRun0_A.sl.v3 kernelRun0_A.sl.v20) _ rfl 64 rfl _ p
    (by show (64 * p.val + v.val) / 64 = p.val; omega) (ix2 v (ci h k)) (by show v.val = (64 * p.val + v.val) % 64; omega)
    (fun b => match b with | ⟨0, _⟩ => fun h => absurd rfl h | ⟨1, _⟩ => fun _ => rfl)]
  show IntOp.cmpi .eq (kernelRun0_A.sl.v3 (ix2 v (ci h k))) (kernelRun0_A.sl.v20 (ix2 v (ci h k))) = _
  rw [v3_row, v20_col, v20_val, show (ci h k).val % 64 = k.val by show (64 * h.val + k.val) % 64 = _; omega]
  by_cases e : v = k
  · subst e; simp [IntOp.cmpi]
  · have h' : BitVec.ofNat 32 v.val ≠ BitVec.ofNat 32 k.val :=
      fun q => e (Fin.ext ((ofNat_eq_iff (by omega) (by omega)).1 q))
    simp [IntOp.cmpi, beq_eq_false_iff_ne.2 h', e]

end Cert.KernelIdeal.WkvRun

end
-- ==== Proof.WkvBlock.lean ====
/-
  What one grid point leaves in its two output blocks, entry by entry, over the reals.
-/
module

public import proofs.«01_k».proof.Proof.WkvPieces
public import proofs.«01_k».proof.Proof.WkvConst
public import Idealize.ShloMosaic.Lib.Pipeline.ValueKit.Tiles

@[expose] public section

set_option maxRecDepth 16384

noncomputable section

namespace Cert.KernelIdeal.WkvRun

open Cert.KernelIdeal Cert.KernelIdeal.Gen Idealize.ShloMosaic Idealize.ShloMosaic.TcCoe Idealize.SL.Sem Idealize.ShloMosaic.Pointwise Wkv

section Moves
variable {F : FTy → Type} [FloatOps F]

theorem headOf_apply (y : Vec F S1x32x64x64 .f32) (g : Fin 32) (v k : Fin 64) : headOf y g (ix2 v k) = y (ix4 0 g v k) := by
  unfold headOf
  pointwise

theorem pairOf_apply (y : Vec F S1x32x64x64 .f32) (p : Fin 16) (v : Fin 64) (h : Fin 2) (k : Fin 64) :
    pairOf y p (ix2 v (ci h k)) = y (ix4 0 (hd p h) v k) := by
  unfold pairOf
  rw [shapeCast_self]
  match h with
  | 0 =>
    rw [concatenate_pair_apply_left (t := S64x128) (s₁ := S64x64) (s₂ := S64x64) 1 _ _ _ _ rfl (ix2 v k)
      (fun b => match b with | ⟨0, _⟩ => rfl | ⟨1, _⟩ => by show k.val = 64 * 0 + k.val; omega), headOf_apply]
    rfl
  | 1 =>
    rw [concatenate_pair_apply_right (t := S64x128) (s₁ := S64x64) (s₂ := S64x64) 1 _ _ _ _ rfl rfl (ix2 v k)
      (fun b => match b with | ⟨0, _⟩ => fun _ => rfl | ⟨1, _⟩ => fun h => absurd rfl h)
      (by show k.val + 64 = 64 * 1 + k.val; omega), headOf_apply]
    rfl

/-- The state's first contents. -/
theorem fills_apply (y : Vec F S1x32x64x64 .f32) (p : Fin 16) (v : Fin 64) (h : Fin 2) (k : Fin 64) :
    View.canon (fills y) (ix2 (ri p v) (ci h k)) = y (ix4 0 (hd p h) v k) := by
  unfold fills
  refine View.canon_ofFn_unit_eq_of_forall (Val := Elt F) (e := .f32) (S := S1024x128) (fun q : Fin 16 => ![64 * q.rev.val, 0]) S64x128.size (fun q => inb_pair q.rev) (fun q => pairOf y q.rev)
    _ _ ⟨p.rev, fun a => ?_⟩ fun q x hx => ?_
  · rw [Fin.rev_rev]
    match a with
    | ⟨0, _⟩ => exact ⟨by show 64 * p.val ≤ 64 * p.val + v.val; omega, by show 64 * p.val + v.val < 64 * p.val + 64; omega⟩
    | ⟨1, _⟩ => exact ⟨Nat.zero_le _, by show 64 * h.val + k.val < 0 + 128; omega⟩
  · have h0 : 64 * p.val + v.val = 64 * q.rev.val + (x 0).val := hx 0
    have h1 : 64 * h.val + k.val = 0 + (x 1).val := hx 1
    have b0 : (x 0).val < 64 := (x 0).isLt
    have eq : q.rev = p := Fin.ext (by omega)
    have ex : x = ix2 v (ci h k) := by
      rw [eq_ix2 x]
      congr 1
      · exact Fin.ext (by rw [eq] at h0; omega)
      · exact Fin.ext (by show (x 1).val = 64 * h.val + k.val; omega)
    subst ex
    show pairOf y q.rev _ = _
    rw [eq, pairOf_apply]

theorem fills_cover (y : Vec F S1x32x64x64 .f32) (i : S1024x128.Idx) : ∃ pc ∈ fills y, i ∈ pc.1.set := by
  have b0 : (i 0).val < 1024 := (i 0).isLt
  have b1 : (i 1).val < 128 := (i 1).isLt
  refine ⟨_, (List.mem_ofFn).2 ⟨(⟨(i 0).val / 64, by omega⟩ : Fin 16).rev, rfl⟩, ?_⟩
  show i ∈ (Rect.unit (s := S1024x128) _ _ (inb_pair _)).set
  rw [Fin.rev_rev]
  refine Rect.mem_set_unit.2 fun a => ?_
  match a with
  | ⟨0, _⟩ => exact ⟨by show 64 * ((i 0).val / 64) ≤ (i 0).val; omega, by show (i 0).val < 64 * ((i 0).val / 64) + 64; omega⟩
  | ⟨1, _⟩ => exact ⟨Nat.zero_le _, by show (i 1).val < 0 + 128; omega⟩

theorem zero2 : (![0, 0] : Fin 2 → Nat) = fun _ => 0 := by funext a; match a with | 0 => rfl | 1 => rfl

theorem first_apply (c : Dev nD) (arg8 : Memref sig .tc .vmem S1x32x64x64 .f32) (harg8 : arg8.IsWhole) (arg11 : Memref sig .tc .vmem S1024x128 .f32)
    (x6 : Vec F S1x32x64x64 .f32) (p : Fin 16) (v : Fin 64) (h : Fin 2) (k : Fin 64) :
    kernelRun0_A.sl.v107 c arg8 harg8 arg11 x6 (ix2 (ri p v) (ci h k)) = x6 (ix4 0 (hd p h) v k) := by
  unfold kernelRun0_A.sl.v107
  rw [fills_eq, harg8.read_unread, View.readCov_eq_canon_ld _ _ _ (fills_cover x6), View.ld_unit_zero zero2, fills_apply]

theorem back_apply (s : FVec F S1024x128 .f32) (y : Vec F S1x32x64x64 .f32) (arg11 : Memref sig .tc .vmem S1024x128 .f32) (p : Fin 16) (v : Fin 64) (l : Fin 128) :
    back s y arg11 p (ix2 v l) = s (ix2 (ri p v) l) := by
  unfold back
  rw [View.readCov_eq_canon_ld _ _ _ (fun i => ⟨_, List.mem_cons_self, View.mem_set_unit_zero zero2 inb_S1024x128_S1024x128_0_0 i⟩), View.canon_cons_unit_zero zero2]
  refine congrArg s ?_
  funext a
  match a with
  | ⟨0, _⟩ => exact Fin.ext (by show 64 * p.val + 1 * v.val = 64 * p.val + v.val; omega)
  | ⟨1, _⟩ => exact Fin.ext (by show 0 + 1 * l.val = l.val; omega)

theorem leaves_apply (s : FVec F S1024x128 .f32) (y : Vec F S1x32x64x64 .f32) (arg11 : Memref sig .tc .vmem S1024x128 .f32) (p : Fin 16) (v : Fin 64) (h : Fin 2) (k : Fin 64) :
    View.canon (leaves s y arg11) (ix4 0 (hd p h) v k) = s (ix2 (ri p v) (ci h k)) := by
  unfold leaves
  refine View.canon_ofFn_unit_eq_of_forall (Val := Elt F) (e := .f32) (S := S1x32x64x64) (fun q : Fin 32 => ![0, q.rev.val, 0, 0]) S1x1x64x64.size (fun q => inb_head q.rev)
    (fun q => leaf s y arg11 q.rev)
    _ _ ⟨(hd p h).rev, fun a => ?_⟩ fun q x hx => ?_
  · rw [Fin.rev_rev]
    match a with
    | ⟨0, _⟩ => exact ⟨Nat.zero_le _, by show 0 < 0 + 1; omega⟩
    | ⟨1, _⟩ => exact ⟨by show 2 * p.val + h.val ≤ 2 * p.val + h.val; omega, by show 2 * p.val + h.val < 2 * p.val + h.val + 1; omega⟩
    | ⟨2, _⟩ => exact ⟨Nat.zero_le _, by show v.val < 0 + 64; omega⟩
    | ⟨3, _⟩ => exact ⟨Nat.zero_le _, by show k.val < 0 + 64; omega⟩
  · have h0 : (0 : Nat) = 0 + (x 0).val := hx 0
    have h1 : 2 * p.val + h.val = q.rev.val + (x 1).val := hx 1
    have h2 : v.val = 0 + (x 2).val := hx 2
    have h3 : k.val = 0 + (x 3).val := hx 3
    have b1 : (x 1).val < 1 := (x 1).isLt
    have eq : q.rev = hd p h := Fin.ext (by show q.rev.val = 2 * p.val + h.val; omega)
    have ex : x = ix4 0 0 v k := by
      rw [eq_ix4 x]
      congr 1 <;> apply Fin.ext
      · show (x 0).val = 0; omega
      · show (x 1).val = 0; omega
      · omega
      · omega
    subst ex
    show leaf s y arg11 q.rev _ = _
    rw [eq]
    have d1 : (2 * p.val + h.val) / 2 = p.val := by omega
    have d2 : (2 * p.val + h.val) % 2 = h.val := by omega
    unfold leaf
    pointwise
    rw [show (⟨(2 * p.val + h.val) / 2, by omega⟩ : Fin 16) = p from Fin.ext d1,
      show (⟨64 * ((2 * p.val + h.val) % 2) + k.val, by omega⟩ : Fin 128) = ci h k from Fin.ext (by show 64 * ((2 * p.val + h.val) % 2) + k.val = 64 * h.val + k.val; omega), back_apply]

end Moves

theorem zero_off1 : (k0_off1 : Fin 2 → Nat) = fun _ => 0 := by funext a; match a with | 0 => rfl | 1 => rfl

section Run
variable (c : Dev nD) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S8x2048 .f32) (harg6 : arg6.IsWhole) (arg7 : Memref sig .tc .vmem S8x2048 .f32) (harg7 : arg7.IsWhole) (arg8 : Memref sig .tc .vmem S1x32x64x64 .f32) (harg8 : arg8.IsWhole) (arg11 : Memref sig .tc .vmem S1024x128 .f32)
  (x0 x1 x2 x3 x4 x5 : Vec Ideal S8x2048 .f32) (x6 : Vec Ideal S1x32x64x64 .f32)

variable {R D K V KK B : Fin 8 → Fin 32 → Fin 64 → ℝ} {S : Fin 32 → Fin 64 → Fin 64 → ℝ}

theorem load_r : kernelRun0_A.sl.r c arg2 harg2 x0 = x0 := by
  unfold kernelRun0_A.sl.r; rw [View.readAt_eq_ld, harg2.read_unread]; exact View.ld_unit_zero zero_off1 _ _
theorem load_d : kernelRun0_A.sl.r_1 c arg3 harg3 x1 = x1 := by
  unfold kernelRun0_A.sl.r_1; rw [View.readAt_eq_ld, harg3.read_unread]; exact View.ld_unit_zero zero_off1 _ _
theorem load_k : kernelRun0_A.sl.r_2 c arg4 harg4 x2 = x2 := by
  unfold kernelRun0_A.sl.r_2; rw [View.readAt_eq_ld, harg4.read_unread]; exact View.ld_unit_zero zero_off1 _ _
theorem load_v : vld arg5 harg5 x3 = x3 := by
  unfold vld; rw [View.readAt_eq_ld, harg5.read_unread]; exact View.ld_unit_zero zero_off1 _ _
theorem load_kk : kernelRun0_A.sl.r_3 c arg6 harg6 x4 = x4 := by
  unfold kernelRun0_A.sl.r_3; rw [View.readAt_eq_ld, harg6.read_unread]; exact View.ld_unit_zero zero_off1 _ _
theorem load_b : kernelRun0_A.sl.r_4 c arg7 harg7 x5 = x5 := by
  unfold kernelRun0_A.sl.r_4; rw [View.readAt_eq_ld, harg7.read_unread]; exact View.ld_unit_zero zero_off1 _ _

variable (h1 : ∀ j, RowIs x1 j (D j)) (h2 : ∀ j, RowIs x2 j (K j)) (h3 : ∀ j, RowIs x3 j (V j)) (h4 : ∀ j, RowIs x4 j (KK j)) (h5 : ∀ j, RowIs x5 j (B j))
  (h6 : ∀ g v k, x6 (ix4 0 g v k) = ((S g v k : ℝ) : EReal))
include h1 h2 h3 h4 h5

theorem stp_is (n : Nat) (hn : n < 8) {s : FVec Ideal S1024x128 .f32} {T : Fin 32 → Fin 64 → Fin 64 → ℝ} (hs : StIs s T) :
    StIs (stp c arg3 harg3 arg4 harg4 arg5 harg5 arg6 harg6 arg7 harg7 x1 x2 x3 x4 x5 ⟨n, hn⟩ s) (stepR (D ⟨n, hn⟩) (K ⟨n, hn⟩) (V ⟨n, hn⟩) (KK ⟨n, hn⟩) (B ⟨n, hn⟩) T) := by
  unfold stp
  rw [load_d, load_k, load_v, load_kk, load_b]
  exact step_is wts isWts x1 x2 x3 x4 x5 ⟨n, hn⟩ s (h1 _) (h2 _) (h3 _) (h4 _) (h5 _) hs

include h6

theorem st_0 : StIs (kernelRun0_A.sl.v107 c arg8 harg8 arg11 x6) (stR D K V KK B S 0 (by decide)) :=
  fun p v h k => (first_apply c arg8 harg8 arg11 x6 p v h k).trans (h6 _ _ _)

theorem st_1 : StIs (kernelRun0_A.sl.r_43 c arg3 harg3 arg4 harg4 arg5 harg5 arg6 harg6 arg7 harg7 arg8 harg8 arg11 x1 x2 x3 x4 x5 x6) (stR D K V KK B S 1 (by decide)) := by
  rw [state_0]
  exact stp_is c arg3 harg3 arg4 harg4 arg5 harg5 arg6 harg6 arg7 harg7 x1 x2 x3 x4 x5 h1 h2 h3 h4 h5 0 (by decide)
    (st_0 c arg8 harg8 arg11 x1 x2 x3 x4 x5 x6 h1 h2 h3 h4 h5 h6)

theorem st_2 : StIs (kernelRun0_A.sl.r_79 c arg3 harg3 arg4 harg4 arg5 harg5 arg6 harg6 arg7 harg7 arg8 harg8 arg11 x1 x2 x3 x4 x5 x6) (stR D K V KK B S 2 (by decide)) := by
  rw [state_1]
  exact stp_is c arg3 harg3 arg4 harg4 arg5 harg5 arg6 harg6 arg7 harg7 x1 x2 x3 x4 x5 h1 h2 h3 h4 h5 1 (by decide)
    (st_1 c arg3 harg3 arg4 harg4 arg5 harg5 arg6 harg6 arg7 harg7 arg8 harg8 arg11 x1 x2 x3 x4 x5 x6 h1 h2 h3 h4 h5 h6)

theorem st_3 : StIs (kernelRun0_A.sl.r_117 c arg3 harg3 arg4 harg4 arg5 harg5 arg6 harg6 arg7 harg7 arg8 harg8 arg11 x1 x2 x3 x4 x5 x6) (stR D K V KK B S 3 (by decide)) := by
  rw [state_2]
  exact stp_is c arg3 harg3 arg4 harg4 arg5 harg5 arg6 harg6 arg7 harg7 x1 x2 x3 x4 x5 h1 h2 h3 h4 h5 2 (by decide)
    (st_2 c arg3 harg3 arg4 harg4 arg5 harg5 arg6 harg6 arg7 harg7 arg8 harg8 arg11 x1 x2 x3 x4 x5 x6 h1 h2 h3 h4 h5 h6)

theorem st_4 : StIs (kernelRun0_A.sl.r_169 c arg3 harg3 arg4 harg4 arg5 harg5 arg6 harg6 arg7 harg7 arg8 harg8 arg11 x1 x2 x3 x4 x5 x6) (stR D K V KK B S 4 (by decide)) := by
  rw [state_3]
  exact stp_is c arg3 harg3 arg4 harg4 arg5 harg5 arg6 harg6 arg7 harg7 x1 x2 x3 x4 x5 h1 h2 h3 h4 h5 3 (by decide)
    (st_3 c arg3 harg3 arg4 harg4 arg5 harg5 arg6 harg6 arg7 harg7 arg8 harg8 arg11 x1 x2 x3 x4 x5 x6 h1 h2 h3 h4 h5 h6)

theorem st_5 : StIs (kernelRun0_A.sl.r_222 c arg3 harg3 arg4 harg4 arg5 harg5 arg6 harg6 arg7 harg7 arg8 harg8 arg11 x1 x2 x3 x4 x5 x6) (stR D K V KK B S 5 (by decide)) := by
  rw [state_4]
  exact stp_is c arg3 harg3 arg4 harg4 arg5 harg5 arg6 harg6 arg7 harg7 x1 x2 x3 x4 x5 h1 h2 h3 h4 h5 4 (by decide)
    (st_4 c arg3 harg3 arg4 harg4 arg5 harg5 arg6 harg6 arg7 harg7 arg8 harg8 arg11 x1 x2 x3 x4 x5 x6 h1 h2 h3 h4 h5 h6)

theorem st_6 : StIs (kernelRun0_A.sl.r_252 c arg3 harg3 arg4 harg4 arg5 harg5 arg6 harg6 arg7 harg7 arg8 harg8 arg11 x1 x2 x3 x4 x5 x6) (stR D K V KK B S 6 (by decide)) := by
  rw [state_5]
  exact stp_is c arg3 harg3 arg4 harg4 arg5 harg5 arg6 harg6 arg7 harg7 x1 x2 x3 x4 x5 h1 h2 h3 h4 h5 5 (by decide)
    (st_5 c arg3 harg3 arg4 harg4 arg5 harg5 arg6 harg6 arg7 harg7 arg8 harg8 arg11 x1 x2 x3 x4 x5 x6 h1 h2 h3 h4 h5 h6)

theorem st_7 : StIs (kernelRun0_A.sl.r_284 c arg3 harg3 arg4 harg4 arg5 harg5 arg6 harg6 arg7 harg7 arg8 harg8 arg11 x1 x2 x3 x4 x5 x6) (stR D K V KK B S 7 (by decide)) := by
  rw [state_6]
  exact stp_is c arg3 harg3 arg4 harg4 arg5 harg5 arg6 harg6 arg7 harg7 x1 x2 x3 x4 x5 h1 h2 h3 h4 h5 6 (by decide)
    (st_6 c arg3 harg3 arg4 harg4 arg5 harg5 arg6 harg6 arg7 harg7 arg8 harg8 arg11 x1 x2 x3 x4 x5 x6 h1 h2 h3 h4 h5 h6)

theorem st_8 : StIs (kernelRun0_A.sl.r_314 c arg3 harg3 arg4 harg4 arg5 harg5 arg6 harg6 arg7 harg7 arg8 harg8 arg11 x1 x2 x3 x4 x5 x6) (stR D K V KK B S 8 (by decide)) := by
  rw [state_7]
  exact stp_is c arg3 harg3 arg4 harg4 arg5 harg5 arg6 harg6 arg7 harg7 x1 x2 x3 x4 x5 h1 h2 h3 h4 h5 7 (by decide)
    (st_7 c arg3 harg3 arg4 harg4 arg5 harg5 arg6 harg6 arg7 harg7 arg8 harg8 arg11 x1 x2 x3 x4 x5 x6 h1 h2 h3 h4 h5 h6)

variable (h0 : ∀ j, RowIs x0 j (R j))
include h0

theorem rd_0 (p : Fin 16) (h : Fin 2) (l : Fin 64) :
    reads c arg2 harg2 arg3 harg3 arg4 harg4 arg5 harg5 arg6 harg6 arg7 harg7 arg8 harg8 arg11 x0 x1 x2 x3 x4 x5 x6 0 (ix2 p (ci h l)) = ((outR D K V KK B R S 0 (hd p h) l : ℝ) : EReal) := by
  show kernelRun0_A.sl.r_57 c arg2 harg2 arg3 harg3 arg4 harg4 arg5 harg5 arg6 harg6 arg7 harg7 arg8 harg8 arg11 x0 x1 x2 x3 x4 x5 x6 _ = _
  rw [out_0, load_r]
  exact out_is wts isWts _ isSel x0 0 _ (h0 0) (st_1 c arg3 harg3 arg4 harg4 arg5 harg5 arg6 harg6 arg7 harg7 arg8 harg8 arg11 x1 x2 x3 x4 x5 x6 h1 h2 h3 h4 h5 h6) p h l

theorem rd_1 (p : Fin 16) (h : Fin 2) (l : Fin 64) :
    reads c arg2 harg2 arg3 harg3 arg4 harg4 arg5 harg5 arg6 harg6 arg7 harg7 arg8 harg8 arg11 x0 x1 x2 x3 x4 x5 x6 1 (ix2 p (ci h l)) = ((outR D K V KK B R S 1 (hd p h) l : ℝ) : EReal) := by
  show kernelRun0_A.sl.r_84 c arg2 harg2 arg3 harg3 arg4 harg4 arg5 harg5 arg6 harg6 arg7 harg7 arg8 harg8 arg11 x0 x1 x2 x3 x4 x5 x6 _ = _
  rw [out_1, load_r]
  exact out_is wts isWts _ isSel x0 1 _ (h0 1) (st_2 c arg3 harg3 arg4 harg4 arg5 harg5 arg6 harg6 arg7 harg7 arg8 harg8 arg11 x1 x2 x3 x4 x5 x6 h1 h2 h3 h4 h5 h6) p h l

theorem rd_2 (p : Fin 16) (h : Fin 2) (l : Fin 64) :
    reads c arg2 harg2 arg3 harg3 arg4 harg4 arg5 harg5 arg6 harg6 arg7 harg7 arg8 harg8 arg11 x0 x1 x2 x3 x4 x5 x6 2 (ix2 p (ci h l)) = ((outR D K V KK B R S 2 (hd p h) l : ℝ) : EReal) := by
  show kernelRun0_A.sl.r_134 c arg2 harg2 arg3 harg3 arg4 harg4 arg5 harg5 arg6 harg6 arg7 harg7 arg8 harg8 arg11 x0 x1 x2 x3 x4 x5 x6 _ = _
  rw [out_2, load_r]
  exact out_is wts isWts _ isSel x0 2 _ (h0 2) (st_3 c arg3 harg3 arg4 harg4 arg5 harg5 arg6 harg6 arg7 harg7 arg8 harg8 arg11 x1 x2 x3 x4 x5 x6 h1 h2 h3 h4 h5 h6) p h l

theorem rd_3 (p : Fin 16) (h : Fin 2) (l : Fin 64) :
    reads c arg2 harg2 arg3 harg3 arg4 harg4 arg5 harg5 arg6 harg6 arg7 harg7 arg8 harg8 arg11 x0 x1 x2 x3 x4 x5 x6 3 (ix2 p (ci h l)) = ((outR D K V KK B R S 3 (hd p h) l : ℝ) : EReal) := by
  show kernelRun0_A.sl.r_178 c arg2 harg2 arg3 harg3 arg4 harg4 arg5 harg5 arg6 harg6 arg7 harg7 arg8 harg8 arg11 x0 x1 x2 x3 x4 x5 x6 _ = _
  rw [out_3, load_r]
  exact out_is wts isWts _ isSel x0 3 _ (h0 3) (st_4 c arg3 harg3 arg4 harg4 arg5 harg5 arg6 harg6 arg7 harg7 arg8 harg8 arg11 x1 x2 x3 x4 x5 x6 h1 h2 h3 h4 h5 h6) p h l

theorem rd_4 (p : Fin 16) (h : Fin 2) (l : Fin 64) :
    reads c arg2 harg2 arg3 harg3 arg4 harg4 arg5 harg5 arg6 harg6 arg7 harg7 arg8 harg8 arg11 x0 x1 x2 x3 x4 x5 x6 4 (ix2 p (ci h l)) = ((outR D K V KK B R S 4 (hd p h) l : ℝ) : EReal) := by
  show kernelRun0_A.sl.r_224 c arg2 harg2 arg3 harg3 arg4 harg4 arg5 harg5 arg6 harg6 arg7 harg7 arg8 harg8 arg11 x0 x1 x2 x3 x4 x5 x6 _ = _
  rw [out_4, load_r]
  exact out_is wts isWts _ isSel x0 4 _ (h0 4) (st_5 c arg3 harg3 arg4 harg4 arg5 harg5 arg6 harg6 arg7 harg7 arg8 harg8 arg11 x1 x2 x3 x4 x5 x6 h1 h2 h3 h4 h5 h6) p h l

theorem rd_5 (p : Fin 16) (h : Fin 2) (l : Fin 64) :
    reads c arg2 harg2 arg3 harg3 arg4 harg4 arg5 harg5 arg6 harg6 arg7 harg7 arg8 harg8 arg11 x0 x1 x2 x3 x4 x5 x6 5 (ix2 p (ci h l)) = ((outR D K V KK B R S 5 (hd p h) l : ℝ) : EReal) := by
  show kernelRun0_A.sl.r_264 c arg2 harg2 arg3 harg3 arg4 harg4 arg5 harg5 arg6 harg6 arg7 harg7 arg8 harg8 arg11 x0 x1 x2 x3 x4 x5 x6 _ = _
  rw [out_5, load_r]
  exact out_is wts isWts _ isSel x0 5 _ (h0 5) (st_6 c arg3 harg3 arg4 harg4 arg5 harg5 arg6 harg6 arg7 harg7 arg8 harg8 arg11 x1 x2 x3 x4 x5 x6 h1 h2 h3 h4 h5 h6) p h l

theorem rd_6 (p : Fin 16) (h : Fin 2) (l : Fin 64) :
    reads c arg2 harg2 arg3 harg3 arg4 harg4 arg5 harg5 arg6 harg6 arg7 harg7 arg8 harg8 arg11 x0 x1 x2 x3 x4 x5 x6 6 (ix2 p (ci h l)) = ((outR D K V KK B R S 6 (hd p h) l : ℝ) : EReal) := by
  show kernelRun0_A.sl.r_288 c arg2 harg2 arg3 harg3 arg4 harg4 arg5 harg5 arg6 harg6 arg7 harg7 arg8 harg8 arg11 x0 x1 x2 x3 x4 x5 x6 _ = _
  rw [out_6, load_r]
  exact out_is wts isWts _ isSel x0 6 _ (h0 6) (st_7 c arg3 harg3 arg4 harg4 arg5 harg5 arg6 harg6 arg7 harg7 arg8 harg8 arg11 x1 x2 x3 x4 x5 x6 h1 h2 h3 h4 h5 h6) p h l

theorem rd_7 (p : Fin 16) (h : Fin 2) (l : Fin 64) :
    reads c arg2 harg2 arg3 harg3 arg4 harg4 arg5 harg5 arg6 harg6 arg7 harg7 arg8 harg8 arg11 x0 x1 x2 x3 x4 x5 x6 7 (ix2 p (ci h l)) = ((outR D K V KK B R S 7 (hd p h) l : ℝ) : EReal) := by
  show kernelRun0_A.sl.r_329 c arg2 harg2 arg3 harg3 arg4 harg4 arg5 harg5 arg6 harg6 arg7 harg7 arg8 harg8 arg11 x0 x1 x2 x3 x4 x5 x6 _ = _
  rw [out_7, load_r]
  exact out_is wts isWts _ isSel x0 7 _ (h0 7) (st_8 c arg3 harg3 arg4 harg4 arg5 harg5 arg6 harg6 arg7 harg7 arg8 harg8 arg11 x1 x2 x3 x4 x5 x6 h1 h2 h3 h4 h5 h6) p h l

theorem rd (j : Fin 8) (p : Fin 16) (h : Fin 2) (l : Fin 64) :
    reads c arg2 harg2 arg3 harg3 arg4 harg4 arg5 harg5 arg6 harg6 arg7 harg7 arg8 harg8 arg11 x0 x1 x2 x3 x4 x5 x6 j (ix2 p (ci h l)) = ((outR D K V KK B R S j (hd p h) l : ℝ) : EReal) :=
  match j with
  | 0 => rd_0 c arg2 harg2 arg3 harg3 arg4 harg4 arg5 harg5 arg6 harg6 arg7 harg7 arg8 harg8 arg11 x0 x1 x2 x3 x4 x5 x6 h1 h2 h3 h4 h5 h6 h0 p h l
  | 1 => rd_1 c arg2 harg2 arg3 harg3 arg4 harg4 arg5 harg5 arg6 harg6 arg7 harg7 arg8 harg8 arg11 x0 x1 x2 x3 x4 x5 x6 h1 h2 h3 h4 h5 h6 h0 p h l
  | 2 => rd_2 c arg2 harg2 arg3 harg3 arg4 harg4 arg5 harg5 arg6 harg6 arg7 harg7 arg8 harg8 arg11 x0 x1 x2 x3 x4 x5 x6 h1 h2 h3 h4 h5 h6 h0 p h l
  | 3 => rd_3 c arg2 harg2 arg3 harg3 arg4 harg4 arg5 harg5 arg6 harg6 arg7 harg7 arg8 harg8 arg11 x0 x1 x2 x3 x4 x5 x6 h1 h2 h3 h4 h5 h6 h0 p h l
  | 4 => rd_4 c arg2 harg2 arg3 harg3 arg4 harg4 arg5 harg5 arg6 harg6 arg7 harg7 arg8 harg8 arg11 x0 x1 x2 x3 x4 x5 x6 h1 h2 h3 h4 h5 h6 h0 p h l
  | 5 => rd_5 c arg2 harg2 arg3 harg3 arg4 harg4 arg5 harg5 arg6 harg6 arg7 harg7 arg8 harg8 arg11 x0 x1 x2 x3 x4 x5 x6 h1 h2 h3 h4 h5 h6 h0 p h l
  | 6 => rd_6 c arg2 harg2 arg3 harg3 arg4 harg4 arg5 harg5 arg6 harg6 arg7 harg7 arg8 harg8 arg11 x0 x1 x2 x3 x4 x5 x6 h1 h2 h3 h4 h5 h6 h0 p h l
  | 7 => rd_7 c arg2 harg2 arg3 harg3 arg4 harg4 arg5 harg5 arg6 harg6 arg7 harg7 arg8 harg8 arg11 x0 x1 x2 x3 x4 x5 x6 h1 h2 h3 h4 h5 h6 h0 p h l

end Run

end Cert.KernelIdeal.WkvRun

end
-- ==== Proof.WkvArray.lean ====
/-
  The two output arrays after the whole grid, entry by entry, over the reals.
-/
module

public import proofs.«01_k».proof.Proof.WkvBlock

@[expose] public section

set_option maxRecDepth 16384

noncomputable section

namespace Cert.KernelIdeal.WkvRun

open Cert.KernelIdeal Cert.KernelIdeal.Gen Idealize.ShloMosaic Idealize.ShloMosaic.TcCoe Idealize.SL.Sem Idealize.ShloMosaic.Pointwise Wkv

variable (m : (ℓ : Loc nD τ sig) → Buf (Elt Ideal) ℓ) (c : Dev nD)

theorem points : cfg0.N = 128 := by decide

/-- The point's sequence. -/
def seqOf (t : Fin cfg0.N) : Fin 128 := ⟨t.val, points ▸ t.isLt⟩

theorem seq_lt (t : Fin cfg0.N) : t.val < 128 := (seqOf t).isLt

theorem at_0 : ∀ t : Fin grid0.N, win0_0.index t 0 = 1032 + t.val ∧ win0_0.index t 1 = 0 := by decide +kernel
theorem at_1 : ∀ t : Fin grid0.N, win0_1.index t 0 = 1032 + t.val ∧ win0_1.index t 1 = 0 := by decide +kernel
theorem at_2 : ∀ t : Fin grid0.N, win0_2.index t 0 = 1032 + t.val ∧ win0_2.index t 1 = 0 := by decide +kernel
theorem at_3 : ∀ t : Fin grid0.N, win0_3.index t 0 = 1032 + t.val ∧ win0_3.index t 1 = 0 := by decide +kernel
theorem at_4 : ∀ t : Fin grid0.N, win0_4.index t 0 = 1032 + t.val ∧ win0_4.index t 1 = 0 := by decide +kernel
theorem at_5 : ∀ t : Fin grid0.N, win0_5.index t 0 = 1032 + t.val ∧ win0_5.index t 1 = 0 := by decide +kernel
theorem at_6 : ∀ t : Fin grid0.N, win0_6.index t 0 = t.val ∧ win0_6.index t 1 = 0 ∧ win0_6.index t 2 = 0 ∧ win0_6.index t 3 = 0 := by decide +kernel
theorem at_7 : ∀ t : Fin grid0.N, win0_7.index t 0 = t.val ∧ win0_7.index t 1 = 0 := by decide +kernel
theorem at_8 : ∀ t : Fin grid0.N, win0_8.index t 0 = t.val ∧ win0_8.index t 1 = 0 ∧ win0_8.index t 2 = 0 ∧ win0_8.index t 3 = 0 := by decide +kernel

theorem blk_0 (t : Fin cfg0.N) (j : Fin 8) (n : Fin 2048) : (iblk m c 0 t : Vec Ideal S8x2048 .f32) (ix2 j n)
    = m ((c : Thread nD τ).loc main_arg0) (ix2 (⟨8256 + 8 * t.val + j.val, by have := seq_lt t; omega⟩ : Fin 9280) n) := by
  unfold iblk
  rw [View.read_apply]
  show V m c main_arg0 _ = m (c.tc.loc main_arg0) _
  unfold V
  congr 1
  funext a
  apply Fin.ext
  match a with
  | ⟨0, _⟩ => show win0_0.index t 0 * 8 + 1 * j.val = 8256 + 8 * t.val + j.val; rw [(at_0 t).1]; omega
  | ⟨1, _⟩ => show win0_0.index t 1 * 2048 + 1 * n.val = n.val; rw [(at_0 t).2]; omega

theorem blk_1 (t : Fin cfg0.N) (j : Fin 8) (n : Fin 2048) : (iblk m c 1 t : Vec Ideal S8x2048 .f32) (ix2 j n)
    = m ((c : Thread nD τ).loc main_arg1) (ix2 (⟨8256 + 8 * t.val + j.val, by have := seq_lt t; omega⟩ : Fin 9280) n) := by
  unfold iblk
  rw [View.read_apply]
  show V m c main_arg1 _ = m (c.tc.loc main_arg1) _
  unfold V
  congr 1
  funext a
  apply Fin.ext
  match a with
  | ⟨0, _⟩ => show win0_1.index t 0 * 8 + 1 * j.val = 8256 + 8 * t.val + j.val; rw [(at_1 t).1]; omega
  | ⟨1, _⟩ => show win0_1.index t 1 * 2048 + 1 * n.val = n.val; rw [(at_1 t).2]; omega

theorem blk_2 (t : Fin cfg0.N) (j : Fin 8) (n : Fin 2048) : (iblk m c 2 t : Vec Ideal S8x2048 .f32) (ix2 j n)
    = m ((c : Thread nD τ).loc main_arg2) (ix2 (⟨8256 + 8 * t.val + j.val, by have := seq_lt t; omega⟩ : Fin 9280) n) := by
  unfold iblk
  rw [View.read_apply]
  show V m c main_arg2 _ = m (c.tc.loc main_arg2) _
  unfold V
  congr 1
  funext a
  apply Fin.ext
  match a with
  | ⟨0, _⟩ => show win0_2.index t 0 * 8 + 1 * j.val = 8256 + 8 * t.val + j.val; rw [(at_2 t).1]; omega
  | ⟨1, _⟩ => show win0_2.index t 1 * 2048 + 1 * n.val = n.val; rw [(at_2 t).2]; omega

theorem blk_3 (t : Fin cfg0.N) (j : Fin 8) (n : Fin 2048) : (iblk m c 3 t : Vec Ideal S8x2048 .f32) (ix2 j n)
    = m ((c : Thread nD τ).loc main_arg3) (ix2 (⟨8256 + 8 * t.val + j.val, by have := seq_lt t; omega⟩ : Fin 9280) n) := by
  unfold iblk
  rw [View.read_apply]
  show V m c main_arg3 _ = m (c.tc.loc main_arg3) _
  unfold V
  congr 1
  funext a
  apply Fin.ext
  match a with
  | ⟨0, _⟩ => show win0_3.index t 0 * 8 + 1 * j.val = 8256 + 8 * t.val + j.val; rw [(at_3 t).1]; omega
  | ⟨1, _⟩ => show win0_3.index t 1 * 2048 + 1 * n.val = n.val; rw [(at_3 t).2]; omega

theorem blk_4 (t : Fin cfg0.N) (j : Fin 8) (n : Fin 2048) : (iblk m c 4 t : Vec Ideal S8x2048 .f32) (ix2 j n)
    = m ((c : Thread nD τ).loc main_arg4) (ix2 (⟨8256 + 8 * t.val + j.val, by have := seq_lt t; omega⟩ : Fin 9280) n) := by
  unfold iblk
  rw [View.read_apply]
  show V m c main_arg4 _ = m (c.tc.loc main_arg4) _
  unfold V
  congr 1
  funext a
  apply Fin.ext
  match a with
  | ⟨0, _⟩ => show win0_4.index t 0 * 8 + 1 * j.val = 8256 + 8 * t.val + j.val; rw [(at_4 t).1]; omega
  | ⟨1, _⟩ => show win0_4.index t 1 * 2048 + 1 * n.val = n.val; rw [(at_4 t).2]; omega

theorem blk_5 (t : Fin cfg0.N) (j : Fin 8) (n : Fin 2048) : (iblk m c 5 t : Vec Ideal S8x2048 .f32) (ix2 j n)
    = m ((c : Thread nD τ).loc main_arg5) (ix2 (⟨8256 + 8 * t.val + j.val, by have := seq_lt t; omega⟩ : Fin 9280) n) := by
  unfold iblk
  rw [View.read_apply]
  show V m c main_arg5 _ = m (c.tc.loc main_arg5) _
  unfold V
  congr 1
  funext a
  apply Fin.ext
  match a with
  | ⟨0, _⟩ => show win0_5.index t 0 * 8 + 1 * j.val = 8256 + 8 * t.val + j.val; rw [(at_5 t).1]; omega
  | ⟨1, _⟩ => show win0_5.index t 1 * 2048 + 1 * n.val = n.val; rw [(at_5 t).2]; omega

theorem blk_6 (t : Fin cfg0.N) (g : Fin 32) (v k : Fin 64) : (iblk m c 6 t : Vec Ideal S1x32x64x64 .f32) (ix4 0 g v k)
    = m ((c : Thread nD τ).loc main_arg6) (ix4 (seqOf t) g v k) := by
  unfold iblk
  rw [View.read_apply]
  show V m c main_arg6 _ = m (c.tc.loc main_arg6) _
  unfold V
  congr 1
  funext a
  apply Fin.ext
  match a with
  | ⟨0, _⟩ => show win0_6.index t 0 * 1 + 1 * 0 = t.val; rw [(at_6 t).1]; omega
  | ⟨1, _⟩ => show win0_6.index t 1 * 32 + 1 * g.val = g.val; rw [(at_6 t).2.1]; omega
  | ⟨2, _⟩ => show win0_6.index t 2 * 64 + 1 * v.val = v.val; rw [(at_6 t).2.2.1]; omega
  | ⟨3, _⟩ => show win0_6.index t 3 * 64 + 1 * k.val = k.val; rw [(at_6 t).2.2.2]; omega

theorem arr_7 (t : Fin cfg0.N) (j : Fin 8) (n : Fin 2048) :
    (dats m 0 c).arrAt 7 cfg0.N (ix2 (⟨8 * t.val + j.val, by have := seq_lt t; omega⟩ : Fin 1024) n)
      = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (hcond0_0 t) (hcond0_1 t) (iblk m c 0 t) (iblk m c 1 t) (iblk m c 2 t) (iblk m c 3 t) (iblk m c 4 t) (iblk m c 5 t) (iblk m c 6 t) (ix2 j n) := by
  have h := congrFun (Value.blocks7 m c t (flush0_7 t)) (ix2 j n : S8x2048.Idx)
  rw [Value.flushed7_A, View.read_apply, cast_eq] at h
  refine Eq.trans (congrArg ((dats m 0 c).arrAt 7 cfg0.N) ?_) h
  funext a
  apply Fin.ext
  match a with
  | ⟨0, _⟩ => show 8 * t.val + j.val = win0_7.index t 0 * 8 + 1 * j.val; rw [(at_7 t).1]; omega
  | ⟨1, _⟩ => show n.val = win0_7.index t 1 * 2048 + 1 * n.val; rw [(at_7 t).2]; omega

theorem arr_8 (t : Fin cfg0.N) (g : Fin 32) (v k : Fin 64) :
    (dats m 0 c).arrAt 8 cfg0.N (ix4 (seqOf t) g v k)
      = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (hcond0_0 t) (hcond0_1 t) (iblk m c 0 t) (iblk m c 1 t) (iblk m c 2 t) (iblk m c 3 t) (iblk m c 4 t) (iblk m c 5 t) (iblk m c 6 t) (ix4 0 g v k) := by
  have h := congrFun (Value.blocks8 m c t (flush0_8 t)) (ix4 0 g v k : S1x32x64x64.Idx)
  rw [Value.flushed8_A, View.read_apply, cast_eq] at h
  refine Eq.trans (congrArg ((dats m 0 c).arrAt 8 cfg0.N) ?_) h
  funext a
  apply Fin.ext
  match a with
  | ⟨0, _⟩ => show t.val = win0_8.index t 0 * 1 + 1 * 0; rw [(at_8 t).1]; omega
  | ⟨1, _⟩ => show g.val = win0_8.index t 1 * 32 + 1 * g.val; rw [(at_8 t).2.1]; omega
  | ⟨2, _⟩ => show v.val = win0_8.index t 2 * 64 + 1 * v.val; rw [(at_8 t).2.2.1]; omega
  | ⟨3, _⟩ => show k.val = win0_8.index t 3 * 64 + 1 * k.val; rw [(at_8 t).2.2.2]; omega

variable {R D K V' KK B : Fin 9280 → Fin 2048 → ℝ} {S : Fin 128 → Fin 32 → Fin 64 → Fin 64 → ℝ}
  (h0 : ∀ i n, m ((c : Thread nD τ).loc main_arg0) (ix2 (i : Fin 9280) (n : Fin 2048)) = ((R i n : ℝ) : EReal))
  (h1 : ∀ i n, m ((c : Thread nD τ).loc main_arg1) (ix2 (i : Fin 9280) (n : Fin 2048)) = ((D i n : ℝ) : EReal))
  (h2 : ∀ i n, m ((c : Thread nD τ).loc main_arg2) (ix2 (i : Fin 9280) (n : Fin 2048)) = ((K i n : ℝ) : EReal))
  (h3 : ∀ i n, m ((c : Thread nD τ).loc main_arg3) (ix2 (i : Fin 9280) (n : Fin 2048)) = ((V' i n : ℝ) : EReal))
  (h4 : ∀ i n, m ((c : Thread nD τ).loc main_arg4) (ix2 (i : Fin 9280) (n : Fin 2048)) = ((KK i n : ℝ) : EReal))
  (h5 : ∀ i n, m ((c : Thread nD τ).loc main_arg5) (ix2 (i : Fin 9280) (n : Fin 2048)) = ((B i n : ℝ) : EReal))
  (h6 : ∀ t g v k, m ((c : Thread nD τ).loc main_arg6) (ix4 (t : Fin 128) (g : Fin 32) (v : Fin 64) (k : Fin 64)) = ((S t g v k : ℝ) : EReal))

include h0 in
theorem row_0 (t : Fin cfg0.N) (j : Fin 8) : RowIs (iblk m c 0 t : Vec Ideal S8x2048 .f32) j (tok R (seqOf t) j) := fun p h k => by
  rw [blk_0, h0]
  refine congrArg (fun x : ℝ => (x : EReal)) (congrArg (R _) (Fin.ext ?_))
  show 128 * p.val + 64 * h.val + k.val = 64 * (2 * p.val + h.val) + k.val
  omega

include h1 in
theorem row_1 (t : Fin cfg0.N) (j : Fin 8) : RowIs (iblk m c 1 t : Vec Ideal S8x2048 .f32) j (tok D (seqOf t) j) := fun p h k => by
  rw [blk_1, h1]
  refine congrArg (fun x : ℝ => (x : EReal)) (congrArg (D _) (Fin.ext ?_))
  show 128 * p.val + 64 * h.val + k.val = 64 * (2 * p.val + h.val) + k.val
  omega

include h2 in
theorem row_2 (t : Fin cfg0.N) (j : Fin 8) : RowIs (iblk m c 2 t : Vec Ideal S8x2048 .f32) j (tok K (seqOf t) j) := fun p h k => by
  rw [blk_2, h2]
  refine congrArg (fun x : ℝ => (x : EReal)) (congrArg (K _) (Fin.ext ?_))
  show 128 * p.val + 64 * h.val + k.val = 64 * (2 * p.val + h.val) + k.val
  omega

include h3 in
theorem row_3 (t : Fin cfg0.N) (j : Fin 8) : RowIs (iblk m c 3 t : Vec Ideal S8x2048 .f32) j (tok V' (seqOf t) j) := fun p h k => by
  rw [blk_3, h3]
  refine congrArg (fun x : ℝ => (x : EReal)) (congrArg (V' _) (Fin.ext ?_))
  show 128 * p.val + 64 * h.val + k.val = 64 * (2 * p.val + h.val) + k.val
  omega

include h4 in
theorem row_4 (t : Fin cfg0.N) (j : Fin 8) : RowIs (iblk m c 4 t : Vec Ideal S8x2048 .f32) j (tok KK (seqOf t) j) := fun p h k => by
  rw [blk_4, h4]
  refine congrArg (fun x : ℝ => (x : EReal)) (congrArg (KK _) (Fin.ext ?_))
  show 128 * p.val + 64 * h.val + k.val = 64 * (2 * p.val + h.val) + k.val
  omega

include h5 in
theorem row_5 (t : Fin cfg0.N) (j : Fin 8) : RowIs (iblk m c 5 t : Vec Ideal S8x2048 .f32) j (tok B (seqOf t) j) := fun p h k => by
  rw [blk_5, h5]
  refine congrArg (fun x : ℝ => (x : EReal)) (congrArg (B _) (Fin.ext ?_))
  show 128 * p.val + 64 * h.val + k.val = 64 * (2 * p.val + h.val) + k.val
  omega

include h1 h2 h3 h4 h5 h6 in
theorem state_arr (t : Fin cfg0.N) (p : Fin 16) (v : Fin 64) (h : Fin 2) (k : Fin 64) :
    (dats m 0 c).arrAt 8 cfg0.N (ix4 (seqOf t) (hd p h) v k)
      = ((stR (tok D (seqOf t)) (tok K (seqOf t)) (tok V' (seqOf t)) (tok KK (seqOf t))
          (tok B (seqOf t)) (S (seqOf t)) 8 (by decide) (hd p h) v k : ℝ) : EReal) := by
  rw [arr_8]
  unfold out0_A_8
  rw [View.read_writes_eq_canon _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (hcond0_0 t) (hcond0_1 t) (iblk m c 0 t) (iblk m c 1 t) (iblk m c 2 t) (iblk m c 3 t) (iblk m c 4 t) (iblk m c 5 t) (iblk m c 6 t)), leaves_eq, leaves_apply]
  unfold k0_pay518
  dsimp only
  rw [shapeCast_self]
  exact st_8 _ _ _ _ _ _ _ _ _ _ _ _ _ _ _ _ _ _ _ _ (row_1 m c h1 t) (row_2 m c h2 t) (row_3 m c h3 t) (row_4 m c h4 t) (row_5 m c h5 t) (fun g v k => (blk_6 m c t g v k).trans (h6 _ g v k)) p v h k

include h0 h1 h2 h3 h4 h5 h6 in
theorem out_arr (t : Fin cfg0.N) (j : Fin 8) (p : Fin 16) (h : Fin 2) (k : Fin 64) :
    (dats m 0 c).arrAt 7 cfg0.N (ix2 (⟨8 * t.val + j.val, by have := seq_lt t; omega⟩ : Fin 1024) (bi p h k))
      = ((outR (tok D (seqOf t)) (tok K (seqOf t)) (tok V' (seqOf t)) (tok KK (seqOf t))
          (tok B (seqOf t)) (tok R (seqOf t)) (S (seqOf t)) j (hd p h) k : ℝ) : EReal) := by
  rw [arr_7]
  unfold out0_A_7
  rw [View.read_writes_eq_canon _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (hcond0_0 t) (hcond0_1 t) (iblk m c 0 t) (iblk m c 1 t) (iblk m c 2 t) (iblk m c 3 t) (iblk m c 4 t) (iblk m c 5 t) (iblk m c 6 t)), outs_eq, View.canon_unit_zero zero_off1, outs_apply]
  exact rd _ _ _ _ _ _ _ _ _ _ _ _ _ _ _ _ _ _ _ _ _ _ _ (row_1 m c h1 t) (row_2 m c h2 t) (row_3 m c h3 t) (row_4 m c h4 t) (row_5 m c h5 t) (fun g v k => (blk_6 m c t g v k).trans (h6 _ g v k)) (row_0 m c h0 t) j p h k

end Cert.KernelIdeal.WkvRun

end
-- ==== Proof.WkvRef.lean ====
/-
  The reference's scan over the eight tokens, entry by entry, over the reals.
-/
module

public import proofs.«01_k».proof.Proof.Gen.ReferenceIdeal.Run
public import proofs.«01_k».proof.Proof.WkvIndex

@[expose] public section

set_option maxRecDepth 16384

noncomputable section

namespace Cert.ReferenceIdeal.WkvRef

open Cert.ReferenceIdeal Cert.ReferenceIdeal.Gen Cert.ReferenceIdeal.Value Idealize.ShloMosaic Idealize.ShloMosaic.TcCoe Idealize.SL.Sem Idealize.ShloMosaic.StableHlo Idealize.ShloMosaic.Pointwise Wkv

section Moves
variable {F : FTy → Type} [FloatOps F]

/-- Where token number `n`'s row begins. -/
def startAt (n : IVec S_ 32) : Fin 4 → Int :=
  fun k => ((![n, constantI S_ 32 0#32, constantI S_ 32 0#32, constantI S_ 32 0#32] : Fin 4 → IVec S_ 32) k (Shape.Idx.first h_S_)).toInt

/-- Token number `n`'s row (`n` a word) of an array of all tokens' rows. -/
def rowOf (n : IVec S_ 32) (x : FVec F S8x128x32x64 .f32) : FVec F S128x32x64 .f32 :=
  shapeCast S128x32x64 (Host.dynamicSlice S1x128x32x64 x
    (startAt n)
    sliceFits_S8x128x32x64_S1x128x32x64) shapeCasts_S1x128x32x64_S128x32x64

/-- One token's step of the states of all sequences and heads. -/
def stepS (S : FVec F S128x32x64x64 .f32) (d k v kk b : FVec F S128x32x64 .f32) : FVec F S128x32x64x64 .f32 :=
  addf (addf (mulf S (broadcastInDim S128x32x64x64 ![0, 1, 2, 3] bcast_S128x32x1x64_S128x32x64x64_0_1_2_3 (broadcastInDim S128x32x1x64 ![0, 1, 3] bcast_S128x32x64_S128x32x1x64_0_1_3 d)))
      (mulf (broadcastInDim S128x32x64x64 ![0, 1, 2, 3] bcast_S128x32x64x1_S128x32x64x64_0_1_2_3 (broadcastInDim S128x32x64x1 ![0, 1, 2] bcast_S128x32x64_S128x32x64x1_0_1_2
          (Host.dotGeneral dot_S128x32x64x64_S128x32x64_S128x32x64_3_2_2_n_01_01 none S (Host.negf kk))))
        (broadcastInDim S128x32x64x64 ![0, 1, 2, 3] bcast_S128x32x1x64_S128x32x64x64_0_1_2_3 (broadcastInDim S128x32x1x64 ![0, 1, 3] bcast_S128x32x64_S128x32x1x64_0_1_3 b))))
    (mulf (broadcastInDim S128x32x64x64 ![0, 1, 2, 3] bcast_S128x32x64x1_S128x32x64x64_0_1_2_3 (broadcastInDim S128x32x64x1 ![0, 1, 2] bcast_S128x32x64_S128x32x64x1_0_1_2 v))
      (broadcastInDim S128x32x64x64 ![0, 1, 2, 3] bcast_S128x32x1x64_S128x32x64x64_0_1_2_3 (broadcastInDim S128x32x1x64 ![0, 1, 3] bcast_S128x32x64_S128x32x1x64_0_1_3 k)))

/-- The read-outs with token `n`'s put in. -/
def putS (n : IVec S_ 32) (y : FVec F S8x128x32x64 .f32) (S : FVec F S128x32x64x64 .f32) (r : FVec F S128x32x64 .f32) : FVec F S8x128x32x64 .f32 :=
  Host.dynamicUpdateSlice y (broadcastInDim S1x128x32x64 ![1, 2, 3] bcast_S128x32x64_S1x128x32x64_1_2_3
      (Host.dotGeneral dot_S128x32x64x64_S128x32x64_S128x32x64_3_2_2_n_01_01 none S r))
    (startAt n)
    updateFits_S8x128x32x64_S1x128x32x64

variable (V0 : Valuation τ sig (Elt F))

set_option maxHeartbeats 1000000 in
theorem step_state : step_main_v19_7 V0 = stepS (V0 (Proc.devRef .tc main_v19_7)) (rowOf (V0 (Proc.devRef .tc main_v19_6)) (V0 (Proc.devRef .tc main_v19_1)))
    (rowOf (V0 (Proc.devRef .tc main_v19_6)) (V0 (Proc.devRef .tc main_v19_2))) (rowOf (V0 (Proc.devRef .tc main_v19_6)) (V0 (Proc.devRef .tc main_v19_3)))
    (rowOf (V0 (Proc.devRef .tc main_v19_6)) (V0 (Proc.devRef .tc main_v19_4))) (rowOf (V0 (Proc.devRef .tc main_v19_6)) (V0 (Proc.devRef .tc main_v19_5))) := rfl

theorem step_out : step_main_v19_8 V0 = putS (V0 (Proc.devRef .tc main_v19_6)) (V0 (Proc.devRef .tc main_v19_8)) (res_main_while0b_v44 V0)
    (rowOf (V0 (Proc.devRef .tc main_v19_6)) (V0 (Proc.devRef .tc main_v19_0))) := by
  unfold step_main_v19_8
  rw [id_eq]
  generalize res_main_while0b_v44 V0 = S
  generalize V0 (Proc.devRef .tc main_v19_8) = y
  generalize V0 (Proc.devRef .tc main_v19_6) = n
  generalize V0 (Proc.devRef .tc main_v19_0) = x
  rfl

/-- The word of a token's number. -/
abbrev num (n : Nat) : IVec S_ 32 := constantI S_ 32 (BitVec.ofNat 32 n)

theorem step_num (n : Nat) (h : V0 (Proc.devRef .tc main_v19_6) = num n) : step_main_v19_6 V0 = num (n + 1) := by
  unfold step_main_v19_6
  rw [h]
  funext i
  show BitVec.ofNat 32 n + 1#32 = BitVec.ofNat 32 (n + 1)
  simp only [BitVec.ofNat_add]

theorem start_0 (n : Fin 8) : startAt (num n.val) 0 = n.val := by
  show (BitVec.ofNat 32 n.val).toInt = n.val
  revert n; decide

theorem clamp_0 (n : Fin 8) : Host.clampedStart S8x128x32x64 S1x128x32x64 sliceFits_S8x128x32x64_S1x128x32x64.1 (startAt (num n.val)) 0 = n.val :=
  Host.clampedStart_of_le _ _ _ _ (start_0 n) (by show n.val + 1 ≤ 8; omega)

theorem clamp_1 (n : Fin 8) : Host.clampedStart S8x128x32x64 S1x128x32x64 sliceFits_S8x128x32x64_S1x128x32x64.1 (startAt (num n.val)) 1 = 0 :=
  Host.clampedStart_of_le _ _ _ _ rfl (by decide)

theorem clamp_2 (n : Fin 8) : Host.clampedStart S8x128x32x64 S1x128x32x64 sliceFits_S8x128x32x64_S1x128x32x64.1 (startAt (num n.val)) 2 = 0 :=
  Host.clampedStart_of_le _ _ _ _ rfl (by decide)

theorem clamp_3 (n : Fin 8) : Host.clampedStart S8x128x32x64 S1x128x32x64 sliceFits_S8x128x32x64_S1x128x32x64.1 (startAt (num n.val)) 3 = 0 :=
  Host.clampedStart_of_le _ _ _ _ rfl (by decide)

theorem rowOf_apply (n : Fin 8) (x : FVec F S8x128x32x64 .f32) (t : Fin 128) (g : Fin 32) (k : Fin 64) :
    rowOf (num n.val) x (ix3 t g k) = x (ix4 n t g k) := by
  unfold rowOf
  pointwise
  congr 1
  simp only [clamp_0, clamp_1, clamp_2, clamp_3, Nat.zero_add]

theorem putS_apply (n j : Fin 8) (y : FVec Ideal S8x128x32x64 .f32) (S : FVec Ideal S128x32x64x64 .f32) (r : FVec Ideal S128x32x64 .f32) (t : Fin 128) (g : Fin 32) (v : Fin 64) :
    putS (num n.val) y S r (ix4 j t g v) = if j = n then ∑ k : Fin 64, S (ix4 t g v k) * r (ix3 t g k) else y (ix4 j t g v) := by
  unfold putS
  pointwise [dot_S128x32x64x64_S128x32x64_S128x32x64_3_2_2_n_01_01]
  simp only [clamp_0, clamp_1, clamp_2, clamp_3, Nat.zero_add, Nat.sub_zero]
  by_cases hj : j = n
  · subst hj
    rw [dif_pos (by omega), if_pos rfl]
  · rw [dif_neg (by have := fun e => hj (Fin.ext e); omega), if_neg hj]

theorem stepS_apply (S : FVec Ideal S128x32x64x64 .f32) (d k v kk b : FVec Ideal S128x32x64 .f32) (t : Fin 128) (g : Fin 32) (i l : Fin 64) :
    stepS S d k v kk b (ix4 t g i l) = S (ix4 t g i l) * d (ix3 t g l) + (∑ k' : Fin 64, S (ix4 t g i k') * (-kk (ix3 t g k'))) * b (ix3 t g l)
      + v (ix3 t g i) * k (ix3 t g l) := by
  unfold stepS
  pointwise [dot_S128x32x64x64_S128x32x64_S128x32x64_3_2_2_n_01_01]

end Moves

variable (m : (ℓ : Loc nD τ sig) → Buf (Elt Ideal) ℓ) (c : Dev nD)

set_option maxRecDepth 65536 in
set_option maxHeartbeats 400000 in
theorem entry_0 (j : Fin 8) (t : Fin 128) (g : Fin 32) (k : Fin 64) : (entryContents preI m c (Proc.devRef .tc main_v19_0) : FVec Ideal S8x128x32x64 .f32) (ix4 j t g k)
    = m ((c : Thread nD τ).loc main_arg0) (ix2 (⟨8256 + 8 * t.val + j.val, by omega⟩ : Fin 9280) (⟨64 * g.val + k.val, by omega⟩ : Fin 2048)) := by
  simp only [entryContents, afterL_cons, afterL_nil]
  after_reads_simp
  rw [id_eq]
  pointwise
  refine congrArg (m ((c : Thread nD τ).loc main_arg0)) ?_
  exact congrArg₂ (ix2 (n0 := 9280) (n1 := 2048)) (Fin.ext (by show 8256 + (t.val * 8 + j.val) = 8256 + 8 * t.val + j.val; omega)) (Fin.ext (by show g.val * 64 + k.val = 64 * g.val + k.val; omega))

set_option maxRecDepth 65536 in
set_option maxHeartbeats 400000 in
theorem entry_1 (j : Fin 8) (t : Fin 128) (g : Fin 32) (k : Fin 64) : (entryContents preI m c (Proc.devRef .tc main_v19_1) : FVec Ideal S8x128x32x64 .f32) (ix4 j t g k)
    = m ((c : Thread nD τ).loc main_arg1) (ix2 (⟨8256 + 8 * t.val + j.val, by omega⟩ : Fin 9280) (⟨64 * g.val + k.val, by omega⟩ : Fin 2048)) := by
  simp only [entryContents, afterL_cons, afterL_nil]
  after_reads_simp
  rw [id_eq]
  pointwise
  refine congrArg (m ((c : Thread nD τ).loc main_arg1)) ?_
  exact congrArg₂ (ix2 (n0 := 9280) (n1 := 2048)) (Fin.ext (by show 8256 + (t.val * 8 + j.val) = 8256 + 8 * t.val + j.val; omega)) (Fin.ext (by show g.val * 64 + k.val = 64 * g.val + k.val; omega))

set_option maxRecDepth 65536 in
set_option maxHeartbeats 400000 in
theorem entry_2 (j : Fin 8) (t : Fin 128) (g : Fin 32) (k : Fin 64) : (entryContents preI m c (Proc.devRef .tc main_v19_2) : FVec Ideal S8x128x32x64 .f32) (ix4 j t g k)
    = m ((c : Thread nD τ).loc main_arg2) (ix2 (⟨8256 + 8 * t.val + j.val, by omega⟩ : Fin 9280) (⟨64 * g.val + k.val, by omega⟩ : Fin 2048)) := by
  simp only [entryContents, afterL_cons, afterL_nil]
  after_reads_simp
  rw [id_eq]
  pointwise
  refine congrArg (m ((c : Thread nD τ).loc main_arg2)) ?_
  exact congrArg₂ (ix2 (n0 := 9280) (n1 := 2048)) (Fin.ext (by show 8256 + (t.val * 8 + j.val) = 8256 + 8 * t.val + j.val; omega)) (Fin.ext (by show g.val * 64 + k.val = 64 * g.val + k.val; omega))

set_option maxRecDepth 65536 in
set_option maxHeartbeats 400000 in
theorem entry_3 (j : Fin 8) (t : Fin 128) (g : Fin 32) (k : Fin 64) : (entryContents preI m c (Proc.devRef .tc main_v19_3) : FVec Ideal S8x128x32x64 .f32) (ix4 j t g k)
    = m ((c : Thread nD τ).loc main_arg3) (ix2 (⟨8256 + 8 * t.val + j.val, by omega⟩ : Fin 9280) (⟨64 * g.val + k.val, by omega⟩ : Fin 2048)) := by
  simp only [entryContents, afterL_cons, afterL_nil]
  after_reads_simp
  rw [id_eq]
  pointwise
  refine congrArg (m ((c : Thread nD τ).loc main_arg3)) ?_
  exact congrArg₂ (ix2 (n0 := 9280) (n1 := 2048)) (Fin.ext (by show 8256 + (t.val * 8 + j.val) = 8256 + 8 * t.val + j.val; omega)) (Fin.ext (by show g.val * 64 + k.val = 64 * g.val + k.val; omega))

set_option maxRecDepth 65536 in
set_option maxHeartbeats 400000 in
theorem entry_4 (j : Fin 8) (t : Fin 128) (g : Fin 32) (k : Fin 64) : (entryContents preI m c (Proc.devRef .tc main_v19_4) : FVec Ideal S8x128x32x64 .f32) (ix4 j t g k)
    = m ((c : Thread nD τ).loc main_arg4) (ix2 (⟨8256 + 8 * t.val + j.val, by omega⟩ : Fin 9280) (⟨64 * g.val + k.val, by omega⟩ : Fin 2048)) := by
  simp only [entryContents, afterL_cons, afterL_nil]
  after_reads_simp
  rw [id_eq]
  pointwise
  refine congrArg (m ((c : Thread nD τ).loc main_arg4)) ?_
  exact congrArg₂ (ix2 (n0 := 9280) (n1 := 2048)) (Fin.ext (by show 8256 + (t.val * 8 + j.val) = 8256 + 8 * t.val + j.val; omega)) (Fin.ext (by show g.val * 64 + k.val = 64 * g.val + k.val; omega))

set_option maxRecDepth 65536 in
set_option maxHeartbeats 400000 in
theorem entry_5 (j : Fin 8) (t : Fin 128) (g : Fin 32) (k : Fin 64) : (entryContents preI m c (Proc.devRef .tc main_v19_5) : FVec Ideal S8x128x32x64 .f32) (ix4 j t g k)
    = m ((c : Thread nD τ).loc main_arg5) (ix2 (⟨8256 + 8 * t.val + j.val, by omega⟩ : Fin 9280) (⟨64 * g.val + k.val, by omega⟩ : Fin 2048)) := by
  simp only [entryContents, afterL_cons, afterL_nil]
  after_reads_simp
  rw [id_eq]
  pointwise
  refine congrArg (m ((c : Thread nD τ).loc main_arg5)) ?_
  exact congrArg₂ (ix2 (n0 := 9280) (n1 := 2048)) (Fin.ext (by show 8256 + (t.val * 8 + j.val) = 8256 + 8 * t.val + j.val; omega)) (Fin.ext (by show g.val * 64 + k.val = 64 * g.val + k.val; omega))

set_option maxRecDepth 65536 in
set_option maxHeartbeats 400000 in
theorem entry_state : entryContents preI m c (Proc.devRef .tc main_v19_7) = m ((c : Thread nD τ).loc main_arg6) := by
  simp only [entryContents, afterL_cons, afterL_nil]
  after_reads_simp
  rfl

set_option maxRecDepth 65536 in
set_option maxHeartbeats 400000 in
theorem entry_num : entryContents preI m c (Proc.devRef .tc main_v19_6) = num 0 := by
  simp only [entryContents, afterL_cons, afterL_nil]
  after_reads_simp
  rfl

/-- The contents after `n` tokens, in real numbers. -/
structure Inv (R D K V KK B : Fin 9280 → Fin 2048 → ℝ) (S : Fin 128 → Fin 32 → Fin 64 → Fin 64 → ℝ) (W : Valuation τ sig (Elt Ideal)) (n : Nat) (hn : n ≤ 8) : Prop where
  num : W (Proc.devRef .tc main_v19_6) = num n
  r : ∀ j t g k, (W (Proc.devRef .tc main_v19_0) : FVec Ideal S8x128x32x64 .f32) (ix4 j t g k) = ((tok R t j g k : ℝ) : EReal)
  d : ∀ j t g k, (W (Proc.devRef .tc main_v19_1) : FVec Ideal S8x128x32x64 .f32) (ix4 j t g k) = ((tok D t j g k : ℝ) : EReal)
  k : ∀ j t g k, (W (Proc.devRef .tc main_v19_2) : FVec Ideal S8x128x32x64 .f32) (ix4 j t g k) = ((tok K t j g k : ℝ) : EReal)
  v : ∀ j t g k, (W (Proc.devRef .tc main_v19_3) : FVec Ideal S8x128x32x64 .f32) (ix4 j t g k) = ((tok V t j g k : ℝ) : EReal)
  kk : ∀ j t g k, (W (Proc.devRef .tc main_v19_4) : FVec Ideal S8x128x32x64 .f32) (ix4 j t g k) = ((tok KK t j g k : ℝ) : EReal)
  b : ∀ j t g k, (W (Proc.devRef .tc main_v19_5) : FVec Ideal S8x128x32x64 .f32) (ix4 j t g k) = ((tok B t j g k : ℝ) : EReal)
  state : ∀ t g i l, (W (Proc.devRef .tc main_v19_7) : FVec Ideal S128x32x64x64 .f32) (ix4 t g i l)
    = ((stR (tok D t) (tok K t) (tok V t) (tok KK t) (tok B t) (S t) n hn g i l : ℝ) : EReal)
  out : ∀ (j : Fin 8) t g i, j.val < n → (W (Proc.devRef .tc main_v19_8) : FVec Ideal S8x128x32x64 .f32) (ix4 j t g i)
    = ((outR (tok D t) (tok K t) (tok V t) (tok KK t) (tok B t) (tok R t) (S t) j g i : ℝ) : EReal)

variable {R D K V KK B : Fin 9280 → Fin 2048 → ℝ} {S : Fin 128 → Fin 32 → Fin 64 → Fin 64 → ℝ}

theorem inv_step (W : Valuation τ sig (Elt Ideal)) (n : Fin 8) (h : Inv R D K V KK B S W n.val n.isLt.le) : Inv R D K V KK B S (STEP W) (n.val + 1) n.isLt := by
  have hst : ∀ t g i l, (step_main_v19_7 W : FVec Ideal S128x32x64x64 .f32) (ix4 t g i l)
      = ((stR (tok D t) (tok K t) (tok V t) (tok KK t) (tok B t) (S t) (n.val + 1) n.isLt g i l : ℝ) : EReal) := by
    intro t g i l
    rw [step_state, h.num]
    refine (stepS_apply _ _ _ _ _ _ t g i l).trans ?_
    simp only [rowOf_apply, h.state, h.d, h.k, h.v, h.kk, h.b]
    simp only [← EReal.coe_neg, ← EReal.coe_mul, coe_sum, ← EReal.coe_add]
    refine congrArg _ ?_
    show _ = stepR _ _ _ _ _ _ g i l
    unfold stepR
    simp only [mul_neg, Finset.sum_neg_distrib, neg_mul, sub_eq_add_neg]
  refine ⟨?_, ?_, ?_, ?_, ?_, ?_, ?_, ?_, ?_⟩
  · rw [STEP_main_v19_6]; exact step_num W n.val h.num
  · rw [STEP_main_v19_0]; exact h.r
  · rw [STEP_main_v19_1]; exact h.d
  · rw [STEP_main_v19_2]; exact h.k
  · rw [STEP_main_v19_3]; exact h.v
  · rw [STEP_main_v19_4]; exact h.kk
  · rw [STEP_main_v19_5]; exact h.b
  · rw [STEP_main_v19_7]; exact hst
  · rw [STEP_main_v19_8, step_out, h.num]
    intro j t g i hj
    refine (putS_apply n j _ _ _ t g i).trans ?_
    by_cases e : j = n
    · subst e
      rw [if_pos rfl]
      have e' : ∀ l, (res_main_while0b_v44 W : FVec Ideal S128x32x64x64 .f32) (ix4 t g i l) = _ := fun l => hst t g i l
      simp only [rowOf_apply, e', h.r, ← EReal.coe_mul, coe_sum]
      rfl
    · rw [if_neg e]
      exact h.out j t g i (by have := fun e' => e (Fin.ext e'); omega)

theorem inv_run (h0 : Inv R D K V KK B S (entryContents preI m c) 0 (Nat.zero_le _)) : ∀ (n : Nat) (hn : n ≤ 8), Inv R D K V KK B S (STEP^[n] (entryContents preI m c)) n hn
  | 0, _ => h0
  | n + 1, hn => by
    rw [Function.iterate_succ_apply']
    exact inv_step _ ⟨n, hn⟩ (inv_run h0 n (Nat.le_of_succ_le hn))

section Ends
variable (h0 : ∀ i n, m ((c : Thread nD τ).loc main_arg0) (ix2 (i : Fin 9280) (n : Fin 2048)) = ((R i n : ℝ) : EReal))
variable (h1 : ∀ i n, m ((c : Thread nD τ).loc main_arg1) (ix2 (i : Fin 9280) (n : Fin 2048)) = ((D i n : ℝ) : EReal))
variable (h2 : ∀ i n, m ((c : Thread nD τ).loc main_arg2) (ix2 (i : Fin 9280) (n : Fin 2048)) = ((K i n : ℝ) : EReal))
variable (h3 : ∀ i n, m ((c : Thread nD τ).loc main_arg3) (ix2 (i : Fin 9280) (n : Fin 2048)) = ((V i n : ℝ) : EReal))
variable (h4 : ∀ i n, m ((c : Thread nD τ).loc main_arg4) (ix2 (i : Fin 9280) (n : Fin 2048)) = ((KK i n : ℝ) : EReal))
variable (h5 : ∀ i n, m ((c : Thread nD τ).loc main_arg5) (ix2 (i : Fin 9280) (n : Fin 2048)) = ((B i n : ℝ) : EReal))
variable (h6 : ∀ t g v k, m ((c : Thread nD τ).loc main_arg6) (ix4 (t : Fin 128) (g : Fin 32) (v : Fin 64) (k : Fin 64)) = ((S t g v k : ℝ) : EReal))
include h0 h1 h2 h3 h4 h5 h6

theorem inv_end : Inv R D K V KK B S (STEP^[8] (entryContents preI m c)) 8 le_rfl := by
  refine inv_run m c ⟨entry_num m c, ?_, ?_, ?_, ?_, ?_, ?_, ?_, ?_⟩ 8 le_rfl
  · intro j t g k; exact (entry_0 m c j t g k).trans (h0 _ _)
  · intro j t g k; exact (entry_1 m c j t g k).trans (h1 _ _)
  · intro j t g k; exact (entry_2 m c j t g k).trans (h2 _ _)
  · intro j t g k; exact (entry_3 m c j t g k).trans (h3 _ _)
  · intro j t g k; exact (entry_4 m c j t g k).trans (h4 _ _)
  · intro j t g k; exact (entry_5 m c j t g k).trans (h5 _ _)
  · intro t g v k; rw [entry_state]; exact h6 t g v k
  · intro j t g i h; exact absurd h (Nat.not_lt_zero _)

theorem state_ref (t : Fin 128) (g : Fin 32) (i l : Fin 64) : (STEP^[8] (entryContents preI m c) (Proc.devRef .tc main_v19_7) : FVec Ideal S128x32x64x64 .f32) (ix4 t g i l)
    = ((stR (tok D t) (tok K t) (tok V t) (tok KK t) (tok B t) (S t) 8 le_rfl g i l : ℝ) : EReal) :=
  (inv_end m c h0 h1 h2 h3 h4 h5 h6).state t g i l

theorem out_ref (t : Fin 128) (j : Fin 8) (g : Fin 32) (i : Fin 64) : (out_main_v21 (STEP^[8] (entryContents preI m c)) : FVec Ideal S1024x2048 .f32)
      (ix2 (⟨8 * t.val + j.val, by omega⟩ : Fin 1024) (⟨64 * g.val + i.val, by omega⟩ : Fin 2048))
    = ((outR (tok D t) (tok K t) (tok V t) (tok KK t) (tok B t) (tok R t) (S t) j g i : ℝ) : EReal) := by
  have := (inv_end m c h0 h1 h2 h3 h4 h5 h6).out j t g i j.isLt
  rw [← this]
  generalize STEP^[8] (entryContents preI m c) = W
  unfold out_main_v21
  generalize W (Proc.devRef .tc main_v19_8) = y
  pointwise
end Ends

end Cert.ReferenceIdeal.WkvRef

end
-- ==== Proof.RealEntries.lean ====
/- What the precondition says of an array: every entry is a real number. -/
module

public import Idealize.ShloMosaic.Lib.ReduceAll
public import Idealize.ShloMosaic.Lib.Pointwise
public import Idealize.ShloMosaic.PureOps.Ideal

@[expose] public section

noncomputable section

namespace RealEntries

open Idealize.ShloMosaic

theorem inf_top : Ideal.ofBits .f32 0x7F800000#32 = ⊤ := by simp [Ideal.ofBits, Ideal.ieee]

/-- An extended real whose absolute value is below infinity is a real number. -/
theorem real_of_abs_lt (x : EReal) (h : max x (-x) < ⊤) : ∃ r : ℝ, x = (r : EReal) := by
  induction x with
  | bot => simp at h
  | coe r => exact ⟨r, rfl⟩
  | top => simp at h

theorem entry_real {s : Shape} (x : FVec Ideal s .f32) (hb : (⟨0, ![]⟩ : Shape).BroadcastsInDim s (![] : Fin 0 → Fin s.rank)) (i : s.Idx)
    (h : cmpf .olt (Host.absf x) (broadcastInDim s ![] hb (constant (⟨0, ![]⟩ : Shape) .f32 0x7F800000#32)) i = 1#1) : ∃ r : ℝ, x i = (r : EReal) := by
  refine real_of_abs_lt _ ?_
  have h' : Ideal.cmp .olt (max (x i) (-(x i))) (Ideal.ofBits .f32 0x7F800000#32) = 1#1 := h
  rw [inf_top] at h'
  exact (Ideal.cmp_olt_eq_one _ _).1 h'

/-- The precondition's clause of one array, read at every entry. -/
theorem all_real {s : Shape} {axes : List (Fin s.rank)} (x : FVec Ideal s .f32) (hb : (⟨0, ![]⟩ : Shape).BroadcastsInDim s (![] : Fin 0 → Fin s.rank))
    (hr : s.ReducesTo axes (⟨0, ![]⟩ : Shape)) (hu : 0 < (⟨0, ![]⟩ : Shape).numel) (init : (⟨0, ![]⟩ : Shape).Idx → BitVec 1) (j : (⟨0, ![]⟩ : Shape).Idx)
    (h : Host.reduce IntOp.andi (cmpf .olt (Host.absf x) (broadcastInDim s ![] hb (constant (⟨0, ![]⟩ : Shape) .f32 0x7F800000#32))) init hr hu j = 1#1) (i : s.Idx) :
    ∃ r : ℝ, x i = (r : EReal) :=
  haveI : Subsingleton (⟨0, ![]⟩ : Shape).Idx := ⟨fun a b => funext fun k => k.elim0⟩
  entry_real x hb i (Host.reduce_andi_all _ init hr hu j h i)

theorem both {a b : IVec (⟨0, ![]⟩ : Shape) 1} {j : (⟨0, ![]⟩ : Shape).Idx} (h : andi a b j = 1#1) : a j = 1#1 ∧ b j = 1#1 :=
  IntOp.andi_eq_one.1 h

end RealEntries

end
-- ==== Proof.WkvPre.lean ====
/- The precondition of the scan's call, read: every entry of the seven arrays is a real number. -/
module

public import proofs.«01_k».proof.Proof.Gen.Pre_finite
public import proofs.«01_k».proof.Proof.RealEntries

@[expose] public section

noncomputable section

namespace WkvPre

open Idealize.ShloMosaic Idealize.ShloMosaic.Pointwise Cert.Pre_finite RealEntries

theorem reals (a0 a1 a2 a3 a4 a5 : FVec Ideal S9280x2048 .f32) (a6 : FVec Ideal S128x32x64x64 .f32) (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  have e := congrFun h (fun k => k.elim0)
  dsimp only [fn, fn_part1] at e
  obtain ⟨e, e6⟩ := both e
  obtain ⟨e, e5⟩ := both e
  obtain ⟨e, e4⟩ := both e
  obtain ⟨e, e3⟩ := both e
  obtain ⟨e, e2⟩ := both e
  obtain ⟨e0, e1⟩ := both e
  exact ⟨all_real _ _ _ _ _ _ e0, all_real _ _ _ _ _ _ e1, all_real _ _ _ _ _ _ e2, all_real _ _ _ _ _ _ e3, all_real _ _ _ _ _ _ e4, all_real _ _ _ _ _ _ e5, all_real _ _ _ _ _ _ e6⟩

/-- A matrix of real entries, as a function of its row and column. -/
theorem matrix {a b : Nat} (x : FVec Ideal ⟨2, ![a, b]⟩ .f32) (h : ∀ i, ∃ r : ℝ, x i = (r : EReal)) :
    ∃ X : Fin a → Fin b → ℝ, ∀ i n, x (ix2 i n) = ((X i n : ℝ) : EReal) := by
  choose f hf using h
  exact ⟨fun i n => f (ix2 i n), fun i n => hf _⟩

theorem box {a b c d : Nat} (x : FVec Ideal ⟨4, ![a, b, c, d]⟩ .f32) (h : ∀ i, ∃ r : ℝ, x i = (r : EReal)) :
    ∃ X : Fin a → Fin b → Fin c → Fin d → ℝ, ∀ t g v k, x (ix4 t g v k) = ((X t g v k : ℝ) : EReal) := by
  choose f hf using h
  exact ⟨fun t g v k => f (ix4 t g v k), fun t g v k => hf _⟩

end WkvPre

end
-- ==== Proof.WkvEqual.lean ====
/- The scan's call and its reference leave equal arrays. -/
module

public import proofs.«01_k».proof.Proof.WkvArray
public import proofs.«01_k».proof.Proof.WkvRef
public import proofs.«01_k».proof.Proof.WkvPre

@[expose] public section

set_option maxRecDepth 16384

noncomputable section

namespace WkvEqual

open Idealize.ShloMosaic Idealize.ShloMosaic.TcCoe Idealize.SL.Sem Idealize.ShloMosaic.Pointwise Wkv
open Idealize.ShloMosaic.StableHlo

variable (m : (ℓ : Loc Cert.KernelIdeal.nD Cert.KernelIdeal.τ Cert.KernelIdeal.sig) → Buf (Elt Ideal) ℓ) (c : Dev Cert.KernelIdeal.nD)
variable (m' : (ℓ : Loc Cert.ReferenceIdeal.nD Cert.ReferenceIdeal.τ Cert.ReferenceIdeal.sig) → Buf (Elt Ideal) ℓ)

theorem equal
    (hp : Cert.Pre_finite.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)) (m ((c : Thread Cert.KernelIdeal.nD Cert.KernelIdeal.τ).loc Cert.KernelIdeal.main_arg5))
      (m ((c : Thread Cert.KernelIdeal.nD Cert.KernelIdeal.τ).loc Cert.KernelIdeal.main_arg6)) = fun _ => 1#1)
    (g0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (g1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (g2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (g3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (g4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
    (g5 : m' ((c : Thread Cert.ReferenceIdeal.nD Cert.ReferenceIdeal.τ).loc Cert.ReferenceIdeal.main_arg5) = m ((c : Thread Cert.KernelIdeal.nD Cert.KernelIdeal.τ).loc Cert.KernelIdeal.main_arg5))
    (g6 : m' ((c : Thread Cert.ReferenceIdeal.nD Cert.ReferenceIdeal.τ).loc Cert.ReferenceIdeal.main_arg6) = m ((c : Thread Cert.KernelIdeal.nD Cert.KernelIdeal.τ).loc Cert.KernelIdeal.main_arg6)) :
    (Cert.ReferenceIdeal.Value.out_main_v21 (Cert.ReferenceIdeal.Value.STEP^[8] (entryContents Cert.ReferenceIdeal.Value.preI m' c)) : FVec Ideal Cert.KernelIdeal.S1024x2048 .f32)
        = (Cert.KernelIdeal.Gen.dats m 0 c).arrAt 7 Cert.KernelIdeal.cfg0.N
      ∧ ((Cert.ReferenceIdeal.Value.STEP^[8] (entryContents Cert.ReferenceIdeal.Value.preI m' c)) (Proc.devRef .tc Cert.ReferenceIdeal.main_v19_7) : FVec Ideal Cert.KernelIdeal.S128x32x64x64 .f32)
        = (Cert.KernelIdeal.Gen.dats m 0 c).arrAt 8 Cert.KernelIdeal.cfg0.N := by
  obtain ⟨r0, r1, r2, r3, r4, r5, r6⟩ := WkvPre.reals _ _ _ _ _ _ _ hp
  obtain ⟨R, h0⟩ := WkvPre.matrix (a := 9280) (b := 2048) _ r0
  obtain ⟨D, h1⟩ := WkvPre.matrix (a := 9280) (b := 2048) _ r1
  obtain ⟨K, h2⟩ := WkvPre.matrix (a := 9280) (b := 2048) _ r2
  obtain ⟨V, h3⟩ := WkvPre.matrix (a := 9280) (b := 2048) _ r3
  obtain ⟨KK, h4⟩ := WkvPre.matrix (a := 9280) (b := 2048) _ r4
  obtain ⟨B, h5⟩ := WkvPre.matrix (a := 9280) (b := 2048) _ r5
  obtain ⟨S, h6⟩ := WkvPre.box (a := 128) (b := 32) (c := 64) (d := 64) _ r6
  have k0 := fun i n => (congrFun g0 (ix2 i n)).trans (h0 i n)
  have k1 := fun i n => (congrFun g1 (ix2 i n)).trans (h1 i n)
  have k2 := fun i n => (congrFun g2 (ix2 i n)).trans (h2 i n)
  have k3 := fun i n => (congrFun g3 (ix2 i n)).trans (h3 i n)
  have k4 := fun i n => (congrFun g4 (ix2 i n)).trans (h4 i n)
  have k5 := fun i n => (congrFun g5 (ix2 i n)).trans (h5 i n)
  have k6 := fun t g v k => (congrFun g6 (ix4 t g v k)).trans (h6 t g v k)
  have eN : Cert.KernelIdeal.cfg0.N = 128 := Cert.KernelIdeal.WkvRun.points
  constructor
  · funext i
    obtain ⟨t, j, ht⟩ : ∃ (t : Fin 128) (j : Fin 8), (i 0).val = 8 * t.val + j.val :=
      ⟨⟨(i 0).val / 8, by have := (i 0).isLt; change (i 0).val < 1024 at this; omega⟩, ⟨(i 0).val % 8, by omega⟩, by show (i 0).val = 8 * ((i 0).val / 8) + (i 0).val % 8; omega⟩
    obtain ⟨p, h, k, hn⟩ : ∃ (p : Fin 16) (h : Fin 2) (k : Fin 64), (i 1).val = 64 * (2 * p.val + h.val) + k.val :=
      ⟨⟨(i 1).val / 128, by have := (i 1).isLt; change (i 1).val < 2048 at this; omega⟩, ⟨(i 1).val % 128 / 64, by omega⟩, ⟨(i 1).val % 64, by omega⟩,
        by show (i 1).val = 64 * (2 * ((i 1).val / 128) + (i 1).val % 128 / 64) + (i 1).val % 64; omega⟩
    have e1 := Cert.ReferenceIdeal.WkvRef.out_ref m' c k0 k1 k2 k3 k4 k5 k6 t j (hd p h) k
    have e2 := Cert.KernelIdeal.WkvRun.out_arr m c h0 h1 h2 h3 h4 h5 h6 ⟨t.val, by rw [eN]; exact t.isLt⟩ j p h k
    have i1 : i = ix2 (⟨8 * t.val + j.val, by omega⟩ : Fin 1024) (⟨64 * (hd p h).val + k.val, by have := (hd p h).isLt; omega⟩ : Fin 2048) := by
      rw [eq_ix2 i]
      exact congrArg₂ (ix2 (n0 := 1024) (n1 := 2048)) (Fin.ext ht) (Fin.ext hn)
    have i2 : i = ix2 (⟨8 * t.val + j.val, by omega⟩ : Fin 1024) (bi p h k) := by
      rw [eq_ix2 i]
      refine congrArg₂ (ix2 (n0 := 1024) (n1 := 2048)) (Fin.ext ht) (Fin.ext ?_)
      rw [hn]; show _ = 128 * p.val + 64 * h.val + k.val; omega
    exact (congrArg _ i1).trans (e1.trans (e2.symm.trans (congrArg _ i2.symm)))
  · funext i
    obtain ⟨p, h, hg⟩ : ∃ (p : Fin 16) (h : Fin 2), (i 1).val = 2 * p.val + h.val :=
      ⟨⟨(i 1).val / 2, by have := (i 1).isLt; change (i 1).val < 32 at this; omega⟩, ⟨(i 1).val % 2, by omega⟩, by show (i 1).val = 2 * ((i 1).val / 2) + (i 1).val % 2; omega⟩
    have e1 := Cert.ReferenceIdeal.WkvRef.state_ref m' c k0 k1 k2 k3 k4 k5 k6 (i 0) (hd p h) (i 2) (i 3)
    have e2 := Cert.KernelIdeal.WkvRun.state_arr m c h1 h2 h3 h4 h5 h6 ⟨(i 0).val, by rw [eN]; exact (i 0).isLt⟩ p (i 2) h (i 3)
    have i1 : i = ix4 (n0 := 128) (n1 := 32) (n2 := 64) (n3 := 64) (i 0) (hd p h) (i 2) (i 3) := by
      have : i 1 = hd p h := Fin.ext hg
      rw [← this]; exact eq_ix4 i
    exact (congrArg _ i1).trans (e1.trans (e2.symm.trans (congrArg _ i1.symm)))

end WkvEqual

end
-- ==== Proof.Dense.lean ====
/- The dense product in closed form, and how a clipped block reads inside its array. -/
module

public import Idealize.ShloMosaic.Lib.Pointwise
public import Idealize.ShloMosaic.Lib.Pipeline

@[expose] public section

noncomputable section

namespace Dense

open Idealize.ShloMosaic

/-- The product of two matrices, entry by entry. -/
def product {M K N : ℕ} (x : (⟨2, ![M, K]⟩ : Shape).Idx → EReal) (w : (⟨2, ![K, N]⟩ : Shape).Idx → EReal)
    (p : Fin M) (q : Fin N) : EReal := ∑ k : Fin K, x (ix2 p k) * w (ix2 k q)

/-- The columns of a matrix that block `j` of width `B` holds. -/
def columns {K N : ℕ} [NeZero N] (B : ℕ) (w : (⟨2, ![K, N]⟩ : Shape).Idx → EReal) (j : ℕ) : (⟨2, ![K, B]⟩ : Shape).Idx → EReal :=
  fun i => w (ix2 (i 0) (Fin.ofNat N (B * j + (i 1).val)))

/-- Inside the part the transfer moves, a filled block reads what was moved. -/
theorem fill_of_lt {sig : RefSig} {G : Pipeline.Grid} (w : Pipeline.Window sig G) {α : Type} (i : G.Coords) (d : w.block.Idx → α)
    (g : (w.xblock i).Idx → α) (j : w.block.Idx) (h : ∀ a, (j a).val < w.xsize i a) : w.fill i d g j = g fun a => ⟨(j a).val, h a⟩ := by
  unfold Pipeline.Window.fill; rw [dif_pos ((w.moved_iff i j).mpr h)]

end Dense

end
-- ==== Proof.ResBody.lean ====
/- The body of the dense product with a residual: what it leaves in its buffers. -/
module

public import proofs.«01_k».proof.Proof.Gen.Kernel2Ideal.Frame
public import proofs.«01_k».proof.Proof.Gen.Kernel2Ideal.Skeleton
public import Idealize.ShloMosaic.Lib.VecWindow

@[expose] public section

set_option maxRecDepth 16384

noncomputable section

namespace Res

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body takes a new column block of the weights at this point: it is the first row block. -/
def fresh (i : grid0.Coords) : Prop :=
  Scalar.cmpi .ne (Scalar.extui (Scalar.cmpi .eq (BitVec.ofNat 32 (i 1).val) 0#32)) 0#32 = 1#1

open Classical in
/-- What the scratch holds after the body: the narrowed column block where it is taken anew, else what it held. -/
def kept (i : grid0.Coords) (w : Vec F S2048x1024 .f32) (s : Vec F S2048x1024 .bf16) : Vec F S2048x1024 .bf16 :=
  if fresh i then k0_pay1 w else s

theorem body (c : Dev nD) (i : grid0.Coords)
    (arg2 : Memref sig .tc .vmem S512x2048 .f32) (harg2 : arg2.IsWhole) (arg3 : Memref sig .tc .vmem S2048x1024 .f32) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S2048x1024 .bf16) (harg6 : arg6.IsWhole)
    (x : Vec F S512x2048 .f32) (w : Vec F S2048x1024 .f32) (r o : Vec F S512x1024 .f32) (s : Vec F S2048x1024 .bf16)
    (E : Set ℕ) (K : PUnit → sProp 𝕄) :
    iprop(owns (c : Thread nD τ) arg2 fullShare x ∗ owns (c : Thread nD τ) arg3 fullShare w ∗ owns (c : Thread nD τ) arg4 fullShare r
        ∗ owns (c : Thread nD τ) arg5 fullShare o ∗ owns (c : Thread nD τ) arg6 fullShare s
        ∗ (iprop(owns (c : Thread nD τ) arg2 fullShare x ∗ owns (c : Thread nD τ) arg3 fullShare w ∗ owns (c : Thread nD τ) arg4 fullShare r
            ∗ owns (c : Thread nD τ) arg5 fullShare (k0_pay2 r x (kept i w s)) ∗ owns (c : Thread nD τ) arg6 fullShare (kept i w s)) -∗ K ⟨⟩))
      ⊢ wp frame (wpE (defs₀ (F := F)) Variants.none c none) E
          (cc0_dense_matmul_residual i arg2 harg2 arg3 harg3 arg4 harg4 arg5 harg5 arg6 harg6) K := by
  rw [cc0_dense_matmul_residual_eq_skeleton]; unfold cc0_dense_matmul_residual_skel owns
  iintro ⟨⟨%f0, %hf0, H0⟩, ⟨%f1, %hf1, H1⟩, ⟨%f2, %hf2, H2⟩, ⟨%f3, %hf3, H3⟩, ⟨%f4, %hf4, H4⟩, Hk⟩
  by_cases hc : fresh i
  · have hc' := hc; unfold fresh at hc'
    sl_exec (disch := sl_exact hc')
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr
      swap; · iexact H3
      ipureintro
      rw [View.read_writes_full, View.readAt_full, hf2, View.readAt_full, hf0, kept, if_pos hc]; unfold body.sl.v6
      unfold body.sl.H4_1; rw [View.readCov_full, View.readAt_full, hf1]
    · iexists _; isplitr
      swap; · iexact H4
      ipureintro
      unfold body.sl.H4_1; rw [View.read_writes_full, View.readAt_full, hf1, kept, if_pos hc]
  · have hc' := hc; unfold fresh at hc'
    sl_exec (disch := sl_exact hc')
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr
      swap; · iexact H3
      ipureintro
      rw [View.read_writes_full, View.readAt_full, hf2, View.readAt_full, hf0, View.readAt_full, hf4, kept, if_neg hc]
    · iexists _; isplitr
      swap; · iexact H4
      ipureintro
      rw [hf4, kept, if_neg hc]

end Res

end
-- ==== Proof.ResFrame.lean ====
/- The run of the dense product with a residual, over any reading of the floats: it leaves its arguments as they were. -/
module

public import proofs.«01_k».proof.Proof.ResBody
public import proofs.«01_k».proof.Proof.Gen.Kernel2Ideal
public import Idealize.ShloMosaic.Lib.Quiescent

@[expose] public section

set_option maxRecDepth 16384

noncomputable section

namespace Res

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem row (t : Fin cfg0.N) : defs₀ (F := F) .tc cfg0.body (cfg0.bodyArgs t (cfg0.slots t)) = bodyAt0 t := by
  unfold defs₀; rw [Defs.onTc_tc]

/-- The resources outside the windows: the scratch and the generator register. -/
theorem rest_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]

/-- The proof data in which nothing is said of what the staging buffers hold. -/
def silent (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

theorem silent_A (c : Dev nD) (w : Fin cfg0.W) : (silent m 0 c).A w = V m c (Pipeline.arrRef spec0 w) := by dsimp only [silent]

theorem silent_body (c : Dev nD) : BodyObligationLoose (silent m 0 c) (defs₀ (F := F)) Variants.none () Set.univ (fun _ => true) := by
  intro t
  rw [row]
  dsimp only
  rw [show (silent m 0 c).Φ t.succ = (Pipeline.ΦA spec0 c : sProp 𝕄) from rfl, show (silent m 0 c).Φ t.castSucc = (Pipeline.ΦA spec0 c : sProp 𝕄) from rfl,
    show (silent m 0 c).owesAt () t.succ = (silent m 0 c).owesAt () t.castSucc from rfl, rest_eq]
  show iprop(_ ∗ _ ∗ bigSep (Finset.univ : Finset (Fin 4)) _) ⊢ wp _ _ _ _ (fun _ => iprop(_ ∗ _ ∗ bigSep (Finset.univ : Finset (Fin 4)) _))
  simp only [bigSep_W0]
  iintro ⟨⟨⟨%s, HS⟩, Hg⟩, Ho, ⟨%x, H0⟩, ⟨%w, H1⟩, ⟨%r, H2⟩, ⟨%o, H3⟩⟩
  iapply (body c (grid0.coords t) _ _ _ _ _ _ _ _ _ _ x w r o s Set.univ _)
  isplitl [H0]; · iexact H0
  isplitl [H1]; · iexact H1
  isplitl [H2]; · iexact H2
  isplitl [H3]; · iexact H3
  isplitl [HS]; · iexact HS
  iintro ⟨G0, G1, G2, G3, GS⟩
  isplitl [GS Hg]
  · isplitl [GS]; · iexists _; iexact GS
    iexact Hg
  isplitl [Ho]; · iexact Ho
  isplitl [G0]; · iexists _; iexact G0
  isplitl [G1]; · iexists _; iexact G1
  isplitl [G2]; · iexists _; iexact G2
  iexists _; iexact G3

set_option backward.isDefEq.respectTransparency.types false in
theorem run : θ_run defs (onTc (τ := τ) (main (F := F))) (s₀ m ρ)
    (fun r => RDat.FramePost cfg0 (fun c => (silent m 0 c).toRForget (fun _ => true)) (V m) r ∧ r.2.sem = (fun _ => 0)) :=
  Pipeline.θ_run_frame_forget cfgs (silent m) 0 launch0 defs₀ Variants.none (fun _ => true) m ρ main (silent_body m)
    (fun c => (silent m 0 c).share_full fun _ => rfl) (fun _ _ => rfl) (V := V m) (hmain := hmain m Variants.none) (hA := silent_A m) (hΦ := fun _ _ => rfl)
    (Q' := _) (hQ' := fun _ h => h)

/-- The arguments end as they began, over any reading of the floats. -/
theorem kept_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = (fun _ => 0)) :=
  (θ_run defs _ _).mono (fun _ h => ⟨fun c => ⟨(RDat.FramePost.arr_in h.1 c 0 rfl).trans ((silent_A m c 0).trans (V_main_arg0 m c)),
    (RDat.FramePost.arr_in h.1 c 1 rfl).trans ((silent_A m c 1).trans (V_main_arg1 m c)),
    (RDat.FramePost.arr_in h.1 c 2 rfl).trans ((silent_A m c 2).trans (V_main_arg2 m c))⟩, h.2⟩) (run m ρ)

end Res

end
-- ==== Proof.ResValue.lean ====
/- The dense product with a residual at the extended reals: what each point leaves in its block of the result. -/
module

public import proofs.«01_k».proof.Proof.Dense
public import proofs.«01_k».proof.Proof.ResFrame
public import Idealize.ShloMosaic.Lib.Pipeline.ValueKit

@[expose] public section

set_option maxRecDepth 16384

noncomputable section

namespace Res

open Cert.Kernel2Ideal Cert.Kernel2Ideal.Gen
open Idealize.ShloMosaic Idealize.ShloMosaic.TcCoe Idealize.SL.Sem

/-- The result in closed form: the residual plus the product. -/
def model (x : S9280x2048.Idx → EReal) (w : S2048x2048.Idx → EReal) (r : S9280x2048.Idx → EReal) : S9280x2048.Idx → EReal :=
  fun i => r i + Dense.product x w (i 0) (i 1)

theorem pay2_at (r : Vec Ideal S512x1024 .f32) (x : Vec Ideal S512x2048 .f32) (s : Vec Ideal S2048x1024 .bf16) (i : S512x1024.Idx) :
    k0_pay2 r x s i = r i + Dense.product x s (i 0) (i 1) := by
  rw [eq_ix2 i]
  unfold k0_pay2 Dense.product
  pointwise

theorem pay1_at (w : Vec Ideal S2048x1024 .f32) : k0_pay1 w = w := by
  funext i
  rw [eq_ix2 i]
  unfold k0_pay1
  pointwise

theorem col (t : Fin cfg0.N) : (grid0.coords t 0).val = t.val / 19 := (by decide +kernel : ∀ t : Fin grid0.N, (grid0.coords t 0).val = t.val / 19) t
theorem rowb (t : Fin cfg0.N) : (grid0.coords t 1).val = t.val % 19 := (by decide +kernel : ∀ t : Fin grid0.N, (grid0.coords t 1).val = t.val % 19) t
theorem index0 (t : Fin cfg0.N) : win0_0.index t = ![t.val % 19, 0] := (by decide +kernel : ∀ t : Fin grid0.N, win0_0.index t = ![t.val % 19, 0]) t
theorem index1 (t : Fin cfg0.N) : win0_1.index t = ![0, t.val / 19] := (by decide +kernel : ∀ t : Fin grid0.N, win0_1.index t = ![0, t.val / 19]) t
theorem index2 (t : Fin cfg0.N) : win0_2.index t = ![t.val % 19, t.val / 19] := (by decide +kernel : ∀ t : Fin grid0.N, win0_2.index t = ![t.val % 19, t.val / 19]) t
theorem index3 (t : Fin cfg0.N) : win0_3.index t = ![t.val % 19, t.val / 19] := (by decide +kernel : ∀ t : Fin grid0.N, win0_3.index t = ![t.val % 19, t.val / 19]) t
theorem moved0 (t : Fin cfg0.N) : win0_0.xsize (grid0.coords t) = ![win0_3.xsize (grid0.coords t) 0, 2048] :=
  (by decide +kernel : ∀ t : Fin grid0.N, win0_0.xsize (grid0.coords t) = ![win0_3.xsize (grid0.coords t) 0, 2048]) t
theorem moved2 (t : Fin cfg0.N) : win0_2.xsize (grid0.coords t) = win0_3.xsize (grid0.coords t) :=
  (by decide +kernel : ∀ t : Fin grid0.N, win0_2.xsize (grid0.coords t) = win0_3.xsize (grid0.coords t)) t
theorem fresh_iff (t : Fin cfg0.N) : fresh (grid0.coords t) ↔ t.val % 19 = 0 := by
  unfold fresh
  exact (by decide +kernel : ∀ t : Fin grid0.N, (Scalar.cmpi .ne (Scalar.extui (Scalar.cmpi .eq (BitVec.ofNat 32 (grid0.coords t 1).val) 0#32)) 0#32 = 1#1) ↔ t.val % 19 = 0) t

variable (m : (ℓ : Loc nD τ sig) → Buf (Elt Ideal) ℓ)

/-- The weights' block at a point is the columns of the point's column block. -/
theorem weights (c : Dev nD) (t : Fin cfg0.N) : (iblk m c 1 t : S2048x1024.Idx → EReal) = Dense.columns 1024 (V m c main_arg1 : S2048x2048.Idx → EReal) (t.val / 19) := by
  funext i
  have ht : t.val < 38 := t.isLt
  unfold Dense.columns
  blk_simp [iblk, V, index1]
  blk_ext [index1]
  rw [Fin.val_ofNat]
  omega

/-- Inside the array, the entries' block at a point is the rows of the point's row block. -/
theorem entries (c : Dev nD) (t : Fin cfg0.N) (d : win0_0.block.Idx → EReal) (y : (win0_3.xblock (grid0.coords t)).Idx) (k : Fin 2048) :
    win0_0.fill (grid0.coords t) d (iblk m c 0 t) (ix2 (win0_3.xinj (grid0.coords t) y 0) k)
      = (V m c main_arg0 : S9280x2048.Idx → EReal) (ix2 ((win0_3.blk t).view.emb y 0) k) := by
  rw [Dense.fill_of_lt]
  swap
  · rw [moved0]; intro a; fin_cases a
    · exact (y 0).isLt
    · exact k.isLt
  blk_simp [iblk, V, index0, index3]
  blk_ext [index0, index3]

theorem residual (c : Dev nD) (t : Fin cfg0.N) (d : win0_2.block.Idx → EReal) (y : (win0_3.xblock (grid0.coords t)).Idx) :
    win0_2.fill (grid0.coords t) d (iblk m c 2 t) (win0_3.xinj (grid0.coords t) y) = (V m c main_arg2 : S9280x2048.Idx → EReal) ((win0_3.blk t).view.emb y) := by
  rw [Dense.fill_of_lt]
  swap
  · rw [moved2]; intro a; exact (y a).isLt
  blk_simp [iblk, V, index2, index3]
  blk_ext [index2, index3]

/-- What a point writes back is its block of the closed form. -/
theorem written (c : Dev nD) (t : Fin cfg0.N) (d0 : win0_0.block.Idx → EReal) (d2 : win0_2.block.Idx → EReal) :
    win0_3.cut (grid0.coords t) (k0_pay2 (win0_2.fill (grid0.coords t) d2 (iblk m c 2 t)) (win0_0.fill (grid0.coords t) d0 (iblk m c 0 t))
        (Dense.columns 1024 (V m c main_arg1 : S2048x2048.Idx → EReal) (t.val / 19)))
      = (win0_3.blk t).view.read (Elt Ideal) (model (V m c main_arg0) (V m c main_arg1) (V m c main_arg2)) := by
  funext y
  have ht : t.val < 38 := t.isLt
  rw [Pipeline.Window.cut_apply]
  refine (pay2_at _ _ _ (win0_3.xinj (grid0.coords t) y)).trans ?_
  rw [residual]
  show _ = model _ _ _ ((win0_3.blk t).view.emb y)
  unfold model Dense.product
  congr 1
  refine Finset.sum_congr rfl fun k _ => ?_
  rw [entries]
  congr 1
  unfold Dense.columns
  have hy : (y 1).val < 1024 := lt_of_lt_of_le (y 1).isLt (win0_3.xsize_le (grid0.coords t) 1)
  blk_ext [index3]
  rw [Fin.val_ofNat]
  omega

end Res

end
-- ==== Proof.ResRun.lean ====
/- The run of the dense product with a residual at the extended reals: its result is the closed form. -/
module

public import proofs.«01_k».proof.Proof.ResValue

@[expose] public section

set_option maxRecDepth 16384

noncomputable section

namespace Res

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The result's closed form at a core's arguments. -/
def result (c : Dev nD) : S9280x2048.Idx → EReal := model (V m c main_arg0) (V m c main_arg1) (V m c main_arg2)

/-- What holds before point `n`: past a column block's first point the scratch holds that block of the weights. -/
def held (c : Dev nD) (n : ℕ) : sProp 𝕄 :=
  iprop((∃ d, ⌜n % 19 ≠ 0 → d = Dense.columns 1024 (V m c main_arg1 : S2048x2048.Idx → EReal) (n / 19)⌝ ∗ owns (c : Thread nD τ) (Memref.whole cc0_scratch0) fullShare d)
    ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => win0_2.fill (grid0.coords t) (fun _ => (0 : EReal)) (iblk m c 2 t)
    | ⟨3, _⟩ => win0_3.fill (grid0.coords t) (fun _ => (0 : EReal)) ((win0_3.blk t).view.read (Elt Ideal) (result m c))
  Φ t := held m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = win0_0.fill (grid0.coords t) (fun _ => (0 : EReal)) (iblk m c 0 t) := by dsimp only [dats]
theorem after1 (c : Dev nD) (t : Fin cfg0.N) : (dats m 0 c).after 1 t = iblk m c 1 t := by dsimp only [dats]
theorem after2 (c : Dev nD) (t : Fin cfg0.N) : (dats m 0 c).after 2 t = win0_2.fill (grid0.coords t) (fun _ => (0 : EReal)) (iblk m c 2 t) := by dsimp only [dats]
theorem after3 (c : Dev nD) (t : Fin cfg0.N) : (dats m 0 c).after 3 t = win0_3.fill (grid0.coords t) (fun _ => (0 : EReal)) ((win0_3.blk t).view.read (Elt Ideal) (result m c)) := by dsimp only [dats]

theorem before0 (c : Dev nD) (t : Fin cfg0.N) (d) : (dats m 0 c).before 0 t d = win0_0.fill (grid0.coords t) d (iblk m c 0 t) := by
  unfold Dat.before; rw [if_pos (fetch0_0 t)]; rfl
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = win0_2.fill (grid0.coords t) d (iblk m c 2 t) := by
  unfold Dat.before; rw [if_pos (fetch0_2 t)]; rfl

/-- After a point the scratch holds the weights' block of the point's columns. -/
theorem kept_eq (c : Dev nD) (t : Fin cfg0.N) (s : Vec Ideal S2048x1024 .bf16)
    (hs : t.val % 19 ≠ 0 → s = Dense.columns 1024 (V m c main_arg1 : S2048x2048.Idx → EReal) (t.val / 19)) :
    kept (grid0.coords t) (iblk m c 1 t) s = Dense.columns 1024 (V m c main_arg1 : S2048x2048.Idx → EReal) (t.val / 19) := by
  unfold kept
  by_cases h : t.val % 19 = 0
  · rw [if_pos ((fresh_iff t).mpr h)]; exact (pay1_at _).trans (weights m c t)
  · rw [if_neg (fun h' => h ((fresh_iff t).mp h')), hs h]

theorem sound (c : Dev nD) : BodyObligationLoose (dats m 0 c) (defs₀ (F := Ideal)) Variants.none () Set.univ := by
  intro t
  rw [row]
  dsimp only
  rw [show (dats m 0 c).Φ t.succ = held m c (t.val + 1) from rfl, show (dats m 0 c).Φ t.castSucc = held m c t.val from rfl,
    show (dats m 0 c).owesAt () t.succ = (dats m 0 c).owesAt () t.castSucc from rfl]
  show iprop(_ ∗ _ ∗ bigSep (Finset.univ : Finset (Fin 4)) _) ⊢ wp _ _ _ _ (fun _ => iprop(_ ∗ _ ∗ bigSep (Finset.univ : Finset (Fin 4)) _))
  simp only [bigSep_W0]
  simp only [before0, before1, before2, after0, after1, after2, after3]
  unfold held
  iintro ⟨⟨⟨%s, %hs, HS⟩, Hg⟩, Ho, ⟨%x, H0⟩, ⟨%w, H1⟩, ⟨%r, H2⟩, ⟨%o, H3⟩⟩
  iapply (body c (grid0.coords t) _ _ _ _ _ _ _ _ _ _ (win0_0.fill (grid0.coords t) x (iblk m c 0 t)) (iblk m c 1 t) (win0_2.fill (grid0.coords t) r (iblk m c 2 t)) _ s Set.univ _)
  rw [kept_eq m c t s hs]
  isplitl [H0]; · iexact H0
  isplitl [H1]; · iexact H1
  isplitl [H2]; · iexact H2
  isplitl [H3]; · iexact H3
  isplitl [HS]; · iexact HS
  iintro ⟨G0, G1, G2, G3, GS⟩
  isplitl [GS Hg]
  · isplitl [GS]
    · iexists _; isplitr
      swap; · iexact GS
      ipureintro
      intro h
      rw [show (t.val + 1) / 19 = t.val / 19 by omega]
    iexact Hg
  isplitl [Ho]; · iexact Ho
  isplitl [G0]
  · iexists x
    rw [Pipeline.Window.cut_fill]
    iexact G0
  isplitl [G1]; · iexact G1
  isplitl [G2]
  · iexists r
    rw [Pipeline.Window.cut_fill]
    iexact G2
  iexists (k0_pay2 (win0_2.fill (grid0.coords t) r (iblk m c 2 t)) (win0_0.fill (grid0.coords t) x (iblk m c 0 t))
    (Dense.columns 1024 (V m c main_arg1 : S2048x2048.Idx → EReal) (t.val / 19)))
  rw [Pipeline.Window.cut_fill]
  unfold result
  rw [← written m c t x r, Pipeline.Window.fill_cut]
  iexact G3

theorem held_start (c : Dev nD) : (Pipeline.ΦA spec0 c : sProp 𝕄) ⊢ held m c 0 := by
  rw [rest_eq]; unfold held
  iintro ⟨⟨%d, HS⟩, Hg⟩
  isplitl [HS]
  · iexists d; isplitr
    · ipureintro; intro h; exact absurd rfl h
    iexact HS
  iexact Hg

theorem held_end (c : Dev nD) (n : ℕ) : held m c n ⊢ (Pipeline.ΦA spec0 c : sProp 𝕄) := by
  rw [rest_eq]; unfold held
  iintro ⟨⟨%d, %hd, HS⟩, Hg⟩
  isplitl [HS]
  · iexists d; iexact HS
  iexact Hg

theorem array (c : Dev nD) : (dats m 0 c).arrAt 3 cfg0.N = result m c := by
  refine (dats m 0 c).arrAt_eq_of_covers 3 (result m c) (by decide +kernel) fun t hf y => ?_
  rw [after3]
  exact congrFun (win0_3.cut_fill (grid0.coords t) (fun _ => (0 : EReal)) ((win0_3.blk t).view.read (Elt Ideal) (result m c))) y

set_option backward.isDefEq.respectTransparency.types false in
theorem run_value : θ_run defs (onTc (τ := τ) (main (F := Ideal))) (s₀ m ρ) (Pipeline.FramePost cfgs (dats m) 0 (V m)) :=
  Pipeline.θ_run_frame_track cfgs (dats m) 0 launch0 defs₀ Variants.none m ρ main (sound m)
    (fun c => (dats m 0 c).share_full fun _ => rfl) (fun _ _ => rfl) (V := V m) (hmain := hmain m Variants.none) (hA := A_eq m)
    (hin := held_start m) (hout := fun c => held_end m c _)

/-- The result is the closed form, and the arguments end as they began. -/
theorem value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (array m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_value m ρ)

end Res

end
-- ==== Proof.ResEqual.lean ====
/- The dense product with a residual: the closed form is what the reference computes. -/
module

public import proofs.«01_k».proof.Proof.ResRun
public import proofs.«01_k».proof.Proof.Gen.Reference2Ideal

@[expose] public section

noncomputable section

namespace Res

open Idealize.ShloMosaic

theorem reference (x r : Cert.Reference2Ideal.S9280x2048.Idx → EReal) (w : Cert.Reference2Ideal.S2048x2048.Idx → EReal) :
    (addf r (Host.dotGeneral (F := Ideal) (φ₁ := .f32) (φ₂ := .f32) Cert.Reference2Ideal.dot_S9280x2048_S2048x2048_S9280x2048_1_0_0_1_n_n none x w) : FVec Ideal Cert.Reference2Ideal.S9280x2048 .f32)
      = model x w r := by
  funext i
  rw [eq_ix2 i]
  unfold model Dense.product
  pointwise

end Res

end
-- ==== Proof.MixBody.lean ====
/- The body of the dense product of the mixed tokens: what it leaves in its buffers. -/
module

public import proofs.«01_k».proof.Proof.Gen.Kernel3Ideal.Frame
public import proofs.«01_k».proof.Proof.Gen.Kernel3Ideal.Skeleton
public import Idealize.ShloMosaic.Lib.VecWindow

@[expose] public section

set_option maxRecDepth 16384

noncomputable section

namespace Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body takes a new column block of the weights at this point: it is the first row block. -/
def fresh (i : grid0.Coords) : Prop :=
  Scalar.cmpi .ne (Scalar.extui (Scalar.cmpi .eq (BitVec.ofNat 32 (i 1).val) 0#32)) 0#32 = 1#1

open Classical in
/-- What the scratch holds after the body: the narrowed column block where it is taken anew, else what it held. -/
def kept (i : grid0.Coords) (w : Vec F S2048x1024 .f32) (s : Vec F S2048x1024 .bf16) : Vec F S2048x1024 .bf16 :=
  if fresh i then k0_pay1 w else s

theorem body (c : Dev nD) (i : grid0.Coords)
    (arg2 : Memref sig .tc .vmem S512x2048 .f32) (harg2 : arg2.IsWhole) (arg3 : Memref sig .tc .vmem S512x2048 .f32) (harg3 : arg3.IsWhole)
    (arg4 : Memref sig .tc .vmem S1x2048 .f32) (harg4 : arg4.IsWhole) (arg5 : Memref sig .tc .vmem S2048x1024 .f32) (harg5 : arg5.IsWhole)
    (arg6 : Memref sig .tc .vmem S512x1024 .f32) (harg6 : arg6.IsWhole) (arg7 : Memref sig .tc .vmem S2048x1024 .bf16) (harg7 : arg7.IsWhole)
    (x y : Vec F S512x2048 .f32) (u : Vec F S1x2048 .f32) (w : Vec F S2048x1024 .f32) (o : Vec F S512x1024 .f32) (s : Vec F S2048x1024 .bf16)
    (E : Set ℕ) (K : PUnit → sProp 𝕄) :
    iprop(owns (c : Thread nD τ) arg2 fullShare x ∗ owns (c : Thread nD τ) arg3 fullShare y ∗ owns (c : Thread nD τ) arg4 fullShare u
        ∗ owns (c : Thread nD τ) arg5 fullShare w ∗ owns (c : Thread nD τ) arg6 fullShare o ∗ owns (c : Thread nD τ) arg7 fullShare s
        ∗ (iprop(owns (c : Thread nD τ) arg2 fullShare x ∗ owns (c : Thread nD τ) arg3 fullShare y ∗ owns (c : Thread nD τ) arg4 fullShare u
            ∗ owns (c : Thread nD τ) arg5 fullShare w ∗ owns (c : Thread nD τ) arg6 fullShare (k0_pay2 x y u (kept i w s))
            ∗ owns (c : Thread nD τ) arg7 fullShare (kept i w s)) -∗ K ⟨⟩))
      ⊢ wp frame (wpE (defs₀ (F := F)) Variants.none c none) E
          (cc0_token_shift_matmul i arg2 harg2 arg3 harg3 arg4 harg4 arg5 harg5 arg6 harg6 arg7 harg7) K := by
  rw [cc0_token_shift_matmul_eq_skeleton]; unfold cc0_token_shift_matmul_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  by_cases hc : fresh i
  · have hc' := hc; unfold fresh at hc'
    sl_exec (disch := sl_exact hc')
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro
      rw [View.read_writes_full, View.readAt_full, hf0, View.readAt_full, hf1, View.readAt_full, hf2, kept, if_pos hc]; unfold body.sl.v12
      unfold body.sl.H5_1; rw [View.readCov_full, View.readAt_full, hf3]
    · iexists _; isplitr
      swap; · iexact H5
      ipureintro
      unfold body.sl.H5_1; rw [View.read_writes_full, View.readAt_full, hf3, kept, if_pos hc]
  · have hc' := hc; unfold fresh at hc'
    sl_exec (disch := sl_exact hc')
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro
      rw [View.read_writes_full, View.readAt_full, hf0, View.readAt_full, hf1, View.readAt_full, hf2, View.readAt_full, hf5, kept, if_neg hc]
    · iexists _; isplitr
      swap; · iexact H5
      ipureintro
      rw [hf5, kept, if_neg hc]

end Mix

end
-- ==== Proof.MixFrame.lean ====
/- The run of the dense product of the mixed tokens, over any reading of the floats: it leaves its arguments as they were. -/
module

public import proofs.«01_k».proof.Proof.MixBody
public import proofs.«01_k».proof.Proof.Gen.Kernel3Ideal
public import Idealize.ShloMosaic.Lib.Quiescent

@[expose] public section

set_option maxRecDepth 16384

noncomputable section

namespace Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem row (t : Fin cfg0.N) : defs₀ (F := F) .tc cfg0.body (cfg0.bodyArgs t (cfg0.slots t)) = bodyAt0 t := by
  unfold defs₀; rw [Defs.onTc_tc]

/-- The resources outside the windows: the scratch and the generator register. -/
theorem rest_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]

/-- The proof data in which nothing is said of what the staging buffers hold. -/
def silent (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

theorem silent_A (c : Dev nD) (w : Fin cfg0.W) : (silent m 0 c).A w = V m c (Pipeline.arrRef spec0 w) := by dsimp only [silent]

theorem silent_body (c : Dev nD) : BodyObligationLoose (silent m 0 c) (defs₀ (F := F)) Variants.none () Set.univ (fun _ => true) := by
  intro t
  rw [row]
  dsimp only
  rw [show (silent m 0 c).Φ t.succ = (Pipeline.ΦA spec0 c : sProp 𝕄) from rfl, show (silent m 0 c).Φ t.castSucc = (Pipeline.ΦA spec0 c : sProp 𝕄) from rfl,
    show (silent m 0 c).owesAt () t.succ = (silent m 0 c).owesAt () t.castSucc from rfl, rest_eq]
  show iprop(_ ∗ _ ∗ bigSep (Finset.univ : Finset (Fin 5)) _) ⊢ wp _ _ _ _ (fun _ => iprop(_ ∗ _ ∗ bigSep (Finset.univ : Finset (Fin 5)) _))
  simp only [bigSep_W0]
  iintro ⟨⟨⟨%s, HS⟩, Hg⟩, Ho, ⟨%x, H0⟩, ⟨%y, H1⟩, ⟨%u, H2⟩, ⟨%w, H3⟩, ⟨%o, H4⟩⟩
  iapply (body c (grid0.coords t) _ _ _ _ _ _ _ _ _ _ _ _ x y u w o s Set.univ _)
  isplitl [H0]; · iexact H0
  isplitl [H1]; · iexact H1
  isplitl [H2]; · iexact H2
  isplitl [H3]; · iexact H3
  isplitl [H4]; · iexact H4
  isplitl [HS]; · iexact HS
  iintro ⟨G0, G1, G2, G3, G4, GS⟩
  isplitl [GS Hg]
  · isplitl [GS]; · iexists _; iexact GS
    iexact Hg
  isplitl [Ho]; · iexact Ho
  isplitl [G0]; · iexists _; iexact G0
  isplitl [G1]; · iexists _; iexact G1
  isplitl [G2]; · iexists _; iexact G2
  isplitl [G3]; · iexists _; iexact G3
  iexists _; iexact G4

set_option backward.isDefEq.respectTransparency.types false in
theorem run : θ_run defs (onTc (τ := τ) (main (F := F))) (s₀ m ρ)
    (fun r => RDat.FramePost cfg0 (fun c => (silent m 0 c).toRForget (fun _ => true)) (V m) r ∧ r.2.sem = (fun _ => 0)) :=
  Pipeline.θ_run_frame_forget cfgs (silent m) 0 launch0 defs₀ Variants.none (fun _ => true) m ρ main (silent_body m)
    (fun c => (silent m 0 c).share_full fun _ => rfl) (fun _ _ => rfl) (V := V m) (hmain := hmain m Variants.none) (hA := silent_A m) (hΦ := fun _ _ => rfl)
    (Q' := _) (hQ' := fun _ h => h)

/-- The arguments end as they began, over any reading of the floats. -/
theorem kept_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = (fun _ => 0)) :=
  (θ_run defs _ _).mono (fun _ h => ⟨fun c => ⟨(RDat.FramePost.arr_in h.1 c 0 rfl).trans ((silent_A m c 0).trans (V_main_arg0 m c)),
    (RDat.FramePost.arr_in h.1 c 1 rfl).trans ((silent_A m c 1).trans (V_main_arg1 m c)),
    ((h.1 c).2 main_arg2 (Pipeline.mem_restRefs_of main_arg2 (by decide) (by decide))).trans (V_main_arg2 m c),
    (RDat.FramePost.arr_in h.1 c 3 rfl).trans ((silent_A m c 3).trans (V_main_arg3 m c))⟩, h.2⟩) (run m ρ)

end Mix

end
-- ==== Proof.MixValue.lean ====
/- The dense product of the mixed tokens at the extended reals: what each point leaves in its block of the result. -/
module

public import proofs.«01_k».proof.Proof.Dense
public import proofs.«01_k».proof.Proof.MixFrame
public import Idealize.ShloMosaic.Lib.Pipeline.ValueKit

@[expose] public section

set_option maxRecDepth 16384

noncomputable section

namespace Mix

open Cert.Kernel3Ideal Cert.Kernel3Ideal.Gen
open Idealize.ShloMosaic Idealize.ShloMosaic.TcCoe Idealize.SL.Sem

/-- A token mixed with the one before it. -/
def mixed (x y : S9280x2048.Idx → EReal) (u : S1x2048.Idx → EReal) : S9280x2048.Idx → EReal :=
  fun i => x i + (y i - x i) * u (ix2 0 (i 1))

/-- The result in closed form: the product of the mixed tokens. -/
def model (x y : S9280x2048.Idx → EReal) (u : S1x2048.Idx → EReal) (w : S2048x2048.Idx → EReal) : S9280x2048.Idx → EReal :=
  fun i => Dense.product (mixed x y u) w (i 0) (i 1)

theorem pay2_at (x y : Vec Ideal S512x2048 .f32) (u : Vec Ideal S1x2048 .f32) (s : Vec Ideal S2048x1024 .bf16) (i : S512x1024.Idx) :
    k0_pay2 x y u s i = ∑ k : Fin 2048, (x (ix2 (i 0) k) + (y (ix2 (i 0) k) - x (ix2 (i 0) k)) * u (ix2 0 k)) * s (ix2 k (i 1)) := by
  rw [eq_ix2 i]
  unfold k0_pay2
  pointwise

theorem pay1_at (w : Vec Ideal S2048x1024 .f32) : k0_pay1 w = w := by
  funext i
  rw [eq_ix2 i]
  unfold k0_pay1
  pointwise

theorem col (t : Fin cfg0.N) : (grid0.coords t 0).val = t.val / 19 := (by decide +kernel : ∀ t : Fin grid0.N, (grid0.coords t 0).val = t.val / 19) t
theorem rowb (t : Fin cfg0.N) : (grid0.coords t 1).val = t.val % 19 := (by decide +kernel : ∀ t : Fin grid0.N, (grid0.coords t 1).val = t.val % 19) t
theorem index0 (t : Fin cfg0.N) : win0_0.index t = ![t.val % 19, 0] :=
  (by decide +kernel : ∀ t : Fin grid0.N, win0_0.index t = ![t.val % 19, 0]) t
theorem index1 (t : Fin cfg0.N) : win0_1.index t = ![t.val % 19, 0] :=
  (by decide +kernel : ∀ t : Fin grid0.N, win0_1.index t = ![t.val % 19, 0]) t
theorem index2 (t : Fin cfg0.N) : win0_2.index t = ![0, 0] :=
  (by decide +kernel : ∀ t : Fin grid0.N, win0_2.index t = ![0, 0]) t
theorem index3 (t : Fin cfg0.N) : win0_3.index t = ![0, t.val / 19] :=
  (by decide +kernel : ∀ t : Fin grid0.N, win0_3.index t = ![0, t.val / 19]) t
theorem index4 (t : Fin cfg0.N) : win0_4.index t = ![t.val % 19, t.val / 19] :=
  (by decide +kernel : ∀ t : Fin grid0.N, win0_4.index t = ![t.val % 19, t.val / 19]) t
theorem moved0 (t : Fin cfg0.N) : win0_0.xsize (grid0.coords t) = ![win0_4.xsize (grid0.coords t) 0, 2048] :=
  (by decide +kernel : ∀ t : Fin grid0.N, win0_0.xsize (grid0.coords t) = ![win0_4.xsize (grid0.coords t) 0, 2048]) t
theorem moved1 (t : Fin cfg0.N) : win0_1.xsize (grid0.coords t) = ![win0_4.xsize (grid0.coords t) 0, 2048] :=
  (by decide +kernel : ∀ t : Fin grid0.N, win0_1.xsize (grid0.coords t) = ![win0_4.xsize (grid0.coords t) 0, 2048]) t
theorem fresh_iff (t : Fin cfg0.N) : fresh (grid0.coords t) ↔ t.val % 19 = 0 := by
  unfold fresh
  exact (by decide +kernel : ∀ t : Fin grid0.N, (Scalar.cmpi .ne (Scalar.extui (Scalar.cmpi .eq (BitVec.ofNat 32 (grid0.coords t 1).val) 0#32)) 0#32 = 1#1) ↔ t.val % 19 = 0) t

variable (m : (ℓ : Loc nD τ sig) → Buf (Elt Ideal) ℓ)

/-- The weights' block at a point is the columns of the point's column block. -/
theorem weights (c : Dev nD) (t : Fin cfg0.N) : (iblk m c 3 t : S2048x1024.Idx → EReal) = Dense.columns 1024 (V m c main_arg3 : S2048x2048.Idx → EReal) (t.val / 19) := by
  funext i
  have ht : t.val < 38 := t.isLt
  unfold Dense.columns
  blk_simp [iblk, index3]
  blk_ext [index3]
  rw [Fin.val_ofNat]
  omega

/-- The mixing weights' block is the whole of them at every point. -/
theorem mixing (c : Dev nD) (t : Fin cfg0.N) : (iblk m c 2 t : S1x2048.Idx → EReal) = (V m c main_v0 : S1x2048.Idx → EReal) := by
  funext i
  blk_simp [iblk, index2]
  blk_ext [index2]

/-- Inside the array, the tokens' block at a point is the rows of the point's row block. -/
theorem entries (c : Dev nD) (t : Fin cfg0.N) (d : win0_0.block.Idx → EReal) (y : (win0_4.xblock (grid0.coords t)).Idx) (k : Fin 2048) :
    win0_0.fill (grid0.coords t) d (iblk m c 0 t) (ix2 (win0_4.xinj (grid0.coords t) y 0) k)
      = (V m c main_arg0 : S9280x2048.Idx → EReal) (ix2 ((win0_4.blk t).view.emb y 0) k) := by
  rw [Dense.fill_of_lt]
  swap
  · rw [moved0]; intro a; fin_cases a
    · exact (y 0).isLt
    · exact k.isLt
  blk_simp [iblk, index0, index4]
  blk_ext [index0, index4]

/-- The same of the tokens before them. -/
theorem before (c : Dev nD) (t : Fin cfg0.N) (d : win0_1.block.Idx → EReal) (y : (win0_4.xblock (grid0.coords t)).Idx) (k : Fin 2048) :
    win0_1.fill (grid0.coords t) d (iblk m c 1 t) (ix2 (win0_4.xinj (grid0.coords t) y 0) k)
      = (V m c main_arg1 : S9280x2048.Idx → EReal) (ix2 ((win0_4.blk t).view.emb y 0) k) := by
  rw [Dense.fill_of_lt]
  swap
  · rw [moved1]; intro a; fin_cases a
    · exact (y 0).isLt
    · exact k.isLt
  blk_simp [iblk, index1, index4]
  blk_ext [index1, index4]

/-- What a point writes back is its block of the closed form. -/
theorem written (c : Dev nD) (t : Fin cfg0.N) (d0 : win0_0.block.Idx → EReal) (d1 : win0_1.block.Idx → EReal) :
    win0_4.cut (grid0.coords t) (k0_pay2 (win0_0.fill (grid0.coords t) d0 (iblk m c 0 t)) (win0_1.fill (grid0.coords t) d1 (iblk m c 1 t)) (iblk m c 2 t)
        (Dense.columns 1024 (V m c main_arg3 : S2048x2048.Idx → EReal) (t.val / 19)))
      = (win0_4.blk t).view.read (Elt Ideal) (model (V m c main_arg0) (V m c main_arg1) (V m c main_v0) (V m c main_arg3)) := by
  funext y
  have ht : t.val < 38 := t.isLt
  rw [Pipeline.Window.cut_apply]
  refine (pay2_at _ _ _ _ (win0_4.xinj (grid0.coords t) y)).trans ?_
  show _ = model _ _ _ _ ((win0_4.blk t).view.emb y)
  unfold model Dense.product
  refine Finset.sum_congr rfl fun k _ => ?_
  rw [entries, before, mixing]
  refine congrArg₂ (· * ·) rfl ?_
  unfold Dense.columns
  have hy : (y 1).val < 1024 := lt_of_lt_of_le (y 1).isLt (win0_4.xsize_le (grid0.coords t) 1)
  blk_ext [index4]
  rw [Fin.val_ofNat]
  omega

end Mix

end
-- ==== Proof.MixRun.lean ====
/- The run of the dense product of the mixed tokens at the extended reals: its result is the closed form. -/
module

public import proofs.«01_k».proof.Proof.MixValue

@[expose] public section

set_option maxRecDepth 16384

noncomputable section

namespace Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The result's closed form at a core's arguments. -/
def result (c : Dev nD) : S9280x2048.Idx → EReal := model (V m c main_arg0) (V m c main_arg1) (V m c main_v0) (V m c main_arg3)

/-- What holds before point `n`: past a column block's first point the scratch holds that block of the weights. -/
def held (c : Dev nD) (n : ℕ) : sProp 𝕄 :=
  iprop((∃ d, ⌜n % 19 ≠ 0 → d = Dense.columns 1024 (V m c main_arg3 : S2048x2048.Idx → EReal) (n / 19)⌝ ∗ owns (c : Thread nD τ) (Memref.whole cc0_scratch0) fullShare d)
    ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => iblk m c 2 t
    | ⟨3, _⟩ => iblk m c 3 t
    | ⟨4, _⟩ => win0_4.fill (grid0.coords t) (fun _ => (0 : EReal)) ((win0_4.blk t).view.read (Elt Ideal) (result m c))
  Φ t := held m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = win0_0.fill (grid0.coords t) (fun _ => (0 : EReal)) (iblk m c 0 t) := by dsimp only [dats]
theorem after1 (c : Dev nD) (t : Fin cfg0.N) : (dats m 0 c).after 1 t = win0_1.fill (grid0.coords t) (fun _ => (0 : EReal)) (iblk m c 1 t) := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = win0_4.fill (grid0.coords t) (fun _ => (0 : EReal)) ((win0_4.blk t).view.read (Elt Ideal) (result m c)) := by dsimp only [dats]

theorem before0 (c : Dev nD) (t : Fin cfg0.N) (d) : (dats m 0 c).before 0 t d = win0_0.fill (grid0.coords t) d (iblk m c 0 t) := by
  unfold Dat.before; rw [if_pos (fetch0_0 t)]; rfl
theorem before1 (c : Dev nD) (t : Fin cfg0.N) (d) : (dats m 0 c).before 1 t d = win0_1.fill (grid0.coords t) d (iblk m c 1 t) := by
  unfold Dat.before; rw [if_pos (fetch0_1 t)]; rfl
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- After a point the scratch holds the weights' block of the point's columns. -/
theorem kept_eq (c : Dev nD) (t : Fin cfg0.N) (s : Vec Ideal S2048x1024 .bf16)
    (hs : t.val % 19 ≠ 0 → s = Dense.columns 1024 (V m c main_arg3 : S2048x2048.Idx → EReal) (t.val / 19)) :
    kept (grid0.coords t) (iblk m c 3 t) s = Dense.columns 1024 (V m c main_arg3 : S2048x2048.Idx → EReal) (t.val / 19) := by
  unfold kept
  by_cases h : t.val % 19 = 0
  · rw [if_pos ((fresh_iff t).mpr h)]; exact (pay1_at _).trans (weights m c t)
  · rw [if_neg (fun h' => h ((fresh_iff t).mp h')), hs h]

theorem sound (c : Dev nD) : BodyObligationLoose (dats m 0 c) (defs₀ (F := Ideal)) Variants.none () Set.univ := by
  intro t
  rw [row]
  dsimp only
  rw [show (dats m 0 c).Φ t.succ = held m c (t.val + 1) from rfl, show (dats m 0 c).Φ t.castSucc = held m c t.val from rfl,
    show (dats m 0 c).owesAt () t.succ = (dats m 0 c).owesAt () t.castSucc from rfl]
  show iprop(_ ∗ _ ∗ bigSep (Finset.univ : Finset (Fin 5)) _) ⊢ wp _ _ _ _ (fun _ => iprop(_ ∗ _ ∗ bigSep (Finset.univ : Finset (Fin 5)) _))
  simp only [bigSep_W0]
  simp only [before0, before1, before2, before3, after0, after1, after2, after3, after4]
  unfold held
  iintro ⟨⟨⟨%s, %hs, HS⟩, Hg⟩, Ho, ⟨%x, H0⟩, ⟨%y, H1⟩, ⟨%u, H2⟩, ⟨%w, H3⟩, ⟨%o, H4⟩⟩
  iapply (body c (grid0.coords t) _ _ _ _ _ _ _ _ _ _ _ _ (win0_0.fill (grid0.coords t) x (iblk m c 0 t)) (win0_1.fill (grid0.coords t) y (iblk m c 1 t)) (iblk m c 2 t) (iblk m c 3 t) _ s Set.univ _)
  rw [kept_eq m c t s hs]
  isplitl [H0]; · iexact H0
  isplitl [H1]; · iexact H1
  isplitl [H2]; · iexact H2
  isplitl [H3]; · iexact H3
  isplitl [H4]; · iexact H4
  isplitl [HS]; · iexact HS
  iintro ⟨G0, G1, G2, G3, G4, GS⟩
  isplitl [GS Hg]
  · isplitl [GS]
    · iexists _; isplitr
      swap; · iexact GS
      ipureintro
      intro h
      rw [show (t.val + 1) / 19 = t.val / 19 by omega]
    iexact Hg
  isplitl [Ho]; · iexact Ho
  isplitl [G0]
  · iexists x
    rw [Pipeline.Window.cut_fill]
    iexact G0
  isplitl [G1]
  · iexists y
    rw [Pipeline.Window.cut_fill]
    iexact G1
  isplitl [G2]; · iexact G2
  isplitl [G3]; · iexact G3
  iexists (k0_pay2 (win0_0.fill (grid0.coords t) x (iblk m c 0 t)) (win0_1.fill (grid0.coords t) y (iblk m c 1 t)) (iblk m c 2 t)
    (Dense.columns 1024 (V m c main_arg3 : S2048x2048.Idx → EReal) (t.val / 19)))
  rw [Pipeline.Window.cut_fill]
  unfold result
  rw [← written m c t x y, Pipeline.Window.fill_cut]
  iexact G4

theorem held_start (c : Dev nD) : (Pipeline.ΦA spec0 c : sProp 𝕄) ⊢ held m c 0 := by
  rw [rest_eq]; unfold held
  iintro ⟨⟨%d, HS⟩, Hg⟩
  isplitl [HS]
  · iexists d; isplitr
    · ipureintro; intro h; exact absurd rfl h
    iexact HS
  iexact Hg

theorem held_end (c : Dev nD) (n : ℕ) : held m c n ⊢ (Pipeline.ΦA spec0 c : sProp 𝕄) := by
  rw [rest_eq]; unfold held
  iintro ⟨⟨%d, %hd, HS⟩, Hg⟩
  isplitl [HS]
  · iexists d; iexact HS
  iexact Hg

theorem array (c : Dev nD) : (dats m 0 c).arrAt 4 cfg0.N = result m c := by
  refine (dats m 0 c).arrAt_eq_of_covers 4 (result m c) (by decide +kernel) fun t hf y => ?_
  rw [after4]
  exact congrFun (win0_4.cut_fill (grid0.coords t) (fun _ => (0 : EReal)) ((win0_4.blk t).view.read (Elt Ideal) (result m c))) y

set_option backward.isDefEq.respectTransparency.types false in
theorem run_value : θ_run defs (onTc (τ := τ) (main (F := Ideal))) (s₀ m ρ) (Pipeline.FramePost cfgs (dats m) 0 (V m)) :=
  Pipeline.θ_run_frame_track cfgs (dats m) 0 launch0 defs₀ Variants.none m ρ main (sound m)
    (fun c => (dats m 0 c).share_full fun _ => rfl) (fun _ _ => rfl) (V := V m) (hmain := hmain m Variants.none) (hA := A_eq m)
    (hin := held_start m) (hout := fun c => held_end m c _)

/-- The result is the closed form, and the arguments end as they began. -/
theorem value : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (array m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).1 3).trans (((dats m 0 c).arrAt_in 3 rfl _).trans ((A_eq m c 3).trans (V_main_arg3 m c)))⟩) (run_value m ρ)

end Mix

end
-- ==== Proof.MixEqual.lean ====
/- The dense product of the mixed tokens: the closed form is what the reference computes. -/
module

public import proofs.«01_k».proof.Proof.MixRun
public import proofs.«01_k».proof.Proof.Gen.Reference3Ideal

@[expose] public section

set_option maxRecDepth 16384

noncomputable section

namespace Mix

open Cert.Kernel3Ideal Cert.Kernel3Ideal.Gen
open Idealize.ShloMosaic Idealize.ShloMosaic.TcCoe Idealize.SL.Sem

variable (m : (ℓ : Loc nD τ sig) → Buf (Elt Ideal) ℓ)

/-- The mixing weights as the launch finds them: the argument as one row. -/
theorem row_of (c : Dev nD) (k : Fin 2048) : (V m c main_v0 : S1x2048.Idx → EReal) (ix2 0 k) = (m ((c.tc : Thread nD τ).loc main_arg2) : S2048.Idx → EReal) (ix1 k) := by
  unfold V
  rw [show StableHlo.after hostOps0 (fun b => m (c, b)) (Proc.tc.devRef main_v0) = shapeCast S1x2048 (m ((c.tc : Thread nD τ).loc main_arg2)) shapeCasts_S2048_S1x2048 by after_results; rfl]
  pointwise

theorem reference (x y : S9280x2048.Idx → EReal) (u : S2048.Idx → EReal) (v : S1x2048.Idx → EReal) (w : S2048x2048.Idx → EReal)
    (h : ∀ k, v (ix2 0 k) = u (ix1 k)) :
    (Host.dotGeneral (F := Ideal) (φ₁ := .f32) (φ₂ := .f32) Cert.Reference3Ideal.dot_S9280x2048_S2048x2048_S9280x2048_1_0_0_1_n_n none
        (addf (φ := .f32) x (mulf (subf (F := Ideal) (φ := .f32) y x) (broadcastInDim Cert.Reference3Ideal.S9280x2048 ![0, 1] Cert.Reference3Ideal.Gen.bcast_S1x2048_S9280x2048_0_1
          (broadcastInDim Cert.Reference3Ideal.S1x2048 ![1] Cert.Reference3Ideal.Gen.bcast_S2048_S1x2048_1 (u : FVec Ideal Cert.Reference3Ideal.S2048 .f32))))) w : FVec Ideal Cert.Reference3Ideal.S9280x2048 .f32)
      = model x y v w := by
  funext i
  rw [eq_ix2 i]
  unfold model Dense.product mixed
  pointwise
  simp only [h]

end Mix

end
-- ==== Proof.QkvBody.lean ====
/- The body of the joint product of queries, keys and values: what it leaves in its buffers. -/
module

public import proofs.«01_k».proof.Proof.Gen.Kernel4Ideal.Frame
public import proofs.«01_k».proof.Proof.Gen.Kernel4Ideal.Skeleton
public import Idealize.ShloMosaic.Lib.VecWindow

@[expose] public section

set_option maxRecDepth 16384

noncomputable section

namespace Qkv

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body takes a new column block of the weights at this point: it is the first row block. -/
def fresh (i : grid0.Coords) : Prop :=
  Scalar.cmpi .ne (Scalar.extui (Scalar.cmpi .eq (BitVec.ofNat 32 (i 1).val) 0#32)) 0#32 = 1#1

open Classical in
/-- What the scratch holds after the body: the narrowed column block where it is taken anew, else what it held. -/
def kept (i : grid0.Coords) (w : Vec F S2048x1024 .f32) (s : Vec F S2048x1024 .bf16) : Vec F S2048x1024 .bf16 :=
  if fresh i then k0_pay2 w else s

/-- The product of the entries and the scratch, the queries' and keys' heads normalised. -/
def block (i : grid0.Coords) (x : Vec F S512x2048 .f32) (s : Vec F S2048x1024 .bf16) (g h : Vec F S1x128 .f32) : Vec F S512x1024 .f32 :=
  k0_pay1 (BitVec.ofNat 32 (i 0).val) (k0_pay3 x s) (k0_pay4 i g h) (k0_pay5 i x s g h) (k0_pay6 i x s g h)
    (k0_pay7 (k0_pay3 x s) (k0_pay4 i g h)) (k0_pay8 (k0_pay3 x s) (k0_pay4 i g h)) (k0_pay9 (k0_pay3 x s) (k0_pay4 i g h))
    (k0_pay10 (k0_pay3 x s)) (k0_pay11 (k0_pay3 x s))

theorem body (c : Dev nD) (i : grid0.Coords)
    (arg2 : Memref sig .tc .vmem S512x2048 .f32) (harg2 : arg2.IsWhole) (arg3 : Memref sig .tc .vmem S2048x1024 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S512x1024 .f32) (harg6 : arg6.IsWhole) (arg7 : Memref sig .tc .vmem S2048x1024 .bf16) (harg7 : arg7.IsWhole)
    (x : Vec F S512x2048 .f32) (w : Vec F S2048x1024 .f32) (g h : Vec F S1x128 .f32) (o : Vec F S512x1024 .f32) (s : Vec F S2048x1024 .bf16)
    (E : Set ℕ) (K : PUnit → sProp 𝕄) :
    iprop(owns (c : Thread nD τ) arg2 fullShare x ∗ owns (c : Thread nD τ) arg3 fullShare w ∗ owns (c : Thread nD τ) arg4 fullShare g
        ∗ owns (c : Thread nD τ) arg5 fullShare h ∗ owns (c : Thread nD τ) arg6 fullShare o ∗ owns (c : Thread nD τ) arg7 fullShare s
        ∗ (iprop(owns (c : Thread nD τ) arg2 fullShare x ∗ owns (c : Thread nD τ) arg3 fullShare w ∗ owns (c : Thread nD τ) arg4 fullShare g
            ∗ owns (c : Thread nD τ) arg5 fullShare h ∗ owns (c : Thread nD τ) arg6 fullShare (block i x (kept i w s) g h)
            ∗ owns (c : Thread nD τ) arg7 fullShare (kept i w s)) -∗ K ⟨⟩))
      ⊢ wp frame (wpE (defs₀ (F := F)) Variants.none c none) E
          (cc0_qkv_headnorm_matmul i arg2 harg2 arg3 harg3 arg4 harg4 arg5 harg5 arg6 harg6 arg7 harg7) K := by
  simp only [cc0_qkv_headnorm_matmul_eq_skeleton]; unfold cc0_qkv_headnorm_matmul_skel owns
  simp only [k0_part1_eq_skeleton, k0_part2_eq_skeleton]
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  by_cases hc : fresh i
  · have hc' := hc; unfold fresh at hc'
    sl_exec (disch := sl_exact hc')
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro
      rw [View.read_writes_full]
      unfold body.sl.r_2 body.sl.r_3 body.sl.r_4 body.sl.r_5 body.sl.r_6 body.sl.r_7 body.sl.r_8 body.sl.r body.sl.r_1 body.sl.v5
      unfold body.sl.H5_1
      rw [View.readCov_full, View.readAt_full, View.readAt_full, View.readAt_full, View.readAt_full, hf0, hf1, hf2, hf3, kept, if_pos hc]
      rfl
    · iexists _; isplitr
      swap; · iexact H5
      ipureintro
      unfold body.sl.H5_1; rw [View.read_writes_full, View.readAt_full, hf1, kept, if_pos hc]
  · have hc' := hc; unfold fresh at hc'
    sl_exec (disch := sl_exact hc')
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro
      rw [View.read_writes_full]
      unfold body.sl.r_11 body.sl.r_12 body.sl.r_13 body.sl.r_14 body.sl.r_15 body.sl.r_16 body.sl.r_17 body.sl.r_9 body.sl.r_10
      rw [View.readAt_full, View.readAt_full, View.readAt_full, View.readAt_full, hf0, hf2, hf3, hf5, kept, if_neg hc]
      rfl
    · iexists _; isplitr
      swap; · iexact H5
      ipureintro
      rw [hf5, kept, if_neg hc]

end Qkv

end
-- ==== Proof.QkvFrame.lean ====
/- The run of the joint product of queries, keys and values, over any reading of the floats: it leaves its arguments as they were. -/
module

public import proofs.«01_k».proof.Proof.QkvBody
public import proofs.«01_k».proof.Proof.Gen.Kernel4Ideal
public import Idealize.ShloMosaic.Lib.Quiescent

@[expose] public section

set_option maxRecDepth 16384

noncomputable section

namespace Qkv

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem row (t : Fin cfg0.N) : defs₀ (F := F) .tc cfg0.body (cfg0.bodyArgs t (cfg0.slots t)) = bodyAt0 t := by
  unfold defs₀; rw [Defs.onTc_tc]

/-- The resources outside the windows: the scratch and the generator register. -/
theorem rest_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]

/-- The proof data in which nothing is said of what the staging buffers hold. -/
def silent (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

theorem silent_A (c : Dev nD) (w : Fin cfg0.W) : (silent m 0 c).A w = V m c (Pipeline.arrRef spec0 w) := by dsimp only [silent]

theorem silent_body (c : Dev nD) : BodyObligationLoose (silent m 0 c) (defs₀ (F := F)) Variants.none () Set.univ (fun _ => true) := by
  intro t
  rw [row]
  dsimp only
  rw [show (silent m 0 c).Φ t.succ = (Pipeline.ΦA spec0 c : sProp 𝕄) from rfl, show (silent m 0 c).Φ t.castSucc = (Pipeline.ΦA spec0 c : sProp 𝕄) from rfl,
    show (silent m 0 c).owesAt () t.succ = (silent m 0 c).owesAt () t.castSucc from rfl, rest_eq]
  show iprop(_ ∗ _ ∗ bigSep (Finset.univ : Finset (Fin 5)) _) ⊢ wp _ _ _ _ (fun _ => iprop(_ ∗ _ ∗ bigSep (Finset.univ : Finset (Fin 5)) _))
  simp only [bigSep_W0]
  iintro ⟨⟨⟨%s, HS⟩, Hg⟩, Ho, ⟨%x, H0⟩, ⟨%w, H1⟩, ⟨%g, H2⟩, ⟨%h, H3⟩, ⟨%o, H4⟩⟩
  iapply (body c (grid0.coords t) _ _ _ _ _ _ _ _ _ _ _ _ x w g h o s Set.univ _)
  isplitl [H0]; · iexact H0
  isplitl [H1]; · iexact H1
  isplitl [H2]; · iexact H2
  isplitl [H3]; · iexact H3
  isplitl [H4]; · iexact H4
  isplitl [HS]; · iexact HS
  iintro ⟨G0, G1, G2, G3, G4, GS⟩
  isplitl [GS Hg]
  · isplitl [GS]; · iexists _; iexact GS
    iexact Hg
  isplitl [Ho]; · iexact Ho
  isplitl [G0]; · iexists _; iexact G0
  isplitl [G1]; · iexists _; iexact G1
  isplitl [G2]; · iexists _; iexact G2
  isplitl [G3]; · iexists _; iexact G3
  iexists _; iexact G4

set_option backward.isDefEq.respectTransparency.types false in
theorem run : θ_run defs (onTc (τ := τ) (main (F := F))) (s₀ m ρ)
    (fun r => RDat.FramePost cfg0 (fun c => (silent m 0 c).toRForget (fun _ => true)) (V m) r ∧ r.2.sem = (fun _ => 0)) :=
  Pipeline.θ_run_frame_forget cfgs (silent m) 0 launch0 defs₀ Variants.none (fun _ => true) m ρ main (silent_body m)
    (fun c => (silent m 0 c).share_full fun _ => rfl) (fun _ _ => rfl) (V := V m) (hmain := hmain m Variants.none) (hA := silent_A m) (hΦ := fun _ _ => rfl)
    (Q' := _) (hQ' := fun _ h => h)

/-- The arguments end as they began, over any reading of the floats. -/
theorem kept_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = (fun _ => 0)) :=
  (θ_run defs _ _).mono (fun _ h => ⟨fun c => ⟨(RDat.FramePost.arr_in h.1 c 0 rfl).trans ((silent_A m c 0).trans (V_main_arg0 m c)),
    (RDat.FramePost.arr_in h.1 c 1 rfl).trans ((silent_A m c 1).trans (V_main_arg1 m c)),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩, h.2⟩) (run m ρ)

end Qkv

end
-- ==== Proof.QkvValue.lean ====
/- The joint product of queries, keys and values at the extended reals: what each point leaves in its block of the result. -/
module

public import proofs.«01_k».proof.Proof.Dense
public import proofs.«01_k».proof.Proof.QkvFrame
public import Idealize.ShloMosaic.Lib.Pipeline.ValueKit

@[expose] public section

set_option maxRecDepth 16384

noncomputable section

namespace Qkv

open Cert.Kernel4Ideal Cert.Kernel4Ideal.Gen
open Idealize.ShloMosaic Idealize.ShloMosaic.TcCoe Idealize.SL.Sem

/-- A head's 128 entries of a row over their root mean square. -/
def unit (y : Fin 128 → EReal) (q : Fin 128) : EReal :=
  y q * Ideal.rsqrt (Ideal.div (∑ k, y k * y k) (Ideal.ofBits .f32 0x43000000#32) + Ideal.ofBits .f32 0x358637BD#32)

/-- The head a column lies in, as the columns of that head, and the column's place in it. -/
def inHead {n : ℕ} [NeZero n] (a : ℕ) (k : Fin 128) : Fin n := Fin.ofNat n (128 * (a / 128) + k.val)
def place (a : ℕ) : Fin 128 := Fin.ofNat 128 a

/-- The result in closed form: the queries' columns and the keys' columns normalised head by head, the values' columns as they are. -/
def model (x : S9280x2048.Idx → EReal) (w : S2048x6144.Idx → EReal) (g h : S1x128.Idx → EReal) : S9280x6144.Idx → EReal := fun i =>
  if (i 1).val < 4096 then
    unit (fun k => Dense.product x w (i 0) (inHead (i 1).val k)) (place (i 1).val) * (if (i 1).val < 2048 then g else h) (ix2 0 (place (i 1).val))
  else Dense.product x w (i 0) (i 1)

/-- One head of a block: 128 of its columns, each row divided by its root mean square, times the gain. -/
def headed (o : Fin 2 → ℕ) (ho : Shape.Slices S512x1024 o S512x128) (y : FVec Ideal S512x1024 .f32) (g : FVec Ideal S1x128 .f32) : FVec Ideal S512x128 .f32 :=
  mulf (mulf (extractStridedSlice S512x128 o y ho)
    (broadcastTo S512x128 (rsqrt (addf (divf (shapeCast S512x1 (multiReduction (F := Ideal) .add [1] S512 (mulf (extractStridedSlice S512x128 o y ho)
      (extractStridedSlice S512x128 o y ho)) 0x00000000#32 reduces_S512x128_S512 (.inl rfl) rfl) shapeCasts_S512_S512x1)
      (broadcast S512x1 (Scalar.ofBits (F := Ideal) .f32 0x43000000#32))) (broadcast S512x1 (Scalar.ofBits (F := Ideal) .f32 0x358637BD#32)))) broadcasts_S512x1_S512x128))
    (broadcastTo S512x128 g broadcasts_S1x128_S512x128)

theorem headed_at (a : ℕ) (ho : Shape.Slices S512x1024 ![0, 128 * (a / 128)] S512x128) (y : FVec Ideal S512x1024 .f32) (g : FVec Ideal S1x128 .f32) (p : Fin 512) (q : Fin 128)
    (ha : a < 1024) :
    headed ![0, 128 * (a / 128)] ho y g (ix2 p q) = unit (fun k => y (ix2 p (inHead a k))) q * g (ix2 0 q) := by
  have e : ∀ (k : Fin 128) (hk : 128 * (a / 128) + k.val < 1024), (⟨128 * (a / 128) + k.val, hk⟩ : Fin 1024) = inHead a k := fun k hk =>
    Fin.ext (Nat.mod_eq_of_lt hk).symm
  unfold headed unit
  pointwise
  simp only [e]

theorem pay3_at (x : Vec Ideal S512x2048 .f32) (s : Vec Ideal S2048x1024 .bf16) (p : Fin 512) (q : Fin 1024) : k0_pay3 x s (ix2 p q) = Dense.product x s p q := by
  unfold k0_pay3 Dense.product
  pointwise

theorem pay2_at (w : Vec Ideal S2048x1024 .f32) : k0_pay2 w = w := by
  funext i
  rw [eq_ix2 i]
  unfold k0_pay2
  pointwise

theorem below (n : Fin 6) (b : BitVec 32) (hb : b.toNat < 6) : Scalar.cmpi .slt (BitVec.ofNat 32 n.val) b = if n.val < b.toNat then 1#1 else 0#1 := by
  have : b = BitVec.ofNat 32 (⟨b.toNat, hb⟩ : Fin 6).val := by simp
  rw [this]
  exact (by decide : ∀ a c : Fin 6, Scalar.cmpi .slt (BitVec.ofNat 32 a.val) (BitVec.ofNat 32 c.val) = if a.val < (BitVec.ofNat 32 c.val).toNat then 1#1 else 0#1) n ⟨b.toNat, hb⟩

theorem pay4_at (i : grid0.Coords) (g h : Vec Ideal S1x128 .f32) (q : Fin 128) : k0_pay4 i g h (ix2 0 q) = (if (i 0).val < 2 then g else h) (ix2 0 q) := by
  unfold k0_pay4
  dsimp only
  rw [below (i 0) 2#32 (by decide)]
  by_cases hc : (i 0).val < 2
  · rw [if_pos hc, if_pos (by exact hc)]; pointwise
  · rw [if_neg hc, if_neg (by exact hc)]; pointwise

theorem block_eq (i : grid0.Coords) (x : Vec Ideal S512x2048 .f32) (s : Vec Ideal S2048x1024 .bf16) (g h : Vec Ideal S1x128 .f32) :
    block i x s g h = Scalar.select (Scalar.cmpi .slt (BitVec.ofNat 32 (i 0).val) 4#32)
      (concatenate S512x1024 1 (List.ofFn fun n : Fin 8 => ⟨S512x128, headed ![0, 128 * n.val] (by revert n; decide) (k0_pay3 x s) (k0_pay4 i g h)⟩)
        concatenates_S512x128_S512x128_S512x128_S512x128_S512x128_S512x128_S512x128_S512x128_S512x1024_d1) (k0_pay3 x s) := by
  rfl

theorem block_at (i : grid0.Coords) (x : Vec Ideal S512x2048 .f32) (s : Vec Ideal S2048x1024 .bf16) (g h : Vec Ideal S1x128 .f32) (e : S512x1024.Idx) :
    block i x s g h e = if (i 0).val < 4 then
        unit (fun k => Dense.product x s (e 0) (inHead (e 1).val k)) (place (e 1).val) * (if (i 0).val < 2 then g else h) (ix2 0 (place (e 1).val))
      else Dense.product x s (e 0) (e 1) := by
  have he : (e 1).val < 1024 := (e 1).isLt
  have hp := pay3_at x s
  rw [block_eq, below (i 0) 4#32 (by decide)]
  by_cases hc : (i 0).val < 4
  · rw [if_pos hc, if_pos (by exact hc)]
    refine (concatenate_ofFn_apply (t := S512x1024) (s₁ := S512x128) (N := 8) 1 _
      concatenates_S512x128_S512x128_S512x128_S512x128_S512x128_S512x128_S512x128_S512x128_S512x1024_d1 rfl 128 rfl e ⟨(e 1).val / 128, by omega⟩ rfl (ix2 (e 0) (place (e 1).val)) rfl ?_).trans ?_
    · intro b hb
      fin_cases b
      · rfl
      · exact absurd rfl hb
    refine (headed_at (e 1).val _ _ _ (e 0) _ he).trans ?_
    rw [pay4_at]
    exact congrArg (· * _) (congrArg (unit · _) (funext fun k => hp _ _))
  · rw [if_neg hc, if_neg (by exact hc)]
    exact (congrArg (k0_pay3 x s) (eq_ix2 e)).trans (hp _ _)

theorem col (t : Fin cfg0.N) : (grid0.coords t 0).val = t.val / 19 := (by decide +kernel : ∀ t : Fin grid0.N, (grid0.coords t 0).val = t.val / 19) t
theorem index0 (t : Fin cfg0.N) : win0_0.index t = ![t.val % 19, 0] :=
  (by decide +kernel : ∀ t : Fin grid0.N, win0_0.index t = ![t.val % 19, 0]) t
theorem index1 (t : Fin cfg0.N) : win0_1.index t = ![0, t.val / 19] :=
  (by decide +kernel : ∀ t : Fin grid0.N, win0_1.index t = ![0, t.val / 19]) t
theorem index2 (t : Fin cfg0.N) : win0_2.index t = ![0, 0] :=
  (by decide +kernel : ∀ t : Fin grid0.N, win0_2.index t = ![0, 0]) t
theorem index3 (t : Fin cfg0.N) : win0_3.index t = ![0, 0] :=
  (by decide +kernel : ∀ t : Fin grid0.N, win0_3.index t = ![0, 0]) t
theorem index4 (t : Fin cfg0.N) : win0_4.index t = ![t.val % 19, t.val / 19] :=
  (by decide +kernel : ∀ t : Fin grid0.N, win0_4.index t = ![t.val % 19, t.val / 19]) t
theorem moved0 (t : Fin cfg0.N) : win0_0.xsize (grid0.coords t) = ![win0_4.xsize (grid0.coords t) 0, 2048] :=
  (by decide +kernel : ∀ t : Fin grid0.N, win0_0.xsize (grid0.coords t) = ![win0_4.xsize (grid0.coords t) 0, 2048]) t
theorem fresh_iff (t : Fin cfg0.N) : fresh (grid0.coords t) ↔ t.val % 19 = 0 := by
  unfold fresh
  exact (by decide +kernel : ∀ t : Fin grid0.N, (Scalar.cmpi .ne (Scalar.extui (Scalar.cmpi .eq (BitVec.ofNat 32 (grid0.coords t 1).val) 0#32)) 0#32 = 1#1) ↔ t.val % 19 = 0) t

variable (m : (ℓ : Loc nD τ sig) → Buf (Elt Ideal) ℓ)

/-- The weights' block at a point is the columns of the point's column block. -/
theorem weights (c : Dev nD) (t : Fin cfg0.N) : (iblk m c 1 t : S2048x1024.Idx → EReal) = Dense.columns 1024 (V m c main_arg1 : S2048x6144.Idx → EReal) (t.val / 19) := by
  funext i
  have ht : t.val < 114 := t.isLt
  unfold Dense.columns
  blk_simp [iblk, index1]
  blk_ext [index1]
  rw [Fin.val_ofNat]
  omega

/-- The gains' blocks are the whole of them at every point. -/
theorem gain2 (c : Dev nD) (t : Fin cfg0.N) : (iblk m c 2 t : S1x128.Idx → EReal) = (V m c main_v0 : S1x128.Idx → EReal) := by
  funext i
  blk_simp [iblk, index2]
  blk_ext [index2]
theorem gain3 (c : Dev nD) (t : Fin cfg0.N) : (iblk m c 3 t : S1x128.Idx → EReal) = (V m c main_v1 : S1x128.Idx → EReal) := by
  funext i
  blk_simp [iblk, index3]
  blk_ext [index3]

/-- Inside the array, the entries' block at a point is the rows of the point's row block. -/
theorem entries (c : Dev nD) (t : Fin cfg0.N) (d : win0_0.block.Idx → EReal) (y : (win0_4.xblock (grid0.coords t)).Idx) (k : Fin 2048) :
    win0_0.fill (grid0.coords t) d (iblk m c 0 t) (ix2 (win0_4.xinj (grid0.coords t) y 0) k)
      = (V m c main_arg0 : S9280x2048.Idx → EReal) (ix2 ((win0_4.blk t).view.emb y 0) k) := by
  rw [Dense.fill_of_lt]
  swap
  · rw [moved0]; intro a; fin_cases a
    · exact (y 0).isLt
    · exact k.isLt
  blk_simp [iblk, index0, index4]
  blk_ext [index0, index4]

/-- A product over a block of rows and a block of columns is the product at the place of the block in the arrays. -/
theorem product_block (c : Dev nD) (t : Fin cfg0.N) (d : win0_0.block.Idx → EReal) (y : (win0_4.xblock (grid0.coords t)).Idx) (q : Fin 1024) (q' : Fin 6144)
    (hq : q'.val = 1024 * (t.val / 19) + q.val) :
    Dense.product (win0_0.fill (grid0.coords t) d (iblk m c 0 t)) (Dense.columns 1024 (V m c main_arg1 : S2048x6144.Idx → EReal) (t.val / 19)) (win0_4.xinj (grid0.coords t) y 0) q
      = Dense.product (V m c main_arg0 : S9280x2048.Idx → EReal) (V m c main_arg1 : S2048x6144.Idx → EReal) ((win0_4.blk t).view.emb y 0) q' := by
  unfold Dense.product
  refine Finset.sum_congr rfl fun k _ => ?_
  rw [entries]
  congr 1
  unfold Dense.columns
  refine congrArg _ (congrArg (ix2 k) (Fin.ext ?_))
  rw [Fin.val_ofNat, hq]
  have := q'.isLt
  have := q.isLt
  show (1024 * (t.val / 19) + q.val) % 6144 = 1024 * (t.val / 19) + q.val
  omega

/-- What a point writes back is its block of the closed form. -/
theorem written (c : Dev nD) (t : Fin cfg0.N) (d : win0_0.block.Idx → EReal) :
    win0_4.cut (grid0.coords t) (block (grid0.coords t) (win0_0.fill (grid0.coords t) d (iblk m c 0 t))
        (Dense.columns 1024 (V m c main_arg1 : S2048x6144.Idx → EReal) (t.val / 19)) (iblk m c 2 t) (iblk m c 3 t))
      = (win0_4.blk t).view.read (Elt Ideal) (model (V m c main_arg0) (V m c main_arg1) (V m c main_v0) (V m c main_v1)) := by
  funext y
  have ht : t.val < 114 := t.isLt
  have hy : (y 1).val < 1024 := lt_of_lt_of_le (y 1).isLt (win0_4.xsize_le (grid0.coords t) 1)
  rw [Pipeline.Window.cut_apply]
  refine (block_at _ _ _ _ _ (win0_4.xinj (grid0.coords t) y)).trans ?_
  rw [gain2, gain3]
  have e1 : ((win0_4.blk t).view.emb y 1).val = 1024 * (t.val / 19) + (y 1).val := by
    blk_simp [index4]
    omega
  have e0 : (win0_4.xinj (grid0.coords t) y 1).val = (y 1).val := rfl
  have ec := col t
  show _ = model _ _ _ _ ((win0_4.blk t).view.emb y)
  unfold model
  have ep : place ((win0_4.blk t).view.emb y 1).val = place (win0_4.xinj (grid0.coords t) y 1).val := by
    refine Fin.ext ?_
    unfold place
    rw [Fin.val_ofNat, Fin.val_ofNat, e1, e0]
    omega
  rw [ep]
  by_cases h4 : t.val / 19 < 4
  · rw [if_pos (show (grid0.coords t 0).val < 4 by omega), if_pos (show ((win0_4.blk t).view.emb y 1).val < 4096 by omega)]
    congr 1
    · congr 1
      funext k
      refine product_block m c t d y _ _ ?_
      unfold inHead
      rw [Fin.val_ofNat, Fin.val_ofNat, e1, e0]
      have := k.isLt
      omega
    · by_cases h2 : t.val / 19 < 2
      · rw [if_pos (show (grid0.coords t 0).val < 2 by omega), if_pos (show ((win0_4.blk t).view.emb y 1).val < 2048 by omega)]
      · rw [if_neg (show ¬ (grid0.coords t 0).val < 2 by omega), if_neg (show ¬ ((win0_4.blk t).view.emb y 1).val < 2048 by omega)]
  · rw [if_neg (show ¬ (grid0.coords t 0).val < 4 by omega), if_neg (show ¬ ((win0_4.blk t).view.emb y 1).val < 4096 by omega)]
    exact product_block m c t d y _ _ (e1.trans (by rw [e0]))

end Qkv

end
-- ==== Proof.QkvRun.lean ====
/- The run of the joint product of queries, keys and values at the extended reals: its result is the closed form. -/
module

public import proofs.«01_k».proof.Proof.QkvValue

@[expose] public section

set_option maxRecDepth 16384

noncomputable section

namespace Qkv

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The result's closed form at a core's arguments. -/
def result (c : Dev nD) : S9280x6144.Idx → EReal := model (V m c main_arg0) (V m c main_arg1) (V m c main_v0) (V m c main_v1)

/-- What holds before point `n`: past a column block's first point the scratch holds that block of the weights. -/
def held (c : Dev nD) (n : ℕ) : sProp 𝕄 :=
  iprop((∃ d, ⌜n % 19 ≠ 0 → d = Dense.columns 1024 (V m c main_arg1 : S2048x6144.Idx → EReal) (n / 19)⌝ ∗ owns (c : Thread nD τ) (Memref.whole cc0_scratch0) fullShare d)
    ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => iblk m c 3 t
    | ⟨4, _⟩ => win0_4.fill (grid0.coords t) (fun _ => (0 : EReal)) ((win0_4.blk t).view.read (Elt Ideal) (result m c))
  Φ t := held m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = win0_0.fill (grid0.coords t) (fun _ => (0 : EReal)) (iblk m c 0 t) := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = win0_4.fill (grid0.coords t) (fun _ => (0 : EReal)) ((win0_4.blk t).view.read (Elt Ideal) (result m c)) := by dsimp only [dats]

theorem before0 (c : Dev nD) (t : Fin cfg0.N) (d) : (dats m 0 c).before 0 t d = win0_0.fill (grid0.coords t) d (iblk m c 0 t) := by
  unfold Dat.before; rw [if_pos (fetch0_0 t)]; rfl
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- After a point the scratch holds the weights' block of the point's columns. -/
theorem kept_eq (c : Dev nD) (t : Fin cfg0.N) (s : Vec Ideal S2048x1024 .bf16)
    (hs : t.val % 19 ≠ 0 → s = Dense.columns 1024 (V m c main_arg1 : S2048x6144.Idx → EReal) (t.val / 19)) :
    kept (grid0.coords t) (iblk m c 1 t) s = Dense.columns 1024 (V m c main_arg1 : S2048x6144.Idx → EReal) (t.val / 19) := by
  unfold kept
  by_cases h : t.val % 19 = 0
  · rw [if_pos ((fresh_iff t).mpr h)]; exact (pay2_at _).trans (weights m c t)
  · rw [if_neg (fun h' => h ((fresh_iff t).mp h')), hs h]

theorem sound (c : Dev nD) : BodyObligationLoose (dats m 0 c) (defs₀ (F := Ideal)) Variants.none () Set.univ := by
  intro t
  rw [row]
  dsimp only
  rw [show (dats m 0 c).Φ t.succ = held m c (t.val + 1) from rfl, show (dats m 0 c).Φ t.castSucc = held m c t.val from rfl,
    show (dats m 0 c).owesAt () t.succ = (dats m 0 c).owesAt () t.castSucc from rfl]
  show iprop(_ ∗ _ ∗ bigSep (Finset.univ : Finset (Fin 5)) _) ⊢ wp _ _ _ _ (fun _ => iprop(_ ∗ _ ∗ bigSep (Finset.univ : Finset (Fin 5)) _))
  simp only [bigSep_W0]
  simp only [before0, before1, before2, before3, after0, after1, after2, after3, after4]
  unfold held
  iintro ⟨⟨⟨%s, %hs, HS⟩, Hg⟩, Ho, ⟨%x, H0⟩, ⟨%w, H1⟩, ⟨%g, H2⟩, ⟨%h, H3⟩, ⟨%o, H4⟩⟩
  iapply (body c (grid0.coords t) _ _ _ _ _ _ _ _ _ _ _ _ (win0_0.fill (grid0.coords t) x (iblk m c 0 t)) (iblk m c 1 t) (iblk m c 2 t) (iblk m c 3 t) _ s Set.univ _)
  rw [kept_eq m c t s hs]
  isplitl [H0]; · iexact H0
  isplitl [H1]; · iexact H1
  isplitl [H2]; · iexact H2
  isplitl [H3]; · iexact H3
  isplitl [H4]; · iexact H4
  isplitl [HS]; · iexact HS
  iintro ⟨G0, G1, G2, G3, G4, GS⟩
  isplitl [GS Hg]
  · isplitl [GS]
    · iexists _; isplitr
      swap; · iexact GS
      ipureintro
      intro h
      rw [show (t.val + 1) / 19 = t.val / 19 by omega]
    iexact Hg
  isplitl [Ho]; · iexact Ho
  isplitl [G0]
  · iexists x
    rw [Pipeline.Window.cut_fill]
    iexact G0
  isplitl [G1]; · iexact G1
  isplitl [G2]; · iexact G2
  isplitl [G3]; · iexact G3
  iexists (block (grid0.coords t) (win0_0.fill (grid0.coords t) x (iblk m c 0 t)) (Dense.columns 1024 (V m c main_arg1 : S2048x6144.Idx → EReal) (t.val / 19))
    (iblk m c 2 t) (iblk m c 3 t))
  rw [Pipeline.Window.cut_fill]
  unfold result
  rw [← written m c t x, Pipeline.Window.fill_cut]
  iexact G4

theorem held_start (c : Dev nD) : (Pipeline.ΦA spec0 c : sProp 𝕄) ⊢ held m c 0 := by
  rw [rest_eq]; unfold held
  iintro ⟨⟨%d, HS⟩, Hg⟩
  isplitl [HS]
  · iexists d; isplitr
    · ipureintro; intro h; exact absurd rfl h
    iexact HS
  iexact Hg

theorem held_end (c : Dev nD) (n : ℕ) : held m c n ⊢ (Pipeline.ΦA spec0 c : sProp 𝕄) := by
  rw [rest_eq]; unfold held
  iintro ⟨⟨%d, %hd, HS⟩, Hg⟩
  isplitl [HS]
  · iexists d; iexact HS
  iexact Hg

theorem array (c : Dev nD) : (dats m 0 c).arrAt 4 cfg0.N = result m c := by
  refine (dats m 0 c).arrAt_eq_of_covers 4 (result m c) (by decide +kernel) fun t hf y => ?_
  rw [after4]
  exact congrFun (win0_4.cut_fill (grid0.coords t) (fun _ => (0 : EReal)) ((win0_4.blk t).view.read (Elt Ideal) (result m c))) y

set_option backward.isDefEq.respectTransparency.types false in
theorem run_value : θ_run defs (onTc (τ := τ) (main (F := Ideal))) (s₀ m ρ) (Pipeline.FramePost cfgs (dats m) 0 (V m)) :=
  Pipeline.θ_run_frame_track cfgs (dats m) 0 launch0 defs₀ Variants.none m ρ main (sound m)
    (fun c => (dats m 0 c).share_full fun _ => rfl) (fun _ _ => rfl) (V := V m) (hmain := hmain m Variants.none) (hA := A_eq m)
    (hin := held_start m) (hout := fun c => held_end m c _)

/-- The result is the closed form, and the arguments end as they began. -/
theorem value : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (array m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_value m ρ)

end Qkv

end
-- ==== Proof.QkvEqual.lean ====
/- The joint product of queries, keys and values: the closed form is what the reference computes. -/
module

public import proofs.«01_k».proof.Proof.QkvRun
public import proofs.«01_k».proof.Proof.Gen.Reference4Ideal
public import proofs.«01_k».proof.Proof.Gen.Reference4Ideal.Run
public import proofs.«01_k».proof.Proof.Gen.Reference4Ideal.Read

@[expose] public section

set_option maxRecDepth 16384

noncomputable section

namespace Qkv

open Idealize.ShloMosaic Idealize.ShloMosaic.TcCoe Idealize.SL.Sem

section Launch
open Cert.Kernel4Ideal Cert.Kernel4Ideal.Gen

variable (m : (ℓ : Loc nD τ sig) → Buf (Elt Ideal) ℓ)

/-- The gains as the launch finds them: the arguments as rows. -/
theorem row2 (c : Dev nD) (k : Fin 128) : (V m c main_v0 : S1x128.Idx → EReal) (ix2 0 k) = (m ((c.tc : Thread nD τ).loc main_arg2) : S128.Idx → EReal) (ix1 k) := by
  unfold V
  rw [show StableHlo.after hostOps0 (fun b => m (c, b)) (Proc.tc.devRef main_v0) = shapeCast S1x128 (m ((c.tc : Thread nD τ).loc main_arg2)) shapeCasts_S128_S1x128 by after_results; rfl]
  pointwise

theorem row3 (c : Dev nD) (k : Fin 128) : (V m c main_v1 : S1x128.Idx → EReal) (ix2 0 k) = (m ((c.tc : Thread nD τ).loc main_arg3) : S128.Idx → EReal) (ix1 k) := by
  unfold V
  rw [show StableHlo.after hostOps0 (fun b => m (c, b)) (Proc.tc.devRef main_v1) = shapeCast S1x128 (m ((c.tc : Thread nD τ).loc main_arg3)) shapeCasts_S128_S1x128 by after_results; rfl]
  pointwise

end Launch

open Cert.Reference4Ideal Cert.Reference4Ideal.Gen Cert.Reference4Ideal.Read

/-- The reference's normalisation of sixteen heads side by side. -/
def heads (y : FVec Ideal S9280x2048 .f32) (u : FVec Ideal S128 .f32) : FVec Ideal S9280x2048 .f32 :=
  let z : FVec Ideal S9280x16x128 .f32 := shapeCast S9280x16x128 y shapeCasts_S9280x2048_S9280x16x128
  shapeCast S9280x2048 (mulf (mulf z (broadcastInDim S9280x16x128 ![0, 1, 2] bcast_S9280x16x1_S9280x16x128_0_1_2
    (Host.rsqrt (F := Ideal) (φ := .f32) (addf (Host.divf (F := Ideal) (φ := .f32) (broadcastInDim S9280x16x1 ![0, 1] bcast_S9280x16_S9280x16x1_0_1
        (Host.reduceAdd (F := Ideal) (φ := .f32) (mulf z z) (constant S_ .f32 0x00000000#32) reducesTo_S9280x16x128_S9280x16_d2 h_S_))
      (broadcastInDim S9280x16x1 ![] bcast_S_S9280x16x1 (constant (F := Ideal) S_ .f32 0x43000000#32)))
      (broadcastInDim S9280x16x1 ![] bcast_S_S9280x16x1 (constant (F := Ideal) S_ .f32 0x358637BD#32))))))
    (broadcastInDim S9280x16x128 ![0, 1, 2] bcast_S1x1x128_S9280x16x128_0_1_2 (broadcastInDim S1x1x128 ![2] bcast_S128_S1x1x128_2 u))) shapeCasts_S9280x16x128_S9280x2048

theorem heads_at (y : FVec Ideal S9280x2048 .f32) (u : FVec Ideal S128 .f32) (p : Fin 9280) (q : Fin 2048) :
    heads y u (ix2 p q) = unit (fun k => y (ix2 p (inHead q.val k))) (place q.val) * u (ix1 (place q.val)) := by
  have e : ∀ (k : Fin 128) (hk : q.val / 128 * 128 + k.val < 2048), (⟨q.val / 128 * 128 + k.val, hk⟩ : Fin 2048) = inHead q.val k := fun k hk =>
    Fin.ext (by unfold inHead; rw [Fin.val_ofNat]; show q.val / 128 * 128 + k.val = _; omega)
  have e' : inHead q.val (place q.val) = q := Fin.ext (by unfold inHead place; rw [Fin.val_ofNat, Fin.val_ofNat]; omega)
  unfold heads unit
  dsimp only
  pointwise
  simp only [e, e']
  rfl

theorem queries (x : FVec Ideal S9280x2048 .f32) (w : FVec Ideal S2048x6144 .f32) (u : FVec Ideal S128 .f32) :
    val_main_v32 (F := Ideal) x w u = heads (val_main_v1 (F := Ideal) x w) u := rfl

theorem keys (x : FVec Ideal S9280x2048 .f32) (w : FVec Ideal S2048x6144 .f32) (u : FVec Ideal S128 .f32) :
    val_main_v33 (F := Ideal) x w u = heads (val_main_v2 (F := Ideal) x w) u := rfl

/-- A third of the product's columns, the one from column `o` on. -/
theorem part_at (o : ℕ) (ho : Shape.Slices S9280x6144 ![0, o] S9280x2048) (x : FVec Ideal S9280x2048 .f32) (w : FVec Ideal S2048x6144 .f32)
    (p : Fin 9280) (q : Fin 2048) (r : Fin 6144) (hr : r.val = o + q.val) :
    extractStridedSlice S9280x2048 ![0, o] (val_main_v0 (F := Ideal) x w) ho (ix2 p q) = Dense.product x w p r := by
  have e : ∀ h, (⟨o + q.val, h⟩ : Fin 6144) = r := fun _ => Fin.ext hr.symm
  unfold val_main_v0 Dense.product
  pointwise
  simp only [e]

theorem reference_at (x : FVec Ideal S9280x2048 .f32) (w : FVec Ideal S2048x6144 .f32) (u v : FVec Ideal S128 .f32) (g h : Cert.Kernel4Ideal.S1x128.Idx → EReal)
    (hg : ∀ k, g (ix2 0 k) = u (ix1 k)) (hh : ∀ k, h (ix2 0 k) = v (ix1 k))
    (p : Fin 9280) (q : Fin 6144) : val_main_v34 (F := Ideal) x w u v (ix2 p q) = model x w g h (ix2 p q) := by
  unfold val_main_v34 model
  rw [queries, keys]
  show _ = if q.val < 4096 then
    unit (fun k => Dense.product x w p (inHead q.val k)) (place q.val) * (if q.val < 2048 then g else h) (ix2 0 (place q.val)) else Dense.product x w p q
  pointwise
  have hi : q.val < 6144 := q.isLt
  have ek : ∀ (k : Fin 128) (o : ℕ) (n : ℕ), n < 2048 → o % 128 = 0 → o ≤ 4096 → q.val = o + n →
      (inHead q.val k : Fin 6144).val = o + (inHead n k : Fin 2048).val := fun k o n hn ho ho' h => by
    unfold inHead; rw [Fin.val_ofNat, Fin.val_ofNat]; omega
  have ep : ∀ o n : ℕ, o % 128 = 0 → q.val = o + n → place q.val = place n := fun o n ho h => Fin.ext (by
    unfold place; rw [Fin.val_ofNat, Fin.val_ofNat]; omega)
  by_cases h1 : q.val < 2048
  · rw [dif_pos h1, if_pos (show q.val < 4096 by omega), if_pos h1, heads_at, hg]
    exact congrArg (· * _) (congrArg (unit · _) (funext fun k => part_at 0 _ x w p _ _ (ek k 0 q.val h1 rfl (by omega) (by omega))))
  rw [dif_neg h1]
  by_cases h2 : q.val - 2048 < 2048
  · rw [dif_pos h2, if_pos (show q.val < 4096 by omega), if_neg h1, heads_at, hh, ep 2048 (q.val - 2048) rfl (by omega)]
    exact congrArg (· * _) (congrArg (unit · _) (funext fun k => part_at 2048 _ x w p _ _ (ek k 2048 (q.val - 2048) h2 rfl (by omega) (by omega))))
  rw [dif_neg h2, if_neg (show ¬ q.val < 4096 by omega)]
  exact part_at 4096 _ x w p _ _ (show q.val = 4096 + (q.val - 2048 - 2048) by omega)

theorem reference (x : FVec Ideal S9280x2048 .f32) (w : FVec Ideal S2048x6144 .f32) (u v : FVec Ideal S128 .f32) (g h : Cert.Kernel4Ideal.S1x128.Idx → EReal)
    (hg : ∀ k, g (ix2 0 k) = u (ix1 k)) (hh : ∀ k, h (ix2 0 k) = v (ix1 k)) : val_main_v34 (F := Ideal) x w u v = model x w g h := by
  funext i
  rw [eq_ix2 i]
  exact reference_at x w u v g h hg hh _ _

end Qkv

end
-- ==== Proof.Experts.lean ====
/- Taking each block's expert's matrix out of the stack of the experts' matrices, and the range of the experts' numbers. -/
module

public import Idealize.ShloMosaic.Lib.Pointwise
public import Idealize.ShloMosaic.Lib.Pipeline.Value
public import Idealize.ShloMosaic.Lib.StableHlo

@[expose] public section

noncomputable section

namespace Experts

open Idealize.ShloMosaic

variable {α : Type} {K N : ℕ}

/-- The dimension numbers of taking, for each of the blocks, one `K`×`N` matrix of the stack, at a start index of four components. -/
abbrev dims (wf : GatherDims.WF ⟨4, ![2, 32, K, N]⟩ ⟨2, ![177, 4]⟩ ⟨5, ![177, 1, 1, K, N]⟩ [1, 2, 3, 4] [] [] [0, 1, 2, 3] [] 1 ![1, 1, K, N]) :
    GatherDims ⟨4, ![2, 32, K, N]⟩ ⟨2, ![177, 4]⟩ ⟨5, ![177, 1, 1, K, N]⟩ where
  offsetDims := [1, 2, 3, 4]
  collapsedSliceDims := []
  operandBatchingDims := []
  startIndicesBatchingDims := []
  startIndexMap := [0, 1, 2, 3]
  indexVectorDim := 1
  sliceSizes := ![1, 1, K, N]
  wf := wf

/-- Where the first component is zero, the matrix taken is the first layer's, of the expert the second component names. -/
theorem taken (wf : GatherDims.WF ⟨4, ![2, 32, K, N]⟩ ⟨2, ![177, 4]⟩ ⟨5, ![177, 1, 1, K, N]⟩ [1, 2, 3, 4] [] [] [0, 1, 2, 3] [] 1 ![1, 1, K, N])
    (x : (⟨4, ![2, 32, K, N]⟩ : Shape).Idx → α) (idx : IVec ⟨2, ![177, 4]⟩ 32) (b : Fin 177) (p : Fin K) (q : Fin N) (e : Fin 32)
    (h0 : idx (ix2 b (0 : Fin 4)) = 0#32) (h1 : (idx (ix2 b (1 : Fin 4))).toInt.toNat = e.val) :
    Host.gather (dims wf) x idx (ix5 b (0 : Fin 1) (0 : Fin 1) p q) = x (ix4 (0 : Fin 2) e p q) := by
  have hc : ∀ a, (dims wf).batchCoord (ix5 b (0 : Fin 1) (0 : Fin 1) p q) a = 0 := fun a => GatherDims.batchCoord_eq_zero _ _ _ List.not_mem_nil
  have hs : ∀ a (ha : a ∈ (dims wf).startIndexMap), (dims wf).siIdx (ix5 b (0 : Fin 1) (0 : Fin 1) p q) ⟨List.idxOf a (dims wf).startIndexMap,
      List.idxOf_lt_length_iff.2 ha⟩ = ix2 b (a : Fin 4) := by
    intro a ha
    funext c; refine Fin.ext ?_
    fin_cases a <;> fin_cases c <;> rfl
  have hi : ∀ a : Fin 4, a ∈ (dims wf).startIndexMap := fun a => (by decide : ∀ a : Fin 4, a ∈ ([0, 1, 2, 3] : List (Fin 4))) a
  unfold Host.gather
  refine congrArg x (funext fun a => Fin.ext ?_)
  show (dims wf).start (ix5 b (0 : Fin 1) (0 : Fin 1) p q) idx a + (dims wf).batchCoord (ix5 b (0 : Fin 1) (0 : Fin 1) p q) a
    + (dims wf).offCoord (ix5 b (0 : Fin 1) (0 : Fin 1) p q) a = _
  unfold GatherDims.start
  rw [hc, Nat.add_zero, dif_pos (hi a), hs a (hi a)]
  fin_cases a
  · show min (idx (ix2 b (0 : Fin 4))).toInt.toNat 1 + 0 = 0
    rw [h0]; rfl
  · show min (idx (ix2 b (1 : Fin 4))).toInt.toNat 31 + 0 = e.val
    rw [h1]; omega
  · show min _ (K - K) + p.val = p.val
    omega
  · show min _ (N - N) + q.val = q.val
    omega

/-- Four columns side by side, read in the first column. -/
theorem first (c0 c1 c2 c3 : IVec ⟨2, ![177, 1]⟩ 32)
    (h : Shape.Concatenates ([⟨⟨2, ![177, 1]⟩, c0⟩, ⟨⟨2, ![177, 1]⟩, c1⟩, ⟨⟨2, ![177, 1]⟩, c2⟩, ⟨⟨2, ![177, 1]⟩, c3⟩].map (Sigma.fst (β := fun s : Shape => s.Idx → BitVec 32))) ⟨2, ![177, 4]⟩ 1)
    (b : Fin 177) :
    concatenate ⟨2, ![177, 4]⟩ 1 [⟨⟨2, ![177, 1]⟩, c0⟩, ⟨⟨2, ![177, 1]⟩, c1⟩, ⟨⟨2, ![177, 1]⟩, c2⟩, ⟨⟨2, ![177, 1]⟩, c3⟩] h (ix2 b (0 : Fin 4)) = c0 (ix2 b (0 : Fin 1)) :=
  concatenate_apply_piece 1 _ h (ix2 b (0 : Fin 4)) 0 (Nat.zero_lt_succ _) ⟨2, ![177, 1]⟩ c0 rfl rfl 0 rfl (ix2 b (0 : Fin 1))
    (fun a ha => by fin_cases a; · rfl
                    exact absurd rfl ha) rfl

/-- Four columns side by side, read in the second column. -/
theorem second (c0 c1 c2 c3 : IVec ⟨2, ![177, 1]⟩ 32)
    (h : Shape.Concatenates ([⟨⟨2, ![177, 1]⟩, c0⟩, ⟨⟨2, ![177, 1]⟩, c1⟩, ⟨⟨2, ![177, 1]⟩, c2⟩, ⟨⟨2, ![177, 1]⟩, c3⟩].map (Sigma.fst (β := fun s : Shape => s.Idx → BitVec 32))) ⟨2, ![177, 4]⟩ 1)
    (b : Fin 177) :
    concatenate ⟨2, ![177, 4]⟩ 1 [⟨⟨2, ![177, 1]⟩, c0⟩, ⟨⟨2, ![177, 1]⟩, c1⟩, ⟨⟨2, ![177, 1]⟩, c2⟩, ⟨⟨2, ![177, 1]⟩, c3⟩] h (ix2 b (1 : Fin 4)) = c1 (ix2 b (0 : Fin 1)) :=
  concatenate_apply_piece 1 _ h (ix2 b (1 : Fin 4)) 1 (Nat.succ_lt_succ (Nat.zero_lt_succ _)) ⟨2, ![177, 1]⟩ c1 rfl rfl 1 rfl (ix2 b (0 : Fin 1))
    (fun a ha => by fin_cases a; · rfl
                    exact absurd rfl ha) rfl

/-- A number that the two comparisons say lies from 0 to 31 does, and is not shifted by the reference's reading of negative numbers. -/
theorem ranged (v : BitVec 32) (h : IntOp.andi (IntOp.cmpi .sge v 0#32) (IntOp.cmpi .slt v 32#32) = 1#1) :
    v.toNat < 32 ∧ v.toInt.toNat = v.toNat ∧ Scalar.select (α := BitVec 32) (IntOp.cmpi .slt v 0#32) (IntOp.addi v 32#32) v = v := by
  have hl : (0#32).sle v = true ∧ v.slt 32#32 = true := by
    revert h
    simp only [IntOp.andi, IntOp.cmpi]
    cases (0#32).sle v <;> cases v.slt 32#32 <;> simp
  obtain ⟨h1, h2⟩ := hl
  rw [BitVec.sle_iff_toInt_le] at h1
  rw [BitVec.slt_iff_toInt_lt] at h2
  have e0 : (0#32 : BitVec 32).toInt = 0 := rfl
  have e1 : (32#32 : BitVec 32).toInt = 32 := rfl
  rw [e0] at h1; rw [e1] at h2
  have h3 : v.toInt = (v.toNat : ℤ) := by
    have hv := v.isLt
    rw [BitVec.toInt_eq_toNat_cond] at h1 ⊢
    split at h1 <;> simp_all <;> omega
  refine ⟨by omega, by omega, ?_⟩
  have h4 : v.slt 0#32 = false := by
    rw [Bool.eq_false_iff, Ne, BitVec.slt_iff_toInt_lt, e0]; omega
  simp [IntOp.cmpi, h4, Scalar.select]

end Experts

end
-- ==== Proof.DownBody.lean ====
/- The body of the experts' down product: what it leaves in its buffers. -/
module

public import proofs.«01_k».proof.Proof.Gen.Kernel5Ideal.Launch
public import proofs.«01_k».proof.Proof.Gen.Kernel5Ideal.Skeleton
public import Idealize.ShloMosaic.Lib.VecWindow
public import Idealize.ShloMosaic.Lib.Pipeline.FrameBody
public import Idealize.ShloMosaic.Lib.Tactic

@[expose] public section

set_option maxRecDepth 16384

noncomputable section

namespace Down

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the blocks' experts and the table of the number of valid blocks. -/
abbrev experts : Memref sig .tc .smem S177 .i32 := Memref.whole main_arg1
abbrev count : Memref sig .tc .smem S1 .i32 := Memref.whole main_arg2

/-- The words the body reads: the point's expert, the expert of the point before, the number of valid blocks. -/
def expert (i : grid0.Coords) (T : S177.Idx → BitVec 32) : BitVec 32 :=
  View.readAt (Elt F) experts.view (Rect.unit (s := S177) (k0_off1 i) S1.size (k0_off1_inb i)).toLoadRect T (Shape.Idx.first (numel1_S1.symm ▸ Nat.one_pos))
def before (i : grid0.Coords) (T : S177.Idx → BitVec 32) : BitVec 32 :=
  View.readAt (Elt F) experts.view (Rect.unit (s := S177) (k0_off2 i) S1.size (k0_off2_inb i)).toLoadRect T (Shape.Idx.first (numel1_S1.symm ▸ Nat.one_pos))
def total (T : S1.Idx → BitVec 32) : BitVec 32 :=
  View.readAt (Elt F) count.view (Rect.unit (s := S1) ![0] S1.size inb_S1_S1_0).toLoadRect T (Shape.Idx.first (numel1_S1.symm ▸ Nat.one_pos))

/-- The body takes its expert's weights anew: it is the first point, or the expert is not the one of the point before. -/
def fresh (i : grid0.Coords) (T : S177.Idx → BitVec 32) : Prop :=
  Scalar.cmpi .ne (Scalar.extui (Scalar.ori (Scalar.cmpi .eq (BitVec.ofNat 32 (i 1).val) 0#32) (Scalar.cmpi .ne (expert (F := F) i T) (before (F := F) i T)))) 0#32 = 1#1

/-- The point's block is one of the valid ones. -/
def valid (i : grid0.Coords) (T : S1.Idx → BitVec 32) : Prop := k0_cond2 i (total (F := F) T) = 1#1

theorem below_iff (i : grid0.Coords) (n : BitVec 32) : k0_cond2 i n = 1#1 ↔ (BitVec.ofNat 32 (i 1).val).slt n = true := by
  unfold k0_cond2
  cases h : (BitVec.ofNat 32 (i 1).val).slt n <;> simp [Scalar.cmpi, IntOp.cmpi, Scalar.extui, h]

theorem beyond_iff (i : grid0.Coords) (n : BitVec 32) : k0_cond3 i n = 1#1 ↔ ¬ k0_cond2 i n = 1#1 := by
  rw [below_iff]
  unfold k0_cond3
  cases h : (BitVec.ofNat 32 (i 1).val).slt n <;> simp [Scalar.cmpi, IntOp.cmpi, Scalar.extui, BitVec.sle_eq_not_slt, h]

open Classical in
/-- What the scratch holds after the body: the narrowed weights where they are taken anew, else what it held. -/
def kept (i : grid0.Coords) (T : S177.Idx → BitVec 32) (w : Vec F S1x1x1024x2048 .f32) (s : Vec F S1024x2048 .bf16) : Vec F S1024x2048 .bf16 :=
  if fresh (F := F) i T then k0_pay1 w else s

open Classical in
/-- What the body stores: the block's product where the block is valid, else zero. -/
def stored (i : grid0.Coords) (T : S1.Idx → BitVec 32) (x : Vec F S128x1024 .f32) (s : Vec F S1024x2048 .bf16) : Vec F S128x2048 .f32 :=
  if valid (F := F) i T then k0_pay2 x s else k0_pay3

theorem body (c : Dev nD) (i : grid0.Coords) (T0 : S177.Idx → BitVec 32) (T1 : S1.Idx → BitVec 32)
    (arg4 : Memref sig .tc .vmem S128x1024 .f32) (harg4 : arg4.IsWhole) (arg5 : Memref sig .tc .vmem S1x1x1024x2048 .f32) (harg5 : arg5.IsWhole)
    (arg6 : Memref sig .tc .vmem S128x2048 .f32) (harg6 : arg6.IsWhole) (arg7 : Memref sig .tc .vmem S1024x2048 .bf16) (harg7 : arg7.IsWhole)
    (x : Vec F S128x1024 .f32) (w : Vec F S1x1x1024x2048 .f32) (o : Vec F S128x2048 .f32) (s : Vec F S1024x2048 .bf16)
    (E : Set ℕ) (K : PUnit → sProp 𝕄) :
    iprop((experts.view.loc (c : Thread nD τ) ↦{fullShare.right} T0) ∗ (count.view.loc (c : Thread nD τ) ↦{fullShare.right} T1)
        ∗ owns (c : Thread nD τ) arg4 fullShare x ∗ owns (c : Thread nD τ) arg5 fullShare w
        ∗ owns (c : Thread nD τ) arg6 fullShare o ∗ owns (c : Thread nD τ) arg7 fullShare s
        ∗ (iprop((experts.view.loc (c : Thread nD τ) ↦{fullShare.right} T0) ∗ (count.view.loc (c : Thread nD τ) ↦{fullShare.right} T1)
            ∗ owns (c : Thread nD τ) arg4 fullShare x ∗ owns (c : Thread nD τ) arg5 fullShare w
            ∗ owns (c : Thread nD τ) arg6 fullShare (stored i T1 x (kept i T0 w s)) ∗ owns (c : Thread nD τ) arg7 fullShare (kept i T0 w s)) -∗ K ⟨⟩))
      ⊢ wp frame (wpE (defs₀ (F := F)) Variants.none c none) E
          (cc0_moe_down i experts (Memref.isWhole_whole _) count (Memref.isWhole_whole _) arg4 harg4 arg5 harg5 arg6 harg6 arg7 harg7) K := by
  rw [cc0_moe_down_eq_skeleton]; unfold cc0_moe_down_skel owns
  iintro ⟨HT0, HT1, ⟨%f0, %hf0, H0⟩, ⟨%f1, %hf1, H1⟩, ⟨%f2, %hf2, H2⟩, ⟨%f3, %hf3, H3⟩, Hk⟩
  have hT0 : experts.IsWhole := Memref.isWhole_whole _
  have hT1 : count.IsWhole := Memref.isWhole_whole _
  by_cases hc : fresh (F := F) i T0
  · have hc' := hc; unfold fresh expert before at hc'
    by_cases hv : valid (F := F) i T1
    · have hv' := hv; have hb := mt (beyond_iff i (total (F := F) T1)).mp (not_not.mpr hv); unfold valid total at hv'; unfold total at hb
      sl_exec! (disch := first | (guard_target = Scalar.cmpi _ _ _ = _; exact hc') | (guard_target = ¬(k0_cond3 _ _ = _); exact hb) | (guard_target = k0_cond2 _ _ = _; exact hv'))
      sl_step
      iapply Hk
      isplitl [HT0]; · iexact HT0
      isplitl [HT1]; · iexact HT1
      isplitl [H0]
      · iexists _; isplitr; · ipureintro; exact hf0
        iexact H0
      isplitl [H1]
      · iexists _; isplitr; · ipureintro; exact hf1
        iexact H1
      isplitl [H2]
      · iexists _; isplitr
        swap; · iexact H2
        ipureintro
        unfold body.sl.H2_1; rw [View.read_writes_full, View.readAt_full, hf0, stored, if_pos hv, kept, if_pos hc]; unfold body.sl.v21 body.sl.H3_1; rw [View.readCov_full, View.readAt_full, hf1]
      · iexists _; isplitr
        swap; · iexact H3
        ipureintro
        unfold body.sl.H3_1; rw [View.read_writes_full, View.readAt_full, hf1, kept, if_pos hc]
    · have hv' := hv; have hb := (beyond_iff i (total (F := F) T1)).mpr hv; unfold valid total at hv'; unfold total at hb
      sl_exec! (disch := first | (guard_target = Scalar.cmpi _ _ _ = _; exact hc') | (guard_target = k0_cond3 _ _ = _; exact hb) | (guard_target = ¬(k0_cond2 _ _ = _); exact hv'))
      sl_step
      iapply Hk
      isplitl [HT0]; · iexact HT0
      isplitl [HT1]; · iexact HT1
      isplitl [H0]
      · iexists _; isplitr; · ipureintro; exact hf0
        iexact H0
      isplitl [H1]
      · iexists _; isplitr; · ipureintro; exact hf1
        iexact H1
      isplitl [H2]
      · iexists _; isplitr
        swap; · iexact H2
        ipureintro
        unfold body.sl.H2_1_1; rw [View.read_writes_full, stored, if_neg hv]
      · iexists _; isplitr
        swap; · iexact H3
        ipureintro
        unfold body.sl.H3_1_1; rw [View.read_writes_full, View.readAt_full, hf1, kept, if_pos hc]
  · have hc' := hc; unfold fresh expert before at hc'
    by_cases hv : valid (F := F) i T1
    · have hv' := hv; have hb := mt (beyond_iff i (total (F := F) T1)).mp (not_not.mpr hv); unfold valid total at hv'; unfold total at hb
      sl_exec! (disch := first | (guard_target = ¬(Scalar.cmpi _ _ _ = _); exact hc') | (guard_target = ¬(k0_cond3 _ _ = _); exact hb) | (guard_target = k0_cond2 _ _ = _; exact hv'))
      sl_step
      iapply Hk
      isplitl [HT0]; · iexact HT0
      isplitl [HT1]; · iexact HT1
      isplitl [H0]
      · iexists _; isplitr; · ipureintro; exact hf0
        iexact H0
      isplitl [H1]
      · iexists _; isplitr; · ipureintro; exact hf1
        iexact H1
      isplitl [H2]
      · iexists _; isplitr
        swap; · iexact H2
        ipureintro
        unfold body.sl.H2_1_2; rw [View.read_writes_full, View.readAt_full, hf0, View.readAt_full, hf3, stored, if_pos hv, kept, if_neg hc]
      · iexists _; isplitr
        swap; · iexact H3
        ipureintro
        rw [hf3, kept, if_neg hc]
    · have hv' := hv; have hb := (beyond_iff i (total (F := F) T1)).mpr hv; unfold valid total at hv'; unfold total at hb
      sl_exec! (disch := first | (guard_target = ¬(Scalar.cmpi _ _ _ = _); exact hc') | (guard_target = k0_cond3 _ _ = _; exact hb) | (guard_target = ¬(k0_cond2 _ _ = _); exact hv'))
      sl_step
      iapply Hk
      isplitl [HT0]; · iexact HT0
      isplitl [HT1]; · iexact HT1
      isplitl [H0]
      · iexists _; isplitr; · ipureintro; exact hf0
        iexact H0
      isplitl [H1]
      · iexists _; isplitr; · ipureintro; exact hf1
        iexact H1
      isplitl [H2]
      · iexists _; isplitr
        swap; · iexact H2
        ipureintro
        unfold body.sl.H2_1_3; rw [View.read_writes_full, stored, if_neg hv]
      · iexists _; isplitr
        swap; · iexact H3
        ipureintro
        rw [hf3, kept, if_neg hc]

end Down

end
-- ==== Proof.DownFrame.lean ====
/- The run of the experts' down product, over any reading of the floats and any table of experts in range: it leaves
   its arguments as they were. -/
module

public import proofs.«01_k».proof.Proof.DownBody
public import proofs.«01_k».proof.Proof.Gen.Kernel5Ideal
public import Idealize.ShloMosaic.Lib.Pipeline.Frame
public import Idealize.ShloMosaic.Lib.Quiescent

@[expose] public section

set_option maxRecDepth 16384

noncomputable section

namespace Down

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as launched. -/
abbrev V (c : Dev nD) (b : Ref sig .tc) : Buf (Elt F) ((c.tc : Thread nD τ).loc b) := m ((c.tc : Thread nD τ).loc b)

/-- The one device's tables. -/
def tables : pre0.Contents (Elt F) := fun k => V m 0 (pre0.ref k)

/-- Every entry of the table of experts names one of the 32 experts. -/
def InRange : Prop := ∀ j : S177.Idx, (V m 0 main_arg1 j : BitVec 32).toNat < 32

theorem admitted (h : InRange m) : ok0 (tables m) := fun i => by
  have hi : (i 0).val = 0 := by have := (i 0).isLt; change (i 0).val < 1 at this; omega
  refine ⟨fun a => ?_, Or.inl rfl⟩
  fin_cases a
  · exact (by decide : (0 + 1) * 1 ≤ 2)
  · show (cc0_transform_1 k0_off1_inb numel1_S1 (tables m) i 1 + 1) * 1 ≤ 32
    have hj : cc0_transform_1 k0_off1_inb numel1_S1 (tables m) i 1 < 32 := h _
    omega
  · exact (by decide : (0 + 1) * 1024 ≤ 1024)
  · show ((BitVec.ofNat 32 (i 0).val).toNat + 1) * 2048 ≤ 2048
    rw [hi]; decide

variable (h : InRange m)

/-- The tables' contents with what the launch asks of them. -/
def chosen (_ : Fin 1) : (pcfg0 (F := F)).Adm := ⟨tables m, admitted m h⟩

/-- The pipeline at the memory's tables. -/
abbrev pipeline : Pipeline.Cfg sig Λ₀ := Pipeline.pin pcfgs (chosen m h) 0

theorem row (t : Fin (pipeline m h).N) (s) : defs₀ (F := F) .tc (pipeline m h).body ((pipeline m h).bodyArgs t s)
    = cc0_moe_down (grid0.coords t) experts (Memref.isWhole_whole _) count (Memref.isWhole_whole _)
        (spec0_0.stage (s 0)) (hstage0_0 ((s 0).cast nbuf0_0)) (spec0_1.stage (s 1)) (hstage0_1 ((s 1).cast nbuf0_1))
        (spec0_2.stage (s 2)) (hstage0_2 ((s 2).cast nbuf0_2)) (Memref.whole cc0_scratch0) (Memref.isWhole_whole _) := by
  unfold defs₀; rw [Defs.onTc_tc]

/-- The resources outside the windows: the scratch and the generator register. -/
theorem rest_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]

/-- The tables, as the body reads them. -/
theorem tables_eq (c : Dev nD) : (Pipeline.ΦT pre0 (tables m) c : sProp 𝕄)
    = iprop((experts.view.loc (c : Thread nD τ) ↦{fullShare.right} V m 0 main_arg1) ∗ (count.view.loc (c : Thread nD τ) ↦{fullShare.right} V m 0 main_arg2)) := by
  unfold Pipeline.ΦT Pipeline.prefHeld
  rw [show (Finset.univ : Finset (Fin pre0.K)) = insert (0 : Fin 2) {(1 : Fin 2)} from by decide, bigSep_insert (by decide), bigSep_singleton]; rfl

/-- The proof data in which nothing is said of what the staging buffers hold. -/
def silent (_ : Fin 1) (c : Dev nD) : Dat τ (Elt F) Unit ℕ (UR sig nD τ) ℕ (pipeline m h) c where
  A w := V m c (Pipeline.arrRef spec0 w)
  after := Dat.unnamed
  Φ _ := iprop(Pipeline.ΦA spec0 c ∗ Pipeline.ΦT pre0 (tables m) c)
  q _ := fullShare
  owed _ := 0

theorem silent_A (c : Dev nD) (w : Fin (pipeline m h).W) : (silent m h 0 c).A w = V m c (Pipeline.arrRef spec0 w) := by dsimp only [silent]

theorem silent_body (c : Dev nD) : BodyObligationLoose (silent m h 0 c) (defs₀ (F := F)) Variants.none () Set.univ (fun _ => true) := by
  intro t
  rw [row]
  dsimp only
  rw [show (silent m h 0 c).Φ t.succ = (iprop(Pipeline.ΦA spec0 c ∗ Pipeline.ΦT pre0 (tables m) c) : sProp 𝕄) from rfl,
    show (silent m h 0 c).Φ t.castSucc = (iprop(Pipeline.ΦA spec0 c ∗ Pipeline.ΦT pre0 (tables m) c) : sProp 𝕄) from rfl,
    show (silent m h 0 c).owesAt () t.succ = (silent m h 0 c).owesAt () t.castSucc from rfl, rest_eq, tables_eq]
  show iprop(_ ∗ _ ∗ bigSep (Finset.univ : Finset (Fin 3)) _) ⊢ wp _ _ _ _ (fun _ => iprop(_ ∗ _ ∗ bigSep (Finset.univ : Finset (Fin 3)) _))
  simp only [bigSep_W0]
  iintro ⟨⟨⟨⟨%s, HS⟩, Hg⟩, HT0, HT1⟩, Ho, ⟨%x, H0⟩, ⟨%w, H1⟩, ⟨%o, H2⟩⟩
  iapply (body c (grid0.coords t) (V m 0 main_arg1) (V m 0 main_arg2) _ _ _ _ _ _ _ _ x w o s Set.univ _)
  isplitl [HT0]; · iexact HT0
  isplitl [HT1]; · iexact HT1
  isplitl [H0]; · iexact H0
  isplitl [H1]; · iexact H1
  isplitl [H2]; · iexact H2
  isplitl [HS]; · iexact HS
  iintro ⟨GT0, GT1, G0, G1, G2, GS⟩
  isplitl [GS Hg GT0 GT1]
  · isplitl [GS Hg]
    · isplitl [GS]; · iexists _; iexact GS
      iexact Hg
    isplitl [GT0]; · iexact GT0
    iexact GT1
  isplitl [Ho]; · iexact Ho
  isplitl [G0]; · iexists _; iexact G0
  isplitl [G1]; · iexists _; iexact G1
  iexists _; iexact G2

theorem hmain (𝒱₀ : Variants) : Pipeline.HMainP (Ix := Unit) (Name := ℕ) (U := UR sig nD τ) (Lvl := ℕ) (pcfgs (F := F)) 0 defs₀ 𝒱₀ m main (V m) :=
  Pipeline.hmainP_region pcfgs 0 defs₀ 𝒱₀ m main fun c => by
    rw [main_chain]; rfl

theorem pinned (c : Dev nD) (k : Fin pre0.K) : V m c (pre0.ref k) = tables m k := by
  rw [show c = 0 from Subsingleton.elim (α := Fin 1) c 0]; rfl

set_option backward.isDefEq.respectTransparency.types false in
theorem run : θ_run defs (onTc (τ := τ) (main (F := F))) (s₀ m ρ)
    (fun r => RDat.FramePost (pipeline m h) (fun c => (silent m h 0 c).toRForget (fun _ => true)) (V m) r ∧ r.2.sem = (fun _ => 0)) :=
  Pipeline.θ_run_frameP_forget pcfgs (chosen m h) (silent m h) 0 launch0 defs₀ Variants.none (fun _ => true) m ρ main (silent_body m h)
    (fun c => (silent m h 0 c).share_full fun _ => rfl) (fun _ _ => rfl) (V := V m) (hmain := hmain m Variants.none) (hA := silent_A m h)
    (hpf := pinned m) (hΦ := fun _ _ => rfl) (Q' := _) (hQ' := fun _ h => h)

include h in
/-- The arguments end as they began, over any reading of the floats. -/
theorem kept_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = (fun _ => 0)) :=
  (θ_run defs _ _).mono (fun _ k => ⟨fun c => ⟨(RDat.FramePost.arr_in k.1 c 0 rfl).trans (silent_A m h c 0),
    (k.1 c).2 main_arg1 (show main_arg1 ∈ Pipeline.restRefs sig spec0 by decide), (k.1 c).2 main_arg2 (show main_arg2 ∈ Pipeline.restRefs sig spec0 by decide),
    (RDat.FramePost.arr_in k.1 c 1 rfl).trans (silent_A m h c 1)⟩, k.2⟩) (run m ρ h)

end Down

end
-- ==== Proof.DownValue.lean ====
/- The experts' down product at the extended reals: what each point leaves in its block of the result. -/
module

public import proofs.«01_k».proof.Proof.Dense
public import proofs.«01_k».proof.Proof.DownFrame
public import Idealize.ShloMosaic.Lib.Pipeline.ValueKit

@[expose] public section

set_option maxRecDepth 16384

noncomputable section

namespace Down

open Cert.Kernel5Ideal Cert.Kernel5Ideal.Gen
open Idealize.ShloMosaic Idealize.ShloMosaic.TcCoe Idealize.SL.Sem

/-- The expert of block `b`. -/
def owner (T : S177.Idx → BitVec 32) (b : ℕ) : Fin 32 := Fin.ofNat 32 (T (ix1 (Fin.ofNat 177 b))).toNat

/-- An expert's weights, a matrix. -/
def weight (w : S2x32x1024x2048.Idx → EReal) (e : Fin 32) : S1024x2048.Idx → EReal := fun i => w (ix4 (0 : Fin 2) e (i 0) (i 1))

/-- The result in closed form: each row by the weights of its block's expert, zero past the valid blocks. -/
def model (x : S22656x1024.Idx → EReal) (T : S177.Idx → BitVec 32) (n : S1.Idx → BitVec 32) (w : S2x32x1024x2048.Idx → EReal) : S22656x2048.Idx → EReal :=
  fun i => if (BitVec.ofNat 32 ((i 0).val / 128)).slt (n (ix1 (0 : Fin 1))) then Dense.product x (weight w (owner T ((i 0).val / 128))) (i 0) (i 1) else 0

theorem pay1_at (w : Vec Ideal S1x1x1024x2048 .f32) (i : S1024x2048.Idx) : k0_pay1 w i = w (ix4 (0 : Fin 1) (0 : Fin 1) (i 0) (i 1)) := by
  rw [eq_ix2 i]
  unfold k0_pay1
  pointwise

theorem pay2_at (x : Vec Ideal S128x1024 .f32) (s : Vec Ideal S1024x2048 .bf16) (i : S128x2048.Idx) :
    k0_pay2 x s i = Dense.product x s (i 0) (i 1) := by
  rw [eq_ix2 i]
  unfold k0_pay2 Dense.product
  pointwise

theorem pay3_at (i : S128x2048.Idx) : k0_pay3 (F := Ideal) i = (0 : EReal) := by
  rw [eq_ix2 i]
  unfold k0_pay3
  pointwise

theorem place (t : Fin grid0.N) : (grid0.coords t 1).val = t.val := (by decide +kernel : ∀ t : Fin grid0.N, (grid0.coords t 1).val = t.val) t
theorem lone (t : Fin grid0.N) : (grid0.coords t 0).val = 0 := (by decide +kernel : ∀ t : Fin grid0.N, (grid0.coords t 0).val = 0) t
theorem off1_at (t : Fin grid0.N) : k0_off1 (grid0.coords t) = ![t.val] := (by decide +kernel : ∀ t : Fin grid0.N, k0_off1 (grid0.coords t) = ![t.val]) t
theorem off2_at (t : Fin grid0.N) : k0_off2 (grid0.coords t) = ![t.val - 1] := (by decide +kernel : ∀ t : Fin grid0.N, k0_off2 (grid0.coords t) = ![t.val - 1]) t

theorem expert_at (t : Fin grid0.N) (T : S177.Idx → BitVec 32) : expert (F := Ideal) (grid0.coords t) T = T (ix1 (Fin.ofNat 177 t.val)) := by
  have ht : t.val < 177 := t.isLt
  unfold expert
  refine congrArg T (funext fun a => Fin.ext ?_)
  fin_cases a
  show k0_off1 (grid0.coords t) 0 + 1 * 0 = (Fin.ofNat 177 t.val).val
  rw [off1_at, Fin.val_ofNat, Nat.mod_eq_of_lt ht]; rfl

theorem before_at (t : Fin grid0.N) (T : S177.Idx → BitVec 32) : before (F := Ideal) (grid0.coords t) T = T (ix1 (Fin.ofNat 177 (t.val - 1))) := by
  have ht : t.val < 177 := t.isLt
  unfold before
  refine congrArg T (funext fun a => Fin.ext ?_)
  fin_cases a
  show k0_off2 (grid0.coords t) 0 + 1 * 0 = (Fin.ofNat 177 (t.val - 1)).val
  rw [off2_at, Fin.val_ofNat, Nat.mod_eq_of_lt (by omega)]; rfl

theorem total_at (n : S1.Idx → BitVec 32) : total (F := Ideal) n = n (ix1 (0 : Fin 1)) := by
  unfold total
  refine congrArg n (funext fun a => Fin.ext ?_)
  fin_cases a
  rfl

/-- Where the weights are not taken anew, the point before had the same expert. -/
theorem owner_stays (t : Fin grid0.N) (T : S177.Idx → BitVec 32) (hf : ¬ fresh (F := Ideal) (grid0.coords t) T) :
    t.val ≠ 0 ∧ owner T t.val = owner T (t.val - 1) := by
  unfold fresh at hf
  rw [expert_at, before_at, place] at hf
  unfold owner
  have ht : t.val < 177 := t.isLt
  by_cases h0 : t.val = 0
  · rw [h0] at hf; exact absurd (by simp [Scalar.cmpi, IntOp.cmpi, Scalar.ori, IntOp.ori, Scalar.extui]) hf
  refine ⟨h0, ?_⟩
  by_cases he : T (ix1 (Fin.ofNat 177 t.val)) = T (ix1 (Fin.ofNat 177 (t.val - 1)))
  · rw [he]
  · generalize T (ix1 (Fin.ofNat 177 t.val)) = a at *
    generalize T (ix1 (Fin.ofNat 177 (t.val - 1))) = b at *
    refine absurd ?_ hf
    cases hz : (BitVec.ofNat 32 t.val == 0#32) <;> simp [Scalar.cmpi, IntOp.cmpi, Scalar.ori, IntOp.ori, Scalar.extui, bne_iff_ne.mpr he, hz]

theorem valid_iff (t : Fin grid0.N) (n : S1.Idx → BitVec 32) : valid (F := Ideal) (grid0.coords t) n ↔ (BitVec.ofNat 32 t.val).slt (n (ix1 (0 : Fin 1))) = true := by
  unfold valid; rw [below_iff, total_at, place]

variable (m : (ℓ : Loc nD τ sig) → Buf (Elt Ideal) ℓ) (h : InRange m)

theorem index0 (t : Fin (pipeline m h).N) : ((pipeline m h).win 0).index t = ![t.val, 0] :=
  (by decide +kernel : ∀ t : Fin grid0.N, cc0_transform_0 (grid0.coords t) = ![t.val, 0]) t
theorem index2 (t : Fin (pipeline m h).N) : ((pipeline m h).win 2).index t = ![t.val, 0] :=
  (by decide +kernel : ∀ t : Fin grid0.N, cc0_transform_2 (grid0.coords t) = ![t.val, 0]) t
theorem index1 (t : Fin (pipeline m h).N) : ((pipeline m h).win 1).index t = ![0, (owner (V m 0 main_arg1) t.val).val, 0, 0] := by
  show cc0_transform_1 k0_off1_inb numel1_S1 (tables m) (grid0.coords t) = _
  have h1 : cc0_transform_1 k0_off1_inb numel1_S1 (tables m) (grid0.coords t) 1 = (owner (V m 0 main_arg1) t.val).val := by
    show (expert (F := Ideal) (grid0.coords t) (V m 0 main_arg1)).toNat = _
    rw [expert_at]; unfold owner; rw [Fin.val_ofNat, Nat.mod_eq_of_lt (h _)]
  funext a
  fin_cases a
  · rfl
  · exact h1
  · rfl
  · show (BitVec.ofNat 32 (grid0.coords t 0).val).toNat = 0
    rw [lone]; rfl

/-- Window `w`'s block at point `t`, read off its array. -/
def iblk (c : Dev nD) (w : Fin (pipeline m h).W) (t : Fin (pipeline m h).N) :
    (((pipeline m h).win w).xblock ((pipeline m h).grid.coords t)).Idx → Elt Ideal ((pipeline m h).win w).elt :=
  (((pipeline m h).win w).blk t).view.read (Elt Ideal) (V m c (Pipeline.arrRef spec0 w))

/-- The weights' block at a point is its expert's. -/
theorem weights (c : Dev nD) (t : Fin (pipeline m h).N) :
    (k0_pay1 (F := Ideal) (iblk m h c 1 t) : S1024x2048.Idx → EReal) = weight (V m c main_arg3) (owner (V m 0 main_arg1) t.val) := by
  funext i
  refine (pay1_at _ i).trans ?_
  unfold weight
  blk_simp [iblk, V, index1 m h]
  blk_ext [index1 m h]
  rfl

/-- The entries' block at a point is its rows. -/
theorem entries (c : Dev nD) (t : Fin (pipeline m h).N) (p : Fin 128) (k : Fin 1024) :
    (iblk m h c 0 t : S128x1024.Idx → EReal) (ix2 p k) = (V m c main_arg0 : S22656x1024.Idx → EReal) (ix2 (Fin.ofNat 22656 (128 * t.val + p.val)) k) := by
  have ht : t.val < 177 := t.isLt
  blk_simp [iblk, V, index0 m h]
  blk_ext [index0 m h]
  rw [Fin.val_ofNat]
  omega

/-- What a point stores is its block of the closed form. -/
theorem written (c : Dev nD) (t : Fin (pipeline m h).N) :
    (stored (F := Ideal) (grid0.coords t) (V m 0 main_arg2) (iblk m h c 0 t) (weight (V m c main_arg3) (owner (V m 0 main_arg1) t.val)) : S128x2048.Idx → EReal)
      = (((pipeline m h).win 2).blk t).view.read (Elt Ideal) (model (V m c main_arg0) (V m 0 main_arg1) (V m 0 main_arg2) (V m c main_arg3)) := by
  have ht : t.val < 177 := t.isLt
  funext y
  have h0 : (((((pipeline m h).win 2).blk t).view.emb y : S22656x2048.Idx) (0 : Fin 2)).val = 128 * t.val + (y 0).val := by
    blk_simp [index2 m h]
    exact congrArg (· + (y 0).val) (Nat.mul_comm t.val 128)
  have h1 : (((((pipeline m h).win 2).blk t).view.emb y : S22656x2048.Idx) (1 : Fin 2)).val = (y 1).val := by
    blk_simp [index2 m h]
  have hy : (y 0).val < 128 := (y 0).isLt
  show _ = model _ _ _ _ ((((pipeline m h).win 2).blk t).view.emb y)
  unfold model stored
  rw [h0, show (128 * t.val + (y 0).val) / 128 = t.val by omega]
  by_cases hv : valid (F := Ideal) (grid0.coords t) (V m 0 main_arg2)
  · rw [if_pos hv, if_pos ((valid_iff t _).mp hv)]
    refine (pay2_at _ _ y).trans ?_
    unfold Dense.product
    refine Finset.sum_congr rfl fun k _ => ?_
    refine congrArg₂ _ ((entries m h c t (y 0) k).trans ?_) ?_
    · refine congrArg _ (funext fun a => Fin.ext ?_)
      fin_cases a
      · show (Fin.ofNat 22656 _).val = _
        rw [Fin.val_ofNat, Nat.mod_eq_of_lt (by omega)]; exact h0.symm
      · rfl
    · refine congrArg _ (funext fun a => Fin.ext ?_)
      fin_cases a
      · rfl
      · exact h1.symm
  · rw [if_neg hv, if_neg (fun h' => hv ((valid_iff t _).mpr h'))]
    exact pay3_at y

end Down

end
-- ==== Proof.DownRun.lean ====
/- The run of the experts' down product at the extended reals: its result is the closed form. -/
module

public import proofs.«01_k».proof.Proof.DownValue

@[expose] public section

set_option maxRecDepth 16384

noncomputable section

namespace Down

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg) (h : InRange m)

/-- The result's closed form at a core's arguments. -/
def result (c : Dev nD) : S22656x2048.Idx → EReal := model (V m c main_arg0) (V m 0 main_arg1) (V m 0 main_arg2) (V m c main_arg3)

/-- What holds before point `n`: past the first point the scratch holds the weights of the expert of the point before. -/
def held (c : Dev nD) (n : ℕ) : sProp 𝕄 :=
  iprop(((∃ d, ⌜n ≠ 0 → d = weight (V m c main_arg3) (owner (V m 0 main_arg1) (n - 1))⌝ ∗ owns (c : Thread nD τ) (Memref.whole cc0_scratch0) fullShare d)
    ∗ (∃ r, prngReg c r)) ∗ Pipeline.ΦT pre0 (tables m) c)

def dats (_ : Fin 1) (c : Dev nD) : Dat τ (Elt Ideal) Unit ℕ (UR sig nD τ) ℕ (pipeline m h) c where
  A w := V m c (Pipeline.arrRef spec0 w)
  after w t := match w with
    | ⟨0, _⟩ => iblk m h c 0 t
    | ⟨1, _⟩ => iblk m h c 1 t
    | ⟨2, _⟩ => (((pipeline m h).win 2).blk t).view.read (Elt Ideal) (result m c)
  Φ t := held m c t.val
  q _ := fullShare
  owed _ := 0

theorem A_eq (c : Dev nD) (w : Fin (pipeline m h).W) : (dats m h 0 c).A w = V m c (Pipeline.arrRef spec0 w) := by dsimp only [dats]
theorem after0 (c : Dev nD) (t : Fin (pipeline m h).N) : (dats m h 0 c).after 0 t = iblk m h c 0 t := by dsimp only [dats]; rfl
theorem after1 (c : Dev nD) (t : Fin (pipeline m h).N) : (dats m h 0 c).after 1 t = iblk m h c 1 t := by dsimp only [dats]; rfl
theorem after2 (c : Dev nD) (t : Fin (pipeline m h).N) : (dats m h 0 c).after 2 t = (((pipeline m h).win 2).blk t).view.read (Elt Ideal) (result m c) := by dsimp only [dats]; rfl
theorem phi (c : Dev nD) (t : Fin ((pipeline m h).N + 1)) : (dats m h 0 c).Φ t = held m c t.val := by dsimp only [dats]

theorem before0 (c : Dev nD) (t : Fin (pipeline m h).N) (d) : (dats m h 0 c).before 0 t d = iblk m h c 0 t :=
  ((dats m h 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (pipeline m h).N) (d) : (dats m h 0 c).before 1 t d = iblk m h c 1 t :=
  ((dats m h 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-- After a point the scratch holds the weights of the point's expert. -/
theorem kept_eq (c : Dev nD) (t : Fin (pipeline m h).N) (s : Vec Ideal S1024x2048 .bf16)
    (hs : t.val ≠ 0 → s = weight (V m c main_arg3) (owner (V m 0 main_arg1) (t.val - 1))) :
    kept (grid0.coords t) (V m 0 main_arg1) (iblk m h c 1 t) s = weight (V m c main_arg3) (owner (V m 0 main_arg1) t.val) := by
  unfold kept
  by_cases hf : fresh (F := Ideal) (grid0.coords t) (V m 0 main_arg1)
  · rw [if_pos hf]; exact weights m h c t
  · obtain ⟨h0, he⟩ := owner_stays t _ hf
    rw [if_neg hf, hs h0, he]

/-- One of the body's two stores always happens. -/
theorem busy (t : Fin (pipeline m h).N) : (pipeline m h).idle 2 ((pipeline m h).grid.coords t) = false := by
  show (!(k0_cond2 (grid0.coords t) ((tables m).atD 1 ![0]) == 1#1) && !(k0_cond3 (grid0.coords t) ((tables m).atD 1 ![0]) == 1#1)) = false
  by_cases hb : k0_cond2 (grid0.coords t) ((tables m).atD 1 ![0]) = 1#1
  · rw [hb]; rfl
  · rw [(beyond_iff _ _).mpr hb]; simp

theorem sound (c : Dev nD) : BodyObligationLoose (dats m h 0 c) (defs₀ (F := Ideal)) Variants.none () Set.univ := by
  intro t
  rw [row]
  dsimp only
  rw [phi, phi, Fin.val_succ, Fin.val_castSucc, show (dats m h 0 c).owesAt () t.succ = (dats m h 0 c).owesAt () t.castSucc from rfl]
  show iprop(_ ∗ _ ∗ bigSep (Finset.univ : Finset (Fin 3)) _) ⊢ wp _ _ _ _ (fun _ => iprop(_ ∗ _ ∗ bigSep (Finset.univ : Finset (Fin 3)) _))
  simp only [bigSep_W0]
  simp only [before0, before1, after0, after1, after2]
  unfold held
  rw [tables_eq]
  iintro ⟨⟨⟨⟨%s, %hs, HS⟩, Hg⟩, HT0, HT1⟩, Ho, ⟨%x, H0⟩, ⟨%w, H1⟩, ⟨%o, H2⟩⟩
  rw [before0 m h c t x, before1 m h c t w]
  iapply (body c (grid0.coords t) (V m 0 main_arg1) (V m 0 main_arg2) _ _ _ _ _ _ _ _ (iblk m h c 0 t) (iblk m h c 1 t) _ s Set.univ _)
  rw [kept_eq m h c t s hs]
  isplitl [HT0]; · iexact HT0
  isplitl [HT1]; · iexact HT1
  isplitl [H0]; · iexact H0
  isplitl [H1]; · iexact H1
  isplitl [H2]; · iexact H2
  isplitl [HS]; · iexact HS
  iintro ⟨GT0, GT1, G0, G1, G2, GS⟩
  isplitl [GS Hg GT0 GT1]
  · isplitl [GS Hg]
    · isplitl [GS]
      · iexists _; isplitr
        swap; · iexact GS
        ipureintro
        intro _; rfl
      iexact Hg
    isplitl [GT0]; · iexact GT0
    iexact GT1
  isplitl [Ho]; · iexact Ho
  isplitl [G0]; · iexact G0
  isplitl [G1]; · iexact G1
  split
  · next hh => exact absurd (hh.symm.trans (busy m h t)) (by decide)
  unfold result
  rw [← written m h c t]
  iexact G2

theorem held_start (c : Dev nD) : iprop(Pipeline.ΦA spec0 c ∗ Pipeline.ΦT pre0 (tables m) c) ⊢ held m c 0 := by
  rw [rest_eq]; unfold held
  iintro ⟨⟨⟨%d, HS⟩, Hg⟩, HT⟩
  isplitl [HS Hg]
  · isplitl [HS]
    · iexists d; isplitr
      · ipureintro; intro h; exact absurd rfl h
      iexact HS
    iexact Hg
  iexact HT

theorem held_end (c : Dev nD) (n : ℕ) : held m c n ⊢ (Pipeline.ΦA spec0 c : sProp 𝕄) := by
  rw [rest_eq]; unfold held
  iintro ⟨⟨⟨%d, %hd, HS⟩, Hg⟩, -⟩
  isplitl [HS]
  · iexists d; iexact HS
  iexact Hg

/-- The result's window, whose blocks are the same at every table. -/
abbrev outWindow : Pipeline.Window sig grid0 :=
  Pipeline.Window.ofSpec (Memref.whole main_v0) S128x2048.size cc0_transform_2 reads0_2 true false 2 stage0_2 sem0_2 hrank0 hreads0_2 hinb0_2 nbuf0_2
    (Memref.isWhole_whole _) hwx0_2 hstage0_2

theorem array (c : Dev nD) : (dats m h 0 c).arrAt 2 (pipeline m h).N = result m c := by
  refine (dats m h 0 c).arrAt_eq_of_covers 2 (result m c) ?_ fun t hf y => ?_
  · show outWindow.Covers
    decide +kernel
  rw [after2]
  rfl

set_option backward.isDefEq.respectTransparency.types false in
theorem run_value : θ_run defs (onTc (τ := τ) (main (F := Ideal))) (s₀ m ρ) (Pipeline.FramePost (Pipeline.pin pcfgs (chosen m h)) (dats m h) 0 (V m)) :=
  Pipeline.θ_run_frameP_track pcfgs (chosen m h) (dats m h) 0 launch0 defs₀ Variants.none m ρ main (sound m h)
    (fun c => (dats m h 0 c).share_full fun _ => rfl) (fun _ _ => rfl) (V := V m) (hmain := hmain m Variants.none) (hA := A_eq m h)
    (hpf := pinned m) (hin := held_start m) (hout := fun c => held_end m c _)

include h in
/-- The result is the closed form, and the arguments end as they began. -/
theorem value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ k c => ⟨((k c).1 2).trans (array m h c),
    ((k c).1 0).trans (((dats m h 0 c).arrAt_in 0 rfl _).trans (A_eq m h c 0)),
    (k c).2 main_arg1 (show main_arg1 ∈ Pipeline.restRefs sig spec0 by decide),
    (k c).2 main_arg2 (show main_arg2 ∈ Pipeline.restRefs sig spec0 by decide),
    ((k c).1 1).trans (((dats m h 0 c).arrAt_in 1 rfl _).trans (A_eq m h c 1))⟩) (run_value m ρ h)

end Down

end
-- ==== Proof.DownEqual.lean ====
/- The experts' down product: on tables within range and with zero rows past the valid blocks, the closed form is what the reference computes. -/
module

public import proofs.«01_k».proof.Defs
public import proofs.«01_k».proof.Proof.Experts
public import proofs.«01_k».proof.Proof.DownRun
public import proofs.«01_k».proof.Proof.Gen.Pre_routed
public import proofs.«01_k».proof.Proof.Gen.Pre_in_range5
public import proofs.«01_k».proof.Proof.Gen.Reference5Ideal.Read

@[expose] public section

set_option maxRecDepth 16384

noncomputable section

namespace Down

open Idealize.ShloMosaic Idealize.ShloMosaic.TcCoe
open Cert.Kernel5Ideal Cert.Reference5Ideal.Read

/-- The precondition's first half says of each block's expert that it is one of the thirty-two. -/
theorem ranged {F : FTy → Type} [FloatOps F] (x : FVec F Cert.Pre_routed.S22656x1024 .f32) (T : S177.Idx → BitVec 32) (n : S1.Idx → BitVec 32)
    (w : FVec F Cert.Pre_routed.S2x32x1024x2048 .f32) (h : (Cert.Pre_routed.fn x T n w).1 = fun _ => 1#1) (j : S177.Idx) :
    IntOp.andi (IntOp.cmpi .sge (T j) 0#32) (IntOp.cmpi .slt (T j) 32#32) = 1#1 := by
  have e := congrFun h j
  unfold Cert.Pre_routed.fn at e
  exact e

/-- What the frames ask of the table of experts is what the run asks. -/
theorem in_range {F : FTy → Type} [FloatOps F] (m : (ℓ : Loc nD τ sig) → Buf (Elt F) ℓ)
    (h : Cert.Pre_in_range5.fn (F := F) (V m 0 main_arg0) (V m 0 main_arg1) (V m 0 main_arg2) (V m 0 main_arg3) = fun _ => 1#1) : InRange m := fun j => by
  have e := congrFun h j
  unfold Cert.Pre_in_range5.fn at e
  exact (Experts.ranged _ e).1

theorem in_range_routed {F : FTy → Type} [FloatOps F] (m : (ℓ : Loc nD τ sig) → Buf (Elt F) ℓ)
    (h : (Cert.Pre_routed.fn (F := F) (V m 0 main_arg0) (V m 0 main_arg1) (V m 0 main_arg2) (V m 0 main_arg3)).1 = fun _ => 1#1) : InRange m :=
  fun j => (Experts.ranged _ (ranged _ _ _ _ h j)).1

/-- The precondition's second half says of each entry past the valid blocks that it is zero. -/
theorem padded (x : FVec Ideal Cert.Pre_routed.S22656x1024 .f32) (T : S177.Idx → BitVec 32) (n : S1.Idx → BitVec 32)
    (w : FVec Ideal Cert.Pre_routed.S2x32x1024x2048 .f32) (h : (Cert.Pre_routed.fn x T n w).2 = fun _ => 1#1) (r : Fin 22656) (k : Fin 1024)
    (hb : ¬ (BitVec.ofNat 32 (r.val / 128)).slt (n (ix1 (0 : Fin 1))) = true) : x (ix2 r k) = (0 : EReal) := by
  have e := congrFun h (ix3 (⟨r.val / 128, by omega⟩ : Fin 177) (⟨r.val % 128, by omega⟩ : Fin 128) k)
  unfold Cert.Pre_routed.fn at e
  pointwise at e
  simp only [IntOp.cmpi] at e
  rw [show (BitVec.ofNat 32 (r.val / 128)).slt (n (ix1 (0 : Fin 1))) = false from Bool.eq_false_iff.mpr hb] at e
  by_contra hx
  rw [decide_eq_false hx] at e
  exact absurd e (by decide)

theorem column0 (b : Fin 177) : (val_main_v15 (F := Ideal) : Cert.Reference5Ideal.S177x1.Idx → BitVec 32) (ix2 b (0 : Fin 1)) = 0#32 := by
  rw [val_main_v15_apply]; rfl

/-- The reference's matrix of a block is its expert's. -/
theorem matrix (T : S177.Idx → BitVec 32) (w : S2x32x1024x2048.Idx → EReal)
    (hT : ∀ j, IntOp.andi (IntOp.cmpi .sge (T j) 0#32) (IntOp.cmpi .slt (T j) 32#32) = 1#1) (b : Fin 177) (p : Fin 1024) (q : Fin 2048) :
    (val_main_v21 (F := Ideal) T w : Cert.Reference5Ideal.S177x1024x2048.Idx → EReal) (ix3 b p q) = weight w (owner T b.val) (ix2 p q) := by
  obtain ⟨h1, h2, h3⟩ := Experts.ranged _ (hT (ix1 b))
  have hi : (idx_main_v21 (ix3 b p q) : Cert.Reference5Ideal.S177x1x1x1024x2048.Idx) = ix5 b (0 : Fin 1) (0 : Fin 1) p q := by
    funext a; refine Fin.ext ?_
    fin_cases a
    · show ((b.val * 1024 + p.val) * 2048 + q.val) / 2097152 = b.val
      omega
    · rfl
    · rfl
    · show ((b.val * 1024 + p.val) * 2048 + q.val) / 2048 % 1024 = p.val
      omega
    · show ((b.val * 1024 + p.val) * 2048 + q.val) % 2048 = q.val
      omega
  refine (val_main_v21_apply (F := Ideal) T w (ix3 b p q)).trans ?_
  rw [hi]
  unfold val_main_v20
  refine (Experts.taken _ w _ b p q (owner T b.val) ?_ ?_).trans ?_
  · unfold val_main_v19
    exact (Experts.first _ _ _ _ _ b).trans (column0 b)
  · unfold val_main_v19
    rw [show _ = _ from Experts.second _ _ _ _ _ b, val_main_v16_apply]
    have hj : idx_main_v16 (ix2 b (0 : Fin 1)) = ix1 b := by funext a; fin_cases a; rfl
    rw [hj, show val_main_v8 (F := Ideal) T (ix1 b) = T (ix1 b) from h3, h2]
    unfold owner
    rw [Fin.val_ofNat, show (Fin.ofNat 177 b.val) = b from Fin.ext (Nat.mod_eq_of_lt b.isLt), Nat.mod_eq_of_lt h1]
  · rfl

theorem reference (x : S22656x1024.Idx → EReal) (T : S177.Idx → BitVec 32) (n : S1.Idx → BitVec 32) (w : S2x32x1024x2048.Idx → EReal)
    (h : (Cert.Pre_routed.fn (F := Ideal) x T n w).1 = (fun _ => 1#1) ∧ (Cert.Pre_routed.fn (F := Ideal) x T n w).2 = fun _ => 1#1) :
    (val_main_v23 (F := Ideal) x T w : S22656x2048.Idx → EReal) = model x T n w := by
  funext i
  obtain ⟨r, q, rfl⟩ : ∃ (r : Fin 22656) (q : Fin 2048), i = ix2 r q := ⟨i 0, i 1, eq_ix2 i⟩
  have hr := r.isLt
  have hq := q.isLt
  have hi : (idx_main_v23 (ix2 r q) : Cert.Reference5Ideal.S177x128x2048.Idx) = ix3 (⟨r.val / 128, by omega⟩ : Fin 177) (⟨r.val % 128, by omega⟩ : Fin 128) q := by
    funext a; refine Fin.ext ?_
    fin_cases a
    · show (r.val * 2048 + q.val) / 262144 = r.val / 128
      omega
    · show (r.val * 2048 + q.val) / 2048 % 128 = r.val % 128
      omega
    · show (r.val * 2048 + q.val) % 2048 = q.val
      omega
  have hx : ∀ k : Fin 1024, (val_main_v0 (F := Ideal) x : Cert.Reference5Ideal.S177x128x1024.Idx → EReal)
      (ix3 (⟨r.val / 128, by omega⟩ : Fin 177) (⟨r.val % 128, by omega⟩ : Fin 128) k) = x (ix2 r k) := by
    intro k
    have hk := k.isLt
    refine (val_main_v0_apply (F := Ideal) x _).trans (congrArg x (funext fun a => Fin.ext ?_))
    fin_cases a
    · show (((r.val / 128) * 128 + r.val % 128) * 1024 + k.val) / 1024 = r.val
      omega
    · show (((r.val / 128) * 128 + r.val % 128) * 1024 + k.val) % 1024 = k.val
      omega
  refine (val_main_v23_apply (F := Ideal) x T w (ix2 r q)).trans ?_
  rw [hi, val_main_v22_apply]
  have hs : ∀ k : Fin 1024, (val_main_v0 (F := Ideal) x : Cert.Reference5Ideal.S177x128x1024.Idx → EReal)
      (lidx_main_v22 (ix3 (⟨r.val / 128, by omega⟩ : Fin 177) (⟨r.val % 128, by omega⟩ : Fin 128) q) k)
      * (val_main_v21 (F := Ideal) T w : Cert.Reference5Ideal.S177x1024x2048.Idx → EReal)
      (ridx_main_v22 (ix3 (⟨r.val / 128, by omega⟩ : Fin 177) (⟨r.val % 128, by omega⟩ : Fin 128) q) k)
      = x (ix2 r k) * weight w (owner T (r.val / 128)) (ix2 k q) := by
    intro k
    refine congrArg₂ _ (Eq.trans (congrArg _ ?_) (hx k)) (Eq.trans (congrArg _ ?_) (matrix T w (ranged (F := Ideal) x T n w h.1) ⟨r.val / 128, by omega⟩ k q))
    · funext a; fin_cases a <;> rfl
    · funext a; fin_cases a <;> rfl
  refine (Finset.sum_congr rfl fun k _ => hs k).trans ?_
  unfold model
  show _ = if (BitVec.ofNat 32 (r.val / 128)).slt (n (ix1 (0 : Fin 1))) then Dense.product x (weight w (owner T (r.val / 128))) r q else 0
  by_cases hv : (BitVec.ofNat 32 (r.val / 128)).slt (n (ix1 (0 : Fin 1))) = true
  · rw [if_pos hv]; rfl
  · rw [if_neg hv]
    refine Finset.sum_eq_zero fun k _ => ?_
    rw [padded x T n w h.2 r k hv, zero_mul]

end Down

end
-- ==== Proof.LowBody.lean ====
/- The body of the first low-rank products: what it leaves in its buffers. -/
module

public import proofs.«01_k».proof.Proof.Gen.Kernel7Ideal.Frame
public import proofs.«01_k».proof.Proof.Gen.Kernel7Ideal.Skeleton
public import Idealize.ShloMosaic.Lib.VecWindow

@[expose] public section

set_option maxRecDepth 16384

noncomputable section

namespace Low

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One row of the three mixing rows. -/
def pick (u : Vec F S3x2048 .f32) (j : Fin 3) : Vec F S1x2048 .f32 :=
  VecWindow.window u ![j.val, 0] S1x2048.size (fun a => match a with
    | ⟨0, _⟩ => by show j.val + 1 ≤ 3; omega
    | ⟨1, _⟩ => by show 0 + 2048 ≤ 2048; omega)

theorem body (c : Dev nD) (i : grid0.Coords)
    (arg1 : Memref sig .tc .vmem S512x2048 .f32) (harg1 : arg1.IsWhole) (arg2 : Memref sig .tc .vmem S512x2048 .f32) (harg2 : arg2.IsWhole)
    (arg3 : Memref sig .tc .vmem S3x2048 .f32) (harg3 : arg3.IsWhole) (arg4 : Memref sig .tc .vmem S2048x96 .f32) (harg4 : arg4.IsWhole)
    (arg5 : Memref sig .tc .vmem S2048x96 .f32) (harg5 : arg5.IsWhole) (arg6 : Memref sig .tc .vmem S2048x256 .f32) (harg6 : arg6.IsWhole)
    (arg7 : Memref sig .tc .vmem S512x96 .f32) (harg7 : arg7.IsWhole) (arg8 : Memref sig .tc .vmem S512x96 .f32) (harg8 : arg8.IsWhole)
    (arg9 : Memref sig .tc .vmem S512x256 .f32) (harg9 : arg9.IsWhole)
    (x y : Vec F S512x2048 .f32) (u : Vec F S3x2048 .f32) (w a : Vec F S2048x96 .f32) (g : Vec F S2048x256 .f32)
    (o p : Vec F S512x96 .f32) (q : Vec F S512x256 .f32) (E : Set ℕ) (K : PUnit → sProp 𝕄) :
    iprop(owns (c : Thread nD τ) arg1 fullShare x ∗ owns (c : Thread nD τ) arg2 fullShare y ∗ owns (c : Thread nD τ) arg3 fullShare u
        ∗ owns (c : Thread nD τ) arg4 fullShare w ∗ owns (c : Thread nD τ) arg5 fullShare a ∗ owns (c : Thread nD τ) arg6 fullShare g
        ∗ owns (c : Thread nD τ) arg7 fullShare o ∗ owns (c : Thread nD τ) arg8 fullShare p ∗ owns (c : Thread nD τ) arg9 fullShare q
        ∗ (iprop(owns (c : Thread nD τ) arg1 fullShare x ∗ owns (c : Thread nD τ) arg2 fullShare y ∗ owns (c : Thread nD τ) arg3 fullShare u
            ∗ owns (c : Thread nD τ) arg4 fullShare w ∗ owns (c : Thread nD τ) arg5 fullShare a ∗ owns (c : Thread nD τ) arg6 fullShare g
            ∗ owns (c : Thread nD τ) arg7 fullShare (k0_pay2 x y (pick u 0) w) ∗ owns (c : Thread nD τ) arg8 fullShare (k0_pay3 x y (pick u 1) a)
            ∗ owns (c : Thread nD τ) arg9 fullShare (k0_pay4 x y (pick u 2) g)) -∗ K ⟨⟩))
      ⊢ wp frame (wpE (defs₀ (F := F)) Variants.none c none) E
          (cc0_lora_in i arg1 harg1 arg2 harg2 arg3 harg3 arg4 harg4 arg5 harg5 arg6 harg6 arg7 harg7 arg8 harg8 arg9 harg9) K := by
  rw [cc0_lora_in_eq_skeleton]; unfold cc0_lora_in_skel; rw [k0_part1_eq_skeleton]; unfold k0_part1_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, Hk⟩
  sl_exec
  sl_step
  have r0 : ∀ inb, arg3.view.readAt (Elt F) (Rect.unit (s := S3x2048) ![0, 0] S1x2048.size inb).toLoadRect f2 = pick u 0 := fun inb => by
    rw [View.readAt_unit _ _ inb rfl inb, hf2]; rfl
  have r1 : ∀ inb, arg3.view.readAt (Elt F) (Rect.unit (s := S3x2048) ![1, 0] S1x2048.size inb).toLoadRect f2 = pick u 1 := fun inb => by
    rw [View.readAt_unit _ _ inb rfl inb, hf2]; rfl
  have r2 : ∀ inb, arg3.view.readAt (Elt F) (Rect.unit (s := S3x2048) ![2, 0] S1x2048.size inb).toLoadRect f2 = pick u 2 := fun inb => by
    rw [View.readAt_unit _ _ inb rfl inb, hf2]; rfl
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    rw [View.read_writes_full, View.readAt_full, hf0, View.readAt_full, hf1, View.readAt_full, hf3, r0]
  isplitl [H7]
  · iexists _; isplitr
    swap; · iexact H7
    ipureintro
    rw [View.read_writes_full, View.readAt_full, hf0, View.readAt_full, hf1, View.readAt_full, hf4, r1]
  iexists _; isplitr
  swap; · iexact H8
  ipureintro
  rw [View.read_writes_full, View.readAt_full, hf0, View.readAt_full, hf1, View.readAt_full, hf5, r2]

end Low

end
-- ==== Proof.LowFrame.lean ====
/- The run of the first low-rank products, over any reading of the floats: it leaves its arguments as they were. -/
module

public import proofs.«01_k».proof.Proof.LowBody
public import proofs.«01_k».proof.Proof.Gen.Kernel7Ideal
public import Idealize.ShloMosaic.Lib.Quiescent

@[expose] public section

set_option maxRecDepth 16384

noncomputable section

namespace Low

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem row (t : Fin cfg0.N) : defs₀ (F := F) .tc cfg0.body (cfg0.bodyArgs t (cfg0.slots t)) = bodyAt0 t := by
  unfold defs₀; rw [Defs.onTc_tc]

/-- The proof data in which nothing is said of what the staging buffers hold. -/
def silent (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

theorem silent_A (c : Dev nD) (w : Fin cfg0.W) : (silent m 0 c).A w = V m c (Pipeline.arrRef spec0 w) := by dsimp only [silent]

theorem silent_body (c : Dev nD) : BodyObligationLoose (silent m 0 c) (defs₀ (F := F)) Variants.none () Set.univ (fun _ => true) := by
  intro t
  rw [row]
  dsimp only
  rw [show (silent m 0 c).Φ t.succ = (silent m 0 c).Φ t.castSucc from rfl, show (silent m 0 c).owesAt () t.succ = (silent m 0 c).owesAt () t.castSucc from rfl]
  show iprop(_ ∗ _ ∗ bigSep (Finset.univ : Finset (Fin 9)) _) ⊢ wp _ _ _ _ (fun _ => iprop(_ ∗ _ ∗ bigSep (Finset.univ : Finset (Fin 9)) _))
  simp only [bigSep_W0]
  iintro ⟨HR, Ho, ⟨%x, H0⟩, ⟨%y, H1⟩, ⟨%u, H2⟩, ⟨%w, H3⟩, ⟨%a, H4⟩, ⟨%g, H5⟩, ⟨%o, H6⟩, ⟨%p, H7⟩, ⟨%q, H8⟩⟩
  iapply (body c (grid0.coords t) _ _ _ _ _ _ _ _ _ _ _ _ _ _ _ _ _ _ x y u w a g o p q Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨G0, G1, G2, G3, G4, G5, G6, G7, G8⟩
  isplitl [HR]; · iexact HR
  isplitl [Ho]; · iexact Ho
  isplitl [G0]; · iexists _; iexact G0
  isplitl [G1]; · iexists _; iexact G1
  isplitl [G2]; · iexists _; iexact G2
  isplitl [G3]; · iexists _; iexact G3
  isplitl [G4]; · iexists _; iexact G4
  isplitl [G5]; · iexists _; iexact G5
  isplitl [G6]; · iexists _; iexact G6
  isplitl [G7]; · iexists _; iexact G7
  iexists _; iexact G8

set_option backward.isDefEq.respectTransparency.types false in
theorem run : θ_run defs (onTc (τ := τ) (main (F := F))) (s₀ m ρ)
    (fun r => RDat.FramePost cfg0 (fun c => (silent m 0 c).toRForget (fun _ => true)) (V m) r ∧ r.2.sem = (fun _ => 0)) :=
  Pipeline.θ_run_frame_forget cfgs (silent m) 0 launch0 defs₀ Variants.none (fun _ => true) m ρ main (silent_body m)
    (fun c => (silent m 0 c).share_full fun _ => rfl) (fun _ _ => rfl) (V := V m) (hmain := hmain m Variants.none) (hA := silent_A m) (hΦ := fun _ _ => rfl)
    (Q' := _) (hQ' := fun _ h => h)

/-- The arguments end as they began, over any reading of the floats. -/
theorem kept_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = (fun _ => 0)) :=
  (θ_run defs _ _).mono (fun _ h => ⟨fun c => ⟨(RDat.FramePost.arr_in h.1 c 0 rfl).trans ((silent_A m c 0).trans (V_main_arg0 m c)),
    (RDat.FramePost.arr_in h.1 c 1 rfl).trans ((silent_A m c 1).trans (V_main_arg1 m c)),
    ((h.1 c).2 main_arg2 (Pipeline.mem_restRefs_of main_arg2 (by decide) (by decide))).trans (V_main_arg2 m c),
    (RDat.FramePost.arr_in h.1 c 3 rfl).trans ((silent_A m c 3).trans (V_main_arg3 m c)),
    (RDat.FramePost.arr_in h.1 c 4 rfl).trans ((silent_A m c 4).trans (V_main_arg4 m c)),
    (RDat.FramePost.arr_in h.1 c 5 rfl).trans ((silent_A m c 5).trans (V_main_arg5 m c))⟩, h.2⟩) (run m ρ)

end Low

end
-- ==== Proof.LowValue.lean ====
/- The first low-rank products at the extended reals: what each point leaves in its blocks of the results. -/
module

public import proofs.«01_k».proof.Proof.Dense
public import proofs.«01_k».proof.Proof.LowFrame
public import Idealize.ShloMosaic.Lib.Pipeline.ValueKit

@[expose] public section

set_option maxRecDepth 16384

noncomputable section

namespace Low

open Cert.Kernel7Ideal Cert.Kernel7Ideal.Gen
open Idealize.ShloMosaic Idealize.ShloMosaic.TcCoe Idealize.SL.Sem

/-- A token mixed with the one before it, by row `j` of the mixing rows. -/
def mixed (x y : S9280x2048.Idx → EReal) (u : S3x2048.Idx → EReal) (j : Fin 3) : S9280x2048.Idx → EReal :=
  fun i => x i + (y i - x i) * u (ix2 j (i 1))

/-- The decay's product in closed form. -/
def modelW (x y : S9280x2048.Idx → EReal) (u : S3x2048.Idx → EReal) (w : S2048x96.Idx → EReal) : S9280x96.Idx → EReal :=
  fun i => Ideal.tanh (Dense.product (mixed x y u 0) w (i 0) (i 1))

/-- The rate's product in closed form. -/
def modelA (x y : S9280x2048.Idx → EReal) (u : S3x2048.Idx → EReal) (a : S2048x96.Idx → EReal) : S9280x96.Idx → EReal :=
  fun i => Dense.product (mixed x y u 1) a (i 0) (i 1)

/-- The gate's product in closed form. -/
def modelG (x y : S9280x2048.Idx → EReal) (u : S3x2048.Idx → EReal) (g : S2048x256.Idx → EReal) : S9280x256.Idx → EReal :=
  fun i => Ideal.logistic (Dense.product (mixed x y u 2) g (i 0) (i 1))

theorem pick_at (u : Vec Ideal S3x2048 .f32) (j : Fin 3) (k : Fin 2048) : pick u j (ix2 0 k) = u (ix2 j k) := by
  unfold pick VecWindow.window
  refine congrArg u (funext fun a => ?_)
  fin_cases a
  · exact Fin.ext (by show j.val + 1 * 0 = j.val; omega)
  · exact Fin.ext (by show 0 + 1 * k.val = k.val; omega)

theorem pay2_at (x y : Vec Ideal S512x2048 .f32) (u : Vec Ideal S3x2048 .f32) (w : Vec Ideal S2048x96 .f32) (i : S512x96.Idx) :
    k0_pay2 x y (pick u 0) w i = Ideal.tanh (∑ k : Fin 2048, (x (ix2 (i 0) k) + (y (ix2 (i 0) k) - x (ix2 (i 0) k)) * u (ix2 0 k)) * w (ix2 k (i 1))) := by
  rw [eq_ix2 i]
  simp only [← pick_at]
  unfold k0_pay2 k0_pay1
  pointwise

theorem pay3_at (x y : Vec Ideal S512x2048 .f32) (u : Vec Ideal S3x2048 .f32) (w : Vec Ideal S2048x96 .f32) (i : S512x96.Idx) :
    k0_pay3 x y (pick u 1) w i = ∑ k : Fin 2048, (x (ix2 (i 0) k) + (y (ix2 (i 0) k) - x (ix2 (i 0) k)) * u (ix2 1 k)) * w (ix2 k (i 1)) := by
  rw [eq_ix2 i]
  simp only [← pick_at]
  unfold k0_pay3 k0_pay1
  pointwise

theorem pay4_at (x y : Vec Ideal S512x2048 .f32) (u : Vec Ideal S3x2048 .f32) (w : Vec Ideal S2048x256 .f32) (i : S512x256.Idx) :
    k0_pay4 x y (pick u 2) w i = Ideal.logistic (∑ k : Fin 2048, (x (ix2 (i 0) k) + (y (ix2 (i 0) k) - x (ix2 (i 0) k)) * u (ix2 2 k)) * w (ix2 k (i 1))) := by
  rw [eq_ix2 i]
  simp only [← pick_at]
  unfold k0_pay4 k0_pay1
  pointwise

theorem index0 (t : Fin cfg0.N) : win0_0.index t = ![t.val, 0] := (by decide +kernel : ∀ t : Fin grid0.N, win0_0.index t = ![t.val, 0]) t
theorem index1 (t : Fin cfg0.N) : win0_1.index t = ![t.val, 0] := (by decide +kernel : ∀ t : Fin grid0.N, win0_1.index t = ![t.val, 0]) t
theorem index2 (t : Fin cfg0.N) : win0_2.index t = ![0, 0] := (by decide +kernel : ∀ t : Fin grid0.N, win0_2.index t = ![0, 0]) t
theorem index3 (t : Fin cfg0.N) : win0_3.index t = ![0, 0] := (by decide +kernel : ∀ t : Fin grid0.N, win0_3.index t = ![0, 0]) t
theorem index4 (t : Fin cfg0.N) : win0_4.index t = ![0, 0] := (by decide +kernel : ∀ t : Fin grid0.N, win0_4.index t = ![0, 0]) t
theorem index5 (t : Fin cfg0.N) : win0_5.index t = ![0, 0] := (by decide +kernel : ∀ t : Fin grid0.N, win0_5.index t = ![0, 0]) t
theorem index6 (t : Fin cfg0.N) : win0_6.index t = ![t.val, 0] := (by decide +kernel : ∀ t : Fin grid0.N, win0_6.index t = ![t.val, 0]) t
theorem index7 (t : Fin cfg0.N) : win0_7.index t = ![t.val, 0] := (by decide +kernel : ∀ t : Fin grid0.N, win0_7.index t = ![t.val, 0]) t
theorem index8 (t : Fin cfg0.N) : win0_8.index t = ![t.val, 0] := (by decide +kernel : ∀ t : Fin grid0.N, win0_8.index t = ![t.val, 0]) t

/-- How many rows of its block a point moves, the same in every window of rows. -/
theorem moved (t : Fin cfg0.N) : win0_0.xsize (grid0.coords t) = ![min 512 (9280 - 512 * t.val), 2048] ∧ win0_1.xsize (grid0.coords t) = ![min 512 (9280 - 512 * t.val), 2048]
    ∧ win0_6.xsize (grid0.coords t) = ![min 512 (9280 - 512 * t.val), 96] ∧ win0_7.xsize (grid0.coords t) = ![min 512 (9280 - 512 * t.val), 96]
    ∧ win0_8.xsize (grid0.coords t) = ![min 512 (9280 - 512 * t.val), 256] :=
  (by decide +kernel : ∀ t : Fin grid0.N, win0_0.xsize (grid0.coords t) = ![min 512 (9280 - 512 * t.val), 2048] ∧ win0_1.xsize (grid0.coords t) = ![min 512 (9280 - 512 * t.val), 2048]
    ∧ win0_6.xsize (grid0.coords t) = ![min 512 (9280 - 512 * t.val), 96] ∧ win0_7.xsize (grid0.coords t) = ![min 512 (9280 - 512 * t.val), 96]
    ∧ win0_8.xsize (grid0.coords t) = ![min 512 (9280 - 512 * t.val), 256]) t

variable (m : (ℓ : Loc nD τ sig) → Buf (Elt Ideal) ℓ)

/-- The mixing rows' block is the whole of them at every point. -/
theorem mixing (c : Dev nD) (t : Fin cfg0.N) : (iblk m c 2 t : S3x2048.Idx → EReal) = (V m c main_v9 : S3x2048.Idx → EReal) := by
  funext i
  blk_simp [iblk, index2]
  blk_ext [index2]

/-- So are the three weights' blocks. -/
theorem weights3 (c : Dev nD) (t : Fin cfg0.N) : (iblk m c 3 t : S2048x96.Idx → EReal) = (V m c main_arg3 : S2048x96.Idx → EReal) := by
  funext i
  blk_simp [iblk, index3]
  blk_ext [index3]

theorem weights4 (c : Dev nD) (t : Fin cfg0.N) : (iblk m c 4 t : S2048x96.Idx → EReal) = (V m c main_arg4 : S2048x96.Idx → EReal) := by
  funext i
  blk_simp [iblk, index4]
  blk_ext [index4]

theorem weights5 (c : Dev nD) (t : Fin cfg0.N) : (iblk m c 5 t : S2048x256.Idx → EReal) = (V m c main_arg5 : S2048x256.Idx → EReal) := by
  funext i
  blk_simp [iblk, index5]
  blk_ext [index5]

/-- Inside the array, the tokens' block at a point is the rows of the point's row block. -/
theorem entries (c : Dev nD) (t : Fin cfg0.N) (d : win0_0.block.Idx → EReal) (r : Fin 512) (s : Fin 9280) (hr : s.val = 512 * t.val + r.val) (k : Fin 2048) :
    win0_0.fill (grid0.coords t) d (iblk m c 0 t) (ix2 r k) = (V m c main_arg0 : S9280x2048.Idx → EReal) (ix2 s k) := by
  rw [Dense.fill_of_lt]
  swap
  · rw [(moved t).1]; intro a; fin_cases a
    · show r.val < min 512 (9280 - 512 * t.val); omega
    · exact k.isLt
  blk_simp [iblk, index0]
  blk_ext [index0]

/-- The same of the tokens before them. -/
theorem before (c : Dev nD) (t : Fin cfg0.N) (d : win0_1.block.Idx → EReal) (r : Fin 512) (s : Fin 9280) (hr : s.val = 512 * t.val + r.val) (k : Fin 2048) :
    win0_1.fill (grid0.coords t) d (iblk m c 1 t) (ix2 r k) = (V m c main_arg1 : S9280x2048.Idx → EReal) (ix2 s k) := by
  rw [Dense.fill_of_lt]
  swap
  · rw [(moved t).2.1]; intro a; fin_cases a
    · show r.val < min 512 (9280 - 512 * t.val); omega
    · exact k.isLt
  blk_simp [iblk, index1]
  blk_ext [index1]

/-- What a point writes back is its block of each closed form. -/
theorem written6 (c : Dev nD) (t : Fin cfg0.N) (d0 : win0_0.block.Idx → EReal) (d1 : win0_1.block.Idx → EReal) :
    win0_6.cut (grid0.coords t) (k0_pay2 (win0_0.fill (grid0.coords t) d0 (iblk m c 0 t)) (win0_1.fill (grid0.coords t) d1 (iblk m c 1 t)) (pick (iblk m c 2 t) 0) (iblk m c 3 t))
      = (win0_6.blk t).view.read (Elt Ideal) (modelW (V m c main_arg0) (V m c main_arg1) (V m c main_v9) (V m c main_arg3)) := by
  funext y
  rw [Pipeline.Window.cut_apply]
  refine (pay2_at _ _ _ _ (win0_6.xinj (grid0.coords t) y)).trans ?_
  show _ = modelW _ _ _ _ ((win0_6.blk t).view.emb y)
  have hr : ((win0_6.blk t).view.emb y 0).val = 512 * t.val + (win0_6.xinj (grid0.coords t) y 0).val := by
    blk_simp [index6]
    show t.val * 512 + (y 0).val = 512 * t.val + (y 0).val
    omega
  have hc : (win0_6.blk t).view.emb y 1 = win0_6.xinj (grid0.coords t) y 1 := Fin.ext (by blk_simp [index6])
  unfold modelW Dense.product mixed
  refine congrArg Ideal.tanh (Finset.sum_congr rfl fun k _ => ?_)
  rw [entries m c t d0 _ _ hr, before m c t d1 _ _ hr, mixing, weights3, hc]
  rfl

theorem written7 (c : Dev nD) (t : Fin cfg0.N) (d0 : win0_0.block.Idx → EReal) (d1 : win0_1.block.Idx → EReal) :
    win0_7.cut (grid0.coords t) (k0_pay3 (win0_0.fill (grid0.coords t) d0 (iblk m c 0 t)) (win0_1.fill (grid0.coords t) d1 (iblk m c 1 t)) (pick (iblk m c 2 t) 1) (iblk m c 4 t))
      = (win0_7.blk t).view.read (Elt Ideal) (modelA (V m c main_arg0) (V m c main_arg1) (V m c main_v9) (V m c main_arg4)) := by
  funext y
  rw [Pipeline.Window.cut_apply]
  refine (pay3_at _ _ _ _ (win0_7.xinj (grid0.coords t) y)).trans ?_
  show _ = modelA _ _ _ _ ((win0_7.blk t).view.emb y)
  have hr : ((win0_7.blk t).view.emb y 0).val = 512 * t.val + (win0_7.xinj (grid0.coords t) y 0).val := by
    blk_simp [index7]
    show t.val * 512 + (y 0).val = 512 * t.val + (y 0).val
    omega
  have hc : (win0_7.blk t).view.emb y 1 = win0_7.xinj (grid0.coords t) y 1 := Fin.ext (by blk_simp [index7])
  unfold modelA Dense.product mixed
  refine Finset.sum_congr rfl fun k _ => ?_
  rw [entries m c t d0 _ _ hr, before m c t d1 _ _ hr, mixing, weights4, hc]
  rfl

set_option maxHeartbeats 1000000 in
theorem written8 (c : Dev nD) (t : Fin cfg0.N) (d0 : win0_0.block.Idx → EReal) (d1 : win0_1.block.Idx → EReal) :
    win0_8.cut (grid0.coords t) (k0_pay4 (win0_0.fill (grid0.coords t) d0 (iblk m c 0 t)) (win0_1.fill (grid0.coords t) d1 (iblk m c 1 t)) (pick (iblk m c 2 t) 2) (iblk m c 5 t))
      = (win0_8.blk t).view.read (Elt Ideal) (modelG (V m c main_arg0) (V m c main_arg1) (V m c main_v9) (V m c main_arg5)) := by
  funext y
  rw [Pipeline.Window.cut_apply]
  refine (pay4_at _ _ _ _ (win0_8.xinj (grid0.coords t) y)).trans ?_
  show _ = modelG _ _ _ _ ((win0_8.blk t).view.emb y)
  have hr : ((win0_8.blk t).view.emb y 0).val = 512 * t.val + (win0_8.xinj (grid0.coords t) y 0).val := by
    blk_simp [index8]
    show t.val * 512 + (y 0).val = 512 * t.val + (y 0).val
    omega
  have hc : (win0_8.blk t).view.emb y 1 = win0_8.xinj (grid0.coords t) y 1 := Fin.ext (by blk_simp [index8])
  unfold modelG Dense.product mixed
  refine congrArg Ideal.logistic (Finset.sum_congr rfl fun k _ => ?_)
  rw [entries m c t d0 _ _ hr, before m c t d1 _ _ hr, mixing, weights5, hc]
  rfl

end Low

end
-- ==== Proof.LowRun.lean ====
/- The run of the first low-rank products at the extended reals: its results are the closed forms. -/
module

public import proofs.«01_k».proof.Proof.LowValue

@[expose] public section

set_option maxRecDepth 16384

noncomputable section

namespace Low

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The results' closed forms at a core's arguments. -/
def resultW (c : Dev nD) : S9280x96.Idx → EReal := modelW (V m c main_arg0) (V m c main_arg1) (V m c main_v9) (V m c main_arg3)
def resultA (c : Dev nD) : S9280x96.Idx → EReal := modelA (V m c main_arg0) (V m c main_arg1) (V m c main_v9) (V m c main_arg4)
def resultG (c : Dev nD) : S9280x256.Idx → EReal := modelG (V m c main_arg0) (V m c main_arg1) (V m c main_v9) (V m c main_arg5)

def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => iblk m c 2 t
    | ⟨3, _⟩ => iblk m c 3 t
    | ⟨4, _⟩ => iblk m c 4 t
    | ⟨5, _⟩ => iblk m c 5 t
    | ⟨6, _⟩ => win0_6.fill (grid0.coords t) (fun _ => (0 : EReal)) ((win0_6.blk t).view.read (Elt Ideal) (resultW m c))
    | ⟨7, _⟩ => win0_7.fill (grid0.coords t) (fun _ => (0 : EReal)) ((win0_7.blk t).view.read (Elt Ideal) (resultA m c))
    | ⟨8, _⟩ => win0_8.fill (grid0.coords t) (fun _ => (0 : EReal)) ((win0_8.blk t).view.read (Elt Ideal) (resultG m c))
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = win0_0.fill (grid0.coords t) (fun _ => (0 : EReal)) (iblk m c 0 t) := by dsimp only [dats]
theorem after1 (c : Dev nD) (t : Fin cfg0.N) : (dats m 0 c).after 1 t = win0_1.fill (grid0.coords t) (fun _ => (0 : EReal)) (iblk m c 1 t) := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = win0_6.fill (grid0.coords t) (fun _ => (0 : EReal)) ((win0_6.blk t).view.read (Elt Ideal) (resultW m c)) := by dsimp only [dats]
theorem after7 (c : Dev nD) (t : Fin cfg0.N) : (dats m 0 c).after 7 t = win0_7.fill (grid0.coords t) (fun _ => (0 : EReal)) ((win0_7.blk t).view.read (Elt Ideal) (resultA m c)) := by dsimp only [dats]
theorem after8 (c : Dev nD) (t : Fin cfg0.N) : (dats m 0 c).after 8 t = win0_8.fill (grid0.coords t) (fun _ => (0 : EReal)) ((win0_8.blk t).view.read (Elt Ideal) (resultG m c)) := by dsimp only [dats]

theorem before0 (c : Dev nD) (t : Fin cfg0.N) (d) : (dats m 0 c).before 0 t d = win0_0.fill (grid0.coords t) d (iblk m c 0 t) := by
  unfold Dat.before; rw [if_pos (fetch0_0 t)]; rfl
theorem before1 (c : Dev nD) (t : Fin cfg0.N) (d) : (dats m 0 c).before 1 t d = win0_1.fill (grid0.coords t) d (iblk m c 1 t) := by
  unfold Dat.before; rw [if_pos (fetch0_1 t)]; rfl
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d

theorem sound (c : Dev nD) : BodyObligationLoose (dats m 0 c) (defs₀ (F := Ideal)) Variants.none () Set.univ := by
  intro t
  rw [row]
  dsimp only
  rw [show (dats m 0 c).Φ t.succ = (dats m 0 c).Φ t.castSucc from rfl, show (dats m 0 c).owesAt () t.succ = (dats m 0 c).owesAt () t.castSucc from rfl]
  show iprop(_ ∗ _ ∗ bigSep (Finset.univ : Finset (Fin 9)) _) ⊢ wp _ _ _ _ (fun _ => iprop(_ ∗ _ ∗ bigSep (Finset.univ : Finset (Fin 9)) _))
  simp only [bigSep_W0]
  simp only [before0, before1, before2, before3, before4, before5, after0, after1, after2, after3, after4, after5, after6, after7, after8]
  iintro ⟨HR, Ho, ⟨%x, H0⟩, ⟨%y, H1⟩, ⟨%u, H2⟩, ⟨%w, H3⟩, ⟨%a, H4⟩, ⟨%g, H5⟩, ⟨%o, H6⟩, ⟨%p, H7⟩, ⟨%q, H8⟩⟩
  iapply (body c (grid0.coords t) _ _ _ _ _ _ _ _ _ _ _ _ _ _ _ _ _ _ (win0_0.fill (grid0.coords t) x (iblk m c 0 t)) (win0_1.fill (grid0.coords t) y (iblk m c 1 t))
    (iblk m c 2 t) (iblk m c 3 t) (iblk m c 4 t) (iblk m c 5 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨G0, G1, G2, G3, G4, G5, G6, G7, G8⟩
  isplitl [HR]; · iexact HR
  isplitl [Ho]; · iexact Ho
  isplitl [G0]
  · iexists x
    rw [Pipeline.Window.cut_fill]
    iexact G0
  isplitl [G1]
  · iexists y
    rw [Pipeline.Window.cut_fill]
    iexact G1
  isplitl [G2]; · iexact G2
  isplitl [G3]; · iexact G3
  isplitl [G4]; · iexact G4
  isplitl [G5]; · iexact G5
  isplitl [G6]
  · iexists (k0_pay2 (win0_0.fill (grid0.coords t) x (iblk m c 0 t)) (win0_1.fill (grid0.coords t) y (iblk m c 1 t)) (pick (iblk m c 2 t) 0) (iblk m c 3 t))
    rw [Pipeline.Window.cut_fill]
    unfold resultW
    rw [← written6 m c t x y, Pipeline.Window.fill_cut]
    iexact G6
  isplitl [G7]
  · iexists (k0_pay3 (win0_0.fill (grid0.coords t) x (iblk m c 0 t)) (win0_1.fill (grid0.coords t) y (iblk m c 1 t)) (pick (iblk m c 2 t) 1) (iblk m c 4 t))
    rw [Pipeline.Window.cut_fill]
    unfold resultA
    rw [← written7 m c t x y, Pipeline.Window.fill_cut]
    iexact G7
  iexists (k0_pay4 (win0_0.fill (grid0.coords t) x (iblk m c 0 t)) (win0_1.fill (grid0.coords t) y (iblk m c 1 t)) (pick (iblk m c 2 t) 2) (iblk m c 5 t))
  rw [Pipeline.Window.cut_fill]
  unfold resultG
  rw [← written8 m c t x y, Pipeline.Window.fill_cut]
  iexact G8

theorem array6 (c : Dev nD) : (dats m 0 c).arrAt 6 cfg0.N = resultW m c := by
  refine (dats m 0 c).arrAt_eq_of_covers 6 (resultW m c) (by decide +kernel) fun t hf y => ?_
  rw [after6]
  exact congrFun (win0_6.cut_fill (grid0.coords t) (fun _ => (0 : EReal)) ((win0_6.blk t).view.read (Elt Ideal) (resultW m c))) y

theorem array7 (c : Dev nD) : (dats m 0 c).arrAt 7 cfg0.N = resultA m c := by
  refine (dats m 0 c).arrAt_eq_of_covers 7 (resultA m c) (by decide +kernel) fun t hf y => ?_
  rw [after7]
  exact congrFun (win0_7.cut_fill (grid0.coords t) (fun _ => (0 : EReal)) ((win0_7.blk t).view.read (Elt Ideal) (resultA m c))) y

theorem array8 (c : Dev nD) : (dats m 0 c).arrAt 8 cfg0.N = resultG m c := by
  refine (dats m 0 c).arrAt_eq_of_covers 8 (resultG m c) (by decide +kernel) fun t hf y => ?_
  rw [after8]
  exact congrFun (win0_8.cut_fill (grid0.coords t) (fun _ => (0 : EReal)) ((win0_8.blk t).view.read (Elt Ideal) (resultG m c))) y

set_option backward.isDefEq.respectTransparency.types false in
theorem run_value : θ_run defs (onTc (τ := τ) (main (F := Ideal))) (s₀ m ρ) (Pipeline.FramePost cfgs (dats m) 0 (V m)) :=
  Pipeline.θ_run_frame_track cfgs (dats m) 0 launch0 defs₀ Variants.none m ρ main (sound m)
    (fun c => (dats m 0 c).share_full fun _ => rfl) (fun _ _ => rfl) (V := V m) (hmain := hmain m Variants.none) (hA := A_eq m)
    (hin := fun c => by show (Pipeline.ΦA spec0 c : sProp 𝕄) ⊢ (Pipeline.ΦA spec0 c : sProp 𝕄); iintro H; iexact H)
    (hout := fun c => by show (Pipeline.ΦA spec0 c : sProp 𝕄) ⊢ (Pipeline.ΦA spec0 c : sProp 𝕄); iintro H; iexact H)

/-- The results are the closed forms, and the arguments end as they began. -/
theorem value : θ_run defs (onTc (τ := τ) (main (F := Ideal))) ⟨m, fun _ => 0, ρ⟩ (fun r => ∀ c : Dev nD,
      r.2.mem ((c.tc : Thread nD τ).loc main_v10_0) = resultW m c
      ∧ r.2.mem ((c.tc : Thread nD τ).loc main_v10_1) = resultA m c
      ∧ r.2.mem ((c.tc : Thread nD τ).loc main_v10_2) = resultG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (array6 m c), ((h c).1 7).trans (array7 m c), ((h c).1 8).trans (array8 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩) (run_value m ρ)

end Low

end
-- ==== Proof.LowEqual.lean ====
/- The first low-rank products: the closed forms are what the reference computes. -/
module

public import proofs.«01_k».proof.Proof.LowRun
public import proofs.«01_k».proof.Proof.Gen.Reference7Ideal
public import proofs.«01_k».proof.Proof.Gen.Reference7Ideal.Run
public import proofs.«01_k».proof.Proof.Gen.Reference7Ideal.Read

@[expose] public section

set_option maxRecDepth 16384

noncomputable section

namespace Low

open Idealize.ShloMosaic Idealize.ShloMosaic.TcCoe Idealize.SL.Sem

/-- Which of the six mixing rows stands in place `j` of the three. -/
def place (j : Fin 3) : Fin 6 := ![1, 4, 5] j

section Launch
open Cert.Kernel7Ideal Cert.Kernel7Ideal.Gen

variable (m : (ℓ : Loc nD τ sig) → Buf (Elt Ideal) ℓ)

/-- Row `o` of the argument, as a row by itself. -/
def alone (u : Vec Ideal S6x2048 .f32) (o : ℕ) (h : Shape.Slices S6x2048 ![o, 0] S1x2048) : Vec Ideal S1x2048 .f32 :=
  broadcastInDim S1x2048 ![1] bcast_S2048_S1x2048_1 (shapeCast S2048 (extractStridedSlice S1x2048 ![o, 0] u h) shapeCasts_S1x2048_S2048)

/-- The mixing rows as the launch finds them: three of the argument's six. -/
theorem row_of (c : Dev nD) (j : Fin 3) (k : Fin 2048) :
    (V m c main_v9 : S3x2048.Idx → EReal) (ix2 j k) = (m ((c.tc : Thread nD τ).loc main_arg2) : S6x2048.Idx → EReal) (ix2 (place j) k) := by
  unfold V
  rw [show StableHlo.after hostOps0 (fun b => m (c, b)) (Proc.tc.devRef main_v9) = concatenate S3x2048 0
      [⟨S1x2048, alone (m ((c.tc : Thread nD τ).loc main_arg2)) 1 slices_S6x2048_S1x2048_1_0⟩,
        ⟨S1x2048, alone (m ((c.tc : Thread nD τ).loc main_arg2)) 4 slices_S6x2048_S1x2048_4_0⟩,
        ⟨S1x2048, alone (m ((c.tc : Thread nD τ).loc main_arg2)) 5 slices_S6x2048_S1x2048_5_0⟩] concatenates_S1x2048_S1x2048_S1x2048_S3x2048_d0 by
    after_results; rfl]
  generalize (m ((c.tc : Thread nD τ).loc main_arg2) : S6x2048.Idx → EReal) = u
  unfold alone
  fin_cases j <;> pointwise <;> rfl

end Launch

open Cert.Reference7Ideal Cert.Reference7Ideal.Gen Cert.Reference7Ideal.Read

variable (x y : FVec Ideal S9280x2048 .f32) (u : FVec Ideal S6x2048 .f32) (v : Cert.Kernel7Ideal.S3x2048.Idx → EReal)
  (h : ∀ j k, v (ix2 j k) = u (ix2 (place j) k))
include h

theorem referenceW (w : FVec Ideal S2048x96 .f32) : val_main_v20 (F := Ideal) x y u w = modelW x y v w := by
  funext i
  rw [eq_ix2 i, ← val_main_v20_eq]
  unfold modelW Dense.product mixed
  pointwise
  simp only [h]
  rfl

theorem referenceA (a : FVec Ideal S2048x96 .f32) : val_main_v21 (F := Ideal) x y u a = modelA x y v a := by
  funext i
  rw [eq_ix2 i, ← val_main_v21_eq]
  unfold modelA Dense.product mixed
  pointwise
  simp only [h]
  rfl

theorem referenceG (g : FVec Ideal S2048x256 .f32) : val_main_v28 (F := Ideal) x y u g = modelG x y v g := by
  funext i
  rw [eq_ix2 i, ← val_main_v28_eq]
  unfold modelG Dense.product mixed Ideal.logistic
  pointwise
  simp only [h]
  rfl

end Low

end
-- ==== Proof.GateBody.lean ====
/- The body of the product by the gate's second matrix: what it leaves in its buffers. -/
module

public import proofs.«01_k».proof.Proof.Gen.Kernel8Ideal.Frame
public import proofs.«01_k».proof.Proof.Gen.Kernel8Ideal.Skeleton
public import Idealize.ShloMosaic.Lib.VecWindow

@[expose] public section

set_option maxRecDepth 16384

noncomputable section

namespace Gate

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body takes a new column block of the weights at this point: it is the first row block. -/
def fresh (i : grid0.Coords) : Prop :=
  Scalar.cmpi .ne (Scalar.extui (Scalar.cmpi .eq (BitVec.ofNat 32 (i 1).val) 0#32)) 0#32 = 1#1

open Classical in
/-- What the scratch holds after the body: the narrowed column block where it is taken anew, else what it held. -/
def kept (i : grid0.Coords) (w : Vec F S256x1024 .f32) (s : Vec F S256x1024 .bf16) : Vec F S256x1024 .bf16 :=
  if fresh i then k0_pay1 w else s

theorem body (c : Dev nD) (i : grid0.Coords)
    (arg2 : Memref sig .tc .vmem S512x256 .f32) (harg2 : arg2.IsWhole) (arg3 : Memref sig .tc .vmem S256x1024 .f32) (harg3 : arg3.IsWhole)
    (arg4 : Memref sig .tc .vmem S512x1024 .f32) (harg4 : arg4.IsWhole) (arg5 : Memref sig .tc .vmem S256x1024 .bf16) (harg5 : arg5.IsWhole)
    (x : Vec F S512x256 .f32) (w : Vec F S256x1024 .f32) (o : Vec F S512x1024 .f32) (s : Vec F S256x1024 .bf16)
    (E : Set ℕ) (K : PUnit → sProp 𝕄) :
    iprop(owns (c : Thread nD τ) arg2 fullShare x ∗ owns (c : Thread nD τ) arg3 fullShare w
        ∗ owns (c : Thread nD τ) arg4 fullShare o ∗ owns (c : Thread nD τ) arg5 fullShare s
        ∗ (iprop(owns (c : Thread nD τ) arg2 fullShare x ∗ owns (c : Thread nD τ) arg3 fullShare w
            ∗ owns (c : Thread nD τ) arg4 fullShare (k0_pay2 x (kept i w s)) ∗ owns (c : Thread nD τ) arg5 fullShare (kept i w s)) -∗ K ⟨⟩))
      ⊢ wp frame (wpE (defs₀ (F := F)) Variants.none c none) E
          (cc0_dense_matmul i arg2 harg2 arg3 harg3 arg4 harg4 arg5 harg5) K := by
  rw [cc0_dense_matmul_eq_skeleton]; unfold cc0_dense_matmul_skel owns
  iintro ⟨⟨%f0, %hf0, H0⟩, ⟨%f1, %hf1, H1⟩, ⟨%f2, %hf2, H2⟩, ⟨%f3, %hf3, H3⟩, Hk⟩
  by_cases hc : fresh i
  · have hc' := hc; unfold fresh at hc'
    sl_exec (disch := sl_exact hc')
    sl_step
    iapply Hk
    isplitl [H0]
    · iexists _; isplitr; · ipureintro; exact hf0
      iexact H0
    isplitl [H1]
    · iexists _; isplitr; · ipureintro; exact hf1
      iexact H1
    isplitl [H2]
    · iexists _; isplitr
      swap; · iexact H2
      ipureintro
      rw [View.read_writes_full, View.readAt_full, hf0, kept, if_pos hc]; unfold body.sl.v5
      unfold body.sl.H3_1; rw [View.readCov_full, View.readAt_full, hf1]
    · iexists _; isplitr
      swap; · iexact H3
      ipureintro
      unfold body.sl.H3_1; rw [View.read_writes_full, View.readAt_full, hf1, kept, if_pos hc]
  · have hc' := hc; unfold fresh at hc'
    sl_exec (disch := sl_exact hc')
    sl_step
    iapply Hk
    isplitl [H0]
    · iexists _; isplitr; · ipureintro; exact hf0
      iexact H0
    isplitl [H1]
    · iexists _; isplitr; · ipureintro; exact hf1
      iexact H1
    isplitl [H2]
    · iexists _; isplitr
      swap; · iexact H2
      ipureintro
      rw [View.read_writes_full, View.readAt_full, hf0, View.readAt_full, hf3, kept, if_neg hc]
    · iexists _; isplitr
      swap; · iexact H3
      ipureintro
      rw [hf3, kept, if_neg hc]

end Gate

end
-- ==== Proof.GateFrame.lean ====
/- The run of the product by the gate's second matrix, over any reading of the floats: it leaves its arguments as they were. -/
module

public import proofs.«01_k».proof.Proof.GateBody
public import proofs.«01_k».proof.Proof.Gen.Kernel8Ideal
public import Idealize.ShloMosaic.Lib.Quiescent

@[expose] public section

set_option maxRecDepth 16384

noncomputable section

namespace Gate

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem row (t : Fin cfg0.N) : defs₀ (F := F) .tc cfg0.body (cfg0.bodyArgs t (cfg0.slots t)) = bodyAt0 t := by
  unfold defs₀; rw [Defs.onTc_tc]

/-- The resources outside the windows: the scratch and the generator register. -/
theorem rest_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]

/-- The proof data in which nothing is said of what the staging buffers hold. -/
def silent (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

theorem silent_A (c : Dev nD) (w : Fin cfg0.W) : (silent m 0 c).A w = V m c (Pipeline.arrRef spec0 w) := by dsimp only [silent]

theorem silent_body (c : Dev nD) : BodyObligationLoose (silent m 0 c) (defs₀ (F := F)) Variants.none () Set.univ (fun _ => true) := by
  intro t
  rw [row]
  dsimp only
  rw [show (silent m 0 c).Φ t.succ = (Pipeline.ΦA spec0 c : sProp 𝕄) from rfl, show (silent m 0 c).Φ t.castSucc = (Pipeline.ΦA spec0 c : sProp 𝕄) from rfl,
    show (silent m 0 c).owesAt () t.succ = (silent m 0 c).owesAt () t.castSucc from rfl, rest_eq]
  show iprop(_ ∗ _ ∗ bigSep (Finset.univ : Finset (Fin 3)) _) ⊢ wp _ _ _ _ (fun _ => iprop(_ ∗ _ ∗ bigSep (Finset.univ : Finset (Fin 3)) _))
  simp only [bigSep_W0]
  iintro ⟨⟨⟨%s, HS⟩, Hg⟩, Ho, ⟨%x, H0⟩, ⟨%w, H1⟩, ⟨%o, H2⟩⟩
  iapply (body c (grid0.coords t) _ _ _ _ _ _ _ _ x w o s Set.univ _)
  isplitl [H0]; · iexact H0
  isplitl [H1]; · iexact H1
  isplitl [H2]; · iexact H2
  isplitl [HS]; · iexact HS
  iintro ⟨G0, G1, G2, GS⟩
  isplitl [GS Hg]
  · isplitl [GS]; · iexists _; iexact GS
    iexact Hg
  isplitl [Ho]; · iexact Ho
  isplitl [G0]; · iexists _; iexact G0
  isplitl [G1]; · iexists _; iexact G1
  iexists _; iexact G2

set_option backward.isDefEq.respectTransparency.types false in
theorem run : θ_run defs (onTc (τ := τ) (main (F := F))) (s₀ m ρ)
    (fun r => RDat.FramePost cfg0 (fun c => (silent m 0 c).toRForget (fun _ => true)) (V m) r ∧ r.2.sem = (fun _ => 0)) :=
  Pipeline.θ_run_frame_forget cfgs (silent m) 0 launch0 defs₀ Variants.none (fun _ => true) m ρ main (silent_body m)
    (fun c => (silent m 0 c).share_full fun _ => rfl) (fun _ _ => rfl) (V := V m) (hmain := hmain m Variants.none) (hA := silent_A m) (hΦ := fun _ _ => rfl)
    (Q' := _) (hQ' := fun _ h => h)

/-- The arguments end as they began, over any reading of the floats. -/
theorem kept_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = (fun _ => 0)) :=
  (θ_run defs _ _).mono (fun _ h => ⟨fun c => ⟨(RDat.FramePost.arr_in h.1 c 0 rfl).trans ((silent_A m c 0).trans (V_main_arg0 m c)),
    (RDat.FramePost.arr_in h.1 c 1 rfl).trans ((silent_A m c 1).trans (V_main_arg1 m c))⟩, h.2⟩) (run m ρ)

end Gate

end
-- ==== Proof.GateValue.lean ====
/- The product by the gate's second matrix at the extended reals: what each point leaves in its block of the result. -/
module

public import proofs.«01_k».proof.Proof.Dense
public import proofs.«01_k».proof.Proof.GateFrame
public import Idealize.ShloMosaic.Lib.Pipeline.ValueKit

@[expose] public section

set_option maxRecDepth 16384

noncomputable section

namespace Gate

open Cert.Kernel8Ideal Cert.Kernel8Ideal.Gen
open Idealize.ShloMosaic Idealize.ShloMosaic.TcCoe Idealize.SL.Sem

/-- The result in closed form: the product. -/
def model (x : S9280x256.Idx → EReal) (w : S256x2048.Idx → EReal) : S9280x2048.Idx → EReal :=
  fun i => Dense.product x w (i 0) (i 1)

theorem pay2_at (x : Vec Ideal S512x256 .f32) (s : Vec Ideal S256x1024 .bf16) (i : S512x1024.Idx) :
    k0_pay2 x s i = Dense.product x s (i 0) (i 1) := by
  rw [eq_ix2 i]
  unfold k0_pay2 Dense.product
  pointwise

theorem pay1_at (w : Vec Ideal S256x1024 .f32) : k0_pay1 w = w := by
  funext i
  rw [eq_ix2 i]
  unfold k0_pay1
  pointwise

theorem col (t : Fin cfg0.N) : (grid0.coords t 0).val = t.val / 19 := (by decide +kernel : ∀ t : Fin grid0.N, (grid0.coords t 0).val = t.val / 19) t
theorem rowb (t : Fin cfg0.N) : (grid0.coords t 1).val = t.val % 19 := (by decide +kernel : ∀ t : Fin grid0.N, (grid0.coords t 1).val = t.val % 19) t
theorem index0 (t : Fin cfg0.N) : win0_0.index t = ![t.val % 19, 0] := (by decide +kernel : ∀ t : Fin grid0.N, win0_0.index t = ![t.val % 19, 0]) t
theorem index1 (t : Fin cfg0.N) : win0_1.index t = ![0, t.val / 19] := (by decide +kernel : ∀ t : Fin grid0.N, win0_1.index t = ![0, t.val / 19]) t
theorem index2 (t : Fin cfg0.N) : win0_2.index t = ![t.val % 19, t.val / 19] := (by decide +kernel : ∀ t : Fin grid0.N, win0_2.index t = ![t.val % 19, t.val / 19]) t
theorem moved0 (t : Fin cfg0.N) : win0_0.xsize (grid0.coords t) = ![win0_2.xsize (grid0.coords t) 0, 256] :=
  (by decide +kernel : ∀ t : Fin grid0.N, win0_0.xsize (grid0.coords t) = ![win0_2.xsize (grid0.coords t) 0, 256]) t
theorem fresh_iff (t : Fin cfg0.N) : fresh (grid0.coords t) ↔ t.val % 19 = 0 := by
  unfold fresh
  exact (by decide +kernel : ∀ t : Fin grid0.N, (Scalar.cmpi .ne (Scalar.extui (Scalar.cmpi .eq (BitVec.ofNat 32 (grid0.coords t 1).val) 0#32)) 0#32 = 1#1) ↔ t.val % 19 = 0) t

variable (m : (ℓ : Loc nD τ sig) → Buf (Elt Ideal) ℓ)

/-- The weights' block at a point is the columns of the point's column block. -/
theorem weights (c : Dev nD) (t : Fin cfg0.N) : (iblk m c 1 t : S256x1024.Idx → EReal) = Dense.columns 1024 (V m c main_arg1 : S256x2048.Idx → EReal) (t.val / 19) := by
  funext i
  have ht : t.val < 38 := t.isLt
  unfold Dense.columns
  blk_simp [iblk, V, index1]
  blk_ext [index1]
  rw [Fin.val_ofNat]
  omega

/-- Inside the array, the entries' block at a point is the rows of the point's row block. -/
theorem entries (c : Dev nD) (t : Fin cfg0.N) (d : win0_0.block.Idx → EReal) (y : (win0_2.xblock (grid0.coords t)).Idx) (k : Fin 256) :
    win0_0.fill (grid0.coords t) d (iblk m c 0 t) (ix2 (win0_2.xinj (grid0.coords t) y 0) k)
      = (V m c main_arg0 : S9280x256.Idx → EReal) (ix2 ((win0_2.blk t).view.emb y 0) k) := by
  rw [Dense.fill_of_lt]
  swap
  · rw [moved0]; intro a; fin_cases a
    · exact (y 0).isLt
    · exact k.isLt
  blk_simp [iblk, V, index0, index2]
  blk_ext [index0, index2]

/-- What a point writes back is its block of the closed form. -/
theorem written (c : Dev nD) (t : Fin cfg0.N) (d0 : win0_0.block.Idx → EReal) :
    win0_2.cut (grid0.coords t) (k0_pay2 (win0_0.fill (grid0.coords t) d0 (iblk m c 0 t))
        (Dense.columns 1024 (V m c main_arg1 : S256x2048.Idx → EReal) (t.val / 19)))
      = (win0_2.blk t).view.read (Elt Ideal) (model (V m c main_arg0) (V m c main_arg1)) := by
  funext y
  have ht : t.val < 38 := t.isLt
  rw [Pipeline.Window.cut_apply]
  refine (pay2_at _ _ (win0_2.xinj (grid0.coords t) y)).trans ?_
  show _ = model _ _ ((win0_2.blk t).view.emb y)
  unfold model Dense.product
  refine Finset.sum_congr rfl fun k _ => ?_
  rw [entries]
  congr 1
  unfold Dense.columns
  have hy : (y 1).val < 1024 := lt_of_lt_of_le (y 1).isLt (win0_2.xsize_le (grid0.coords t) 1)
  blk_ext [index2]
  rw [Fin.val_ofNat]
  omega

end Gate

end
-- ==== Proof.GateRun.lean ====
/- The run of the product by the gate's second matrix at the extended reals: its result is the closed form. -/
module

public import proofs.«01_k».proof.Proof.GateValue

@[expose] public section

set_option maxRecDepth 16384

noncomputable section

namespace Gate

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The result's closed form at a core's arguments. -/
def result (c : Dev nD) : S9280x2048.Idx → EReal := model (V m c main_arg0) (V m c main_arg1)

/-- What holds before point `n`: past a column block's first point the scratch holds that block of the weights. -/
def held (c : Dev nD) (n : ℕ) : sProp 𝕄 :=
  iprop((∃ d, ⌜n % 19 ≠ 0 → d = Dense.columns 1024 (V m c main_arg1 : S256x2048.Idx → EReal) (n / 19)⌝ ∗ owns (c : Thread nD τ) (Memref.whole cc0_scratch0) fullShare d)
    ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => win0_2.fill (grid0.coords t) (fun _ => (0 : EReal)) ((win0_2.blk t).view.read (Elt Ideal) (result m c))
  Φ t := held m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = win0_0.fill (grid0.coords t) (fun _ => (0 : EReal)) (iblk m c 0 t) := by dsimp only [dats]
theorem after1 (c : Dev nD) (t : Fin cfg0.N) : (dats m 0 c).after 1 t = iblk m c 1 t := by dsimp only [dats]
theorem after2 (c : Dev nD) (t : Fin cfg0.N) : (dats m 0 c).after 2 t = win0_2.fill (grid0.coords t) (fun _ => (0 : EReal)) ((win0_2.blk t).view.read (Elt Ideal) (result m c)) := by dsimp only [dats]

theorem before0 (c : Dev nD) (t : Fin cfg0.N) (d) : (dats m 0 c).before 0 t d = win0_0.fill (grid0.coords t) d (iblk m c 0 t) := by
  unfold Dat.before; rw [if_pos (fetch0_0 t)]; rfl
theorem before1 (c : Dev nD) (t : Fin cfg0.N) (d) : (dats m 0 c).before 1 t d = iblk m c 1 t :=
  before0_1_of m (dats m 0 c) (A_eq m c 1) (after1 m c) t d

/-- After a point the scratch holds the weights' block of the point's columns. -/
theorem kept_eq (c : Dev nD) (t : Fin cfg0.N) (s : Vec Ideal S256x1024 .bf16)
    (hs : t.val % 19 ≠ 0 → s = Dense.columns 1024 (V m c main_arg1 : S256x2048.Idx → EReal) (t.val / 19)) :
    kept (grid0.coords t) (iblk m c 1 t) s = Dense.columns 1024 (V m c main_arg1 : S256x2048.Idx → EReal) (t.val / 19) := by
  unfold kept
  by_cases h : t.val % 19 = 0
  · rw [if_pos ((fresh_iff t).mpr h)]; exact (pay1_at _).trans (weights m c t)
  · rw [if_neg (fun h' => h ((fresh_iff t).mp h')), hs h]

theorem sound (c : Dev nD) : BodyObligationLoose (dats m 0 c) (defs₀ (F := Ideal)) Variants.none () Set.univ := by
  intro t
  rw [row]
  dsimp only
  rw [show (dats m 0 c).Φ t.succ = held m c (t.val + 1) from rfl, show (dats m 0 c).Φ t.castSucc = held m c t.val from rfl,
    show (dats m 0 c).owesAt () t.succ = (dats m 0 c).owesAt () t.castSucc from rfl]
  show iprop(_ ∗ _ ∗ bigSep (Finset.univ : Finset (Fin 3)) _) ⊢ wp _ _ _ _ (fun _ => iprop(_ ∗ _ ∗ bigSep (Finset.univ : Finset (Fin 3)) _))
  simp only [bigSep_W0]
  simp only [before0, before1, after0, after1, after2]
  unfold held
  iintro ⟨⟨⟨%s, %hs, HS⟩, Hg⟩, Ho, ⟨%x, H0⟩, ⟨%w, H1⟩, ⟨%o, H2⟩⟩
  iapply (body c (grid0.coords t) _ _ _ _ _ _ _ _ (win0_0.fill (grid0.coords t) x (iblk m c 0 t)) (iblk m c 1 t) _ s Set.univ _)
  rw [kept_eq m c t s hs]
  isplitl [H0]; · iexact H0
  isplitl [H1]; · iexact H1
  isplitl [H2]; · iexact H2
  isplitl [HS]; · iexact HS
  iintro ⟨G0, G1, G2, GS⟩
  isplitl [GS Hg]
  · isplitl [GS]
    · iexists _; isplitr
      swap; · iexact GS
      ipureintro
      intro h
      rw [show (t.val + 1) / 19 = t.val / 19 by omega]
    iexact Hg
  isplitl [Ho]; · iexact Ho
  isplitl [G0]
  · iexists x
    rw [Pipeline.Window.cut_fill]
    iexact G0
  isplitl [G1]; · iexact G1
  iexists (k0_pay2 (win0_0.fill (grid0.coords t) x (iblk m c 0 t))
    (Dense.columns 1024 (V m c main_arg1 : S256x2048.Idx → EReal) (t.val / 19)))
  rw [Pipeline.Window.cut_fill]
  unfold result
  rw [← written m c t x, Pipeline.Window.fill_cut]
  iexact G2

theorem held_start (c : Dev nD) : (Pipeline.ΦA spec0 c : sProp 𝕄) ⊢ held m c 0 := by
  rw [rest_eq]; unfold held
  iintro ⟨⟨%d, HS⟩, Hg⟩
  isplitl [HS]
  · iexists d; isplitr
    · ipureintro; intro h; exact absurd rfl h
    iexact HS
  iexact Hg

theorem held_end (c : Dev nD) (n : ℕ) : held m c n ⊢ (Pipeline.ΦA spec0 c : sProp 𝕄) := by
  rw [rest_eq]; unfold held
  iintro ⟨⟨%d, %hd, HS⟩, Hg⟩
  isplitl [HS]
  · iexists d; iexact HS
  iexact Hg

theorem array (c : Dev nD) : (dats m 0 c).arrAt 2 cfg0.N = result m c := by
  refine (dats m 0 c).arrAt_eq_of_covers 2 (result m c) (by decide +kernel) fun t hf y => ?_
  rw [after2]
  exact congrFun (win0_2.cut_fill (grid0.coords t) (fun _ => (0 : EReal)) ((win0_2.blk t).view.read (Elt Ideal) (result m c))) y

set_option backward.isDefEq.respectTransparency.types false in
theorem run_value : θ_run defs (onTc (τ := τ) (main (F := Ideal))) (s₀ m ρ) (Pipeline.FramePost cfgs (dats m) 0 (V m)) :=
  Pipeline.θ_run_frame_track cfgs (dats m) 0 launch0 defs₀ Variants.none m ρ main (sound m)
    (fun c => (dats m 0 c).share_full fun _ => rfl) (fun _ _ => rfl) (V := V m) (hmain := hmain m Variants.none) (hA := A_eq m)
    (hin := held_start m) (hout := fun c => held_end m c _)

/-- The result is the closed form, and the arguments end as they began. -/
theorem value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (array m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_value m ρ)

end Gate

end
-- ==== Proof.GateEqual.lean ====
/- The product by the gate's second matrix: the closed form is what the reference computes. -/
module

public import proofs.«01_k».proof.Proof.GateRun
public import proofs.«01_k».proof.Proof.Gen.Reference8Ideal

@[expose] public section

noncomputable section

namespace Gate

open Idealize.ShloMosaic

theorem reference (x : Cert.Reference8Ideal.S9280x256.Idx → EReal) (w : Cert.Reference8Ideal.S256x2048.Idx → EReal) :
    (Host.dotGeneral (F := Ideal) (φ₁ := .f32) (φ₂ := .f32) Cert.Reference8Ideal.dot_S9280x256_S256x2048_S9280x2048_1_0_0_1_n_n none x w : FVec Ideal Cert.Reference8Ideal.S9280x2048 .f32)
      = model x w := by
  funext i
  rw [eq_ix2 i]
  unfold model Dense.product
  pointwise

end Gate

end
-- ==== Proof.RankBody.lean ====
/- The body of the product by a second matrix of rank 96: what it leaves in its buffers. -/
module

public import proofs.«01_k».proof.Proof.Gen.Kernel9Ideal.Frame
public import proofs.«01_k».proof.Proof.Gen.Kernel9Ideal.Skeleton
public import Idealize.ShloMosaic.Lib.VecWindow

@[expose] public section

set_option maxRecDepth 16384

noncomputable section

namespace Rank

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body takes a new column block of the weights at this point: it is the first row block. -/
def fresh (i : grid0.Coords) : Prop :=
  Scalar.cmpi .ne (Scalar.extui (Scalar.cmpi .eq (BitVec.ofNat 32 (i 1).val) 0#32)) 0#32 = 1#1

open Classical in
/-- What the scratch holds after the body: the narrowed column block where it is taken anew, else what it held. -/
def kept (i : grid0.Coords) (w : Vec F S96x1024 .f32) (s : Vec F S96x1024 .bf16) : Vec F S96x1024 .bf16 :=
  if fresh i then k0_pay1 w else s

theorem body (c : Dev nD) (i : grid0.Coords)
    (arg2 : Memref sig .tc .vmem S512x96 .f32) (harg2 : arg2.IsWhole) (arg3 : Memref sig .tc .vmem S96x1024 .f32) (harg3 : arg3.IsWhole)
    (arg4 : Memref sig .tc .vmem S512x1024 .f32) (harg4 : arg4.IsWhole) (arg5 : Memref sig .tc .vmem S96x1024 .bf16) (harg5 : arg5.IsWhole)
    (x : Vec F S512x96 .f32) (w : Vec F S96x1024 .f32) (o : Vec F S512x1024 .f32) (s : Vec F S96x1024 .bf16)
    (E : Set ℕ) (K : PUnit → sProp 𝕄) :
    iprop(owns (c : Thread nD τ) arg2 fullShare x ∗ owns (c : Thread nD τ) arg3 fullShare w
        ∗ owns (c : Thread nD τ) arg4 fullShare o ∗ owns (c : Thread nD τ) arg5 fullShare s
        ∗ (iprop(owns (c : Thread nD τ) arg2 fullShare x ∗ owns (c : Thread nD τ) arg3 fullShare w
            ∗ owns (c : Thread nD τ) arg4 fullShare (k0_pay2 x (kept i w s)) ∗ owns (c : Thread nD τ) arg5 fullShare (kept i w s)) -∗ K ⟨⟩))
      ⊢ wp frame (wpE (defs₀ (F := F)) Variants.none c none) E
          (cc0_dense_matmul i arg2 harg2 arg3 harg3 arg4 harg4 arg5 harg5) K := by
  rw [cc0_dense_matmul_eq_skeleton]; unfold cc0_dense_matmul_skel owns
  iintro ⟨⟨%f0, %hf0, H0⟩, ⟨%f1, %hf1, H1⟩, ⟨%f2, %hf2, H2⟩, ⟨%f3, %hf3, H3⟩, Hk⟩
  by_cases hc : fresh i
  · have hc' := hc; unfold fresh at hc'
    sl_exec (disch := sl_exact hc')
    sl_step
    iapply Hk
    isplitl [H0]
    · iexists _; isplitr; · ipureintro; exact hf0
      iexact H0
    isplitl [H1]
    · iexists _; isplitr; · ipureintro; exact hf1
      iexact H1
    isplitl [H2]
    · iexists _; isplitr
      swap; · iexact H2
      ipureintro
      rw [View.read_writes_full, View.readAt_full, hf0, kept, if_pos hc]; unfold body.sl.v5
      unfold body.sl.H3_1; rw [View.readCov_full, View.readAt_full, hf1]
    · iexists _; isplitr
      swap; · iexact H3
      ipureintro
      unfold body.sl.H3_1; rw [View.read_writes_full, View.readAt_full, hf1, kept, if_pos hc]
  · have hc' := hc; unfold fresh at hc'
    sl_exec (disch := sl_exact hc')
    sl_step
    iapply Hk
    isplitl [H0]
    · iexists _; isplitr; · ipureintro; exact hf0
      iexact H0
    isplitl [H1]
    · iexists _; isplitr; · ipureintro; exact hf1
      iexact H1
    isplitl [H2]
    · iexists _; isplitr
      swap; · iexact H2
      ipureintro
      rw [View.read_writes_full, View.readAt_full, hf0, View.readAt_full, hf3, kept, if_neg hc]
    · iexists _; isplitr
      swap; · iexact H3
      ipureintro
      rw [hf3, kept, if_neg hc]

end Rank

end
-- ==== Proof.RankFrame.lean ====
/- The run of the product by a second matrix of rank 96, over any reading of the floats: it leaves its arguments as they were. -/
module

public import proofs.«01_k».proof.Proof.RankBody
public import proofs.«01_k».proof.Proof.Gen.Kernel9Ideal
public import Idealize.ShloMosaic.Lib.Quiescent

@[expose] public section

set_option maxRecDepth 16384

noncomputable section

namespace Rank

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem row (t : Fin cfg0.N) : defs₀ (F := F) .tc cfg0.body (cfg0.bodyArgs t (cfg0.slots t)) = bodyAt0 t := by
  unfold defs₀; rw [Defs.onTc_tc]

/-- The resources outside the windows: the scratch and the generator register. -/
theorem rest_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]

/-- The proof data in which nothing is said of what the staging buffers hold. -/
def silent (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

theorem silent_A (c : Dev nD) (w : Fin cfg0.W) : (silent m 0 c).A w = V m c (Pipeline.arrRef spec0 w) := by dsimp only [silent]

theorem silent_body (c : Dev nD) : BodyObligationLoose (silent m 0 c) (defs₀ (F := F)) Variants.none () Set.univ (fun _ => true) := by
  intro t
  rw [row]
  dsimp only
  rw [show (silent m 0 c).Φ t.succ = (Pipeline.ΦA spec0 c : sProp 𝕄) from rfl, show (silent m 0 c).Φ t.castSucc = (Pipeline.ΦA spec0 c : sProp 𝕄) from rfl,
    show (silent m 0 c).owesAt () t.succ = (silent m 0 c).owesAt () t.castSucc from rfl, rest_eq]
  show iprop(_ ∗ _ ∗ bigSep (Finset.univ : Finset (Fin 3)) _) ⊢ wp _ _ _ _ (fun _ => iprop(_ ∗ _ ∗ bigSep (Finset.univ : Finset (Fin 3)) _))
  simp only [bigSep_W0]
  iintro ⟨⟨⟨%s, HS⟩, Hg⟩, Ho, ⟨%x, H0⟩, ⟨%w, H1⟩, ⟨%o, H2⟩⟩
  iapply (body c (grid0.coords t) _ _ _ _ _ _ _ _ x w o s Set.univ _)
  isplitl [H0]; · iexact H0
  isplitl [H1]; · iexact H1
  isplitl [H2]; · iexact H2
  isplitl [HS]; · iexact HS
  iintro ⟨G0, G1, G2, GS⟩
  isplitl [GS Hg]
  · isplitl [GS]; · iexists _; iexact GS
    iexact Hg
  isplitl [Ho]; · iexact Ho
  isplitl [G0]; · iexists _; iexact G0
  isplitl [G1]; · iexists _; iexact G1
  iexists _; iexact G2

set_option backward.isDefEq.respectTransparency.types false in
theorem run : θ_run defs (onTc (τ := τ) (main (F := F))) (s₀ m ρ)
    (fun r => RDat.FramePost cfg0 (fun c => (silent m 0 c).toRForget (fun _ => true)) (V m) r ∧ r.2.sem = (fun _ => 0)) :=
  Pipeline.θ_run_frame_forget cfgs (silent m) 0 launch0 defs₀ Variants.none (fun _ => true) m ρ main (silent_body m)
    (fun c => (silent m 0 c).share_full fun _ => rfl) (fun _ _ => rfl) (V := V m) (hmain := hmain m Variants.none) (hA := silent_A m) (hΦ := fun _ _ => rfl)
    (Q' := _) (hQ' := fun _ h => h)

/-- The arguments end as they began, over any reading of the floats. -/
theorem kept_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = (fun _ => 0)) :=
  (θ_run defs _ _).mono (fun _ h => ⟨fun c => ⟨(RDat.FramePost.arr_in h.1 c 0 rfl).trans ((silent_A m c 0).trans (V_main_arg0 m c)),
    (RDat.FramePost.arr_in h.1 c 1 rfl).trans ((silent_A m c 1).trans (V_main_arg1 m c))⟩, h.2⟩) (run m ρ)

end Rank

end
-- ==== Proof.RankValue.lean ====
/- The product by a second matrix of rank 96 at the extended reals: what each point leaves in its block of the result. -/
module

public import proofs.«01_k».proof.Proof.Dense
public import proofs.«01_k».proof.Proof.RankFrame
public import Idealize.ShloMosaic.Lib.Pipeline.ValueKit

@[expose] public section

set_option maxRecDepth 16384

noncomputable section

namespace Rank

open Cert.Kernel9Ideal Cert.Kernel9Ideal.Gen
open Idealize.ShloMosaic Idealize.ShloMosaic.TcCoe Idealize.SL.Sem

/-- The result in closed form: the product. -/
def model (x : S9280x96.Idx → EReal) (w : S96x2048.Idx → EReal) : S9280x2048.Idx → EReal :=
  fun i => Dense.product x w (i 0) (i 1)

theorem pay2_at (x : Vec Ideal S512x96 .f32) (s : Vec Ideal S96x1024 .bf16) (i : S512x1024.Idx) :
    k0_pay2 x s i = Dense.product x s (i 0) (i 1) := by
  rw [eq_ix2 i]
  unfold k0_pay2 Dense.product
  pointwise

theorem pay1_at (w : Vec Ideal S96x1024 .f32) : k0_pay1 w = w := by
  funext i
  rw [eq_ix2 i]
  unfold k0_pay1
  pointwise

theorem col (t : Fin cfg0.N) : (grid0.coords t 0).val = t.val / 19 := (by decide +kernel : ∀ t : Fin grid0.N, (grid0.coords t 0).val = t.val / 19) t
theorem rowb (t : Fin cfg0.N) : (grid0.coords t 1).val = t.val % 19 := (by decide +kernel : ∀ t : Fin grid0.N, (grid0.coords t 1).val = t.val % 19) t
theorem index0 (t : Fin cfg0.N) : win0_0.index t = ![t.val % 19, 0] := (by decide +kernel : ∀ t : Fin grid0.N, win0_0.index t = ![t.val % 19, 0]) t
theorem index1 (t : Fin cfg0.N) : win0_1.index t = ![0, t.val / 19] := (by decide +kernel : ∀ t : Fin grid0.N, win0_1.index t = ![0, t.val / 19]) t
theorem index2 (t : Fin cfg0.N) : win0_2.index t = ![t.val % 19, t.val / 19] := (by decide +kernel : ∀ t : Fin grid0.N, win0_2.index t = ![t.val % 19, t.val / 19]) t
theorem moved0 (t : Fin cfg0.N) : win0_0.xsize (grid0.coords t) = ![win0_2.xsize (grid0.coords t) 0, 96] :=
  (by decide +kernel : ∀ t : Fin grid0.N, win0_0.xsize (grid0.coords t) = ![win0_2.xsize (grid0.coords t) 0, 96]) t
theorem fresh_iff (t : Fin cfg0.N) : fresh (grid0.coords t) ↔ t.val % 19 = 0 := by
  unfold fresh
  exact (by decide +kernel : ∀ t : Fin grid0.N, (Scalar.cmpi .ne (Scalar.extui (Scalar.cmpi .eq (BitVec.ofNat 32 (grid0.coords t 1).val) 0#32)) 0#32 = 1#1) ↔ t.val % 19 = 0) t

variable (m : (ℓ : Loc nD τ sig) → Buf (Elt Ideal) ℓ)

/-- The weights' block at a point is the columns of the point's column block. -/
theorem weights (c : Dev nD) (t : Fin cfg0.N) : (iblk m c 1 t : S96x1024.Idx → EReal) = Dense.columns 1024 (V m c main_arg1 : S96x2048.Idx → EReal) (t.val / 19) := by
  funext i
  have ht : t.val < 38 := t.isLt
  unfold Dense.columns
  blk_simp [iblk, V, index1]
  blk_ext [index1]
  rw [Fin.val_ofNat]
  omega

/-- Inside the array, the entries' block at a point is the rows of the point's row block. -/
theorem entries (c : Dev nD) (t : Fin cfg0.N) (d : win0_0.block.Idx → EReal) (y : (win0_2.xblock (grid0.coords t)).Idx) (k : Fin 96) :
    win0_0.fill (grid0.coords t) d (iblk m c 0 t) (ix2 (win0_2.xinj (grid0.coords t) y 0) k)
      = (V m c main_arg0 : S9280x96.Idx → EReal) (ix2 ((win0_2.blk t).view.emb y 0) k) := by
  rw [Dense.fill_of_lt]
  swap
  · rw [moved0]; intro a; fin_cases a
    · exact (y 0).isLt
    · exact k.isLt
  blk_simp [iblk, V, index0, index2]
  blk_ext [index0, index2]

/-- What a point writes back is its block of the closed form. -/
theorem written (c : Dev nD) (t : Fin cfg0.N) (d0 : win0_0.block.Idx → EReal) :
    win0_2.cut (grid0.coords t) (k0_pay2 (win0_0.fill (grid0.coords t) d0 (iblk m c 0 t))
        (Dense.columns 1024 (V m c main_arg1 : S96x2048.Idx → EReal) (t.val / 19)))
      = (win0_2.blk t).view.read (Elt Ideal) (model (V m c main_arg0) (V m c main_arg1)) := by
  funext y
  have ht : t.val < 38 := t.isLt
  rw [Pipeline.Window.cut_apply]
  refine (pay2_at _ _ (win0_2.xinj (grid0.coords t) y)).trans ?_
  show _ = model _ _ ((win0_2.blk t).view.emb y)
  unfold model Dense.product
  refine Finset.sum_congr rfl fun k _ => ?_
  rw [entries]
  congr 1
  unfold Dense.columns
  have hy : (y 1).val < 1024 := lt_of_lt_of_le (y 1).isLt (win0_2.xsize_le (grid0.coords t) 1)
  blk_ext [index2]
  rw [Fin.val_ofNat]
  omega

end Rank

end
-- ==== Proof.RankRun.lean ====
/- The run of the product by a second matrix of rank 96 at the extended reals: its result is the closed form. -/
module

public import proofs.«01_k».proof.Proof.RankValue

@[expose] public section

set_option maxRecDepth 16384

noncomputable section

namespace Rank

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The result's closed form at a core's arguments. -/
def result (c : Dev nD) : S9280x2048.Idx → EReal := model (V m c main_arg0) (V m c main_arg1)

/-- What holds before point `n`: past a column block's first point the scratch holds that block of the weights. -/
def held (c : Dev nD) (n : ℕ) : sProp 𝕄 :=
  iprop((∃ d, ⌜n % 19 ≠ 0 → d = Dense.columns 1024 (V m c main_arg1 : S96x2048.Idx → EReal) (n / 19)⌝ ∗ owns (c : Thread nD τ) (Memref.whole cc0_scratch0) fullShare d)
    ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => win0_2.fill (grid0.coords t) (fun _ => (0 : EReal)) ((win0_2.blk t).view.read (Elt Ideal) (result m c))
  Φ t := held m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = win0_0.fill (grid0.coords t) (fun _ => (0 : EReal)) (iblk m c 0 t) := by dsimp only [dats]
theorem after1 (c : Dev nD) (t : Fin cfg0.N) : (dats m 0 c).after 1 t = iblk m c 1 t := by dsimp only [dats]
theorem after2 (c : Dev nD) (t : Fin cfg0.N) : (dats m 0 c).after 2 t = win0_2.fill (grid0.coords t) (fun _ => (0 : EReal)) ((win0_2.blk t).view.read (Elt Ideal) (result m c)) := by dsimp only [dats]

theorem before0 (c : Dev nD) (t : Fin cfg0.N) (d) : (dats m 0 c).before 0 t d = win0_0.fill (grid0.coords t) d (iblk m c 0 t) := by
  unfold Dat.before; rw [if_pos (fetch0_0 t)]; rfl
theorem before1 (c : Dev nD) (t : Fin cfg0.N) (d) : (dats m 0 c).before 1 t d = iblk m c 1 t :=
  before0_1_of m (dats m 0 c) (A_eq m c 1) (after1 m c) t d

/-- After a point the scratch holds the weights' block of the point's columns. -/
theorem kept_eq (c : Dev nD) (t : Fin cfg0.N) (s : Vec Ideal S96x1024 .bf16)
    (hs : t.val % 19 ≠ 0 → s = Dense.columns 1024 (V m c main_arg1 : S96x2048.Idx → EReal) (t.val / 19)) :
    kept (grid0.coords t) (iblk m c 1 t) s = Dense.columns 1024 (V m c main_arg1 : S96x2048.Idx → EReal) (t.val / 19) := by
  unfold kept
  by_cases h : t.val % 19 = 0
  · rw [if_pos ((fresh_iff t).mpr h)]; exact (pay1_at _).trans (weights m c t)
  · rw [if_neg (fun h' => h ((fresh_iff t).mp h')), hs h]

theorem sound (c : Dev nD) : BodyObligationLoose (dats m 0 c) (defs₀ (F := Ideal)) Variants.none () Set.univ := by
  intro t
  rw [row]
  dsimp only
  rw [show (dats m 0 c).Φ t.succ = held m c (t.val + 1) from rfl, show (dats m 0 c).Φ t.castSucc = held m c t.val from rfl,
    show (dats m 0 c).owesAt () t.succ = (dats m 0 c).owesAt () t.castSucc from rfl]
  show iprop(_ ∗ _ ∗ bigSep (Finset.univ : Finset (Fin 3)) _) ⊢ wp _ _ _ _ (fun _ => iprop(_ ∗ _ ∗ bigSep (Finset.univ : Finset (Fin 3)) _))
  simp only [bigSep_W0]
  simp only [before0, before1, after0, after1, after2]
  unfold held
  iintro ⟨⟨⟨%s, %hs, HS⟩, Hg⟩, Ho, ⟨%x, H0⟩, ⟨%w, H1⟩, ⟨%o, H2⟩⟩
  iapply (body c (grid0.coords t) _ _ _ _ _ _ _ _ (win0_0.fill (grid0.coords t) x (iblk m c 0 t)) (iblk m c 1 t) _ s Set.univ _)
  rw [kept_eq m c t s hs]
  isplitl [H0]; · iexact H0
  isplitl [H1]; · iexact H1
  isplitl [H2]; · iexact H2
  isplitl [HS]; · iexact HS
  iintro ⟨G0, G1, G2, GS⟩
  isplitl [GS Hg]
  · isplitl [GS]
    · iexists _; isplitr
      swap; · iexact GS
      ipureintro
      intro h
      rw [show (t.val + 1) / 19 = t.val / 19 by omega]
    iexact Hg
  isplitl [Ho]; · iexact Ho
  isplitl [G0]
  · iexists x
    rw [Pipeline.Window.cut_fill]
    iexact G0
  isplitl [G1]; · iexact G1
  iexists (k0_pay2 (win0_0.fill (grid0.coords t) x (iblk m c 0 t))
    (Dense.columns 1024 (V m c main_arg1 : S96x2048.Idx → EReal) (t.val / 19)))
  rw [Pipeline.Window.cut_fill]
  unfold result
  rw [← written m c t x, Pipeline.Window.fill_cut]
  iexact G2

theorem held_start (c : Dev nD) : (Pipeline.ΦA spec0 c : sProp 𝕄) ⊢ held m c 0 := by
  rw [rest_eq]; unfold held
  iintro ⟨⟨%d, HS⟩, Hg⟩
  isplitl [HS]
  · iexists d; isplitr
    · ipureintro; intro h; exact absurd rfl h
    iexact HS
  iexact Hg

theorem held_end (c : Dev nD) (n : ℕ) : held m c n ⊢ (Pipeline.ΦA spec0 c : sProp 𝕄) := by
  rw [rest_eq]; unfold held
  iintro ⟨⟨%d, %hd, HS⟩, Hg⟩
  isplitl [HS]
  · iexists d; iexact HS
  iexact Hg

theorem array (c : Dev nD) : (dats m 0 c).arrAt 2 cfg0.N = result m c := by
  refine (dats m 0 c).arrAt_eq_of_covers 2 (result m c) (by decide +kernel) fun t hf y => ?_
  rw [after2]
  exact congrFun (win0_2.cut_fill (grid0.coords t) (fun _ => (0 : EReal)) ((win0_2.blk t).view.read (Elt Ideal) (result m c))) y

set_option backward.isDefEq.respectTransparency.types false in
theorem run_value : θ_run defs (onTc (τ := τ) (main (F := Ideal))) (s₀ m ρ) (Pipeline.FramePost cfgs (dats m) 0 (V m)) :=
  Pipeline.θ_run_frame_track cfgs (dats m) 0 launch0 defs₀ Variants.none m ρ main (sound m)
    (fun c => (dats m 0 c).share_full fun _ => rfl) (fun _ _ => rfl) (V := V m) (hmain := hmain m Variants.none) (hA := A_eq m)
    (hin := held_start m) (hout := fun c => held_end m c _)

/-- The result is the closed form, and the arguments end as they began. -/
theorem value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (array m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_value m ρ)

end Rank

end
-- ==== Proof.RankEqual.lean ====
/- The product by a second matrix of rank 96: the closed form is what the reference computes. -/
module

public import proofs.«01_k».proof.Proof.RankRun
public import proofs.«01_k».proof.Proof.Gen.Reference9Ideal

@[expose] public section

noncomputable section

namespace Rank

open Idealize.ShloMosaic

theorem reference (x : Cert.Reference9Ideal.S9280x96.Idx → EReal) (w : Cert.Reference9Ideal.S96x2048.Idx → EReal) :
    (Host.dotGeneral (F := Ideal) (φ₁ := .f32) (φ₂ := .f32) Cert.Reference9Ideal.dot_S9280x96_S96x2048_S9280x2048_1_0_0_1_n_n none x w : FVec Ideal Cert.Reference9Ideal.S9280x2048 .f32)
      = model x w := by
  funext i
  rw [eq_ix2 i]
  unfold model Dense.product
  pointwise

end Rank

end
-- ==== Proof.UpBody.lean ====
/- The body of the experts' gated up product: what it leaves in its buffers. -/
module

public import proofs.«01_k».proof.Proof.DownBody
public import proofs.«01_k».proof.Proof.Gen.Kernel6Ideal.Launch
public import proofs.«01_k».proof.Proof.Gen.Kernel6Ideal.Skeleton
public import Idealize.ShloMosaic.Lib.VecWindow
public import Idealize.ShloMosaic.Lib.Pipeline.FrameBody
public import Idealize.ShloMosaic.Lib.Tactic

@[expose] public section

set_option maxRecDepth 16384

noncomputable section

namespace Up

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the blocks' experts and the table of the number of valid blocks. -/
abbrev experts : Memref sig .tc .smem S177 .i32 := Memref.whole main_arg1
abbrev count : Memref sig .tc .smem S1 .i32 := Memref.whole main_arg2

/-- The words the body reads: the point's expert, the expert of the point before, the number of valid blocks. -/
def expert (i : grid0.Coords) (T : S177.Idx → BitVec 32) : BitVec 32 :=
  View.readAt (Elt F) experts.view (Rect.unit (s := S177) (k0_off1 i) S1.size (k0_off1_inb i)).toLoadRect T (Shape.Idx.first (numel1_S1.symm ▸ Nat.one_pos))
def before (i : grid0.Coords) (T : S177.Idx → BitVec 32) : BitVec 32 :=
  View.readAt (Elt F) experts.view (Rect.unit (s := S177) (k0_off2 i) S1.size (k0_off2_inb i)).toLoadRect T (Shape.Idx.first (numel1_S1.symm ▸ Nat.one_pos))
def total (T : S1.Idx → BitVec 32) : BitVec 32 :=
  View.readAt (Elt F) count.view (Rect.unit (s := S1) ![0] S1.size inb_S1_S1_0).toLoadRect T (Shape.Idx.first (numel1_S1.symm ▸ Nat.one_pos))

/-- The body takes its expert's weights anew: it is the first point, or the expert is not the one of the point before. -/
def fresh (i : grid0.Coords) (T : S177.Idx → BitVec 32) : Prop :=
  Scalar.cmpi .ne (Scalar.extui (Scalar.ori (Scalar.cmpi .eq (BitVec.ofNat 32 (i 1).val) 0#32) (Scalar.cmpi .ne (expert (F := F) i T) (before (F := F) i T)))) 0#32 = 1#1

/-- The point's block is one of the valid ones. -/
def valid (i : grid0.Coords) (T : S1.Idx → BitVec 32) : Prop := k0_cond2 i (total (F := F) T) = 1#1

theorem beyond_iff (i : grid0.Coords) (n : BitVec 32) : k0_cond3 i n = 1#1 ↔ ¬ k0_cond2 i n = 1#1 := Down.beyond_iff i n

/-- Both halves of the weights are narrowed in the same way. -/
theorem halves (w : Vec F S1x1x2048x1024 .f32) : k0_pay2 w = k0_pay1 w := rfl

open Classical in
/-- What a scratch holds after the body: its half of the narrowed weights where they are taken anew, else what it held. -/
def kept (i : grid0.Coords) (T : S177.Idx → BitVec 32) (w : Vec F S1x1x2048x1024 .f32) (s : Vec F S2048x1024 .bf16) : Vec F S2048x1024 .bf16 :=
  if fresh (F := F) i T then k0_pay1 w else s

open Classical in
/-- What the body stores: the block's gated product where the block is valid, else zero. -/
def stored (i : grid0.Coords) (T : S1.Idx → BitVec 32) (x : Vec F S128x2048 .f32) (s r : Vec F S2048x1024 .bf16) : Vec F S128x1024 .f32 :=
  if valid (F := F) i T then k0_pay3 x s r else k0_pay4

theorem body (c : Dev nD) (i : grid0.Coords) (T0 : S177.Idx → BitVec 32) (T1 : S1.Idx → BitVec 32)
    (arg4 : Memref sig .tc .vmem S128x2048 .f32) (harg4 : arg4.IsWhole) (arg5 : Memref sig .tc .vmem S1x1x2048x1024 .f32) (harg5 : arg5.IsWhole)
    (arg6 : Memref sig .tc .vmem S1x1x2048x1024 .f32) (harg6 : arg6.IsWhole) (arg7 : Memref sig .tc .vmem S128x1024 .f32) (harg7 : arg7.IsWhole)
    (arg8 : Memref sig .tc .vmem S2048x1024 .bf16) (harg8 : arg8.IsWhole) (arg9 : Memref sig .tc .vmem S2048x1024 .bf16) (harg9 : arg9.IsWhole)
    (x : Vec F S128x2048 .f32) (w u : Vec F S1x1x2048x1024 .f32) (o : Vec F S128x1024 .f32) (s r : Vec F S2048x1024 .bf16)
    (E : Set ℕ) (K : PUnit → sProp 𝕄) :
    iprop((experts.view.loc (c : Thread nD τ) ↦{fullShare.right} T0) ∗ (count.view.loc (c : Thread nD τ) ↦{fullShare.right} T1)
        ∗ owns (c : Thread nD τ) arg4 fullShare x ∗ owns (c : Thread nD τ) arg5 fullShare w ∗ owns (c : Thread nD τ) arg6 fullShare u
        ∗ owns (c : Thread nD τ) arg7 fullShare o ∗ owns (c : Thread nD τ) arg8 fullShare s ∗ owns (c : Thread nD τ) arg9 fullShare r
        ∗ (iprop((experts.view.loc (c : Thread nD τ) ↦{fullShare.right} T0) ∗ (count.view.loc (c : Thread nD τ) ↦{fullShare.right} T1)
            ∗ owns (c : Thread nD τ) arg4 fullShare x ∗ owns (c : Thread nD τ) arg5 fullShare w ∗ owns (c : Thread nD τ) arg6 fullShare u
            ∗ owns (c : Thread nD τ) arg7 fullShare (stored i T1 x (kept i T0 w s) (kept i T0 u r))
            ∗ owns (c : Thread nD τ) arg8 fullShare (kept i T0 w s) ∗ owns (c : Thread nD τ) arg9 fullShare (kept i T0 u r)) -∗ K ⟨⟩))
      ⊢ wp frame (wpE (defs₀ (F := F)) Variants.none c none) E
          (cc0_moe_up_gate i experts (Memref.isWhole_whole _) count (Memref.isWhole_whole _) arg4 harg4 arg5 harg5 arg6 harg6 arg7 harg7 arg8 harg8 arg9 harg9) K := by
  rw [cc0_moe_up_gate_eq_skeleton]; unfold cc0_moe_up_gate_skel owns
  iintro ⟨HT0, HT1, ⟨%f0, %hf0, H0⟩, ⟨%f1, %hf1, H1⟩, ⟨%f2, %hf2, H2⟩, ⟨%f3, %hf3, H3⟩, ⟨%f4, %hf4, H4⟩, ⟨%f5, %hf5, H5⟩, Hk⟩
  have hT0 : experts.IsWhole := Memref.isWhole_whole _
  have hT1 : count.IsWhole := Memref.isWhole_whole _
  by_cases hc : fresh (F := F) i T0
  · have hc' := hc; unfold fresh expert before at hc'
    by_cases hv : valid (F := F) i T1
    · have hv' := hv; have hb := mt (beyond_iff i (total (F := F) T1)).mp (not_not.mpr hv); unfold valid total at hv'; unfold total at hb
      sl_exec! (disch := first | (guard_target = Scalar.cmpi _ _ _ = _; exact hc') | (guard_target = ¬(k0_cond3 _ _ = _); exact hb) | (guard_target = k0_cond2 _ _ = _; exact hv'))
      sl_step
      iapply Hk
      isplitl [HT0]; · iexact HT0
      isplitl [HT1]; · iexact HT1
      isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr
        swap; · iexact H3
        ipureintro
        unfold body.sl.H3_1; rw [View.read_writes_full, View.readAt_full, hf0, stored, if_pos hv, kept, if_pos hc, kept, if_pos hc]; unfold body.sl.v21 body.sl.v23 body.sl.H4_1 body.sl.H5_1; rw [View.readCov_full, View.readCov_full, View.readAt_full, View.readAt_full, hf1, hf2, halves]
      isplitl [H4]
      · iexists _; isplitr
        swap; · iexact H4
        ipureintro
        unfold body.sl.H4_1; rw [View.read_writes_full, View.readAt_full, hf1, kept, if_pos hc]
      · iexists _; isplitr
        swap; · iexact H5
        ipureintro
        unfold body.sl.H5_1; rw [View.read_writes_full, View.readAt_full, hf2, halves, kept, if_pos hc]
    · have hv' := hv; have hb := (beyond_iff i (total (F := F) T1)).mpr hv; unfold valid total at hv'; unfold total at hb
      sl_exec! (disch := first | (guard_target = Scalar.cmpi _ _ _ = _; exact hc') | (guard_target = k0_cond3 _ _ = _; exact hb) | (guard_target = ¬(k0_cond2 _ _ = _); exact hv'))
      sl_step
      iapply Hk
      isplitl [HT0]; · iexact HT0
      isplitl [HT1]; · iexact HT1
      isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr
        swap; · iexact H3
        ipureintro
        unfold body.sl.H3_1_1; rw [View.read_writes_full, stored, if_neg hv]
      isplitl [H4]
      · iexists _; isplitr
        swap; · iexact H4
        ipureintro
        unfold body.sl.H4_1_1; rw [View.read_writes_full, View.readAt_full, hf1, kept, if_pos hc]
      · iexists _; isplitr
        swap; · iexact H5
        ipureintro
        unfold body.sl.H5_1_1; rw [View.read_writes_full, View.readAt_full, hf2, halves, kept, if_pos hc]
  · have hc' := hc; unfold fresh expert before at hc'
    by_cases hv : valid (F := F) i T1
    · have hv' := hv; have hb := mt (beyond_iff i (total (F := F) T1)).mp (not_not.mpr hv); unfold valid total at hv'; unfold total at hb
      sl_exec! (disch := first | (guard_target = ¬(Scalar.cmpi _ _ _ = _); exact hc') | (guard_target = ¬(k0_cond3 _ _ = _); exact hb) | (guard_target = k0_cond2 _ _ = _; exact hv'))
      sl_step
      iapply Hk
      isplitl [HT0]; · iexact HT0
      isplitl [HT1]; · iexact HT1
      isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr
        swap; · iexact H3
        ipureintro
        unfold body.sl.H3_1_2; rw [View.read_writes_full, View.readAt_full, hf0, View.readAt_full, hf4, View.readAt_full, hf5, stored, if_pos hv, kept, if_neg hc, kept, if_neg hc]
      isplitl [H4]
      · iexists _; isplitr
        swap; · iexact H4
        ipureintro
        rw [hf4, kept, if_neg hc]
      · iexists _; isplitr
        swap; · iexact H5
        ipureintro
        rw [hf5, kept, if_neg hc]
    · have hv' := hv; have hb := (beyond_iff i (total (F := F) T1)).mpr hv; unfold valid total at hv'; unfold total at hb
      sl_exec! (disch := first | (guard_target = ¬(Scalar.cmpi _ _ _ = _); exact hc') | (guard_target = k0_cond3 _ _ = _; exact hb) | (guard_target = ¬(k0_cond2 _ _ = _); exact hv'))
      sl_step
      iapply Hk
      isplitl [HT0]; · iexact HT0
      isplitl [HT1]; · iexact HT1
      isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr
        swap; · iexact H3
        ipureintro
        unfold body.sl.H3_1_3; rw [View.read_writes_full, stored, if_neg hv]
      isplitl [H4]
      · iexists _; isplitr
        swap; · iexact H4
        ipureintro
        rw [hf4, kept, if_neg hc]
      · iexists _; isplitr
        swap; · iexact H5
        ipureintro
        rw [hf5, kept, if_neg hc]

end Up

end
-- ==== Proof.UpFrame.lean ====
/- The run of the experts' gated up product, over any reading of the floats and any table of experts in range: it leaves
   its arguments as they were. -/
module

public import proofs.«01_k».proof.Proof.UpBody
public import proofs.«01_k».proof.Proof.Gen.Kernel6Ideal
public import Idealize.ShloMosaic.Lib.Pipeline.Frame
public import Idealize.ShloMosaic.Lib.Quiescent

@[expose] public section

set_option maxRecDepth 16384

noncomputable section

namespace Up

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as launched. -/
abbrev V (c : Dev nD) (b : Ref sig .tc) : Buf (Elt F) ((c.tc : Thread nD τ).loc b) := m ((c.tc : Thread nD τ).loc b)

/-- The one device's tables. -/
def tables : pre0.Contents (Elt F) := fun k => V m 0 (pre0.ref k)

/-- Every entry of the table of experts names one of the 32 experts. -/
def InRange : Prop := ∀ j : S177.Idx, (V m 0 main_arg1 j : BitVec 32).toNat < 32

theorem admitted (h : InRange m) : ok0 (tables m) := by
  have hi : ∀ i : grid0.Coords, (i 0).val = 0 := fun i => by have := (i 0).isLt; change (i 0).val < 1 at this; omega
  refine ⟨fun i => ⟨fun a => ?_, Or.inl rfl⟩, fun i => ⟨fun a => ?_, Or.inl rfl⟩⟩
  · fin_cases a
    · exact (by decide : (0 + 1) * 1 ≤ 2)
    · show (cc0_transform_1 k0_off1_inb numel1_S1 (tables m) i 1 + 1) * 1 ≤ 32
      have hj : cc0_transform_1 k0_off1_inb numel1_S1 (tables m) i 1 < 32 := h _
      omega
    · exact (by decide : (0 + 1) * 2048 ≤ 2048)
    · show ((BitVec.ofNat 32 (i 0).val).toNat + 1) * 1024 ≤ 2048
      rw [hi]; decide
  · fin_cases a
    · exact (by decide : (0 + 1) * 1 ≤ 2)
    · show (cc0_transform_1 k0_off1_inb numel1_S1 (tables m) i 1 + 1) * 1 ≤ 32
      have hj : cc0_transform_1 k0_off1_inb numel1_S1 (tables m) i 1 < 32 := h _
      omega
    · exact (by decide : (0 + 1) * 2048 ≤ 2048)
    · show ((Scalar.addi 1#32 (BitVec.ofNat 32 (i 0).val)).toNat + 1) * 1024 ≤ 2048
      rw [hi]; decide

variable (h : InRange m)

/-- The tables' contents with what the launch asks of them. -/
def chosen (_ : Fin 1) : (pcfg0 (F := F)).Adm := ⟨tables m, admitted m h⟩

/-- The pipeline at the memory's tables. -/
abbrev pipeline : Pipeline.Cfg sig Λ₀ := Pipeline.pin pcfgs (chosen m h) 0

theorem row (t : Fin (pipeline m h).N) (s) : defs₀ (F := F) .tc (pipeline m h).body ((pipeline m h).bodyArgs t s)
    = cc0_moe_up_gate (grid0.coords t) experts (Memref.isWhole_whole _) count (Memref.isWhole_whole _)
        (spec0_0.stage (s 0)) (hstage0_0 ((s 0).cast nbuf0_0)) (spec0_1.stage (s 1)) (hstage0_1 ((s 1).cast nbuf0_1))
        (spec0_2.stage (s 2)) (hstage0_2 ((s 2).cast nbuf0_2)) (spec0_3.stage (s 3)) (hstage0_3 ((s 3).cast nbuf0_3))
        (Memref.whole cc0_scratch0) (Memref.isWhole_whole _) (Memref.whole cc0_scratch1) (Memref.isWhole_whole _) := by
  unfold defs₀; rw [Defs.onTc_tc]

/-- The resources outside the windows: the two scratches and the generator register. -/
theorem rest_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d))
        ∗ (∃ r, prngReg c r)) := by
  unfold Pipeline.ΦA; rw [scopedRest0_eq]; simp only [owns_whole]

/-- The tables, as the body reads them. -/
theorem tables_eq (c : Dev nD) : (Pipeline.ΦT pre0 (tables m) c : sProp 𝕄)
    = iprop((experts.view.loc (c : Thread nD τ) ↦{fullShare.right} V m 0 main_arg1) ∗ (count.view.loc (c : Thread nD τ) ↦{fullShare.right} V m 0 main_arg2)) := by
  unfold Pipeline.ΦT Pipeline.prefHeld
  rw [show (Finset.univ : Finset (Fin pre0.K)) = insert (0 : Fin 2) {(1 : Fin 2)} from by decide, bigSep_insert (by decide), bigSep_singleton]; rfl

/-- The proof data in which nothing is said of what the staging buffers hold. -/
def silent (_ : Fin 1) (c : Dev nD) : Dat τ (Elt F) Unit ℕ (UR sig nD τ) ℕ (pipeline m h) c where
  A w := V m c (Pipeline.arrRef spec0 w)
  after := Dat.unnamed
  Φ _ := iprop(Pipeline.ΦA spec0 c ∗ Pipeline.ΦT pre0 (tables m) c)
  q := Pipeline.shareOf spec0
  owed _ := 0

theorem silent_A (c : Dev nD) (w : Fin (pipeline m h).W) : (silent m h 0 c).A w = V m c (Pipeline.arrRef spec0 w) := by dsimp only [silent]

theorem silent_body (c : Dev nD) : BodyObligationLoose (silent m h 0 c) (defs₀ (F := F)) Variants.none () Set.univ (fun _ => true) := by
  intro t
  rw [row]
  dsimp only
  rw [show (silent m h 0 c).Φ t.succ = (iprop(Pipeline.ΦA spec0 c ∗ Pipeline.ΦT pre0 (tables m) c) : sProp 𝕄) from rfl,
    show (silent m h 0 c).Φ t.castSucc = (iprop(Pipeline.ΦA spec0 c ∗ Pipeline.ΦT pre0 (tables m) c) : sProp 𝕄) from rfl,
    show (silent m h 0 c).owesAt () t.succ = (silent m h 0 c).owesAt () t.castSucc from rfl, rest_eq, tables_eq]
  show iprop(_ ∗ _ ∗ bigSep (Finset.univ : Finset (Fin 4)) _) ⊢ wp _ _ _ _ (fun _ => iprop(_ ∗ _ ∗ bigSep (Finset.univ : Finset (Fin 4)) _))
  simp only [bigSep_W0]
  iintro ⟨⟨⟨⟨⟨%s, HS⟩, ⟨%r, HR⟩⟩, Hg⟩, HT0, HT1⟩, Ho, ⟨%x, H0⟩, ⟨%w, H1⟩, ⟨%u, H2⟩, ⟨%o, H3⟩⟩
  iapply (body c (grid0.coords t) (V m 0 main_arg1) (V m 0 main_arg2) _ _ _ _ _ _ _ _ _ _ _ _ x w u o s r Set.univ _)
  isplitl [HT0]; · iexact HT0
  isplitl [HT1]; · iexact HT1
  isplitl [H0]; · iexact H0
  isplitl [H1]; · iexact H1
  isplitl [H2]; · iexact H2
  isplitl [H3]; · iexact H3
  isplitl [HS]; · iexact HS
  isplitl [HR]; · iexact HR
  iintro ⟨GT0, GT1, G0, G1, G2, G3, GS, GR⟩
  isplitl [GS GR Hg GT0 GT1]
  · isplitl [GS GR Hg]
    · isplitl [GS GR]
      · isplitl [GS]; · iexists _; iexact GS
        iexists _; iexact GR
      iexact Hg
    isplitl [GT0]; · iexact GT0
    iexact GT1
  isplitl [Ho]; · iexact Ho
  isplitl [G0]; · iexists _; iexact G0
  isplitl [G1]; · iexists _; iexact G1
  isplitl [G2]; · iexists _; iexact G2
  iexists _; iexact G3

theorem hmain (𝒱₀ : Variants) : Pipeline.HMainP (Ix := Unit) (Name := ℕ) (U := UR sig nD τ) (Lvl := ℕ) (pcfgs (F := F)) 0 defs₀ 𝒱₀ m main (V m) :=
  Pipeline.hmainP_region pcfgs 0 defs₀ 𝒱₀ m main fun c => by
    rw [main_chain]; rfl

theorem pinned (c : Dev nD) (k : Fin pre0.K) : V m c (pre0.ref k) = tables m k := by
  rw [show c = 0 from Subsingleton.elim (α := Fin 1) c 0]; rfl

set_option backward.isDefEq.respectTransparency.types false in
theorem run : θ_run defs (onTc (τ := τ) (main (F := F))) (s₀ m ρ)
    (fun r => RDat.FramePost (pipeline m h) (fun c => (silent m h 0 c).toRForget (fun _ => true)) (V m) r ∧ r.2.sem = (fun _ => 0)) :=
  Pipeline.θ_run_frameP_forget_shared pcfgs (chosen m h) (silent m h) 0 launch₀0 defs₀ Variants.none (fun _ => true) m ρ main (silent_body m h)
    (fun _ _ _ => rfl) (fun _ _ => rfl) (V := V m) (hmain := hmain m Variants.none) (hA := silent_A m h)
    (hpf := pinned m) (hΦ := fun _ _ => rfl) (Q' := _) (hQ' := fun _ h => h)

include h in
/-- The arguments end as they began, over any reading of the floats. -/
theorem kept_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = (fun _ => 0)) :=
  (θ_run defs _ _).mono (fun _ k => ⟨fun c => ⟨(RDat.FramePost.arr_in k.1 c 0 rfl).trans (silent_A m h c 0),
    (k.1 c).2 main_arg1 (show main_arg1 ∈ Pipeline.restRefs sig spec0 by decide), (k.1 c).2 main_arg2 (show main_arg2 ∈ Pipeline.restRefs sig spec0 by decide),
    (RDat.FramePost.arr_in k.1 c 1 rfl).trans (silent_A m h c 1)⟩, k.2⟩) (run m ρ h)

end Up

end
-- ==== Proof.UpValue.lean ====
/- The experts' gated up product at the extended reals: what each point leaves in its block of the result. -/
module

public import proofs.«01_k».proof.Proof.Dense
public import proofs.«01_k».proof.Proof.DownValue
public import proofs.«01_k».proof.Proof.UpFrame
public import Idealize.ShloMosaic.Lib.Pipeline.ValueKit

@[expose] public section

set_option maxRecDepth 16384

noncomputable section

namespace Up

open Cert.Kernel6Ideal Cert.Kernel6Ideal.Gen
open Idealize.ShloMosaic Idealize.ShloMosaic.TcCoe Idealize.SL.Sem

/-- An expert's weights, a matrix: the gate's columns, then the up product's. -/
def weight (w : S2x32x2048x2048.Idx → EReal) (e : Fin 32) : (⟨2, ![2048, 2048]⟩ : Shape).Idx → EReal := fun i => w (ix4 (0 : Fin 2) e (i 0) (i 1))

/-- One half of the columns of a block's expert's weights. -/
def half (w : S2x32x2048x2048.Idx → EReal) (T : S177.Idx → BitVec 32) (j b : ℕ) : S2048x1024.Idx → EReal := Dense.columns 1024 (weight w (Down.owner T b)) j

/-- The gate's entry by its logistic, times the up product's entry. -/
def gated (g u : EReal) : EReal := g * Ideal.logistic g * u

/-- The result in closed form: each row's gated product by the weights of its block's expert, zero past the valid blocks. -/
def model (x : S22656x2048.Idx → EReal) (T : S177.Idx → BitVec 32) (n : S1.Idx → BitVec 32) (w : S2x32x2048x2048.Idx → EReal) : S22656x1024.Idx → EReal :=
  fun i => if (BitVec.ofNat 32 ((i 0).val / 128)).slt (n (ix1 (0 : Fin 1)))
    then gated (Dense.product x (half w T 0 ((i 0).val / 128)) (i 0) (i 1)) (Dense.product x (half w T 1 ((i 0).val / 128)) (i 0) (i 1)) else 0

theorem pay1_at (w : Vec Ideal S1x1x2048x1024 .f32) (i : S2048x1024.Idx) : k0_pay1 w i = w (ix4 (0 : Fin 1) (0 : Fin 1) (i 0) (i 1)) := by
  rw [eq_ix2 i]
  unfold k0_pay1
  pointwise

theorem pay3_at (x : Vec Ideal S128x2048 .f32) (s r : Vec Ideal S2048x1024 .bf16) (i : S128x1024.Idx) :
    k0_pay3 x s r i = gated (Dense.product x s (i 0) (i 1)) (Dense.product x r (i 0) (i 1)) := by
  rw [eq_ix2 i]
  unfold k0_pay3 gated Dense.product
  pointwise

theorem pay4_at (i : S128x1024.Idx) : k0_pay4 (F := Ideal) i = (0 : EReal) := by
  rw [eq_ix2 i]
  unfold k0_pay4
  pointwise

theorem expert_at (t : Fin grid0.N) (T : S177.Idx → BitVec 32) : expert (F := Ideal) (grid0.coords t) T = T (ix1 (Fin.ofNat 177 t.val)) := Down.expert_at t T

/-- Where the weights are not taken anew, the point before had the same expert. -/
theorem owner_stays (t : Fin grid0.N) (T : S177.Idx → BitVec 32) (hf : ¬ fresh (F := Ideal) (grid0.coords t) T) :
    t.val ≠ 0 ∧ Down.owner T t.val = Down.owner T (t.val - 1) := Down.owner_stays t T hf

theorem valid_iff (t : Fin grid0.N) (n : S1.Idx → BitVec 32) : valid (F := Ideal) (grid0.coords t) n ↔ (BitVec.ofNat 32 t.val).slt (n (ix1 (0 : Fin 1))) = true :=
  Down.valid_iff t n

variable (m : (ℓ : Loc nD τ sig) → Buf (Elt Ideal) ℓ) (h : InRange m)

theorem index0 (t : Fin (pipeline m h).N) : ((pipeline m h).win 0).index t = ![t.val, 0] :=
  (by decide +kernel : ∀ t : Fin grid0.N, cc0_transform_0 (grid0.coords t) = ![t.val, 0]) t
theorem index3 (t : Fin (pipeline m h).N) : ((pipeline m h).win 3).index t = ![t.val, 0] :=
  (by decide +kernel : ∀ t : Fin grid0.N, cc0_transform_3 (grid0.coords t) = ![t.val, 0]) t

theorem named (t : Fin (pipeline m h).N) : (expert (F := Ideal) (grid0.coords t) (V m 0 main_arg1)).toNat = (Down.owner (V m 0 main_arg1) t.val).val := by
  rw [expert_at]; unfold Down.owner; rw [Fin.val_ofNat, Nat.mod_eq_of_lt (h _)]

theorem index1 (t : Fin (pipeline m h).N) : ((pipeline m h).win 1).index t = ![0, (Down.owner (V m 0 main_arg1) t.val).val, 0, 0] := by
  show cc0_transform_1 k0_off1_inb numel1_S1 (tables m) (grid0.coords t) = _
  funext a
  fin_cases a
  · rfl
  · exact named m h t
  · rfl
  · show (BitVec.ofNat 32 (grid0.coords t 0).val).toNat = 0
    rw [show (grid0.coords t 0).val = 0 from Down.lone t]; rfl
theorem index2 (t : Fin (pipeline m h).N) : ((pipeline m h).win 2).index t = ![0, (Down.owner (V m 0 main_arg1) t.val).val, 0, 1] := by
  show cc0_transform_2 k0_off1_inb numel1_S1 (tables m) (grid0.coords t) = _
  funext a
  fin_cases a
  · rfl
  · exact named m h t
  · rfl
  · show (Scalar.addi 1#32 (BitVec.ofNat 32 (grid0.coords t 0).val)).toNat = 1
    rw [show (grid0.coords t 0).val = 0 from Down.lone t]; rfl

/-- Window `w`'s block at point `t`, read off its array. -/
def iblk (c : Dev nD) (w : Fin (pipeline m h).W) (t : Fin (pipeline m h).N) :
    (((pipeline m h).win w).xblock ((pipeline m h).grid.coords t)).Idx → Elt Ideal ((pipeline m h).win w).elt :=
  (((pipeline m h).win w).blk t).view.read (Elt Ideal) (V m c (Pipeline.arrRef spec0 w))

/-- The first weights' block at a point is the gate's half of its expert's. -/
theorem weights1 (c : Dev nD) (t : Fin (pipeline m h).N) :
    (k0_pay1 (F := Ideal) (iblk m h c 1 t) : S2048x1024.Idx → EReal) = half (V m c main_arg3) (V m 0 main_arg1) 0 t.val := by
  funext i
  have hi : (i 1).val < 1024 := (i 1).isLt
  refine (pay1_at _ i).trans ?_
  unfold half Dense.columns weight
  blk_simp [iblk, V, index1 m h]
  blk_ext [index1 m h]
  · rfl
  · show _ = (Fin.ofNat 2048 (1024 * 0 + (i 1).val)).val
    rw [Fin.val_ofNat]; omega

/-- The second weights' block at a point is the other half of its expert's. -/
theorem weights2 (c : Dev nD) (t : Fin (pipeline m h).N) :
    (k0_pay1 (F := Ideal) (iblk m h c 2 t) : S2048x1024.Idx → EReal) = half (V m c main_arg3) (V m 0 main_arg1) 1 t.val := by
  funext i
  have hi : (i 1).val < 1024 := (i 1).isLt
  refine (pay1_at _ i).trans ?_
  unfold half Dense.columns weight
  blk_simp [iblk, V, index2 m h]
  blk_ext [index2 m h]
  · rfl
  · show _ = (Fin.ofNat 2048 (1024 * 1 + (i 1).val)).val
    rw [Fin.val_ofNat]; omega

/-- The entries' block at a point is its rows. -/
theorem entries (c : Dev nD) (t : Fin (pipeline m h).N) (p : Fin 128) (k : Fin 2048) :
    (iblk m h c 0 t : S128x2048.Idx → EReal) (ix2 p k) = (V m c main_arg0 : S22656x2048.Idx → EReal) (ix2 (Fin.ofNat 22656 (128 * t.val + p.val)) k) := by
  have ht : t.val < 177 := t.isLt
  blk_simp [iblk, V, index0 m h]
  blk_ext [index0 m h]
  rw [Fin.val_ofNat]
  omega

/-- What a point stores is its block of the closed form. -/
theorem written (c : Dev nD) (t : Fin (pipeline m h).N) :
    (stored (F := Ideal) (grid0.coords t) (V m 0 main_arg2) (iblk m h c 0 t) (half (V m c main_arg3) (V m 0 main_arg1) 0 t.val)
        (half (V m c main_arg3) (V m 0 main_arg1) 1 t.val) : S128x1024.Idx → EReal)
      = (((pipeline m h).win 3).blk t).view.read (Elt Ideal) (model (V m c main_arg0) (V m 0 main_arg1) (V m 0 main_arg2) (V m c main_arg3)) := by
  have ht : t.val < 177 := t.isLt
  funext y
  have h0 : (((((pipeline m h).win 3).blk t).view.emb y : S22656x1024.Idx) (0 : Fin 2)).val = 128 * t.val + (y 0).val := by
    blk_simp [index3 m h]
    exact congrArg (· + (y 0).val) (Nat.mul_comm t.val 128)
  have h1 : (((((pipeline m h).win 3).blk t).view.emb y : S22656x1024.Idx) (1 : Fin 2)).val = (y 1).val := by
    blk_simp [index3 m h]
  have hy : (y 0).val < 128 := (y 0).isLt
  show _ = model _ _ _ _ ((((pipeline m h).win 3).blk t).view.emb y)
  unfold model stored
  rw [h0, show (128 * t.val + (y 0).val) / 128 = t.val by omega]
  by_cases hv : valid (F := Ideal) (grid0.coords t) (V m 0 main_arg2)
  · rw [if_pos hv, if_pos ((valid_iff t _).mp hv)]
    refine (pay3_at _ _ _ y).trans ?_
    have hp : ∀ j : ℕ, Dense.product (iblk m h c 0 t : S128x2048.Idx → EReal) (half (V m c main_arg3) (V m 0 main_arg1) j t.val) (y 0) (y 1)
        = Dense.product (V m c main_arg0 : S22656x2048.Idx → EReal) (half (V m c main_arg3) (V m 0 main_arg1) j t.val)
          (((((pipeline m h).win 3).blk t).view.emb y : S22656x1024.Idx) (0 : Fin 2)) (((((pipeline m h).win 3).blk t).view.emb y : S22656x1024.Idx) (1 : Fin 2)) := by
      intro j
      unfold Dense.product
      refine Finset.sum_congr rfl fun k _ => ?_
      refine congrArg₂ _ ((entries m h c t (y 0) k).trans ?_) ?_
      · refine congrArg _ (funext fun a => Fin.ext ?_)
        fin_cases a
        · show (Fin.ofNat 22656 _).val = _
          rw [Fin.val_ofNat, Nat.mod_eq_of_lt (by omega)]; exact h0.symm
        · rfl
      · refine congrArg _ (funext fun a => Fin.ext ?_)
        fin_cases a
        · rfl
        · exact h1.symm
    exact congrArg₂ gated (hp 0) (hp 1)
  · rw [if_neg hv, if_neg (fun h' => hv ((valid_iff t _).mpr h'))]
    exact pay4_at y

end Up

end
-- ==== Proof.UpRun.lean ====
/- The run of the experts' gated up product at the extended reals: its result is the closed form. -/
module

public import proofs.«01_k».proof.Proof.UpValue

@[expose] public section

set_option maxRecDepth 16384

noncomputable section

namespace Up

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg) (h : InRange m)

/-- The result's closed form at a core's arguments. -/
def result (c : Dev nD) : S22656x1024.Idx → EReal := model (V m c main_arg0) (V m 0 main_arg1) (V m 0 main_arg2) (V m c main_arg3)

/-- What holds before point `n`: past the first point the scratches hold the halves of the weights of the expert of the point before. -/
def held (c : Dev nD) (n : ℕ) : sProp 𝕄 :=
  iprop((((∃ d, ⌜n ≠ 0 → d = half (V m c main_arg3) (V m 0 main_arg1) 0 (n - 1)⌝ ∗ owns (c : Thread nD τ) (Memref.whole cc0_scratch0) fullShare d)
      ∗ (∃ d, ⌜n ≠ 0 → d = half (V m c main_arg3) (V m 0 main_arg1) 1 (n - 1)⌝ ∗ owns (c : Thread nD τ) (Memref.whole cc0_scratch1) fullShare d))
    ∗ (∃ r, prngReg c r)) ∗ Pipeline.ΦT pre0 (tables m) c)

def dats (_ : Fin 1) (c : Dev nD) : Dat τ (Elt Ideal) Unit ℕ (UR sig nD τ) ℕ (pipeline m h) c where
  A w := V m c (Pipeline.arrRef spec0 w)
  after w t := match w with
    | ⟨0, _⟩ => iblk m h c 0 t
    | ⟨1, _⟩ => iblk m h c 1 t
    | ⟨2, _⟩ => iblk m h c 2 t
    | ⟨3, _⟩ => (((pipeline m h).win 3).blk t).view.read (Elt Ideal) (result m c)
  Φ t := held m c t.val
  q := Pipeline.shareOf spec0
  owed _ := 0

theorem A_eq (c : Dev nD) (w : Fin (pipeline m h).W) : (dats m h 0 c).A w = V m c (Pipeline.arrRef spec0 w) := by dsimp only [dats]
theorem after0 (c : Dev nD) (t : Fin (pipeline m h).N) : (dats m h 0 c).after 0 t = iblk m h c 0 t := by dsimp only [dats]; rfl
theorem after1 (c : Dev nD) (t : Fin (pipeline m h).N) : (dats m h 0 c).after 1 t = iblk m h c 1 t := by dsimp only [dats]; rfl
theorem after2 (c : Dev nD) (t : Fin (pipeline m h).N) : (dats m h 0 c).after 2 t = iblk m h c 2 t := by dsimp only [dats]; rfl
theorem after3 (c : Dev nD) (t : Fin (pipeline m h).N) : (dats m h 0 c).after 3 t = (((pipeline m h).win 3).blk t).view.read (Elt Ideal) (result m c) := by dsimp only [dats]; rfl
theorem phi (c : Dev nD) (t : Fin ((pipeline m h).N + 1)) : (dats m h 0 c).Φ t = held m c t.val := by dsimp only [dats]

theorem before0 (c : Dev nD) (t : Fin (pipeline m h).N) (d) : (dats m h 0 c).before 0 t d = iblk m h c 0 t :=
  ((dats m h 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (pipeline m h).N) (d) : (dats m h 0 c).before 1 t d = iblk m h c 1 t :=
  ((dats m h 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (pipeline m h).N) (d) : (dats m h 0 c).before 2 t d = iblk m h c 2 t :=
  ((dats m h 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- After a point a scratch holds its half of the weights of the point's expert, where its block of the weights is that half. -/
theorem kept_eq (c : Dev nD) (t : Fin (pipeline m h).N) (j : ℕ) (w : Vec Ideal S1x1x2048x1024 .f32) (s : Vec Ideal S2048x1024 .bf16)
    (hw : (k0_pay1 (F := Ideal) w : S2048x1024.Idx → EReal) = half (V m c main_arg3) (V m 0 main_arg1) j t.val)
    (hs : t.val ≠ 0 → s = half (V m c main_arg3) (V m 0 main_arg1) j (t.val - 1)) :
    kept (grid0.coords t) (V m 0 main_arg1) w s = half (V m c main_arg3) (V m 0 main_arg1) j t.val := by
  unfold kept
  by_cases hf : fresh (F := Ideal) (grid0.coords t) (V m 0 main_arg1)
  · rw [if_pos hf]; exact hw
  · obtain ⟨h0, he⟩ := owner_stays t _ hf
    rw [if_neg hf, hs h0]; unfold half; rw [he]

/-- One of the body's two stores always happens. -/
theorem busy (t : Fin (pipeline m h).N) : (pipeline m h).idle 3 ((pipeline m h).grid.coords t) = false := by
  show (!(k0_cond2 (grid0.coords t) ((tables m).atD 1 ![0]) == 1#1) && !(k0_cond3 (grid0.coords t) ((tables m).atD 1 ![0]) == 1#1)) = false
  by_cases hb : k0_cond2 (grid0.coords t) ((tables m).atD 1 ![0]) = 1#1
  · rw [hb]; rfl
  · rw [(beyond_iff _ _).mpr hb]; simp

theorem sound (c : Dev nD) : BodyObligationLoose (dats m h 0 c) (defs₀ (F := Ideal)) Variants.none () Set.univ := by
  intro t
  rw [row]
  dsimp only
  rw [phi, phi, Fin.val_succ, Fin.val_castSucc, show (dats m h 0 c).owesAt () t.succ = (dats m h 0 c).owesAt () t.castSucc from rfl]
  show iprop(_ ∗ _ ∗ bigSep (Finset.univ : Finset (Fin 4)) _) ⊢ wp _ _ _ _ (fun _ => iprop(_ ∗ _ ∗ bigSep (Finset.univ : Finset (Fin 4)) _))
  simp only [bigSep_W0]
  simp only [before0, before1, before2, after0, after1, after2, after3]
  unfold held
  rw [tables_eq]
  iintro ⟨⟨⟨⟨⟨%s, %hs, HS⟩, ⟨%r, %hr, HR⟩⟩, Hg⟩, HT0, HT1⟩, Ho, ⟨%x, H0⟩, ⟨%w, H1⟩, ⟨%u, H2⟩, ⟨%o, H3⟩⟩
  rw [before0 m h c t x, before1 m h c t w, before2 m h c t u]
  iapply (body c (grid0.coords t) (V m 0 main_arg1) (V m 0 main_arg2) _ _ _ _ _ _ _ _ _ _ _ _ (iblk m h c 0 t) (iblk m h c 1 t) (iblk m h c 2 t) _ s r Set.univ _)
  rw [kept_eq m h c t 0 _ s (weights1 m h c t) hs, kept_eq m h c t 1 _ r (weights2 m h c t) hr]
  isplitl [HT0]; · iexact HT0
  isplitl [HT1]; · iexact HT1
  isplitl [H0]; · iexact H0
  isplitl [H1]; · iexact H1
  isplitl [H2]; · iexact H2
  isplitl [H3]; · iexact H3
  isplitl [HS]; · iexact HS
  isplitl [HR]; · iexact HR
  iintro ⟨GT0, GT1, G0, G1, G2, G3, GS, GR⟩
  isplitl [GS GR Hg GT0 GT1]
  · isplitl [GS GR Hg]
    · isplitl [GS GR]
      · isplitl [GS]
        · iexists _; isplitr
          swap; · iexact GS
          ipureintro
          intro _; rfl
        · iexists _; isplitr
          swap; · iexact GR
          ipureintro
          intro _; rfl
      iexact Hg
    isplitl [GT0]; · iexact GT0
    iexact GT1
  isplitl [Ho]; · iexact Ho
  isplitl [G0]; · iexact G0
  isplitl [G1]; · iexact G1
  isplitl [G2]; · iexact G2
  split
  · next hh => exact absurd (hh.symm.trans (busy m h t)) (by decide)
  unfold result
  rw [← written m h c t]
  iexact G3

theorem held_start (c : Dev nD) : iprop(Pipeline.ΦA spec0 c ∗ Pipeline.ΦT pre0 (tables m) c) ⊢ held m c 0 := by
  rw [rest_eq]; unfold held
  iintro ⟨⟨⟨⟨%d, HS⟩, ⟨%e, HR⟩⟩, Hg⟩, HT⟩
  isplitl [HS HR Hg]
  · isplitl [HS HR]
    · isplitl [HS]
      · iexists d; isplitr
        · ipureintro; intro h; exact absurd rfl h
        iexact HS
      · iexists e; isplitr
        · ipureintro; intro h; exact absurd rfl h
        iexact HR
    iexact Hg
  iexact HT

theorem held_end (c : Dev nD) (n : ℕ) : held m c n ⊢ (Pipeline.ΦA spec0 c : sProp 𝕄) := by
  rw [rest_eq]; unfold held
  iintro ⟨⟨⟨⟨%d, %hd, HS⟩, ⟨%e, %he, HR⟩⟩, Hg⟩, -⟩
  isplitl [HS HR]
  · isplitl [HS]
    · iexists d; iexact HS
    iexists e; iexact HR
  iexact Hg

/-- The result's window, whose blocks are the same at every table. -/
abbrev outWindow : Pipeline.Window sig grid0 :=
  Pipeline.Window.ofSpec (Memref.whole main_v0) S128x1024.size cc0_transform_3 reads0_3 true false 2 stage0_3 sem0_3 hrank0 hreads0_3 hinb0_3 nbuf0_3
    (Memref.isWhole_whole _) hwx0_3 hstage0_3

theorem array (c : Dev nD) : (dats m h 0 c).arrAt 3 (pipeline m h).N = result m c := by
  refine (dats m h 0 c).arrAt_eq_of_covers 3 (result m c) ?_ fun t hf y => ?_
  · show outWindow.Covers
    decide +kernel
  rw [after3]
  rfl

set_option backward.isDefEq.respectTransparency.types false in
theorem run_value : θ_run defs (onTc (τ := τ) (main (F := Ideal))) (s₀ m ρ) (Pipeline.FramePost (Pipeline.pin pcfgs (chosen m h)) (dats m h) 0 (V m)) :=
  Pipeline.θ_run_frameP_track_shared pcfgs (chosen m h) (dats m h) 0 launch₀0 defs₀ Variants.none m ρ main (sound m h)
    (fun _ _ _ => rfl) (fun _ _ => rfl) (V := V m) (hmain := hmain m Variants.none) (hA := A_eq m h)
    (hpf := pinned m) (hin := held_start m) (hout := fun c => held_end m c _)

include h in
/-- The result is the closed form, and the arguments end as they began. -/
theorem value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ k c => ⟨((k c).1 3).trans (array m h c),
    ((k c).1 0).trans (((dats m h 0 c).arrAt_in 0 rfl _).trans (A_eq m h c 0)),
    (k c).2 main_arg1 (show main_arg1 ∈ Pipeline.restRefs sig spec0 by decide),
    (k c).2 main_arg2 (show main_arg2 ∈ Pipeline.restRefs sig spec0 by decide),
    ((k c).1 1).trans (((dats m h 0 c).arrAt_in 1 rfl _).trans (A_eq m h c 1))⟩) (run_value m ρ h)

end Up

end
-- ==== Proof.UpEqual.lean ====
/- The experts' gated up product: on tables within range and with zero rows past the valid blocks, the closed form is what the reference computes. -/
module

public import proofs.«01_k».proof.Defs
public import proofs.«01_k».proof.Proof.Experts
public import proofs.«01_k».proof.Proof.UpRun
public import proofs.«01_k».proof.Proof.Gen.Pre_dispatched
public import proofs.«01_k».proof.Proof.Gen.Pre_in_range6
public import proofs.«01_k».proof.Proof.Gen.Reference6Ideal.Read

@[expose] public section

set_option maxRecDepth 16384

noncomputable section

namespace Up

open Idealize.ShloMosaic Idealize.ShloMosaic.TcCoe
open Cert.Kernel6Ideal Cert.Reference6Ideal.Read

/-- The precondition's first half says of each block's expert that it is one of the thirty-two. -/
theorem ranged {F : FTy → Type} [FloatOps F] (x : FVec F Cert.Pre_dispatched.S22656x2048 .f32) (T : S177.Idx → BitVec 32) (n : S1.Idx → BitVec 32)
    (w : FVec F Cert.Pre_dispatched.S2x32x2048x2048 .f32) (h : (Cert.Pre_dispatched.fn x T n w).1 = fun _ => 1#1) (j : S177.Idx) :
    IntOp.andi (IntOp.cmpi .sge (T j) 0#32) (IntOp.cmpi .slt (T j) 32#32) = 1#1 := by
  have e := congrFun h j
  unfold Cert.Pre_dispatched.fn at e
  exact e

/-- What the frames ask of the table of experts is what the run asks. -/
theorem in_range {F : FTy → Type} [FloatOps F] (m : (ℓ : Loc nD τ sig) → Buf (Elt F) ℓ)
    (h : Cert.Pre_in_range6.fn (F := F) (V m 0 main_arg0) (V m 0 main_arg1) (V m 0 main_arg2) (V m 0 main_arg3) = fun _ => 1#1) : InRange m := fun j => by
  have e := congrFun h j
  unfold Cert.Pre_in_range6.fn at e
  exact (Experts.ranged _ e).1

theorem in_range_dispatched {F : FTy → Type} [FloatOps F] (m : (ℓ : Loc nD τ sig) → Buf (Elt F) ℓ)
    (h : (Cert.Pre_dispatched.fn (F := F) (V m 0 main_arg0) (V m 0 main_arg1) (V m 0 main_arg2) (V m 0 main_arg3)).1 = fun _ => 1#1) : InRange m :=
  fun j => (Experts.ranged _ (ranged _ _ _ _ h j)).1

/-- The precondition's second half says of each entry past the valid blocks that it is zero. -/
theorem padded (x : FVec Ideal Cert.Pre_dispatched.S22656x2048 .f32) (T : S177.Idx → BitVec 32) (n : S1.Idx → BitVec 32)
    (w : FVec Ideal Cert.Pre_dispatched.S2x32x2048x2048 .f32) (h : (Cert.Pre_dispatched.fn x T n w).2 = fun _ => 1#1) (r : Fin 22656) (k : Fin 2048)
    (hb : ¬ (BitVec.ofNat 32 (r.val / 128)).slt (n (ix1 (0 : Fin 1))) = true) : x (ix2 r k) = (0 : EReal) := by
  have e := congrFun h (ix3 (⟨r.val / 128, by omega⟩ : Fin 177) (⟨r.val % 128, by omega⟩ : Fin 128) k)
  unfold Cert.Pre_dispatched.fn at e
  pointwise at e
  simp only [IntOp.cmpi] at e
  rw [show (BitVec.ofNat 32 (r.val / 128)).slt (n (ix1 (0 : Fin 1))) = false from Bool.eq_false_iff.mpr hb] at e
  by_contra hx
  rw [decide_eq_false hx] at e
  exact absurd e (by decide)

theorem column0 (b : Fin 177) : (val_main_v15 (F := Ideal) : Cert.Reference6Ideal.S177x1.Idx → BitVec 32) (ix2 b (0 : Fin 1)) = 0#32 := by
  rw [val_main_v15_apply]; rfl

/-- The reference's matrix of a block is its expert's. -/
theorem matrix (T : S177.Idx → BitVec 32) (w : S2x32x2048x2048.Idx → EReal)
    (hT : ∀ j, IntOp.andi (IntOp.cmpi .sge (T j) 0#32) (IntOp.cmpi .slt (T j) 32#32) = 1#1) (b : Fin 177) (p : Fin 2048) (q : Fin 2048) :
    (val_main_v21 (F := Ideal) T w : Cert.Reference6Ideal.S177x2048x2048.Idx → EReal) (ix3 b p q) = weight w (Down.owner T b.val) (ix2 p q) := by
  obtain ⟨h1, h2, h3⟩ := Experts.ranged _ (hT (ix1 b))
  have hi : (idx_main_v21 (ix3 b p q) : Cert.Reference6Ideal.S177x1x1x2048x2048.Idx) = ix5 b (0 : Fin 1) (0 : Fin 1) p q := by
    funext a; refine Fin.ext ?_
    fin_cases a
    · show ((b.val * 2048 + p.val) * 2048 + q.val) / 4194304 = b.val
      omega
    · rfl
    · rfl
    · show ((b.val * 2048 + p.val) * 2048 + q.val) / 2048 % 2048 = p.val
      omega
    · show ((b.val * 2048 + p.val) * 2048 + q.val) % 2048 = q.val
      omega
  refine (val_main_v21_apply (F := Ideal) T w (ix3 b p q)).trans ?_
  rw [hi]
  unfold val_main_v20
  refine (Experts.taken _ w _ b p q (Down.owner T b.val) ?_ ?_).trans ?_
  · unfold val_main_v19
    exact (Experts.first _ _ _ _ _ b).trans (column0 b)
  · unfold val_main_v19
    rw [show _ = _ from Experts.second _ _ _ _ _ b, val_main_v16_apply]
    have hj : idx_main_v16 (ix2 b (0 : Fin 1)) = ix1 b := by funext a; fin_cases a; rfl
    rw [hj, show val_main_v8 (F := Ideal) T (ix1 b) = T (ix1 b) from h3, h2]
    unfold Down.owner
    rw [Fin.val_ofNat, show (Fin.ofNat 177 b.val) = b from Fin.ext (Nat.mod_eq_of_lt b.isLt), Nat.mod_eq_of_lt h1]
  · rfl

/-- The reference's product, in the row that its block and the row within the block name. -/
theorem row_product (x : S22656x2048.Idx → EReal) (T : S177.Idx → BitVec 32) (w : S2x32x2048x2048.Idx → EReal)
    (hT : ∀ j, IntOp.andi (IntOp.cmpi .sge (T j) 0#32) (IntOp.cmpi .slt (T j) 32#32) = 1#1) (r : Fin 22656) (q : Fin 1024) (j : ℕ) (hj : j < 2)
    (i : Cert.Reference6Ideal.S177x128x2048.Idx) (h0 : (i 0).val = r.val / 128) (h1 : (i 1).val = r.val % 128) (h2 : (i 2).val = 1024 * j + q.val) :
    (val_main_v22 (F := Ideal) x T w : Cert.Reference6Ideal.S177x128x2048.Idx → EReal) i = Dense.product x (half w T j (r.val / 128)) r q := by
  have hr := r.isLt
  have hq := q.isLt
  rw [val_main_v22_apply]
  unfold Dense.product
  refine Finset.sum_congr rfl fun k _ => congrArg₂ _ ?_ ?_
  · have hk := k.isLt
    refine (val_main_v0_apply (F := Ideal) x _).trans (congrArg x (funext fun a => Fin.ext ?_))
    fin_cases a
    · show (((i 0).val * 128 + (i 1).val) * 2048 + k.val) / 2048 = r.val
      rw [h0, h1]; omega
    · show (((i 0).val * 128 + (i 1).val) * 2048 + k.val) % 2048 = k.val
      omega
  · have he : ridx_main_v22 i k = ix3 (⟨r.val / 128, by omega⟩ : Fin 177) k (Fin.ofNat 2048 (1024 * j + q.val)) := by
      funext a; refine Fin.ext ?_
      fin_cases a
      · exact h0
      · rfl
      · show (i 2).val = (Fin.ofNat 2048 (1024 * j + q.val)).val
        rw [Fin.val_ofNat, h2]; omega
    rw [he]
    exact matrix T w hT _ k _

theorem reference (x : S22656x2048.Idx → EReal) (T : S177.Idx → BitVec 32) (n : S1.Idx → BitVec 32) (w : S2x32x2048x2048.Idx → EReal)
    (h : (Cert.Pre_dispatched.fn (F := Ideal) x T n w).1 = (fun _ => 1#1) ∧ (Cert.Pre_dispatched.fn (F := Ideal) x T n w).2 = fun _ => 1#1) :
    (val_main_v27 (F := Ideal) x T w : S22656x1024.Idx → EReal) = model x T n w := by
  funext i
  obtain ⟨r, q, rfl⟩ : ∃ (r : Fin 22656) (q : Fin 1024), i = ix2 r q := ⟨i 0, i 1, eq_ix2 i⟩
  have hr := r.isLt
  have hq := q.isLt
  have hT := ranged (F := Ideal) x T n w h.1
  have hi : (idx_main_v27 (ix2 r q) : Cert.Reference6Ideal.S177x128x1024.Idx) = ix3 (⟨r.val / 128, by omega⟩ : Fin 177) (⟨r.val % 128, by omega⟩ : Fin 128) q := by
    funext a; refine Fin.ext ?_
    fin_cases a
    · show (r.val * 1024 + q.val) / 131072 = r.val / 128
      omega
    · show (r.val * 1024 + q.val) / 1024 % 128 = r.val % 128
      omega
    · show (r.val * 1024 + q.val) % 1024 = q.val
      omega
  refine (val_main_v27_apply (F := Ideal) x T w (ix2 r q)).trans ?_
  rw [hi]
  have hg := (val_main_v23_apply (F := Ideal) x T w (ix3 (⟨r.val / 128, by omega⟩ : Fin 177) (⟨r.val % 128, by omega⟩ : Fin 128) q)).trans
    (row_product x T w hT r q 0 (by decide) _ rfl rfl (Nat.zero_add _).symm)
  have hu := (val_main_v24_apply (F := Ideal) x T w (ix3 (⟨r.val / 128, by omega⟩ : Fin 177) (⟨r.val % 128, by omega⟩ : Fin 128) q)).trans
    (row_product x T w hT r q 1 (by decide) _ rfl rfl rfl)
  rw [val_main_v26_apply, val_main_v25_apply, val_main_call0_v5_apply, val_main_call0_v3_apply, val_main_call0_v1_apply, val_main_call0_v0_apply,
    val_main_call0_v2_apply, val_main_call0_v4_apply, val_main_call0_cst_apply, val_main_call0_cst_0_apply, hg, hu]
  have hs : ∀ g u : EReal, FloatOps.mulf (F := Ideal) (φ := .f32) (FloatOps.mulf (F := Ideal) (φ := .f32) g (FloatOps.hostDivf (F := Ideal) (φ := .f32)
      (FloatOps.ofBits .f32 0x3F800000#32) (FloatOps.addf (F := Ideal) (φ := .f32) (FloatOps.ofBits .f32 0x3F800000#32)
        (FloatOps.hostUnary (F := Ideal) (φ := .f32) .exp (FloatOps.hostNegf (F := Ideal) (φ := .f32) g))))) u = gated g u := by
    intro g u
    unfold gated Ideal.logistic
    pointwise
  refine (hs _ _).trans ?_
  unfold model
  show _ = if (BitVec.ofNat 32 (r.val / 128)).slt (n (ix1 (0 : Fin 1)))
    then gated (Dense.product x (half w T 0 (r.val / 128)) r q) (Dense.product x (half w T 1 (r.val / 128)) r q) else 0
  by_cases hv : (BitVec.ofNat 32 (r.val / 128)).slt (n (ix1 (0 : Fin 1))) = true
  · rw [if_pos hv]
  · rw [if_neg hv]
    have hz : ∀ j : ℕ, Dense.product x (half w T j (r.val / 128)) r q = 0 := fun j =>
      Finset.sum_eq_zero fun k _ => by rw [padded x T n w h.2 r k hv, zero_mul]
    rw [hz 0]
    unfold gated
    rw [zero_mul, zero_mul]

end Up

end
-- ==== Proof.NormBody.lean ====
/- The body of the tokens' normalisation: what it leaves in its buffers. -/
module

public import proofs.«01_k».proof.Proof.Gen.Kernel10Ideal.Frame
public import proofs.«01_k».proof.Proof.Gen.Kernel10Ideal.Skeleton
public import Idealize.ShloMosaic.Lib.VecWindow

@[expose] public section

set_option maxRecDepth 16384

noncomputable section

namespace Norm

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem body (c : Dev nD) (i : grid0.Coords)
    (arg1 : Memref sig .tc .vmem S512x2048 .f32) (harg1 : arg1.IsWhole) (arg2 : Memref sig .tc .vmem S1x2048 .f32) (harg2 : arg2.IsWhole)
    (arg3 : Memref sig .tc .vmem S512x2048 .f32) (harg3 : arg3.IsWhole)
    (x : Vec F S512x2048 .f32) (g : Vec F S1x2048 .f32) (o : Vec F S512x2048 .f32) (E : Set ℕ) (K : PUnit → sProp 𝕄) :
    iprop(owns (c : Thread nD τ) arg1 fullShare x ∗ owns (c : Thread nD τ) arg2 fullShare g ∗ owns (c : Thread nD τ) arg3 fullShare o
        ∗ (iprop(owns (c : Thread nD τ) arg1 fullShare x ∗ owns (c : Thread nD τ) arg2 fullShare g
            ∗ owns (c : Thread nD τ) arg3 fullShare (k0_pay1 x g)) -∗ K ⟨⟩))
      ⊢ wp frame (wpE (defs₀ (F := F)) Variants.none c none) E (cc0_rmsnorm i arg1 harg1 arg2 harg2 arg3 harg3) K := by
  rw [cc0_rmsnorm_eq_skeleton]; unfold cc0_rmsnorm_skel owns
  iintro ⟨⟨%f0, %hf0, H0⟩, ⟨%f1, %hf1, H1⟩, ⟨%f2, %hf2, H2⟩, Hk⟩
  sl_exec
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  rw [View.read_writes_full, View.readAt_full, hf0, View.readAt_full, hf1]

end Norm

end
-- ==== Proof.NormFrame.lean ====
/- The run of the tokens' normalisation, over any reading of the floats: it leaves its arguments as they were. -/
module

public import proofs.«01_k».proof.Proof.NormBody
public import proofs.«01_k».proof.Proof.Gen.Kernel10Ideal
public import Idealize.ShloMosaic.Lib.Quiescent

@[expose] public section

set_option maxRecDepth 16384

noncomputable section

namespace Norm

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem row (t : Fin cfg0.N) : defs₀ (F := F) .tc cfg0.body (cfg0.bodyArgs t (cfg0.slots t)) = bodyAt0 t := by
  unfold defs₀; rw [Defs.onTc_tc]

/-- The proof data in which nothing is said of what the staging buffers hold. -/
def silent (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

theorem silent_A (c : Dev nD) (w : Fin cfg0.W) : (silent m 0 c).A w = V m c (Pipeline.arrRef spec0 w) := by dsimp only [silent]

theorem silent_body (c : Dev nD) : BodyObligationLoose (silent m 0 c) (defs₀ (F := F)) Variants.none () Set.univ (fun _ => true) := by
  intro t
  rw [row]
  dsimp only
  rw [show (silent m 0 c).Φ t.succ = (silent m 0 c).Φ t.castSucc from rfl, show (silent m 0 c).owesAt () t.succ = (silent m 0 c).owesAt () t.castSucc from rfl]
  show iprop(_ ∗ _ ∗ bigSep (Finset.univ : Finset (Fin 3)) _) ⊢ wp _ _ _ _ (fun _ => iprop(_ ∗ _ ∗ bigSep (Finset.univ : Finset (Fin 3)) _))
  simp only [bigSep_W0]
  iintro ⟨HR, Ho, ⟨%x, H0⟩, ⟨%g, H1⟩, ⟨%o, H2⟩⟩
  iapply (body c (grid0.coords t) _ _ _ _ _ _ x g o Set.univ _)
  isplitl [H0]; · iexact H0
  isplitl [H1]; · iexact H1
  isplitl [H2]; · iexact H2
  iintro ⟨G0, G1, G2⟩
  isplitl [HR]; · iexact HR
  isplitl [Ho]; · iexact Ho
  isplitl [G0]; · iexists _; iexact G0
  isplitl [G1]; · iexists _; iexact G1
  iexists _; iexact G2

set_option backward.isDefEq.respectTransparency.types false in
theorem run : θ_run defs (onTc (τ := τ) (main (F := F))) (s₀ m ρ)
    (fun r => RDat.FramePost cfg0 (fun c => (silent m 0 c).toRForget (fun _ => true)) (V m) r ∧ r.2.sem = (fun _ => 0)) :=
  Pipeline.θ_run_frame_forget cfgs (silent m) 0 launch0 defs₀ Variants.none (fun _ => true) m ρ main (silent_body m)
    (fun c => (silent m 0 c).share_full fun _ => rfl) (fun _ _ => rfl) (V := V m) (hmain := hmain m Variants.none) (hA := silent_A m) (hΦ := fun _ _ => rfl)
    (Q' := _) (hQ' := fun _ h => h)

/-- The arguments end as they began, over any reading of the floats. -/
theorem kept_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = (fun _ => 0)) :=
  (θ_run defs _ _).mono (fun _ h => ⟨fun c => ⟨(RDat.FramePost.arr_in h.1 c 0 rfl).trans ((silent_A m c 0).trans (V_main_arg0 m c)),
    ((h.1 c).2 main_arg1 (Pipeline.mem_restRefs_of main_arg1 (by decide) (by decide))).trans (V_main_arg1 m c)⟩, h.2⟩) (run m ρ)

end Norm

end
-- ==== Proof.NormValue.lean ====
/- The tokens' normalisation at the extended reals: what each point leaves in its block of the result. -/
module

public import proofs.«01_k».proof.Proof.Dense
public import proofs.«01_k».proof.Proof.NormFrame
public import Idealize.ShloMosaic.Lib.Pipeline.ValueKit

@[expose] public section

set_option maxRecDepth 16384

noncomputable section

namespace Norm

open Cert.Kernel10Ideal Cert.Kernel10Ideal.Gen
open Idealize.ShloMosaic Idealize.ShloMosaic.TcCoe Idealize.SL.Sem

/-- The result in closed form: each token over its root mean square, times the gain. -/
def model (x : S9280x2048.Idx → EReal) (g : S1x2048.Idx → EReal) : S9280x2048.Idx → EReal := fun i =>
  x i * Ideal.rsqrt (Ideal.div (∑ k : Fin 2048, x (ix2 (i 0) k) * x (ix2 (i 0) k)) (Ideal.ofBits .f32 0x45000000#32) + Ideal.ofBits .f32 0x358637BD#32) * g (ix2 0 (i 1))

theorem pay1_at (x : Vec Ideal S512x2048 .f32) (g : Vec Ideal S1x2048 .f32) (i : S512x2048.Idx) :
    k0_pay1 x g i = x (ix2 (i 0) (i 1)) * Ideal.rsqrt (Ideal.div (∑ k : Fin 2048, x (ix2 (i 0) k) * x (ix2 (i 0) k)) (Ideal.ofBits .f32 0x45000000#32)
      + Ideal.ofBits .f32 0x358637BD#32) * g (ix2 0 (i 1)) := by
  rw [eq_ix2 i]
  unfold k0_pay1
  pointwise

theorem index0 (t : Fin cfg0.N) : win0_0.index t = ![t.val, 0] := (by decide +kernel : ∀ t : Fin grid0.N, win0_0.index t = ![t.val, 0]) t
theorem index1 (t : Fin cfg0.N) : win0_1.index t = ![0, 0] := (by decide +kernel : ∀ t : Fin grid0.N, win0_1.index t = ![0, 0]) t
theorem index2 (t : Fin cfg0.N) : win0_2.index t = ![t.val, 0] := (by decide +kernel : ∀ t : Fin grid0.N, win0_2.index t = ![t.val, 0]) t

/-- How many rows of its block a point moves. -/
theorem moved (t : Fin cfg0.N) : win0_0.xsize (grid0.coords t) = ![min 512 (9280 - 512 * t.val), 2048] :=
  (by decide +kernel : ∀ t : Fin grid0.N, win0_0.xsize (grid0.coords t) = ![min 512 (9280 - 512 * t.val), 2048]) t
theorem moved2 (t : Fin cfg0.N) : win0_2.xsize (grid0.coords t) = ![min 512 (9280 - 512 * t.val), 2048] :=
  (by decide +kernel : ∀ t : Fin grid0.N, win0_2.xsize (grid0.coords t) = ![min 512 (9280 - 512 * t.val), 2048]) t

variable (m : (ℓ : Loc nD τ sig) → Buf (Elt Ideal) ℓ)

/-- The gain's block is the whole of it at every point. -/
theorem gain (c : Dev nD) (t : Fin cfg0.N) : (iblk m c 1 t : S1x2048.Idx → EReal) = (V m c main_v0 : S1x2048.Idx → EReal) := by
  funext i
  blk_simp [iblk, index1]
  blk_ext [index1]

/-- Inside the array, the tokens' block at a point is the rows of the point's row block. -/
theorem entries (c : Dev nD) (t : Fin cfg0.N) (d : win0_0.block.Idx → EReal) (r : Fin 512) (s : Fin 9280) (hr : s.val = 512 * t.val + r.val) (k : Fin 2048) :
    win0_0.fill (grid0.coords t) d (iblk m c 0 t) (ix2 r k) = (V m c main_arg0 : S9280x2048.Idx → EReal) (ix2 s k) := by
  rw [Dense.fill_of_lt]
  swap
  · rw [moved]; intro a; fin_cases a
    · show r.val < min 512 (9280 - 512 * t.val); omega
    · exact k.isLt
  blk_simp [iblk, index0]
  blk_ext [index0]

/-- A block's row that agrees with a row of the tokens gives that row of the closed form. -/
theorem scaled (b : S512x2048.Idx → EReal) (x : S9280x2048.Idx → EReal) (g : S1x2048.Idx → EReal) (p : Fin 512) (s : Fin 9280) (q : Fin 2048)
    (e : ∀ k : Fin 2048, b (ix2 p k) = x (ix2 s k)) :
    b (ix2 p q) * Ideal.rsqrt (Ideal.div (∑ k : Fin 2048, b (ix2 p k) * b (ix2 p k)) (Ideal.ofBits .f32 0x45000000#32)
      + Ideal.ofBits .f32 0x358637BD#32) * g (ix2 0 q) = model x g (ix2 s q) := by
  simp only [e]
  rfl

/-- What a point writes back is its block of the closed form. -/
theorem written (c : Dev nD) (t : Fin cfg0.N) (d : win0_0.block.Idx → EReal) :
    win0_2.cut (grid0.coords t) (k0_pay1 (win0_0.fill (grid0.coords t) d (iblk m c 0 t)) (iblk m c 1 t))
      = (win0_2.blk t).view.read (Elt Ideal) (model (V m c main_arg0) (V m c main_v0)) := by
  funext y
  rw [Pipeline.Window.cut_apply]
  refine (pay1_at _ _ (win0_2.xinj (grid0.coords t) y)).trans ?_
  show _ = model _ _ ((win0_2.blk t).view.emb y)
  have hr : ((win0_2.blk t).view.emb y 0).val = 512 * t.val + (win0_2.xinj (grid0.coords t) y 0).val := by
    blk_simp [index2]
    show t.val * 512 + (y 0).val = 512 * t.val + (y 0).val
    omega
  have hc : (win0_2.blk t).view.emb y 1 = win0_2.xinj (grid0.coords t) y 1 :=
    Fin.ext (win0_2.rect_emb_val_of_index_zero t 1 (by rw [index2]; rfl) y)
  rw [gain]
  refine (scaled _ (V m c main_arg0) _ _ ((win0_2.blk t).view.emb y 0) _ fun k => entries m c t d _ _ hr k).trans (congrArg (model _ _) ?_)
  rw [← hc]
  exact (eq_ix2 _).symm

end Norm

end
-- ==== Proof.NormRun.lean ====
/- The run of the tokens' normalisation at the extended reals: its result is the closed form. -/
module

public import proofs.«01_k».proof.Proof.NormValue

@[expose] public section

set_option maxRecDepth 16384

noncomputable section

namespace Norm

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The result's closed form at a core's arguments. -/
def result (c : Dev nD) : S9280x2048.Idx → EReal := model (V m c main_arg0) (V m c main_v0)

def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => win0_2.fill (grid0.coords t) (fun _ => (0 : EReal)) ((win0_2.blk t).view.read (Elt Ideal) (result m c))
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = win0_0.fill (grid0.coords t) (fun _ => (0 : EReal)) (iblk m c 0 t) := by dsimp only [dats]
theorem after1 (c : Dev nD) (t : Fin cfg0.N) : (dats m 0 c).after 1 t = iblk m c 1 t := by dsimp only [dats]
theorem after2 (c : Dev nD) (t : Fin cfg0.N) : (dats m 0 c).after 2 t = win0_2.fill (grid0.coords t) (fun _ => (0 : EReal)) ((win0_2.blk t).view.read (Elt Ideal) (result m c)) := by dsimp only [dats]

theorem before0 (c : Dev nD) (t : Fin cfg0.N) (d) : (dats m 0 c).before 0 t d = win0_0.fill (grid0.coords t) d (iblk m c 0 t) := by
  unfold Dat.before; rw [if_pos (fetch0_0 t)]; rfl
theorem before1 (c : Dev nD) (t : Fin cfg0.N) (d) : (dats m 0 c).before 1 t d = iblk m c 1 t := before0_1_of m (dats m 0 c) (A_eq m c 1) (after1 m c) t d

theorem sound (c : Dev nD) : BodyObligationLoose (dats m 0 c) (defs₀ (F := Ideal)) Variants.none () Set.univ := by
  intro t
  rw [row]
  dsimp only
  rw [show (dats m 0 c).Φ t.succ = (dats m 0 c).Φ t.castSucc from rfl, show (dats m 0 c).owesAt () t.succ = (dats m 0 c).owesAt () t.castSucc from rfl]
  show iprop(_ ∗ _ ∗ bigSep (Finset.univ : Finset (Fin 3)) _) ⊢ wp _ _ _ _ (fun _ => iprop(_ ∗ _ ∗ bigSep (Finset.univ : Finset (Fin 3)) _))
  simp only [bigSep_W0]
  simp only [before0, before1, after0, after1, after2]
  iintro ⟨HR, Ho, ⟨%x, H0⟩, ⟨%g, H1⟩, ⟨%o, H2⟩⟩
  iapply (body c (grid0.coords t) _ _ _ _ _ _ (win0_0.fill (grid0.coords t) x (iblk m c 0 t)) (iblk m c 1 t) _ Set.univ _)
  isplitl [H0]; · iexact H0
  isplitl [H1]; · iexact H1
  isplitl [H2]; · iexact H2
  iintro ⟨G0, G1, G2⟩
  isplitl [HR]; · iexact HR
  isplitl [Ho]; · iexact Ho
  isplitl [G0]
  · iexists x
    rw [Pipeline.Window.cut_fill]
    iexact G0
  isplitl [G1]; · iexact G1
  iexists (k0_pay1 (win0_0.fill (grid0.coords t) x (iblk m c 0 t)) (iblk m c 1 t))
  rw [Pipeline.Window.cut_fill]
  unfold result
  rw [← written m c t x, Pipeline.Window.fill_cut]
  iexact G2

theorem array (c : Dev nD) : (dats m 0 c).arrAt 2 cfg0.N = result m c := by
  refine (dats m 0 c).arrAt_eq_of_covers 2 (result m c) (by decide +kernel) fun t hf y => ?_
  rw [after2]
  exact congrFun (win0_2.cut_fill (grid0.coords t) (fun _ => (0 : EReal)) ((win0_2.blk t).view.read (Elt Ideal) (result m c))) y

set_option backward.isDefEq.respectTransparency.types false in
theorem run_value : θ_run defs (onTc (τ := τ) (main (F := Ideal))) (s₀ m ρ) (Pipeline.FramePost cfgs (dats m) 0 (V m)) :=
  Pipeline.θ_run_frame_track cfgs (dats m) 0 launch0 defs₀ Variants.none m ρ main (sound m)
    (fun c => (dats m 0 c).share_full fun _ => rfl) (fun _ _ => rfl) (V := V m) (hmain := hmain m Variants.none) (hA := A_eq m)
    (hin := fun c => by show (Pipeline.ΦA spec0 c : sProp 𝕄) ⊢ (Pipeline.ΦA spec0 c : sProp 𝕄); iintro H; iexact H)
    (hout := fun c => by show (Pipeline.ΦA spec0 c : sProp 𝕄) ⊢ (Pipeline.ΦA spec0 c : sProp 𝕄); iintro H; iexact H)

/-- The result is the closed form, and the arguments end as they began. -/
theorem value : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (array m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c)⟩) (run_value m ρ)

end Norm

end
-- ==== Proof.NormEqual.lean ====
/- The tokens' normalisation: the closed form is what the reference computes. -/
module

public import proofs.«01_k».proof.Proof.NormRun
public import proofs.«01_k».proof.Proof.Gen.Reference10Ideal
public import proofs.«01_k».proof.Proof.Gen.Reference10Ideal.Run
public import proofs.«01_k».proof.Proof.Gen.Reference10Ideal.Read

@[expose] public section

set_option maxRecDepth 16384

noncomputable section

namespace Norm

open Idealize.ShloMosaic Idealize.ShloMosaic.TcCoe Idealize.SL.Sem

section Launch
open Cert.Kernel10Ideal Cert.Kernel10Ideal.Gen

variable (m : (ℓ : Loc nD τ sig) → Buf (Elt Ideal) ℓ)

/-- The gain as the launch finds it: the argument as a row. -/
theorem row_of (c : Dev nD) (k : Fin 2048) :
    (V m c main_v0 : S1x2048.Idx → EReal) (ix2 0 k) = (m ((c.tc : Thread nD τ).loc main_arg1) : S2048.Idx → EReal) (ix1 k) := by
  unfold V
  rw [show StableHlo.after hostOps0 (fun b => m (c, b)) (Proc.tc.devRef main_v0)
      = shapeCast S1x2048 (m ((c.tc : Thread nD τ).loc main_arg1)) shapeCasts_S2048_S1x2048 by after_results; rfl]
  generalize (m ((c.tc : Thread nD τ).loc main_arg1) : S2048.Idx → EReal) = u
  pointwise

end Launch

open Cert.Reference10Ideal Cert.Reference10Ideal.Gen Cert.Reference10Ideal.Read

variable (x : FVec Ideal S9280x2048 .f32) (u : FVec Ideal S2048 .f32) (g : Cert.Kernel10Ideal.S1x2048.Idx → EReal) (h : ∀ k : Fin 2048, g (ix2 0 k) = u (ix1 k))
include h

theorem reference_at (p : Fin 9280) (q : Fin 2048) : val_main_v12 (F := Ideal) x u (ix2 p q)
    = x (ix2 p q) * Ideal.rsqrt (Ideal.div (∑ k : Fin 2048, x (ix2 p k) * x (ix2 p k)) (Ideal.ofBits .f32 0x45000000#32)
      + Ideal.ofBits .f32 0x358637BD#32) * g (ix2 0 q) := by
  rw [← val_main_v12_eq, h]
  pointwise

theorem reference : val_main_v12 (F := Ideal) x u = model x g := by
  funext i
  rw [eq_ix2 i]
  exact reference_at x u g h _ _

end Norm

end
-- ==== Proof.RouteBody.lean ====
/- The body of the routing's logits: what it leaves in its buffers. -/
module

public import proofs.«01_k».proof.Proof.Gen.Kernel11Ideal.Frame
public import proofs.«01_k».proof.Proof.Gen.Kernel11Ideal.Skeleton
public import Idealize.ShloMosaic.Lib.VecWindow

@[expose] public section

set_option maxRecDepth 16384

noncomputable section

namespace Route

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body takes a new column block of the weights at this point: it is the first row block. -/
def fresh (i : grid0.Coords) : Prop :=
  Scalar.cmpi .ne (Scalar.extui (Scalar.cmpi .eq (BitVec.ofNat 32 (i 1).val) 0#32)) 0#32 = 1#1

open Classical in
/-- What the scratch holds after the body: the narrowed column block where it is taken anew, else what it held. -/
def kept (i : grid0.Coords) (w : Vec F S2048x36 .f32) (s : Vec F S2048x36 .bf16) : Vec F S2048x36 .bf16 :=
  if fresh i then k0_pay1 w else s

theorem body (c : Dev nD) (i : grid0.Coords)
    (arg2 : Memref sig .tc .vmem S512x2048 .f32) (harg2 : arg2.IsWhole) (arg3 : Memref sig .tc .vmem S2048x36 .f32) (harg3 : arg3.IsWhole)
    (arg4 : Memref sig .tc .vmem S512x36 .f32) (harg4 : arg4.IsWhole) (arg5 : Memref sig .tc .vmem S2048x36 .bf16) (harg5 : arg5.IsWhole)
    (x : Vec F S512x2048 .f32) (w : Vec F S2048x36 .f32) (o : Vec F S512x36 .f32) (s : Vec F S2048x36 .bf16)
    (E : Set ℕ) (K : PUnit → sProp 𝕄) :
    iprop(owns (c : Thread nD τ) arg2 fullShare x ∗ owns (c : Thread nD τ) arg3 fullShare w
        ∗ owns (c : Thread nD τ) arg4 fullShare o ∗ owns (c : Thread nD τ) arg5 fullShare s
        ∗ (iprop(owns (c : Thread nD τ) arg2 fullShare x ∗ owns (c : Thread nD τ) arg3 fullShare w
            ∗ owns (c : Thread nD τ) arg4 fullShare (k0_pay2 x (kept i w s)) ∗ owns (c : Thread nD τ) arg5 fullShare (kept i w s)) -∗ K ⟨⟩))
      ⊢ wp frame (wpE (defs₀ (F := F)) Variants.none c none) E
          (cc0_dense_matmul i arg2 harg2 arg3 harg3 arg4 harg4 arg5 harg5) K := by
  rw [cc0_dense_matmul_eq_skeleton]; unfold cc0_dense_matmul_skel owns
  iintro ⟨⟨%f0, %hf0, H0⟩, ⟨%f1, %hf1, H1⟩, ⟨%f2, %hf2, H2⟩, ⟨%f3, %hf3, H3⟩, Hk⟩
  by_cases hc : fresh i
  · have hc' := hc; unfold fresh at hc'
    sl_exec (disch := sl_exact hc')
    sl_step
    iapply Hk
    isplitl [H0]
    · iexists _; isplitr; · ipureintro; exact hf0
      iexact H0
    isplitl [H1]
    · iexists _; isplitr; · ipureintro; exact hf1
      iexact H1
    isplitl [H2]
    · iexists _; isplitr
      swap; · iexact H2
      ipureintro
      rw [View.read_writes_full, View.readAt_full, hf0, kept, if_pos hc]; unfold body.sl.v5
      unfold body.sl.H3_1; rw [View.readCov_full, View.readAt_full, hf1]
    · iexists _; isplitr
      swap; · iexact H3
      ipureintro
      unfold body.sl.H3_1; rw [View.read_writes_full, View.readAt_full, hf1, kept, if_pos hc]
  · have hc' := hc; unfold fresh at hc'
    sl_exec (disch := sl_exact hc')
    sl_step
    iapply Hk
    isplitl [H0]
    · iexists _; isplitr; · ipureintro; exact hf0
      iexact H0
    isplitl [H1]
    · iexists _; isplitr; · ipureintro; exact hf1
      iexact H1
    isplitl [H2]
    · iexists _; isplitr
      swap; · iexact H2
      ipureintro
      rw [View.read_writes_full, View.readAt_full, hf0, View.readAt_full, hf3, kept, if_neg hc]
    · iexists _; isplitr
      swap; · iexact H3
      ipureintro
      rw [hf3, kept, if_neg hc]

end Route

end
-- ==== Proof.RouteFrame.lean ====
/- The run of the routing's logits, over any reading of the floats: it leaves its arguments as they were. -/
module

public import proofs.«01_k».proof.Proof.RouteBody
public import proofs.«01_k».proof.Proof.Gen.Kernel11Ideal
public import Idealize.ShloMosaic.Lib.Quiescent

@[expose] public section

set_option maxRecDepth 16384

noncomputable section

namespace Route

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem row (t : Fin cfg0.N) : defs₀ (F := F) .tc cfg0.body (cfg0.bodyArgs t (cfg0.slots t)) = bodyAt0 t := by
  unfold defs₀; rw [Defs.onTc_tc]

/-- The resources outside the windows: the scratch and the generator register. -/
theorem rest_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]

/-- The proof data in which nothing is said of what the staging buffers hold. -/
def silent (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

theorem silent_A (c : Dev nD) (w : Fin cfg0.W) : (silent m 0 c).A w = V m c (Pipeline.arrRef spec0 w) := by dsimp only [silent]

theorem silent_body (c : Dev nD) : BodyObligationLoose (silent m 0 c) (defs₀ (F := F)) Variants.none () Set.univ (fun _ => true) := by
  intro t
  rw [row]
  dsimp only
  rw [show (silent m 0 c).Φ t.succ = (Pipeline.ΦA spec0 c : sProp 𝕄) from rfl, show (silent m 0 c).Φ t.castSucc = (Pipeline.ΦA spec0 c : sProp 𝕄) from rfl,
    show (silent m 0 c).owesAt () t.succ = (silent m 0 c).owesAt () t.castSucc from rfl, rest_eq]
  show iprop(_ ∗ _ ∗ bigSep (Finset.univ : Finset (Fin 3)) _) ⊢ wp _ _ _ _ (fun _ => iprop(_ ∗ _ ∗ bigSep (Finset.univ : Finset (Fin 3)) _))
  simp only [bigSep_W0]
  iintro ⟨⟨⟨%s, HS⟩, Hg⟩, Ho, ⟨%x, H0⟩, ⟨%w, H1⟩, ⟨%o, H2⟩⟩
  iapply (body c (grid0.coords t) _ _ _ _ _ _ _ _ x w o s Set.univ _)
  isplitl [H0]; · iexact H0
  isplitl [H1]; · iexact H1
  isplitl [H2]; · iexact H2
  isplitl [HS]; · iexact HS
  iintro ⟨G0, G1, G2, GS⟩
  isplitl [GS Hg]
  · isplitl [GS]; · iexists _; iexact GS
    iexact Hg
  isplitl [Ho]; · iexact Ho
  isplitl [G0]; · iexists _; iexact G0
  isplitl [G1]; · iexists _; iexact G1
  iexists _; iexact G2

set_option backward.isDefEq.respectTransparency.types false in
theorem run : θ_run defs (onTc (τ := τ) (main (F := F))) (s₀ m ρ)
    (fun r => RDat.FramePost cfg0 (fun c => (silent m 0 c).toRForget (fun _ => true)) (V m) r ∧ r.2.sem = (fun _ => 0)) :=
  Pipeline.θ_run_frame_forget cfgs (silent m) 0 launch0 defs₀ Variants.none (fun _ => true) m ρ main (silent_body m)
    (fun c => (silent m 0 c).share_full fun _ => rfl) (fun _ _ => rfl) (V := V m) (hmain := hmain m Variants.none) (hA := silent_A m) (hΦ := fun _ _ => rfl)
    (Q' := _) (hQ' := fun _ h => h)

/-- The arguments end as they began, over any reading of the floats. -/
theorem kept_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = (fun _ => 0)) :=
  (θ_run defs _ _).mono (fun _ h => ⟨fun c => ⟨(RDat.FramePost.arr_in h.1 c 0 rfl).trans ((silent_A m c 0).trans (V_main_arg0 m c)),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c)⟩, h.2⟩) (run m ρ)

end Route

end
-- ==== Proof.RouteValue.lean ====
/- The routing's logits at the extended reals: what each point leaves in its block of the result. -/
module

public import proofs.«01_k».proof.Proof.Dense
public import proofs.«01_k».proof.Proof.RouteFrame
public import Idealize.ShloMosaic.Lib.Pipeline.ValueKit

@[expose] public section

set_option maxRecDepth 16384

noncomputable section

namespace Route

open Cert.Kernel11Ideal Cert.Kernel11Ideal.Gen
open Idealize.ShloMosaic Idealize.ShloMosaic.TcCoe Idealize.SL.Sem

/-- The result in closed form: the product. -/
def model (x : S9280x2048.Idx → EReal) (w : S2048x36.Idx → EReal) : S9280x36.Idx → EReal :=
  fun i => Dense.product x w (i 0) (i 1)

theorem pay2_at (x : Vec Ideal S512x2048 .f32) (s : Vec Ideal S2048x36 .bf16) (i : S512x36.Idx) :
    k0_pay2 x s i = Dense.product x s (i 0) (i 1) := by
  rw [eq_ix2 i]
  unfold k0_pay2 Dense.product
  pointwise

theorem pay1_at (w : Vec Ideal S2048x36 .f32) : k0_pay1 w = w := by
  funext i
  rw [eq_ix2 i]
  unfold k0_pay1
  pointwise

theorem col (t : Fin cfg0.N) : (grid0.coords t 0).val = t.val / 19 := (by decide +kernel : ∀ t : Fin grid0.N, (grid0.coords t 0).val = t.val / 19) t
theorem rowb (t : Fin cfg0.N) : (grid0.coords t 1).val = t.val % 19 := (by decide +kernel : ∀ t : Fin grid0.N, (grid0.coords t 1).val = t.val % 19) t
theorem index0 (t : Fin cfg0.N) : win0_0.index t = ![t.val % 19, 0] := (by decide +kernel : ∀ t : Fin grid0.N, win0_0.index t = ![t.val % 19, 0]) t
theorem index1 (t : Fin cfg0.N) : win0_1.index t = ![0, t.val / 19] := (by decide +kernel : ∀ t : Fin grid0.N, win0_1.index t = ![0, t.val / 19]) t
theorem index2 (t : Fin cfg0.N) : win0_2.index t = ![t.val % 19, t.val / 19] := (by decide +kernel : ∀ t : Fin grid0.N, win0_2.index t = ![t.val % 19, t.val / 19]) t
theorem moved0 (t : Fin cfg0.N) : win0_0.xsize (grid0.coords t) = ![win0_2.xsize (grid0.coords t) 0, 2048] :=
  (by decide +kernel : ∀ t : Fin grid0.N, win0_0.xsize (grid0.coords t) = ![win0_2.xsize (grid0.coords t) 0, 2048]) t
theorem fresh_iff (t : Fin cfg0.N) : fresh (grid0.coords t) ↔ t.val % 19 = 0 := by
  unfold fresh
  exact (by decide +kernel : ∀ t : Fin grid0.N, (Scalar.cmpi .ne (Scalar.extui (Scalar.cmpi .eq (BitVec.ofNat 32 (grid0.coords t 1).val) 0#32)) 0#32 = 1#1) ↔ t.val % 19 = 0) t

variable (m : (ℓ : Loc nD τ sig) → Buf (Elt Ideal) ℓ)

/-- The weights' block at a point is the columns of the point's column block. -/
theorem weights (c : Dev nD) (t : Fin cfg0.N) : (iblk m c 1 t : S2048x36.Idx → EReal) = Dense.columns 36 (V m c main_v0 : S2048x36.Idx → EReal) (t.val / 19) := by
  funext i
  have ht : t.val < 19 := t.isLt
  unfold Dense.columns
  blk_simp [iblk, V, index1]
  blk_ext [index1]
  rw [Fin.val_ofNat]
  omega

/-- Inside the array, the entries' block at a point is the rows of the point's row block. -/
theorem entries (c : Dev nD) (t : Fin cfg0.N) (d : win0_0.block.Idx → EReal) (y : (win0_2.xblock (grid0.coords t)).Idx) (k : Fin 2048) :
    win0_0.fill (grid0.coords t) d (iblk m c 0 t) (ix2 (win0_2.xinj (grid0.coords t) y 0) k)
      = (V m c main_arg0 : S9280x2048.Idx → EReal) (ix2 ((win0_2.blk t).view.emb y 0) k) := by
  rw [Dense.fill_of_lt]
  swap
  · rw [moved0]; intro a; fin_cases a
    · exact (y 0).isLt
    · exact k.isLt
  blk_simp [iblk, V, index0, index2]
  blk_ext [index0, index2]

/-- What a point writes back is its block of the closed form. -/
theorem written (c : Dev nD) (t : Fin cfg0.N) (d0 : win0_0.block.Idx → EReal) :
    win0_2.cut (grid0.coords t) (k0_pay2 (win0_0.fill (grid0.coords t) d0 (iblk m c 0 t))
        (Dense.columns 36 (V m c main_v0 : S2048x36.Idx → EReal) (t.val / 19)))
      = (win0_2.blk t).view.read (Elt Ideal) (model (V m c main_arg0) (V m c main_v0)) := by
  funext y
  have ht : t.val < 19 := t.isLt
  rw [Pipeline.Window.cut_apply]
  refine (pay2_at _ _ (win0_2.xinj (grid0.coords t) y)).trans ?_
  show _ = model _ _ ((win0_2.blk t).view.emb y)
  unfold model Dense.product
  refine Finset.sum_congr rfl fun k _ => ?_
  rw [entries]
  congr 1
  unfold Dense.columns
  have hy : (y 1).val < 36 := lt_of_lt_of_le (y 1).isLt (win0_2.xsize_le (grid0.coords t) 1)
  blk_ext [index2]
  rw [Fin.val_ofNat]
  omega

end Route

end
-- ==== Proof.RouteRun.lean ====
/- The run of the routing's logits at the extended reals: its result is the closed form. -/
module

public import proofs.«01_k».proof.Proof.RouteValue

@[expose] public section

set_option maxRecDepth 16384

noncomputable section

namespace Route

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The result's closed form at a core's arguments. -/
def result (c : Dev nD) : S9280x36.Idx → EReal := model (V m c main_arg0) (V m c main_v0)

/-- What holds before point `n`: past a column block's first point the scratch holds that block of the weights. -/
def held (c : Dev nD) (n : ℕ) : sProp 𝕄 :=
  iprop((∃ d, ⌜n % 19 ≠ 0 → d = Dense.columns 36 (V m c main_v0 : S2048x36.Idx → EReal) (n / 19)⌝ ∗ owns (c : Thread nD τ) (Memref.whole cc0_scratch0) fullShare d)
    ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => win0_2.fill (grid0.coords t) (fun _ => (0 : EReal)) ((win0_2.blk t).view.read (Elt Ideal) (result m c))
  Φ t := held m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = win0_0.fill (grid0.coords t) (fun _ => (0 : EReal)) (iblk m c 0 t) := by dsimp only [dats]
theorem after1 (c : Dev nD) (t : Fin cfg0.N) : (dats m 0 c).after 1 t = iblk m c 1 t := by dsimp only [dats]
theorem after2 (c : Dev nD) (t : Fin cfg0.N) : (dats m 0 c).after 2 t = win0_2.fill (grid0.coords t) (fun _ => (0 : EReal)) ((win0_2.blk t).view.read (Elt Ideal) (result m c)) := by dsimp only [dats]

theorem before0 (c : Dev nD) (t : Fin cfg0.N) (d) : (dats m 0 c).before 0 t d = win0_0.fill (grid0.coords t) d (iblk m c 0 t) := by
  unfold Dat.before; rw [if_pos (fetch0_0 t)]; rfl
theorem before1 (c : Dev nD) (t : Fin cfg0.N) (d) : (dats m 0 c).before 1 t d = iblk m c 1 t :=
  before0_1_of m (dats m 0 c) (A_eq m c 1) (after1 m c) t d

/-- After a point the scratch holds the weights' block of the point's columns. -/
theorem kept_eq (c : Dev nD) (t : Fin cfg0.N) (s : Vec Ideal S2048x36 .bf16)
    (hs : t.val % 19 ≠ 0 → s = Dense.columns 36 (V m c main_v0 : S2048x36.Idx → EReal) (t.val / 19)) :
    kept (grid0.coords t) (iblk m c 1 t) s = Dense.columns 36 (V m c main_v0 : S2048x36.Idx → EReal) (t.val / 19) := by
  unfold kept
  by_cases h : t.val % 19 = 0
  · rw [if_pos ((fresh_iff t).mpr h)]; exact (pay1_at _).trans (weights m c t)
  · rw [if_neg (fun h' => h ((fresh_iff t).mp h')), hs h]

theorem sound (c : Dev nD) : BodyObligationLoose (dats m 0 c) (defs₀ (F := Ideal)) Variants.none () Set.univ := by
  intro t
  rw [row]
  dsimp only
  rw [show (dats m 0 c).Φ t.succ = held m c (t.val + 1) from rfl, show (dats m 0 c).Φ t.castSucc = held m c t.val from rfl,
    show (dats m 0 c).owesAt () t.succ = (dats m 0 c).owesAt () t.castSucc from rfl]
  show iprop(_ ∗ _ ∗ bigSep (Finset.univ : Finset (Fin 3)) _) ⊢ wp _ _ _ _ (fun _ => iprop(_ ∗ _ ∗ bigSep (Finset.univ : Finset (Fin 3)) _))
  simp only [bigSep_W0]
  simp only [before0, before1, after0, after1, after2]
  unfold held
  iintro ⟨⟨⟨%s, %hs, HS⟩, Hg⟩, Ho, ⟨%x, H0⟩, ⟨%w, H1⟩, ⟨%o, H2⟩⟩
  iapply (body c (grid0.coords t) _ _ _ _ _ _ _ _ (win0_0.fill (grid0.coords t) x (iblk m c 0 t)) (iblk m c 1 t) _ s Set.univ _)
  rw [kept_eq m c t s hs]
  isplitl [H0]; · iexact H0
  isplitl [H1]; · iexact H1
  isplitl [H2]; · iexact H2
  isplitl [HS]; · iexact HS
  iintro ⟨G0, G1, G2, GS⟩
  isplitl [GS Hg]
  · isplitl [GS]
    · iexists _; isplitr
      swap; · iexact GS
      ipureintro
      intro h
      rw [show (t.val + 1) / 19 = t.val / 19 by omega]
    iexact Hg
  isplitl [Ho]; · iexact Ho
  isplitl [G0]
  · iexists x
    rw [Pipeline.Window.cut_fill]
    iexact G0
  isplitl [G1]; · iexact G1
  iexists (k0_pay2 (win0_0.fill (grid0.coords t) x (iblk m c 0 t))
    (Dense.columns 36 (V m c main_v0 : S2048x36.Idx → EReal) (t.val / 19)))
  rw [Pipeline.Window.cut_fill]
  unfold result
  rw [← written m c t x, Pipeline.Window.fill_cut]
  iexact G2

theorem held_start (c : Dev nD) : (Pipeline.ΦA spec0 c : sProp 𝕄) ⊢ held m c 0 := by
  rw [rest_eq]; unfold held
  iintro ⟨⟨%d, HS⟩, Hg⟩
  isplitl [HS]
  · iexists d; isplitr
    · ipureintro; intro h; exact absurd rfl h
    iexact HS
  iexact Hg

theorem held_end (c : Dev nD) (n : ℕ) : held m c n ⊢ (Pipeline.ΦA spec0 c : sProp 𝕄) := by
  rw [rest_eq]; unfold held
  iintro ⟨⟨%d, %hd, HS⟩, Hg⟩
  isplitl [HS]
  · iexists d; iexact HS
  iexact Hg

theorem array (c : Dev nD) : (dats m 0 c).arrAt 2 cfg0.N = result m c := by
  refine (dats m 0 c).arrAt_eq_of_covers 2 (result m c) (by decide +kernel) fun t hf y => ?_
  rw [after2]
  exact congrFun (win0_2.cut_fill (grid0.coords t) (fun _ => (0 : EReal)) ((win0_2.blk t).view.read (Elt Ideal) (result m c))) y

set_option backward.isDefEq.respectTransparency.types false in
theorem run_value : θ_run defs (onTc (τ := τ) (main (F := Ideal))) (s₀ m ρ) (Pipeline.FramePost cfgs (dats m) 0 (V m)) :=
  Pipeline.θ_run_frame_track cfgs (dats m) 0 launch0 defs₀ Variants.none m ρ main (sound m)
    (fun c => (dats m 0 c).share_full fun _ => rfl) (fun _ _ => rfl) (V := V m) (hmain := hmain m Variants.none) (hA := A_eq m)
    (hin := held_start m) (hout := fun c => held_end m c _)

/-- The result is the closed form, and the arguments end as they began. -/
theorem value : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 2).trans (array m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_value m ρ)

end Route

end
-- ==== Proof.RouteEqual.lean ====
/- The routing's logits: the closed form is what the reference computes. -/
module

public import proofs.«01_k».proof.Proof.RouteRun
public import proofs.«01_k».proof.Proof.Gen.Reference11Ideal
public import proofs.«01_k».proof.Proof.Gen.Reference11Ideal.Run
public import proofs.«01_k».proof.Proof.Gen.Reference11Ideal.Read

@[expose] public section

set_option maxRecDepth 16384

noncomputable section

namespace Route

open Idealize.ShloMosaic Idealize.ShloMosaic.TcCoe Idealize.SL.Sem

section Launch
open Cert.Kernel11Ideal Cert.Kernel11Ideal.Gen

variable (m : (ℓ : Loc nD τ sig) → Buf (Elt Ideal) ℓ)

/-- The weights as the launch finds them: the groups' columns, then the experts'. -/
theorem columns_of (c : Dev nD) (k : Fin 2048) (q : Fin 36) : (V m c main_v0 : S2048x36.Idx → EReal) (ix2 k q)
      = if h : q.val < 4 then (m ((c.tc : Thread nD τ).loc main_arg1) : S2048x4.Idx → EReal) (ix2 k ⟨q.val, h⟩)
        else (m ((c.tc : Thread nD τ).loc main_arg2) : S2048x32.Idx → EReal) (ix2 k ⟨q.val - 4, by omega⟩) := by
  unfold V
  rw [show StableHlo.after hostOps0 (fun b => m (c, b)) (Proc.tc.devRef main_v0) = concatenate S2048x36 1
      [⟨S2048x4, m ((c.tc : Thread nD τ).loc main_arg1)⟩, ⟨S2048x32, m ((c.tc : Thread nD τ).loc main_arg2)⟩] concatenates_S2048x4_S2048x32_S2048x36_d1 by
    after_results]
  generalize (m ((c.tc : Thread nD τ).loc main_arg1) : S2048x4.Idx → EReal) = u
  generalize (m ((c.tc : Thread nD τ).loc main_arg2) : S2048x32.Idx → EReal) = v
  pointwise

end Launch

open Cert.Reference11Ideal Cert.Reference11Ideal.Gen Cert.Reference11Ideal.Read

variable (x : FVec Ideal S9280x2048 .f32) (u : FVec Ideal S2048x4 .f32) (v : FVec Ideal S2048x32 .f32) (w : Cert.Kernel11Ideal.S2048x36.Idx → EReal)
  (h : ∀ (k : Fin 2048) (q : Fin 36), w (ix2 k q) = if h : q.val < 4 then u (ix2 k ⟨q.val, h⟩) else v (ix2 k ⟨q.val - 4, by omega⟩))
include h

theorem reference_at (p : Fin 9280) (q : Fin 36) : val_main_v2 (F := Ideal) x u v (ix2 p q) = Dense.product x w p q := by
  rw [← val_main_v2_eq]
  unfold Dense.product
  pointwise
  by_cases hc : q.val < 4
  · rw [dif_pos hc]
    exact Finset.sum_congr rfl fun k _ => congrArg (x (ix2 p k) * ·) ((h k q).trans (dif_pos hc)).symm
  · rw [dif_neg hc]
    exact Finset.sum_congr rfl fun k _ => congrArg (x (ix2 p k) * ·) ((h k q).trans (dif_neg hc)).symm

theorem reference : val_main_v2 (F := Ideal) x u v = model x w := by
  funext i
  rw [eq_ix2 i]
  exact reference_at x u v w h _ _

end Route

end
-- ==== Proof.PrepBody.lean ====
/- The body that prepares the scan's operands: what it leaves in its buffers. -/
module

public import proofs.«01_k».proof.Proof.Gen.Kernel12Ideal.Frame
public import proofs.«01_k».proof.Proof.Gen.Kernel12Ideal.Skeleton
public import Idealize.ShloMosaic.Lib.VecWindow

@[expose] public section

set_option maxRecDepth 16384

noncomputable section

namespace Prep

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The weights that sum a row within each of two heads, once for the leading part and once for the rest. -/
def wts : FVec F S256x128 .bf16 := k0_pay3 (iota .tc S256x128 32 [1] iota_S256x128_d1_w32) k0_pay2 64#32

/-- The decays of a block of tokens. -/
def decays (l : Vec F S256x2048 .f32) (w : Vec F S1x2048 .f32) : FVec F S256x2048 .f32 := k0_pay5 (k0_pay4 w l) (Scalar.ofBits .f32 0x3F000000#32)

/-- The scaled keys, each head over its length. -/
def units (k : Vec F S256x2048 .f32) (s : Vec F S1x2048 .f32) : FVec F S256x2048 .f32 :=
  k0_pay23 wts (k0_pay7 k s) (k0_pay8 k s) (k0_pay9 k wts s) (k0_pay10 k wts s) (k0_pay11 k wts s) (k0_pay12 k wts s)
    (k0_pay13 wts (k0_pay8 k s)) (k0_pay14 wts (k0_pay8 k s)) (k0_pay15 wts (k0_pay8 k s)) (k0_pay16 wts (k0_pay8 k s)) (k0_pay17 wts (k0_pay8 k s))
    (k0_pay18 wts (k0_pay8 k s)) (k0_pay19 wts (k0_pay8 k s)) (k0_pay21 (k0_pay8 k s)) (k0_pay22 (k0_pay8 k s))

/-- The unit keys times the rates. -/
def removals (k l : Vec F S256x2048 .f32) (a s : Vec F S1x2048 .f32) : FVec F S256x2048 .f32 := mulf (units k s) (k0_pay6 a l)

/-- The keys, moved by the rates. -/
def keys (k l : Vec F S256x2048 .f32) (a s : Vec F S1x2048 .f32) : FVec F S256x2048 .f32 := k0_pay1 k (k0_pay25 (k0_pay6 a l) s)

theorem body (c : Dev nD) (i : grid0.Coords)
    (arg1 : Memref sig .tc .vmem S256x2048 .f32) (harg1 : arg1.IsWhole) (arg2 : Memref sig .tc .vmem S256x2048 .f32) (harg2 : arg2.IsWhole)
    (arg3 : Memref sig .tc .vmem S256x2048 .f32) (harg3 : arg3.IsWhole) (arg4 : Memref sig .tc .vmem S1x2048 .f32) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S256x2048 .f32) (harg8 : arg8.IsWhole)
    (arg9 : Memref sig .tc .vmem S256x2048 .f32) (harg9 : arg9.IsWhole) (arg10 : Memref sig .tc .vmem S256x2048 .f32) (harg10 : arg10.IsWhole)
    (arg11 : Memref sig .tc .vmem S256x2048 .f32) (harg11 : arg11.IsWhole)
    (k wl al : Vec F S256x2048 .f32) (w a s t : Vec F S1x2048 .f32) (o0 o1 o2 o3 : Vec F S256x2048 .f32) (E : Set ℕ) (K : PUnit → sProp 𝕄) :
    iprop(owns (c : Thread nD τ) arg1 fullShare k ∗ owns (c : Thread nD τ) arg2 fullShare wl ∗ owns (c : Thread nD τ) arg3 fullShare al
        ∗ owns (c : Thread nD τ) arg4 fullShare w ∗ owns (c : Thread nD τ) arg5 fullShare a ∗ owns (c : Thread nD τ) arg6 fullShare s
        ∗ owns (c : Thread nD τ) arg7 fullShare t ∗ owns (c : Thread nD τ) arg8 fullShare o0 ∗ owns (c : Thread nD τ) arg9 fullShare o1
        ∗ owns (c : Thread nD τ) arg10 fullShare o2 ∗ owns (c : Thread nD τ) arg11 fullShare o3
        ∗ (iprop(owns (c : Thread nD τ) arg1 fullShare k ∗ owns (c : Thread nD τ) arg2 fullShare wl ∗ owns (c : Thread nD τ) arg3 fullShare al
            ∗ owns (c : Thread nD τ) arg4 fullShare w ∗ owns (c : Thread nD τ) arg5 fullShare a ∗ owns (c : Thread nD τ) arg6 fullShare s
            ∗ owns (c : Thread nD τ) arg7 fullShare t ∗ owns (c : Thread nD τ) arg8 fullShare (decays wl w) ∗ owns (c : Thread nD τ) arg9 fullShare (units k s)
            ∗ owns (c : Thread nD τ) arg10 fullShare (removals k al a s) ∗ owns (c : Thread nD τ) arg11 fullShare (keys k al a t)) -∗ K ⟨⟩))
      ⊢ wp frame (wpE (defs₀ (F := F)) Variants.none c none) E (cc0_rwkv_prep i arg1 harg1 arg2 harg2 arg3 harg3 arg4 harg4 arg5 harg5 arg6 harg6 arg7 harg7 arg8 harg8 arg9 harg9 arg10 harg10 arg11 harg11) K := by
  rw [cc0_rwkv_prep_eq_skeleton]; unfold cc0_rwkv_prep_skel
  simp only [k0_part1_eq_skeleton, k0_part2_eq_skeleton, k0_part3_eq_skeleton, k0_part4_eq_skeleton, k0_part5_eq_skeleton]
  unfold k0_part1_skel k0_part2_skel k0_part3_skel k0_part4_skel k0_part5_skel owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩,
    ⟨%f8, %h8, H8⟩, ⟨%f9, %h9, H9⟩, ⟨%f10, %h10, H10⟩, ⟨%f11, %h11, H11⟩, Hk⟩
  have e1 : View.readAt (Elt F) arg1.view (Rect.unit (s := S256x2048) ![0, 0] S256x2048.size inb_S256x2048_S256x2048_0_0).toLoadRect f1 = k := by
    rw [View.readAt_full, h1]
  have e2 : View.readAt (Elt F) arg2.view (Rect.unit (s := S256x2048) ![0, 0] S256x2048.size inb_S256x2048_S256x2048_0_0).toLoadRect f2 = wl := by
    rw [View.readAt_full, h2]
  have e3 : View.readAt (Elt F) arg3.view (Rect.unit (s := S256x2048) ![0, 0] S256x2048.size inb_S256x2048_S256x2048_0_0).toLoadRect f3 = al := by
    rw [View.readAt_full, h3]
  have e4 : View.readAt (Elt F) arg4.view (Rect.unit (s := S1x2048) ![0, 0] S1x2048.size inb_S1x2048_S1x2048_0_0).toLoadRect f4 = w := by
    rw [View.readAt_full, h4]
  have e5 : View.readAt (Elt F) arg5.view (Rect.unit (s := S1x2048) ![0, 0] S1x2048.size inb_S1x2048_S1x2048_0_0).toLoadRect f5 = a := by
    rw [View.readAt_full, h5]
  have e6 : View.readAt (Elt F) arg6.view (Rect.unit (s := S1x2048) ![0, 0] S1x2048.size inb_S1x2048_S1x2048_0_0).toLoadRect f6 = s := by
    rw [View.readAt_full, h6]
  have e7 : View.readAt (Elt F) arg7.view (Rect.unit (s := S1x2048) ![0, 0] S1x2048.size inb_S1x2048_S1x2048_0_0).toLoadRect f7 = t := by
    rw [View.readAt_full, h7]
  sl_exec
  sl_step
  iapply Hk
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  isplitl [H8]
  · iexists _; isplitr
    swap; · iexact H8
    ipureintro
    rw [View.read_writes_full, ← e2, ← e4]
    rfl
  isplitl [H9]
  · iexists _; isplitr
    swap; · iexact H9
    ipureintro
    rw [View.read_writes_full, ← e1, ← e6]
    rfl
  isplitl [H10]
  · iexists _; isplitr
    swap; · iexact H10
    ipureintro
    rw [View.read_writes_full, ← e1, ← e3, ← e5, ← e6]
    rfl
  iexists _; isplitr
  swap; · iexact H11
  ipureintro
  rw [View.read_writes_full, ← e1, ← e3, ← e5, ← e7]
  rfl

end Prep

end
-- ==== Proof.PrepFrame.lean ====
/- The run that prepares the scan's operands, over any reading of the floats: it leaves its arguments as they were. -/
module

public import proofs.«01_k».proof.Proof.PrepBody
public import proofs.«01_k».proof.Proof.Gen.Kernel12Ideal
public import Idealize.ShloMosaic.Lib.Quiescent

@[expose] public section

set_option maxRecDepth 16384

noncomputable section

namespace Prep

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem row (t : Fin cfg0.N) : defs₀ (F := F) .tc cfg0.body (cfg0.bodyArgs t (cfg0.slots t)) = bodyAt0 t := by
  unfold defs₀; rw [Defs.onTc_tc]

/-- The proof data in which nothing is said of what the staging buffers hold. -/
def silent (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

theorem silent_A (c : Dev nD) (w : Fin cfg0.W) : (silent m 0 c).A w = V m c (Pipeline.arrRef spec0 w) := by dsimp only [silent]

theorem silent_body (c : Dev nD) : BodyObligationLoose (silent m 0 c) (defs₀ (F := F)) Variants.none () Set.univ (fun _ => true) := by
  intro t
  rw [row]
  dsimp only
  rw [show (silent m 0 c).Φ t.succ = (silent m 0 c).Φ t.castSucc from rfl, show (silent m 0 c).owesAt () t.succ = (silent m 0 c).owesAt () t.castSucc from rfl]
  show iprop(_ ∗ _ ∗ bigSep (Finset.univ : Finset (Fin 11)) _) ⊢ wp _ _ _ _ (fun _ => iprop(_ ∗ _ ∗ bigSep (Finset.univ : Finset (Fin 11)) _))
  simp only [bigSep_W0]
  iintro ⟨HR, Ho, ⟨%k, H1⟩, ⟨%wl, H2⟩, ⟨%al, H3⟩, ⟨%w, H4⟩, ⟨%a, H5⟩, ⟨%s, H6⟩, ⟨%u, H7⟩, ⟨%o0, H8⟩, ⟨%o1, H9⟩, ⟨%o2, H10⟩, ⟨%o3, H11⟩⟩
  iapply (body c (grid0.coords t) _ _ _ _ _ _ _ _ _ _ _ _ _ _ _ _ _ _ _ _ _ _ k wl al w a s u o0 o1 o2 o3 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨G1, G2, G3, G4, G5, G6, G7, G8, G9, G10, G11⟩
  isplitl [HR]; · iexact HR
  isplitl [Ho]; · iexact Ho
  isplitl [G1]; · iexists _; iexact G1
  isplitl [G2]; · iexists _; iexact G2
  isplitl [G3]; · iexists _; iexact G3
  isplitl [G4]; · iexists _; iexact G4
  isplitl [G5]; · iexists _; iexact G5
  isplitl [G6]; · iexists _; iexact G6
  isplitl [G7]; · iexists _; iexact G7
  isplitl [G8]; · iexists _; iexact G8
  isplitl [G9]; · iexists _; iexact G9
  isplitl [G10]; · iexists _; iexact G10
  iexists _; iexact G11

set_option backward.isDefEq.respectTransparency.types false in
theorem run : θ_run defs (onTc (τ := τ) (main (F := F))) (s₀ m ρ)
    (fun r => RDat.FramePost cfg0 (fun c => (silent m 0 c).toRForget (fun _ => true)) (V m) r ∧ r.2.sem = (fun _ => 0)) :=
  Pipeline.θ_run_frame_forget cfgs (silent m) 0 launch0 defs₀ Variants.none (fun _ => true) m ρ main (silent_body m)
    (fun c => (silent m 0 c).share_full fun _ => rfl) (fun _ _ => rfl) (V := V m) (hmain := hmain m Variants.none) (hA := silent_A m) (hΦ := fun _ _ => rfl)
    (Q' := _) (hQ' := fun _ h => h)

/-- The arguments end as they began, over any reading of the floats. -/
theorem kept_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = (fun _ => 0)) :=
  (θ_run defs _ _).mono (fun _ h => ⟨fun c => ⟨(RDat.FramePost.arr_in h.1 c 0 rfl).trans ((silent_A m c 0).trans (V_main_arg0 m c)),
    (RDat.FramePost.arr_in h.1 c 1 rfl).trans ((silent_A m c 1).trans (V_main_arg1 m c)),
    (RDat.FramePost.arr_in h.1 c 2 rfl).trans ((silent_A m c 2).trans (V_main_arg2 m c)),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)⟩, h.2⟩) (run m ρ)

end Prep

end
-- ==== Proof.PrepWeights.lean ====
/- The prepared operands' head sums: the weights' entries, and what a product with them gives. -/
module

public import proofs.«01_k».proof.Proof.PrepBody
public import proofs.«01_k».proof.Proof.WkvConst

@[expose] public section

set_option maxRecDepth 16384

noncomputable section

namespace Prep

open Cert.Kernel12Ideal Cert.Kernel12Ideal.Gen
open Idealize.ShloMosaic Idealize.ShloMosaic.TcCoe Idealize.SL.Sem Idealize.ShloMosaic.Pointwise
open Wkv (ci bi IsWts coe_sum sum_heads cat_ofFn)
open Cert.KernelIdeal.WkvRun (isWts)

/-- The weights are the ones the scan's own sums use. -/
theorem wts_eq : (wts : FVec Ideal S256x128 .bf16) = Cert.KernelIdeal.WkvRun.wts := rfl

theorem isHead : IsWts (wts (F := Ideal)) := wts_eq ▸ isWts

abbrev SPart : Shape := ⟨2, ![256, 128]⟩
abbrev SBlk : Shape := ⟨2, ![256, 2048]⟩

theorem slices_part (p : Fin 16) : SBlk.Slices ![0, 128 * p.val] SPart :=
  ⟨rfl, fun a => match a with
    | ⟨0, _⟩ => by show 0 + 256 ≤ 256; omega
    | ⟨1, _⟩ => by show 128 * p.val + 128 ≤ 2048; omega⟩

theorem cat_parts : Shape.Concatenates (List.replicate 16 SPart) SBlk 1 := by decide

section Any
variable {F : FTy → Type} [FloatOps F]

/-- A pair of heads' columns of a block. -/
def part (x : FVec F SBlk .f32) (p : Fin 16) : FVec F SPart .f32 := extractStridedSlice SPart ![0, 128 * p.val] x (slices_part p)

/-- The sums within each of a pair's heads, spread over the head's columns. -/
def sums (u : FVec F SPart .f32) : FVec F SPart .f32 :=
  have hi : FVec F SPart .bf16 := truncf .bf16 u bitsLt_bf16_f32
  have lo : FVec F SPart .bf16 := truncf .bf16 (subf u (extf .f32 hi bitsLt_bf16_f32)) bitsLt_bf16_f32
  matmul dot_S256x256_S256x128_S256x128_1_0_0_1_n_n none
    (concatenate S256x256 1 [⟨S256x128, hi⟩, ⟨S256x128, lo⟩] concatenates_S256x128_S256x128_S256x256_d1) wts (constant S256x128 .f32 0x00000000#32)

/-- Every pair's sums side by side. -/
def allSums (x : FVec F SBlk .f32) : FVec F SBlk .f32 :=
  concatenate SBlk 1 (List.ofFn fun p : Fin 16 => (⟨SPart, sums (part x p)⟩ : (s : Shape) × (s.Idx → F .f32))) (cat_ofFn _ cat_parts)

theorem units_eq (k : Vec F S256x2048 .f32) (s : Vec F S1x2048 .f32) :
    units k s = divf (k0_pay7 k s) (maximumf (sqrt (allSums (k0_pay8 k s))) (broadcast S256x2048 (Scalar.ofBits .f32 0x2B8CBCCC#32))) := rfl

theorem allSums_apply (x : FVec F SBlk .f32) (i : Fin 256) (p : Fin 16) (h : Fin 2) (k : Fin 64) :
    allSums x (ix2 i (bi p h k)) = sums (part x p) (ix2 i (ci h k)) := by
  rw [allSums, concatenate_ofFn_apply (t := SBlk) (s₁ := SPart) 1 (fun p => sums (part x p)) _ rfl 128 rfl _ p
    (by show (128 * p.val + 64 * h.val + k.val) / 128 = p.val; omega) (ix2 i (ci h k))
    (by show 64 * h.val + k.val = (128 * p.val + 64 * h.val + k.val) % 128; omega)
    (fun b => match b with | ⟨0, _⟩ => fun _ => rfl | ⟨1, _⟩ => fun h => absurd rfl h)]

theorem part_apply (x : FVec F SBlk .f32) (i : Fin 256) (p : Fin 16) (h : Fin 2) (k : Fin 64) :
    part x p (ix2 i (ci h k)) = x (ix2 i (bi p h k)) := by
  pointwise [part]
  exact congrArg (fun n => x (ix2 i n)) (Fin.ext (by show 128 * p.val + (64 * h.val + k.val) = _; simp only [bi]; omega))

end Any

/-- On a row of real numbers each column of a head holds the head's sum. -/
theorem sums_apply (u : FVec Ideal SPart .f32) (i : Fin 256) (T : Fin 2 → Fin 64 → ℝ)
    (hu : ∀ h k, u (ix2 i (ci h k)) = ((T h k : ℝ) : EReal)) (h : Fin 2) (k : Fin 64) :
    sums u (ix2 i (ci h k)) = ∑ k' : Fin 64, u (ix2 i (ci h k')) := by
  unfold sums
  pointwise [dot_S256x256_S256x128_S256x128_1_0_0_1_n_n]
  have hw : ∀ (x : Fin 2) (k' : Fin 64), wts (F := Ideal) (ix2 ⟨(ci x k').val, by omega⟩ (ci h k)) = if x = h then (1 : EReal) else 0 := fun x k' => by
    rw [isHead]
    have : (64 * x.val + k'.val) % 128 / 64 = (64 * h.val + k.val) / 64 ↔ x = h := by rw [Fin.ext_iff]; omega
    simp only [this]
  have rest : ∀ (x : Fin 2) (k' : Fin 64), (u (ix2 i (ci x k')) - u (ix2 i (ci x k'))) * wts (F := Ideal) (ix2 ⟨128 + (ci x k').val, by omega⟩ (ci h k)) = 0 :=
    fun x k' => by rw [hu, ← EReal.coe_sub, sub_self, EReal.coe_zero, zero_mul]
  rw [sum_heads, sum_heads]
  simp only [rest, hw, Finset.sum_const_zero, add_zero]
  match h with
  | 0 => simp
  | 1 => simp

/-- Column `j` of the head column `q` lies in. -/
def mate (q : Fin 2048) (j : Fin 64) : Fin 2048 := ⟨q.val / 64 * 64 + j.val, by omega⟩

/-- On a row of real numbers each column of a block holds its head's sum. -/
theorem allSums_row (x : FVec Ideal SBlk .f32) (i : Fin 256) (T : Fin 2048 → ℝ) (hx : ∀ q, x (ix2 i q) = ((T q : ℝ) : EReal)) (q : Fin 2048) :
    allSums x (ix2 i q) = ∑ j : Fin 64, x (ix2 i (mate q j)) := by
  obtain ⟨g, h, j, rfl⟩ : ∃ (g : Fin 16) (h : Fin 2) (j : Fin 64), q = bi g h j :=
    ⟨⟨q.val / 128, by omega⟩, ⟨q.val % 128 / 64, by omega⟩, ⟨q.val % 64, by omega⟩, Fin.ext (by simp only [bi]; omega)⟩
  rw [allSums_apply, sums_apply _ i (fun h j => T (bi g h j)) fun h' j' => (part_apply x i g h' j').trans (hx _)]
  refine Finset.sum_congr rfl fun j' _ => ?_
  rw [part_apply, show mate (bi g h j) j' = bi g h j' from Fin.ext (by simp only [mate, bi]; omega)]

end Prep

end
-- ==== Proof.PrepValue.lean ====
/- The preparation of the scan's operands at the extended reals: what each point leaves in its blocks of the results. -/
module

public import proofs.«01_k».proof.Proof.Dense
public import proofs.«01_k».proof.Proof.PrepFrame
public import proofs.«01_k».proof.Proof.PrepWeights
public import Idealize.ShloMosaic.Lib.Pipeline.ValueKit

@[expose] public section

set_option maxRecDepth 16384

noncomputable section

namespace Prep

open Cert.Kernel12Ideal Cert.Kernel12Ideal.Gen
open Idealize.ShloMosaic Idealize.ShloMosaic.TcCoe Idealize.SL.Sem Idealize.ShloMosaic.Pointwise

section Closed
variable {n : ℕ}

/-- The decay at a token and a column. -/
def decayAt (l : (⟨2, ![n, 2048]⟩ : Shape).Idx → EReal) (w : S1x2048.Idx → EReal) (p : Fin n) (q : Fin 2048) : EReal :=
  Ideal.exp (-Ideal.exp (-(max (-(w (ix2 0 q) + l (ix2 p q))) 0
    + Ideal.log1p (Ideal.exp (-max (w (ix2 0 q) + l (ix2 p q)) (-(w (ix2 0 q) + l (ix2 p q)))))) - Ideal.ofBits .f32 0x3F000000#32))

/-- The scaled key over its head's length. -/
def unitAt (k : (⟨2, ![n, 2048]⟩ : Shape).Idx → EReal) (s : S1x2048.Idx → EReal) (p : Fin n) (q : Fin 2048) : EReal :=
  Ideal.div (k (ix2 p q) * s (ix2 0 q)) (max (Ideal.sqrt (∑ j : Fin 64, k (ix2 p (mate q j)) * s (ix2 0 (mate q j)) * (k (ix2 p (mate q j)) * s (ix2 0 (mate q j)))))
    (Ideal.ofBits .f32 0x2B8CBCCC#32))

/-- The rate at a token and a column. -/
def rateAt (l : (⟨2, ![n, 2048]⟩ : Shape).Idx → EReal) (a : S1x2048.Idx → EReal) (p : Fin n) (q : Fin 2048) : EReal := Ideal.logistic (a (ix2 0 q) + l (ix2 p q))

/-- The key, moved by the rate. -/
def keyAt (k l : (⟨2, ![n, 2048]⟩ : Shape).Idx → EReal) (a s : S1x2048.Idx → EReal) (p : Fin n) (q : Fin 2048) : EReal :=
  k (ix2 p q) * (Ideal.ofBits .f32 0x3F800000#32 + (rateAt l a p q - Ideal.ofBits .f32 0x3F800000#32) * s (ix2 0 q))

end Closed

theorem decays_at (l : Vec Ideal S256x2048 .f32) (w : Vec Ideal S1x2048 .f32) (p : Fin 256) (q : Fin 2048) : decays l w (ix2 p q) = decayAt l w p q := by
  unfold decays k0_pay5 k0_pay4 decayAt
  pointwise
  simp only [sub_eq_add_neg, zero_add, Ideal.ofBits_zero_f32]
  rfl

theorem scaled_at (k : Vec Ideal S256x2048 .f32) (s : Vec Ideal S1x2048 .f32) (p : Fin 256) (q : Fin 2048) : k0_pay7 k s (ix2 p q) = k (ix2 p q) * s (ix2 0 q) := by
  unfold k0_pay7
  pointwise

theorem rates_at (l : Vec Ideal S256x2048 .f32) (a : Vec Ideal S1x2048 .f32) (p : Fin 256) (q : Fin 2048) : k0_pay6 a l (ix2 p q) = rateAt l a p q := by
  unfold k0_pay6 rateAt
  pointwise

theorem keys_at (k l : Vec Ideal S256x2048 .f32) (a s : Vec Ideal S1x2048 .f32) (p : Fin 256) (q : Fin 2048) : keys k l a s (ix2 p q) = keyAt k l a s p q := by
  unfold keys keyAt
  rw [← rates_at]
  generalize k0_pay6 a l = r
  unfold k0_pay1 k0_pay25
  pointwise

/-- On a token of real keys, each head's scaled key is over the head's length. -/
theorem units_at (k : Vec Ideal S256x2048 .f32) (s : Vec Ideal S1x2048 .f32) (p : Fin 256) (K S : Fin 2048 → ℝ)
    (hk : ∀ q, k (ix2 p q) = ((K q : ℝ) : EReal)) (hs : ∀ q, s (ix2 0 q) = ((S q : ℝ) : EReal)) (q : Fin 2048) : units k s (ix2 p q) = unitAt k s p q := by
  rw [units_eq]
  show Ideal.div (k0_pay7 k s (ix2 p q)) (max (Ideal.sqrt (allSums (k0_pay8 k s) (ix2 p q))) (Ideal.ofBits .f32 0x2B8CBCCC#32)) = _
  have sq : ∀ q, k0_pay8 k s (ix2 p q) = k (ix2 p q) * s (ix2 0 q) * (k (ix2 p q) * s (ix2 0 q)) := fun q => by
    rw [← scaled_at]; rfl
  rw [scaled_at, allSums_row _ p (fun q => K q * S q * (K q * S q)) fun q => by rw [sq, hk, hs]; simp only [EReal.coe_mul]]
  unfold unitAt
  simp only [sq]

theorem index0 (t : Fin cfg0.N) : win0_0.index t = ![t.val, 0] := (by decide +kernel : ∀ t : Fin grid0.N, win0_0.index t = ![t.val, 0]) t
theorem index1 (t : Fin cfg0.N) : win0_1.index t = ![t.val, 0] := (by decide +kernel : ∀ t : Fin grid0.N, win0_1.index t = ![t.val, 0]) t
theorem index2 (t : Fin cfg0.N) : win0_2.index t = ![t.val, 0] := (by decide +kernel : ∀ t : Fin grid0.N, win0_2.index t = ![t.val, 0]) t
theorem index3 (t : Fin cfg0.N) : win0_3.index t = ![0, 0] := (by decide +kernel : ∀ t : Fin grid0.N, win0_3.index t = ![0, 0]) t
theorem index4 (t : Fin cfg0.N) : win0_4.index t = ![0, 0] := (by decide +kernel : ∀ t : Fin grid0.N, win0_4.index t = ![0, 0]) t
theorem index5 (t : Fin cfg0.N) : win0_5.index t = ![0, 0] := (by decide +kernel : ∀ t : Fin grid0.N, win0_5.index t = ![0, 0]) t
theorem index6 (t : Fin cfg0.N) : win0_6.index t = ![0, 0] := (by decide +kernel : ∀ t : Fin grid0.N, win0_6.index t = ![0, 0]) t
theorem index7 (t : Fin cfg0.N) : win0_7.index t = ![t.val, 0] := (by decide +kernel : ∀ t : Fin grid0.N, win0_7.index t = ![t.val, 0]) t
theorem index8 (t : Fin cfg0.N) : win0_8.index t = ![t.val, 0] := (by decide +kernel : ∀ t : Fin grid0.N, win0_8.index t = ![t.val, 0]) t
theorem index9 (t : Fin cfg0.N) : win0_9.index t = ![t.val, 0] := (by decide +kernel : ∀ t : Fin grid0.N, win0_9.index t = ![t.val, 0]) t
theorem index10 (t : Fin cfg0.N) : win0_10.index t = ![t.val, 0] := (by decide +kernel : ∀ t : Fin grid0.N, win0_10.index t = ![t.val, 0]) t

/-- How many rows of its block a point moves. -/
theorem moved (t : Fin cfg0.N) : win0_0.xsize (grid0.coords t) = ![min 256 (9280 - 256 * t.val), 2048] :=
  (by decide +kernel : ∀ t : Fin grid0.N, win0_0.xsize (grid0.coords t) = ![min 256 (9280 - 256 * t.val), 2048]) t

/-- The other tokens' windows are the first's, on other arrays. -/
theorem moved1 (t : Fin cfg0.N) : win0_1.xsize (grid0.coords t) = ![min 256 (9280 - 256 * t.val), 2048] := moved t
theorem moved2 (t : Fin cfg0.N) : win0_2.xsize (grid0.coords t) = ![min 256 (9280 - 256 * t.val), 2048] := moved t

variable (m : (ℓ : Loc nD τ sig) → Buf (Elt Ideal) ℓ)

theorem whole3 (c : Dev nD) (t : Fin cfg0.N) : (iblk m c 3 t : S1x2048.Idx → EReal) = (V m c main_v0 : S1x2048.Idx → EReal) := by
  funext i
  blk_simp [iblk, index3]
  blk_ext [index3]
theorem whole4 (c : Dev nD) (t : Fin cfg0.N) : (iblk m c 4 t : S1x2048.Idx → EReal) = (V m c main_v1 : S1x2048.Idx → EReal) := by
  funext i
  blk_simp [iblk, index4]
  blk_ext [index4]
theorem whole5 (c : Dev nD) (t : Fin cfg0.N) : (iblk m c 5 t : S1x2048.Idx → EReal) = (V m c main_v2 : S1x2048.Idx → EReal) := by
  funext i
  blk_simp [iblk, index5]
  blk_ext [index5]
theorem whole6 (c : Dev nD) (t : Fin cfg0.N) : (iblk m c 6 t : S1x2048.Idx → EReal) = (V m c main_v3 : S1x2048.Idx → EReal) := by
  funext i
  blk_simp [iblk, index6]
  blk_ext [index6]

/-- Inside the array, a tokens' block at a point is the rows of the point's row block. -/
theorem entries0 (c : Dev nD) (t : Fin cfg0.N) (d : win0_0.block.Idx → EReal) (r : Fin 256) (s : Fin 9280) (hr : s.val = 256 * t.val + r.val) (k : Fin 2048) :
    win0_0.fill (grid0.coords t) d (iblk m c 0 t) (ix2 r k) = (V m c main_arg0 : S9280x2048.Idx → EReal) (ix2 s k) := by
  rw [Dense.fill_of_lt]
  swap
  · rw [moved]; intro a; fin_cases a
    · show r.val < min 256 (9280 - 256 * t.val); omega
    · exact k.isLt
  blk_simp [iblk, index0]
  blk_ext [index0]
theorem entries1 (c : Dev nD) (t : Fin cfg0.N) (d : win0_1.block.Idx → EReal) (r : Fin 256) (s : Fin 9280) (hr : s.val = 256 * t.val + r.val) (k : Fin 2048) :
    win0_1.fill (grid0.coords t) d (iblk m c 1 t) (ix2 r k) = (V m c main_arg1 : S9280x2048.Idx → EReal) (ix2 s k) := by
  rw [Dense.fill_of_lt]
  swap
  · rw [moved1]; intro a; fin_cases a
    · show r.val < min 256 (9280 - 256 * t.val); omega
    · exact k.isLt
  blk_simp [iblk, index1]
  blk_ext [index1]
theorem entries2 (c : Dev nD) (t : Fin cfg0.N) (d : win0_2.block.Idx → EReal) (r : Fin 256) (s : Fin 9280) (hr : s.val = 256 * t.val + r.val) (k : Fin 2048) :
    win0_2.fill (grid0.coords t) d (iblk m c 2 t) (ix2 r k) = (V m c main_arg2 : S9280x2048.Idx → EReal) (ix2 s k) := by
  rw [Dense.fill_of_lt]
  swap
  · rw [moved2]; intro a; fin_cases a
    · show r.val < min 256 (9280 - 256 * t.val); omega
    · exact k.isLt
  blk_simp [iblk, index2]
  blk_ext [index2]

/-- A block that agrees with an array row by row is what a point writes back of it. -/
theorem cut7 (t : Fin cfg0.N) (b : S256x2048.Idx → EReal) (x : S9280x2048.Idx → EReal)
    (e : ∀ (r : Fin 256) (s : Fin 9280), s.val = 256 * t.val + r.val → ∀ q : Fin 2048, b (ix2 r q) = x (ix2 s q)) :
    win0_7.cut (grid0.coords t) b = (win0_7.blk t).view.read (Elt Ideal) x := by
  funext y
  rw [Pipeline.Window.cut_apply]
  show _ = x ((win0_7.blk t).view.emb y)
  have hr : ((win0_7.blk t).view.emb y 0).val = 256 * t.val + (win0_7.xinj (grid0.coords t) y 0).val := by
    blk_simp [index7]
    show t.val * 256 + (y 0).val = 256 * t.val + (y 0).val
    omega
  have hc : (win0_7.blk t).view.emb y 1 = win0_7.xinj (grid0.coords t) y 1 :=
    Fin.ext (win0_7.rect_emb_val_of_index_zero t 1 (by rw [index7]; rfl) y)
  refine (congrArg b (eq_ix2 (win0_7.xinj (grid0.coords t) y))).trans ((e _ _ hr _).trans (congrArg x ?_))
  rw [← hc]
  exact (eq_ix2 _).symm

/-- The other results' windows are the first's, on other arrays. -/
theorem cut8 (t : Fin cfg0.N) (b : S256x2048.Idx → EReal) (x : S9280x2048.Idx → EReal)
    (e : ∀ (r : Fin 256) (s : Fin 9280), s.val = 256 * t.val + r.val → ∀ q : Fin 2048, b (ix2 r q) = x (ix2 s q)) :
    win0_8.cut (grid0.coords t) b = (win0_8.blk t).view.read (Elt Ideal) x := cut7 t b x e
theorem cut9 (t : Fin cfg0.N) (b : S256x2048.Idx → EReal) (x : S9280x2048.Idx → EReal)
    (e : ∀ (r : Fin 256) (s : Fin 9280), s.val = 256 * t.val + r.val → ∀ q : Fin 2048, b (ix2 r q) = x (ix2 s q)) :
    win0_9.cut (grid0.coords t) b = (win0_9.blk t).view.read (Elt Ideal) x := cut7 t b x e
theorem cut10 (t : Fin cfg0.N) (b : S256x2048.Idx → EReal) (x : S9280x2048.Idx → EReal)
    (e : ∀ (r : Fin 256) (s : Fin 9280), s.val = 256 * t.val + r.val → ∀ q : Fin 2048, b (ix2 r q) = x (ix2 s q)) :
    win0_10.cut (grid0.coords t) b = (win0_10.blk t).view.read (Elt Ideal) x := cut7 t b x e

/-- The results in closed form. -/
def modelD (l : S9280x2048.Idx → EReal) (w : S1x2048.Idx → EReal) : S9280x2048.Idx → EReal := fun i => decayAt l w (i 0) (i 1)
def modelU (k : S9280x2048.Idx → EReal) (s : S1x2048.Idx → EReal) : S9280x2048.Idx → EReal := fun i => unitAt k s (i 0) (i 1)
def modelR (k l : S9280x2048.Idx → EReal) (a s : S1x2048.Idx → EReal) : S9280x2048.Idx → EReal := fun i => unitAt k s (i 0) (i 1) * rateAt l a (i 0) (i 1)
def modelK (k l : S9280x2048.Idx → EReal) (a s : S1x2048.Idx → EReal) : S9280x2048.Idx → EReal := fun i => keyAt k l a s (i 0) (i 1)

/-- The keys and their scales are real numbers. -/
def Real (c : Dev nD) : Prop :=
  (∀ i, ∃ r : ℝ, (V m c main_arg0 : S9280x2048.Idx → EReal) i = (r : EReal)) ∧ (∀ i, ∃ r : ℝ, (V m c main_v2 : S1x2048.Idx → EReal) i = (r : EReal))

variable (c : Dev nD) (t : Fin cfg0.N) (d0 : win0_0.block.Idx → EReal) (d1 : win0_1.block.Idx → EReal) (d2 : win0_2.block.Idx → EReal)

theorem writtenD : win0_7.cut (grid0.coords t) (decays (win0_1.fill (grid0.coords t) d1 (iblk m c 1 t)) (iblk m c 3 t))
    = (win0_7.blk t).view.read (Elt Ideal) (modelD (V m c main_arg1) (V m c main_v0)) := by
  refine cut7 t _ _ fun r s hr q => (decays_at _ _ r q).trans ?_
  rw [whole3]
  show _ = decayAt (V m c main_arg1 : S9280x2048.Idx → EReal) (V m c main_v0 : S1x2048.Idx → EReal) s q
  unfold decayAt
  rw [entries1 m c t d1 r s hr q]

/-- The unit keys of a block's row, on real keys. -/
theorem units_row (h : Real m c) (r : Fin 256) (s : Fin 9280) (hr : s.val = 256 * t.val + r.val) (q : Fin 2048) :
    units (win0_0.fill (grid0.coords t) d0 (iblk m c 0 t)) (iblk m c 5 t) (ix2 r q) = unitAt (V m c main_arg0 : S9280x2048.Idx → EReal) (V m c main_v2 : S1x2048.Idx → EReal) s q := by
  have e := entries0 m c t d0 r s hr
  choose K hK using h.1
  choose S hS using h.2
  rw [whole5]
  refine (units_at _ _ r (fun q => K (ix2 s q)) (fun q => S (ix2 0 q)) (fun q => (e q).trans (hK _)) (fun q => hS _) q).trans ?_
  unfold unitAt
  simp only [e]

theorem rates_row (r : Fin 256) (s : Fin 9280) (hr : s.val = 256 * t.val + r.val) (q : Fin 2048) :
    rateAt (win0_2.fill (grid0.coords t) d2 (iblk m c 2 t)) (iblk m c 4 t) r q = rateAt (V m c main_arg2 : S9280x2048.Idx → EReal) (V m c main_v1 : S1x2048.Idx → EReal) s q := by
  unfold rateAt
  rw [entries2 m c t d2 r s hr q, whole4]

theorem writtenU (h : Real m c) : win0_8.cut (grid0.coords t) (units (win0_0.fill (grid0.coords t) d0 (iblk m c 0 t)) (iblk m c 5 t))
    = (win0_8.blk t).view.read (Elt Ideal) (modelU (V m c main_arg0) (V m c main_v2)) :=
  cut8 t _ _ fun r s hr q => units_row m c t d0 h r s hr q

theorem writtenR (h : Real m c) : win0_9.cut (grid0.coords t)
      (removals (win0_0.fill (grid0.coords t) d0 (iblk m c 0 t)) (win0_2.fill (grid0.coords t) d2 (iblk m c 2 t)) (iblk m c 4 t) (iblk m c 5 t))
    = (win0_9.blk t).view.read (Elt Ideal) (modelR (V m c main_arg0) (V m c main_arg2) (V m c main_v1) (V m c main_v2)) :=
  cut9 t _ _ fun r s hr q => congrArg₂ (· * ·) (units_row m c t d0 h r s hr q) ((rates_at _ _ r q).trans (rates_row m c t d2 r s hr q))

theorem writtenK : win0_10.cut (grid0.coords t)
      (keys (win0_0.fill (grid0.coords t) d0 (iblk m c 0 t)) (win0_2.fill (grid0.coords t) d2 (iblk m c 2 t)) (iblk m c 4 t) (iblk m c 6 t))
    = (win0_10.blk t).view.read (Elt Ideal) (modelK (V m c main_arg0) (V m c main_arg2) (V m c main_v1) (V m c main_v3)) := by
  refine cut10 t _ _ fun r s hr q => (keys_at _ _ _ _ r q).trans ?_
  show _ = keyAt (V m c main_arg0 : S9280x2048.Idx → EReal) (V m c main_arg2 : S9280x2048.Idx → EReal) (V m c main_v1 : S1x2048.Idx → EReal) (V m c main_v3 : S1x2048.Idx → EReal) s q
  unfold keyAt
  rw [rates_row m c t d2 r s hr q, entries0 m c t d0 r s hr q, whole6]

end Prep

end
-- ==== Proof.PrepRun.lean ====
/- The run that prepares the scan's operands at the extended reals: its results are the closed forms. -/
module

public import proofs.«01_k».proof.Proof.PrepValue

@[expose] public section

set_option maxRecDepth 16384

noncomputable section

namespace Prep

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The results' closed forms at a core's arguments. -/
def resultD (c : Dev nD) : S9280x2048.Idx → EReal := modelD (V m c main_arg1) (V m c main_v0)
def resultU (c : Dev nD) : S9280x2048.Idx → EReal := modelU (V m c main_arg0) (V m c main_v2)
def resultR (c : Dev nD) : S9280x2048.Idx → EReal := modelR (V m c main_arg0) (V m c main_arg2) (V m c main_v1) (V m c main_v2)
def resultK (c : Dev nD) : S9280x2048.Idx → EReal := modelK (V m c main_arg0) (V m c main_arg2) (V m c main_v1) (V m c main_v3)

def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => win0_2.fill (grid0.coords t) (fun _ => (0 : EReal)) (iblk m c 2 t)
    | ⟨3, _⟩ => iblk m c 3 t
    | ⟨4, _⟩ => iblk m c 4 t
    | ⟨5, _⟩ => iblk m c 5 t
    | ⟨6, _⟩ => iblk m c 6 t
    | ⟨7, _⟩ => win0_7.fill (grid0.coords t) (fun _ => (0 : EReal)) ((win0_7.blk t).view.read (Elt Ideal) (resultD m c))
    | ⟨8, _⟩ => win0_8.fill (grid0.coords t) (fun _ => (0 : EReal)) ((win0_8.blk t).view.read (Elt Ideal) (resultU m c))
    | ⟨9, _⟩ => win0_9.fill (grid0.coords t) (fun _ => (0 : EReal)) ((win0_9.blk t).view.read (Elt Ideal) (resultR m c))
    | ⟨10, _⟩ => win0_10.fill (grid0.coords t) (fun _ => (0 : EReal)) ((win0_10.blk t).view.read (Elt Ideal) (resultK m c))
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = win0_0.fill (grid0.coords t) (fun _ => (0 : EReal)) (iblk m c 0 t) := by dsimp only [dats]
theorem after1 (c : Dev nD) (t : Fin cfg0.N) : (dats m 0 c).after 1 t = win0_1.fill (grid0.coords t) (fun _ => (0 : EReal)) (iblk m c 1 t) := by dsimp only [dats]
theorem after2 (c : Dev nD) (t : Fin cfg0.N) : (dats m 0 c).after 2 t = win0_2.fill (grid0.coords t) (fun _ => (0 : EReal)) (iblk m c 2 t) := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = win0_7.fill (grid0.coords t) (fun _ => (0 : EReal)) ((win0_7.blk t).view.read (Elt Ideal) (resultD m c)) := by dsimp only [dats]
theorem after8 (c : Dev nD) (t : Fin cfg0.N) : (dats m 0 c).after 8 t = win0_8.fill (grid0.coords t) (fun _ => (0 : EReal)) ((win0_8.blk t).view.read (Elt Ideal) (resultU m c)) := by dsimp only [dats]
theorem after9 (c : Dev nD) (t : Fin cfg0.N) : (dats m 0 c).after 9 t = win0_9.fill (grid0.coords t) (fun _ => (0 : EReal)) ((win0_9.blk t).view.read (Elt Ideal) (resultR m c)) := by dsimp only [dats]
theorem after10 (c : Dev nD) (t : Fin cfg0.N) : (dats m 0 c).after 10 t = win0_10.fill (grid0.coords t) (fun _ => (0 : EReal)) ((win0_10.blk t).view.read (Elt Ideal) (resultK m c)) := by dsimp only [dats]

/-- A window that fetches at every point holds its block of the array, over what the buffer held before. -/
theorem before_of (c : Dev nD) (w : Fin cfg0.W) (t : Fin cfg0.N) (hf : (cfg0.win w).fetch t = true) (d) :
    (dats m 0 c).before w t d = (cfg0.win w).fill (grid0.coords t) d (iblk m c w t) := by
  unfold Dat.before; rw [if_pos hf]; rfl

theorem before0 (c : Dev nD) (t : Fin cfg0.N) (d) : (dats m 0 c).before 0 t d = win0_0.fill (grid0.coords t) d (iblk m c 0 t) := before_of m c 0 t (fetch0_0 t) d
theorem before1 (c : Dev nD) (t : Fin cfg0.N) (d) : (dats m 0 c).before 1 t d = win0_1.fill (grid0.coords t) d (iblk m c 1 t) := before_of m c 1 t (fetch0_1 t) d
theorem before2 (c : Dev nD) (t : Fin cfg0.N) (d) : (dats m 0 c).before 2 t d = win0_2.fill (grid0.coords t) d (iblk m c 2 t) := before_of m c 2 t (fetch0_2 t) d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d

theorem sound (c : Dev nD) (h : Real m c) : BodyObligationLoose (dats m 0 c) (defs₀ (F := Ideal)) Variants.none () Set.univ := by
  intro t
  rw [row]
  dsimp only
  rw [show (dats m 0 c).Φ t.succ = (dats m 0 c).Φ t.castSucc from rfl, show (dats m 0 c).owesAt () t.succ = (dats m 0 c).owesAt () t.castSucc from rfl]
  show iprop(_ ∗ _ ∗ bigSep (Finset.univ : Finset (Fin 11)) _) ⊢ wp _ _ _ _ (fun _ => iprop(_ ∗ _ ∗ bigSep (Finset.univ : Finset (Fin 11)) _))
  simp only [bigSep_W0]
  simp only [before0, before1, before2, before3, before4, before5, before6, after0, after1, after2, after3, after4, after5, after6, after7, after8, after9, after10]
  iintro ⟨HR, Ho, ⟨%d0, H0⟩, ⟨%d1, H1⟩, ⟨%d2, H2⟩, ⟨%d3, H3⟩, ⟨%d4, H4⟩, ⟨%d5, H5⟩, ⟨%d6, H6⟩, ⟨%o0, H7⟩, ⟨%o1, H8⟩, ⟨%o2, H9⟩, ⟨%o3, H10⟩⟩
  iapply (body c (grid0.coords t) _ _ _ _ _ _ _ _ _ _ _ _ _ _ _ _ _ _ _ _ _ _ (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨G0, G1, G2, G3, G4, G5, G6, G7, G8, G9, G10⟩
  isplitl [HR]; · iexact HR
  isplitl [Ho]; · iexact Ho
  isplitl [G0]
  · iexists d0
    rw [Pipeline.Window.cut_fill]
    iexact G0
  isplitl [G1]
  · iexists d1
    rw [Pipeline.Window.cut_fill]
    iexact G1
  isplitl [G2]
  · iexists d2
    rw [Pipeline.Window.cut_fill]
    iexact G2
  isplitl [G3]; · iexact G3
  isplitl [G4]; · iexact G4
  isplitl [G5]; · iexact G5
  isplitl [G6]; · iexact G6
  isplitl [G7]
  · iexists (decays (win0_1.fill (grid0.coords t) d1 (iblk m c 1 t)) (iblk m c 3 t))
    rw [Pipeline.Window.cut_fill]
    unfold resultD
    rw [← writtenD m c t d1, Pipeline.Window.fill_cut]
    iexact G7
  isplitl [G8]
  · iexists (units (win0_0.fill (grid0.coords t) d0 (iblk m c 0 t)) (iblk m c 5 t))
    rw [Pipeline.Window.cut_fill]
    unfold resultU
    rw [← writtenU m c t d0 h, Pipeline.Window.fill_cut]
    iexact G8
  isplitl [G9]
  · iexists (removals (win0_0.fill (grid0.coords t) d0 (iblk m c 0 t)) (win0_2.fill (grid0.coords t) d2 (iblk m c 2 t)) (iblk m c 4 t) (iblk m c 5 t))
    rw [Pipeline.Window.cut_fill]
    unfold resultR
    rw [← writtenR m c t d0 d2 h, Pipeline.Window.fill_cut]
    iexact G9
  iexists (keys (win0_0.fill (grid0.coords t) d0 (iblk m c 0 t)) (win0_2.fill (grid0.coords t) d2 (iblk m c 2 t)) (iblk m c 4 t) (iblk m c 6 t))
  rw [Pipeline.Window.cut_fill]
  unfold resultK
  rw [← writtenK m c t d0 d2, Pipeline.Window.fill_cut]
  iexact G10

/-- A window that the body fills with an array's blocks, and whose blocks cover the array, leaves the array. -/
theorem array_of (c : Dev nD) (w : Fin cfg0.W) (G : Buf (Elt Ideal) ((cfg0.win w).arr.view.loc (c.tc : Thread nD τ))) (d : ∀ t : Fin cfg0.N, _)
    (hw : (cfg0.win w).arr.IsWhole) (hc : (cfg0.win w).Covers)
    (h : ∀ t, (dats m 0 c).after w t = (cfg0.win w).fill (grid0.coords t) (d t) (((cfg0.win w).blk t).view.read (Elt Ideal) G)) :
    (dats m 0 c).arrAt w cfg0.N = G :=
  (dats m 0 c).arrAt_eq_of_covers w G hc (fun t _ y => by
    rw [h t, show (cfg0.win w).fill (grid0.coords t) (d t) (((cfg0.win w).blk t).view.read (Elt Ideal) G) ((cfg0.win w).xinj (grid0.coords t) y) = _ from
      (cfg0.win w).fill_xinj (grid0.coords t) (d t) _ y]
    simp only [View.read, cast_cast, cast_eq]) hw

theorem array7 (c : Dev nD) : (dats m 0 c).arrAt 7 cfg0.N = resultD m c :=
  array_of m c 7 _ _ (Memref.isWhole_whole _) (by decide +kernel) (after7 m c)

theorem array8 (c : Dev nD) : (dats m 0 c).arrAt 8 cfg0.N = resultU m c :=
  array_of m c 8 _ _ (Memref.isWhole_whole _) (by decide +kernel) (after8 m c)

theorem array9 (c : Dev nD) : (dats m 0 c).arrAt 9 cfg0.N = resultR m c :=
  array_of m c 9 _ _ (Memref.isWhole_whole _) (by decide +kernel) (after9 m c)

theorem array10 (c : Dev nD) : (dats m 0 c).arrAt 10 cfg0.N = resultK m c :=
  array_of m c 10 _ _ (Memref.isWhole_whole _) (by decide +kernel) (after10 m c)

set_option backward.isDefEq.respectTransparency.types false in
theorem run_value (h : ∀ c, Real m c) : θ_run defs (onTc (τ := τ) (main (F := Ideal))) (s₀ m ρ) (Pipeline.FramePost cfgs (dats m) 0 (V m)) :=
  Pipeline.θ_run_frame_track cfgs (dats m) 0 launch0 defs₀ Variants.none m ρ main (fun c => sound m c (h c))
    (fun c => (dats m 0 c).share_full fun _ => rfl) (fun _ _ => rfl) (V := V m) (hmain := hmain m Variants.none) (hA := A_eq m)
    (hin := fun c => by show (Pipeline.ΦA spec0 c : sProp 𝕄) ⊢ (Pipeline.ΦA spec0 c : sProp 𝕄); iintro H; iexact H)
    (hout := fun c => by show (Pipeline.ΦA spec0 c : sProp 𝕄) ⊢ (Pipeline.ΦA spec0 c : sProp 𝕄); iintro H; iexact H)

/-- On real keys the results are the closed forms, and the arguments end as they began. -/
theorem value (h : ∀ c, Real m c) : θ_run defs (onTc (τ := τ) (main (F := Ideal))) ⟨m, fun _ => 0, ρ⟩ (fun r => ∀ c : Dev nD,
      r.2.mem ((c.tc : Thread nD τ).loc main_v4_0) = resultD m c
      ∧ r.2.mem ((c.tc : Thread nD τ).loc main_v4_1) = resultU m c
      ∧ r.2.mem ((c.tc : Thread nD τ).loc main_v4_2) = resultR m c
      ∧ r.2.mem ((c.tc : Thread nD τ).loc main_v4_3) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (array7 m c), ((h c).1 8).trans (array8 m c), ((h c).1 9).trans (array9 m c), ((h c).1 10).trans (array10 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩) (run_value m ρ h)

end Prep

end
-- ==== Proof.PrepEqual.lean ====
/- The preparation of the scan's operands: the closed forms are what the reference computes. -/
module

public import proofs.«01_k».proof.Proof.PrepRun
public import proofs.«01_k».proof.Proof.RealEntries
public import proofs.«01_k».proof.Proof.Gen.Pre_finite12
public import proofs.«01_k».proof.Proof.Gen.Reference12Ideal
public import proofs.«01_k».proof.Proof.Gen.Reference12Ideal.Run
public import proofs.«01_k».proof.Proof.Gen.Reference12Ideal.Read

@[expose] public section

set_option maxRecDepth 16384

noncomputable section

namespace Prep

open Idealize.ShloMosaic Idealize.ShloMosaic.TcCoe Idealize.SL.Sem

section Launch
open Cert.Kernel12Ideal Cert.Kernel12Ideal.Gen RealEntries

variable (m : (ℓ : Loc nD τ sig) → Buf (Elt Ideal) ℓ)

/-- A parameter laid in a row. -/
theorem in_row (u : S2048.Idx → EReal) (k : Fin 2048) : (shapeCast S1x2048 u shapeCasts_S2048_S1x2048 : S1x2048.Idx → EReal) (ix2 0 k) = u (ix1 k) := by
  pointwise

/-- The four parameters as the launch finds them: each argument as a row. -/
theorem row0 (c : Dev nD) (k : Fin 2048) :
    (V m c main_v0 : S1x2048.Idx → EReal) (ix2 0 k) = (m ((c.tc : Thread nD τ).loc main_arg3) : S2048.Idx → EReal) (ix1 k) :=
  Eq.trans (congrFun (show V m c main_v0 = shapeCast S1x2048 (m ((c.tc : Thread nD τ).loc main_arg3)) shapeCasts_S2048_S1x2048 by unfold V; after_results; rfl) _) (in_row _ k)
theorem row1 (c : Dev nD) (k : Fin 2048) :
    (V m c main_v1 : S1x2048.Idx → EReal) (ix2 0 k) = (m ((c.tc : Thread nD τ).loc main_arg4) : S2048.Idx → EReal) (ix1 k) :=
  Eq.trans (congrFun (show V m c main_v1 = shapeCast S1x2048 (m ((c.tc : Thread nD τ).loc main_arg4)) shapeCasts_S2048_S1x2048 by unfold V; after_results; rfl) _) (in_row _ k)
theorem row2 (c : Dev nD) (k : Fin 2048) :
    (V m c main_v2 : S1x2048.Idx → EReal) (ix2 0 k) = (m ((c.tc : Thread nD τ).loc main_arg5) : S2048.Idx → EReal) (ix1 k) :=
  Eq.trans (congrFun (show V m c main_v2 = shapeCast S1x2048 (m ((c.tc : Thread nD τ).loc main_arg5)) shapeCasts_S2048_S1x2048 by unfold V; after_results; rfl) _) (in_row _ k)
theorem row3 (c : Dev nD) (k : Fin 2048) :
    (V m c main_v3 : S1x2048.Idx → EReal) (ix2 0 k) = (m ((c.tc : Thread nD τ).loc main_arg6) : S2048.Idx → EReal) (ix1 k) :=
  Eq.trans (congrFun (show V m c main_v3 = shapeCast S1x2048 (m ((c.tc : Thread nD τ).loc main_arg6)) shapeCasts_S2048_S1x2048 by unfold V; after_results; rfl) _) (in_row _ k)

/-- The precondition, read: the keys and their scales are real. -/
theorem real (c : Dev nD)
    (h : Cert.Pre_finite12.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      = fun _ => 1#1) : Real m c := by
  have e := congrFun h (fun k => k.elim0)
  dsimp only [Cert.Pre_finite12.fn] at e
  obtain ⟨e0, e5⟩ := both e
  have r0 := all_real _ _ _ _ _ _ e0
  have r5 := all_real _ _ _ _ _ _ e5
  refine ⟨fun i => ?_, fun i => ?_⟩
  · rw [V_main_arg0]; exact r0 i
  · obtain ⟨r, hr⟩ := r5 (ix1 (i 1))
    refine ⟨r, Eq.trans ?_ hr⟩
    rw [← row2 m c (i 1)]
    exact congrArg _ ((eq_ix2 i).trans (congrArg (fun z => ix2 z (i 1)) (Subsingleton.elim (α := Fin 1) (i 0) 0)))

end Launch

open Cert.Reference12Ideal Cert.Reference12Ideal.Gen Cert.Reference12Ideal.Read

variable (x : FVec Ideal S9280x2048 .f32) (u : FVec Ideal S2048 .f32) (g : Cert.Kernel12Ideal.S1x2048.Idx → EReal) (h : ∀ k : Fin 2048, g (ix2 0 k) = u (ix1 k))
include h

theorem decay_at (p : Fin 9280) (q : Fin 2048) : val_main_v10 (F := Ideal) x u (ix2 p q) = decayAt x g p q := by
  rw [← val_main_v10_eq]
  unfold decayAt
  rw [h]
  pointwise
  generalize u (ix1 q) + x (ix2 p q) = z
  have size : max (-z) (- -z) = max z (-z) := by rw [neg_neg, max_comm]
  rw [if_neg fun n => n rfl, ← size]
  rfl

theorem rate_at (p : Fin 9280) (q : Fin 2048) : val_main_v19 (F := Ideal) x u (ix2 p q) = rateAt x g p q := by
  unfold val_main_v19 val_main_v18 val_main_v17 val_main_v16 val_main_v15 val_main_v14 val_main_v13 val_main_v12 val_main_v11 val_main_cst_0 val_main_cst_1 rateAt Ideal.logistic
  rw [h]
  pointwise

theorem unit_at (p : Fin 9280) (q : Fin 2048) : val_main_v32 (F := Ideal) x u (ix2 p q) = unitAt x g p q := by
  unfold unitAt
  simp only [h]
  rw [← val_main_v32_eq]
  pointwise
  rfl

theorem referenceD : val_main_v10 (F := Ideal) x u = modelD x g := by
  funext i
  rw [eq_ix2 i]
  exact decay_at x u g h _ _

theorem referenceU : val_main_v32 (F := Ideal) x u = modelU x g := by
  funext i
  rw [eq_ix2 i]
  exact unit_at x u g h _ _

theorem referenceR (l : FVec Ideal S9280x2048 .f32) (w : FVec Ideal S2048 .f32) (a : Cert.Kernel12Ideal.S1x2048.Idx → EReal) (ha : ∀ k : Fin 2048, a (ix2 0 k) = w (ix1 k)) :
    val_main_v33 (F := Ideal) x l w u = modelR x l a g := by
  funext i
  rw [eq_ix2 i]
  exact congrArg₂ (· * ·) (unit_at x u g h _ _) (rate_at l w a ha _ _)

theorem key_at (l : FVec Ideal S9280x2048 .f32) (w : FVec Ideal S2048 .f32) (a : Cert.Kernel12Ideal.S1x2048.Idx → EReal) (ha : ∀ k : Fin 2048, a (ix2 0 k) = w (ix1 k))
    (p : Fin 9280) (q : Fin 2048) : val_main_v41 (F := Ideal) x l w u (ix2 p q) = keyAt x l a g p q := by
  unfold keyAt
  rw [← rate_at l w a ha, h]
  unfold val_main_v41 val_main_v40 val_main_v39 val_main_v38 val_main_v37 val_main_v36 val_main_v35 val_main_v34 val_main_cst_4 val_main_cst_5
  generalize val_main_v19 (F := Ideal) l w = r
  pointwise

theorem referenceK (l : FVec Ideal S9280x2048 .f32) (w : FVec Ideal S2048 .f32) (a : Cert.Kernel12Ideal.S1x2048.Idx → EReal) (ha : ∀ k : Fin 2048, a (ix2 0 k) = w (ix1 k)) :
    val_main_v41 (F := Ideal) x l w u = modelK x l a g := by
  funext i
  rw [eq_ix2 i]
  exact key_at x u g h l w a ha _ _

end Prep

end
-- ==== Proof.PostBody.lean ====
/- The body that norms the scan's read-out and gates it: what it leaves in its buffers. -/
module

public import proofs.«01_k».proof.Proof.Gen.Kernel13Ideal.Frame
public import proofs.«01_k».proof.Proof.Gen.Kernel13Ideal.Skeleton
public import Idealize.ShloMosaic.Lib.VecWindow

@[expose] public section

set_option maxRecDepth 16384

noncomputable section

namespace Post

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The weights that sum a row within each of two heads, once for the leading part and once for the rest. -/
def wts : FVec F S256x128 .bf16 := k0_pay3 (iota .tc S256x128 32 [1] iota_S256x128_d1_w32) k0_pay1 64#32 k0_pay2 0#32

/-- A step that takes the weights, a block, and what is known of the sums of its pairs of heads by then. -/
def withSums {β : Type} (f : FVec F S256x128 .bf16 → Vec F S256x2048 .f32 → FVec F S256x128 .f32 → FVec F S256x128 .f32 → FVec F S256x128 .f32 → FVec F S256x128 .f32 → FVec F S256x128 .f32 → FVec F S256x128 .f32 → FVec F S256x128 .f32 → FVec F S256x128 .f32 → FVec F S256x128 .f32 → FVec F S256x128 .f32 → FVec F S256x256 .bf16 → β) (y : Vec F S256x2048 .f32) : β :=
  f wts y (k0_pay4 (iota .tc S256x128 32 [1] iota_S256x128_d1_w32) k0_pay1 64#32 k0_pay2 0#32 y)
    (k0_pay5 (iota .tc S256x128 32 [1] iota_S256x128_d1_w32) k0_pay1 64#32 k0_pay2 0#32 y)
    (k0_pay6 (iota .tc S256x128 32 [1] iota_S256x128_d1_w32) k0_pay1 64#32 k0_pay2 0#32 y)
    (k0_pay9 wts (k0_pay7 y) (k0_pay8 y)) (k0_pay10 wts y) (k0_pay11 wts y) (k0_pay12 wts y) (k0_pay13 wts y) (k0_pay14 wts y) (k0_pay15 wts y) (k0_pay16 y)

/-- A block less each head's mean. -/
def centred (y : Vec F S256x2048 .f32) : FVec F S256x2048 .f32 := withSums k0_pay17 y

/-- Each head's variance, over the head's columns. -/
def variances (y : Vec F S256x2048 .f32) : FVec F S256x2048 .f32 :=
  k0_pay31 wts (withSums k0_pay18 y) (withSums k0_pay19 y) (k0_pay23 wts (withSums k0_pay21 y) (withSums k0_pay22 y)) (k0_pay24 wts (withSums k0_pay18 y))
    (k0_pay25 wts (withSums k0_pay18 y)) (k0_pay26 wts (withSums k0_pay18 y)) (k0_pay27 wts (withSums k0_pay18 y)) (k0_pay28 wts (withSums k0_pay18 y))
    (k0_pay29 wts (withSums k0_pay18 y)) (k0_pay30 wts (withSums k0_pay18 y))

/-- Each head's sum of weighted products of read-outs and keys, over the head's columns. -/
def bonuses (r k : Vec F S256x2048 .f32) (s : Vec F S1x2048 .f32) : FVec F S256x2048 .f32 :=
  k0_pay49 wts (k0_pay33 r k s) (k0_pay34 wts r k s) (k0_pay35 wts r k s) (k0_pay36 wts r k s) (k0_pay38 wts (k0_pay37 r k s)) (k0_pay39 wts (k0_pay33 r k s))
    (k0_pay40 wts (k0_pay33 r k s)) (k0_pay41 wts (k0_pay33 r k s)) (k0_pay42 wts (k0_pay33 r k s)) (k0_pay43 wts (k0_pay33 r k s)) (k0_pay44 wts (k0_pay33 r k s))
    (k0_pay45 wts (k0_pay33 r k s)) (k0_pay48 wts (k0_pay46 (k0_pay33 r k s)) (k0_pay47 (k0_pay33 r k s)))

/-- The normed read-out with the bonus, gated. -/
def gated (y r k v g : Vec F S256x2048 .f32) (s w b : Vec F S1x2048 .f32) : FVec F S256x2048 .f32 := k0_pay50 (k0_pay32 (centred y) (variances y) w b) (bonuses r k s) v g

theorem body (c : Dev nD) (i : grid0.Coords)
    (arg1 : Memref sig .tc .vmem S256x2048 .f32) (harg1 : arg1.IsWhole) (arg2 : Memref sig .tc .vmem S256x2048 .f32) (harg2 : arg2.IsWhole)
    (arg3 : Memref sig .tc .vmem S256x2048 .f32) (harg3 : arg3.IsWhole) (arg4 : Memref sig .tc .vmem S256x2048 .f32) (harg4 : arg4.IsWhole)
    (arg5 : Memref sig .tc .vmem S256x2048 .f32) (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S1x2048 .f32) (harg8 : arg8.IsWhole)
    (arg9 : Memref sig .tc .vmem S256x2048 .f32) (harg9 : arg9.IsWhole)
    (y r k v g : Vec F S256x2048 .f32) (s w b : Vec F S1x2048 .f32) (o : Vec F S256x2048 .f32) (E : Set ℕ) (K : PUnit → sProp 𝕄) :
    iprop(owns (c : Thread nD τ) arg1 fullShare y ∗ owns (c : Thread nD τ) arg2 fullShare r ∗ owns (c : Thread nD τ) arg3 fullShare k
        ∗ owns (c : Thread nD τ) arg4 fullShare v ∗ owns (c : Thread nD τ) arg5 fullShare g ∗ owns (c : Thread nD τ) arg6 fullShare s
        ∗ owns (c : Thread nD τ) arg7 fullShare w ∗ owns (c : Thread nD τ) arg8 fullShare b ∗ owns (c : Thread nD τ) arg9 fullShare o
        ∗ (iprop(owns (c : Thread nD τ) arg1 fullShare y ∗ owns (c : Thread nD τ) arg2 fullShare r ∗ owns (c : Thread nD τ) arg3 fullShare k
            ∗ owns (c : Thread nD τ) arg4 fullShare v ∗ owns (c : Thread nD τ) arg5 fullShare g ∗ owns (c : Thread nD τ) arg6 fullShare s
            ∗ owns (c : Thread nD τ) arg7 fullShare w ∗ owns (c : Thread nD τ) arg8 fullShare b ∗ owns (c : Thread nD τ) arg9 fullShare (gated y r k v g s w b)) -∗ K ⟨⟩))
      ⊢ wp frame (wpE (defs₀ (F := F)) Variants.none c none) E (cc0_rwkv_post i arg1 harg1 arg2 harg2 arg3 harg3 arg4 harg4 arg5 harg5 arg6 harg6 arg7 harg7 arg8 harg8 arg9 harg9) K := by
  rw [cc0_rwkv_post_eq_skeleton]; unfold cc0_rwkv_post_skel
  rw [k0_part9_eq_skeleton]
  unfold k0_part9_skel
  simp only [k0_part1_eq_skeleton, k0_part2_eq_skeleton, k0_part3_eq_skeleton, k0_part4_eq_skeleton, k0_part5_eq_skeleton, k0_part6_eq_skeleton, k0_part7_eq_skeleton,
    k0_part8_eq_skeleton]
  unfold k0_part1_skel k0_part2_skel k0_part3_skel k0_part4_skel k0_part5_skel k0_part6_skel k0_part7_skel k0_part8_skel owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, Hk⟩
  have e1 : View.readAt (Elt F) arg1.view (Rect.unit (s := S256x2048) ![0, 0] S256x2048.size inb_S256x2048_S256x2048_0_0).toLoadRect f1 = y := by
    rw [View.readAt_full, h1]
  have e2 : View.readAt (Elt F) arg2.view (Rect.unit (s := S256x2048) ![0, 0] S256x2048.size inb_S256x2048_S256x2048_0_0).toLoadRect f2 = r := by
    rw [View.readAt_full, h2]
  have e3 : View.readAt (Elt F) arg3.view (Rect.unit (s := S256x2048) ![0, 0] S256x2048.size inb_S256x2048_S256x2048_0_0).toLoadRect f3 = k := by
    rw [View.readAt_full, h3]
  have e4 : View.readAt (Elt F) arg4.view (Rect.unit (s := S256x2048) ![0, 0] S256x2048.size inb_S256x2048_S256x2048_0_0).toLoadRect f4 = v := by
    rw [View.readAt_full, h4]
  have e5 : View.readAt (Elt F) arg5.view (Rect.unit (s := S256x2048) ![0, 0] S256x2048.size inb_S256x2048_S256x2048_0_0).toLoadRect f5 = g := by
    rw [View.readAt_full, h5]
  have e6 : View.readAt (Elt F) arg6.view (Rect.unit (s := S1x2048) ![0, 0] S1x2048.size inb_S1x2048_S1x2048_0_0).toLoadRect f6 = s := by
    rw [View.readAt_full, h6]
  have e7 : View.readAt (Elt F) arg7.view (Rect.unit (s := S1x2048) ![0, 0] S1x2048.size inb_S1x2048_S1x2048_0_0).toLoadRect f7 = w := by
    rw [View.readAt_full, h7]
  have e8 : View.readAt (Elt F) arg8.view (Rect.unit (s := S1x2048) ![0, 0] S1x2048.size inb_S1x2048_S1x2048_0_0).toLoadRect f8 = b := by
    rw [View.readAt_full, h8]
  sl_exec
  sl_step
  iapply Hk
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  isplitl [H8]
  · iexists _; isplitr; · ipureintro; exact h8
    iexact H8
  iexists _; isplitr
  swap; · iexact H9
  ipureintro
  rw [View.read_writes_full, ← e1, ← e2, ← e3, ← e4, ← e5, ← e6, ← e7, ← e8]
  rfl

end Post

end
-- ==== Proof.PostFrame.lean ====
/- The run that norms and gates the scan's read-out, over any reading of the floats: it leaves its arguments as they were. -/
module

public import proofs.«01_k».proof.Proof.PostBody
public import proofs.«01_k».proof.Proof.Gen.Kernel13Ideal
public import Idealize.ShloMosaic.Lib.Quiescent

@[expose] public section

set_option maxRecDepth 16384

noncomputable section

namespace Post

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem row (t : Fin cfg0.N) : defs₀ (F := F) .tc cfg0.body (cfg0.bodyArgs t (cfg0.slots t)) = bodyAt0 t := by
  unfold defs₀; rw [Defs.onTc_tc]

/-- The proof data in which nothing is said of what the staging buffers hold. -/
def silent (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

theorem silent_A (c : Dev nD) (w : Fin cfg0.W) : (silent m 0 c).A w = V m c (Pipeline.arrRef spec0 w) := by dsimp only [silent]

theorem silent_body (c : Dev nD) : BodyObligationLoose (silent m 0 c) (defs₀ (F := F)) Variants.none () Set.univ (fun _ => true) := by
  intro t
  rw [row]
  dsimp only
  rw [show (silent m 0 c).Φ t.succ = (silent m 0 c).Φ t.castSucc from rfl, show (silent m 0 c).owesAt () t.succ = (silent m 0 c).owesAt () t.castSucc from rfl]
  show iprop(_ ∗ _ ∗ bigSep (Finset.univ : Finset (Fin 9)) _) ⊢ wp _ _ _ _ (fun _ => iprop(_ ∗ _ ∗ bigSep (Finset.univ : Finset (Fin 9)) _))
  simp only [bigSep_W0]
  iintro ⟨HR, Ho, ⟨%y, H1⟩, ⟨%r, H2⟩, ⟨%k, H3⟩, ⟨%v, H4⟩, ⟨%g, H5⟩, ⟨%s, H6⟩, ⟨%w, H7⟩, ⟨%b, H8⟩, ⟨%o, H9⟩⟩
  iapply (body c (grid0.coords t) _ _ _ _ _ _ _ _ _ _ _ _ _ _ _ _ _ _ y r k v g s w b o Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨G1, G2, G3, G4, G5, G6, G7, G8, G9⟩
  isplitl [HR]; · iexact HR
  isplitl [Ho]; · iexact Ho
  isplitl [G1]; · iexists _; iexact G1
  isplitl [G2]; · iexists _; iexact G2
  isplitl [G3]; · iexists _; iexact G3
  isplitl [G4]; · iexists _; iexact G4
  isplitl [G5]; · iexists _; iexact G5
  isplitl [G6]; · iexists _; iexact G6
  isplitl [G7]; · iexists _; iexact G7
  isplitl [G8]; · iexists _; iexact G8
  iexists _; iexact G9

set_option backward.isDefEq.respectTransparency.types false in
theorem run : θ_run defs (onTc (τ := τ) (main (F := F))) (s₀ m ρ)
    (fun r => RDat.FramePost cfg0 (fun c => (silent m 0 c).toRForget (fun _ => true)) (V m) r ∧ r.2.sem = (fun _ => 0)) :=
  Pipeline.θ_run_frame_forget cfgs (silent m) 0 launch0 defs₀ Variants.none (fun _ => true) m ρ main (silent_body m)
    (fun c => (silent m 0 c).share_full fun _ => rfl) (fun _ _ => rfl) (V := V m) (hmain := hmain m Variants.none) (hA := silent_A m) (hΦ := fun _ _ => rfl)
    (Q' := _) (hQ' := fun _ h => h)

/-- The arguments end as they began, over any reading of the floats. -/
theorem kept_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = (fun _ => 0)) :=
  (θ_run defs _ _).mono (fun _ h => ⟨fun c => ⟨(RDat.FramePost.arr_in h.1 c 0 rfl).trans ((silent_A m c 0).trans (V_main_arg0 m c)),
    (RDat.FramePost.arr_in h.1 c 1 rfl).trans ((silent_A m c 1).trans (V_main_arg1 m c)),
    (RDat.FramePost.arr_in h.1 c 2 rfl).trans ((silent_A m c 2).trans (V_main_arg2 m c)),
    (RDat.FramePost.arr_in h.1 c 3 rfl).trans ((silent_A m c 3).trans (V_main_arg3 m c)),
    (RDat.FramePost.arr_in h.1 c 4 rfl).trans ((silent_A m c 4).trans (V_main_arg4 m c)),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩, h.2⟩) (run m ρ)

end Post

end
-- ==== Proof.PostSums.lean ====
/- The read-out's head sums: the steps of the body are sums within each head. -/
module

public import proofs.«01_k».proof.Proof.PostBody
public import proofs.«01_k».proof.Proof.PrepWeights

@[expose] public section

set_option maxRecDepth 16384

noncomputable section

namespace Post

open Cert.Kernel13Ideal Cert.Kernel13Ideal.Gen
open Idealize.ShloMosaic Idealize.ShloMosaic.TcCoe Idealize.SL.Sem Idealize.ShloMosaic.Pointwise
open Wkv (ci bi)
open Prep (allSums)

section Any
variable {F : FTy → Type} [FloatOps F]

/-- A head's sums over its length. -/
def means (x : FVec F S256x2048 .f32) : FVec F S256x2048 .f32 := mulf (allSums x) (broadcast S256x2048 (Scalar.ofBits .f32 0x3C800000#32))

theorem centred_eq (y : Vec F S256x2048 .f32) : centred y = subf y (means y) := rfl

theorem variances_eq (y : Vec F S256x2048 .f32) : variances y = means (mulf (centred y) (centred y)) := rfl

theorem bonuses_eq (r k : Vec F S256x2048 .f32) (s : Vec F S1x2048 .f32) : bonuses r k s = allSums (k0_pay33 r k s) := rfl

end Any

end Post

end
-- ==== Proof.PostValue.lean ====
/- The read-out's norm and gate at the extended reals: what each point leaves in its block of the result. -/
module

public import proofs.«01_k».proof.Proof.Dense
public import proofs.«01_k».proof.Proof.PostFrame
public import proofs.«01_k».proof.Proof.PostSums
public import Idealize.ShloMosaic.Lib.Pipeline.ValueKit

@[expose] public section

set_option maxRecDepth 16384

noncomputable section

namespace Post

open Cert.Kernel13Ideal Cert.Kernel13Ideal.Gen
open Idealize.ShloMosaic Idealize.ShloMosaic.TcCoe Idealize.SL.Sem Idealize.ShloMosaic.Pointwise
open Wkv (coe_sum)
open Prep (mate allSums allSums_row)

section Closed
variable {n : ℕ}

/-- The mean of a head's entries, by the entries' sum and one over their number. -/
def meanAt (x : (⟨2, ![n, 2048]⟩ : Shape).Idx → EReal) (p : Fin n) (q : Fin 2048) : EReal := (∑ j : Fin 64, x (ix2 p (mate q j))) * Ideal.ofBits .f32 0x3C800000#32

/-- An entry less its head's mean. -/
def centredAt (x : (⟨2, ![n, 2048]⟩ : Shape).Idx → EReal) (p : Fin n) (q : Fin 2048) : EReal := x (ix2 p q) - meanAt x p q

/-- A head's variance. -/
def varianceAt (x : (⟨2, ![n, 2048]⟩ : Shape).Idx → EReal) (p : Fin n) (q : Fin 2048) : EReal :=
  (∑ j : Fin 64, centredAt x p (mate q j) * centredAt x p (mate q j)) * Ideal.ofBits .f32 0x3C800000#32

/-- A head's sum of weighted products. -/
def bonusAt (r k : (⟨2, ![n, 2048]⟩ : Shape).Idx → EReal) (s : S1x2048.Idx → EReal) (p : Fin n) (q : Fin 2048) : EReal :=
  ∑ j : Fin 64, r (ix2 p (mate q j)) * k (ix2 p (mate q j)) * s (ix2 0 (mate q j))

/-- The normed read-out with the bonus, gated. -/
def gatedAt (y r k v g : (⟨2, ![n, 2048]⟩ : Shape).Idx → EReal) (s w b : S1x2048.Idx → EReal) (p : Fin n) (q : Fin 2048) : EReal :=
  (centredAt y p q * Ideal.rsqrt (varianceAt y p q + Ideal.ofBits .f32 0x3A27C5AC#32) * w (ix2 0 q) + b (ix2 0 q) + bonusAt r k s p q * v (ix2 p q)) * g (ix2 p q)

end Closed

theorem part_real : Ideal.ofBits .f32 0x3C800000#32 = ((1 / 64 : ℝ) : EReal) := by
  simp [Ideal.ofBits, Ideal.ieee]
  rw [← EReal.coe_mul]
  norm_num

theorem means_row (x : FVec Ideal S256x2048 .f32) (p : Fin 256) (T : Fin 2048 → ℝ) (hx : ∀ q, x (ix2 p q) = ((T q : ℝ) : EReal)) (q : Fin 2048) :
    means x (ix2 p q) = (∑ j : Fin 64, x (ix2 p (mate q j))) * Ideal.ofBits .f32 0x3C800000#32 :=
  congrArg (· * Ideal.ofBits .f32 0x3C800000#32) (allSums_row x p T hx q)

theorem centred_row (y : Vec Ideal S256x2048 .f32) (p : Fin 256) (T : Fin 2048 → ℝ) (hy : ∀ q, y (ix2 p q) = ((T q : ℝ) : EReal)) (q : Fin 2048) :
    centred y (ix2 p q) = centredAt y p q := by
  rw [centred_eq]
  exact congrArg (y (ix2 p q) - ·) (means_row y p T hy q)

theorem centred_real (y : Vec Ideal S256x2048 .f32) (p : Fin 256) (T : Fin 2048 → ℝ) (hy : ∀ q, y (ix2 p q) = ((T q : ℝ) : EReal)) (q : Fin 2048) :
    centredAt y p q = ((T q - (∑ j : Fin 64, T (mate q j)) * (1 / 64) : ℝ) : EReal) := by
  unfold centredAt meanAt
  simp only [hy]
  rw [coe_sum, part_real, ← EReal.coe_mul, ← EReal.coe_sub]

theorem variances_row (y : Vec Ideal S256x2048 .f32) (p : Fin 256) (T : Fin 2048 → ℝ) (hy : ∀ q, y (ix2 p q) = ((T q : ℝ) : EReal)) (q : Fin 2048) :
    variances y (ix2 p q) = varianceAt y p q := by
  have sq : ∀ q, mulf (centred y) (centred y) (ix2 p q) = centredAt y p q * centredAt y p q := fun q => by
    rw [← centred_row y p T hy]; rfl
  rw [variances_eq, means_row _ p (fun q => (T q - (∑ j : Fin 64, T (mate q j)) * (1 / 64)) * (T q - (∑ j : Fin 64, T (mate q j)) * (1 / 64))) fun q => by
    rw [sq, centred_real y p T hy, ← EReal.coe_mul]]
  unfold varianceAt
  simp only [sq]

theorem bonuses_row (r k : Vec Ideal S256x2048 .f32) (s : Vec Ideal S1x2048 .f32) (p : Fin 256) (R K S : Fin 2048 → ℝ)
    (hr : ∀ q, r (ix2 p q) = ((R q : ℝ) : EReal)) (hk : ∀ q, k (ix2 p q) = ((K q : ℝ) : EReal)) (hs : ∀ q, s (ix2 0 q) = ((S q : ℝ) : EReal)) (q : Fin 2048) :
    bonuses r k s (ix2 p q) = bonusAt r k s p q := by
  have pr : ∀ q, k0_pay33 r k s (ix2 p q) = r (ix2 p q) * k (ix2 p q) * s (ix2 0 q) := fun q => by
    unfold k0_pay33
    pointwise
  rw [bonuses_eq, allSums_row _ p (fun q => R q * K q * S q) fun q => by rw [pr, hr, hk, hs]; simp only [EReal.coe_mul]]
  unfold bonusAt
  simp only [pr]

/-- On a token of real read-outs and keys, the result is the closed form. -/
theorem gated_row (y r k v g : Vec Ideal S256x2048 .f32) (s w b : Vec Ideal S1x2048 .f32) (p : Fin 256) (T R K S : Fin 2048 → ℝ)
    (hy : ∀ q, y (ix2 p q) = ((T q : ℝ) : EReal)) (hr : ∀ q, r (ix2 p q) = ((R q : ℝ) : EReal)) (hk : ∀ q, k (ix2 p q) = ((K q : ℝ) : EReal))
    (hs : ∀ q, s (ix2 0 q) = ((S q : ℝ) : EReal)) (q : Fin 2048) : gated y r k v g s w b (ix2 p q) = gatedAt y r k v g s w b p q := by
  unfold gatedAt gated
  rw [← centred_row y p T hy, ← variances_row y p T hy, ← bonuses_row r k s p R K S hr hk hs]
  generalize centred y = c
  generalize variances y = d
  generalize bonuses r k s = e
  unfold k0_pay50 k0_pay32
  pointwise

/-- A block's row that is a token's gives the token's row of the result. -/
theorem gated_moved (Y R K W G : Vec Ideal S256x2048 .f32) (y r k v g : S9280x2048.Idx → EReal) (s w b : S1x2048.Idx → EReal) (p : Fin 256) (i : Fin 9280)
    (e0 : ∀ q, Y (ix2 p q) = y (ix2 i q)) (e1 : ∀ q, R (ix2 p q) = r (ix2 i q)) (e2 : ∀ q, K (ix2 p q) = k (ix2 i q)) (e3 : ∀ q, W (ix2 p q) = v (ix2 i q))
    (e4 : ∀ q, G (ix2 p q) = g (ix2 i q)) (hy : ∀ a, ∃ z : ℝ, y a = (z : EReal)) (hr : ∀ a, ∃ z : ℝ, r a = (z : EReal)) (hk : ∀ a, ∃ z : ℝ, k a = (z : EReal))
    (hs : ∀ a, ∃ z : ℝ, s a = (z : EReal)) (q : Fin 2048) : gated Y R K W G s w b (ix2 p q) = gatedAt y r k v g s w b i q := by
  choose y' hy using hy
  choose r' hr using hr
  choose k' hk using hk
  choose s' hs using hs
  refine (gated_row Y R K W G s w b p (fun q => y' (ix2 i q)) (fun q => r' (ix2 i q)) (fun q => k' (ix2 i q)) (fun q => s' (ix2 0 q))
    (fun q => (e0 q).trans (hy _)) (fun q => (e1 q).trans (hr _)) (fun q => (e2 q).trans (hk _)) (fun q => hs _) q).trans ?_
  unfold gatedAt varianceAt centredAt meanAt bonusAt
  simp only [e0, e1, e2, e3, e4]

theorem index0 (t : Fin cfg0.N) : win0_0.index t = ![t.val, 0] := (by decide +kernel : ∀ t : Fin grid0.N, win0_0.index t = ![t.val, 0]) t
theorem index5 (t : Fin cfg0.N) : win0_5.index t = ![0, 0] := (by decide +kernel : ∀ t : Fin grid0.N, win0_5.index t = ![0, 0]) t
theorem index8 (t : Fin cfg0.N) : win0_8.index t = ![t.val, 0] := (by decide +kernel : ∀ t : Fin grid0.N, win0_8.index t = ![t.val, 0]) t

/-- How many rows of its block a point moves. -/
theorem moved (t : Fin cfg0.N) : win0_0.xsize (grid0.coords t) = ![min 256 (9280 - 256 * t.val), 2048] :=
  (by decide +kernel : ∀ t : Fin grid0.N, win0_0.xsize (grid0.coords t) = ![min 256 (9280 - 256 * t.val), 2048]) t

/-- Inside the array, a tokens' block at a point is the rows of the point's row block. -/
theorem rows_of (x : S9280x2048.Idx → EReal) (t : Fin cfg0.N) (d : win0_0.block.Idx → EReal) (r : Fin 256) (s : Fin 9280) (hr : s.val = 256 * t.val + r.val) (k : Fin 2048) :
    win0_0.fill (grid0.coords t) d ((win0_0.blk t).view.read (Elt Ideal) x) (ix2 r k) = x (ix2 s k) := by
  rw [Dense.fill_of_lt]
  swap
  · rw [moved]; intro a; fin_cases a
    · show r.val < min 256 (9280 - 256 * t.val); omega
    · exact k.isLt
  blk_simp [index0]
  blk_ext [index0]

/-- A parameter's block is its row. -/
theorem row_of (x : S1x2048.Idx → EReal) (t : Fin cfg0.N) : ((win0_5.blk t).view.read (Elt Ideal) x : S1x2048.Idx → EReal) = x := by
  funext i
  blk_simp [index5]
  blk_ext [index5]

/-- A block that agrees with an array row by row is what a point writes back of it. -/
theorem cut8 (t : Fin cfg0.N) (b : S256x2048.Idx → EReal) (x : S9280x2048.Idx → EReal)
    (e : ∀ (r : Fin 256) (s : Fin 9280), s.val = 256 * t.val + r.val → ∀ q : Fin 2048, b (ix2 r q) = x (ix2 s q)) :
    win0_8.cut (grid0.coords t) b = (win0_8.blk t).view.read (Elt Ideal) x := by
  funext y
  rw [Pipeline.Window.cut_apply]
  show _ = x ((win0_8.blk t).view.emb y)
  have hr : ((win0_8.blk t).view.emb y 0).val = 256 * t.val + (win0_8.xinj (grid0.coords t) y 0).val := by
    blk_simp [index8]
    show t.val * 256 + (y 0).val = 256 * t.val + (y 0).val
    omega
  have hc : (win0_8.blk t).view.emb y 1 = win0_8.xinj (grid0.coords t) y 1 :=
    Fin.ext (win0_8.rect_emb_val_of_index_zero t 1 (by rw [index8]; rfl) y)
  refine (congrArg b (eq_ix2 (win0_8.xinj (grid0.coords t) y))).trans ((e _ _ hr _).trans (congrArg x ?_))
  rw [← hc]
  exact (eq_ix2 _).symm

/-- The result in closed form. -/
def model (y r k v g : S9280x2048.Idx → EReal) (s w b : S1x2048.Idx → EReal) : S9280x2048.Idx → EReal := fun i => gatedAt y r k v g s w b (i 0) (i 1)

variable (m : (ℓ : Loc nD τ sig) → Buf (Elt Ideal) ℓ) (c : Dev nD)

/-- The read-outs, the two operands of the bonus and its weights are real numbers. -/
def Real : Prop :=
  ((∀ i, ∃ r : ℝ, (V m c main_arg0 : S9280x2048.Idx → EReal) i = (r : EReal)) ∧ (∀ i, ∃ r : ℝ, (V m c main_arg1 : S9280x2048.Idx → EReal) i = (r : EReal)))
    ∧ (∀ i, ∃ r : ℝ, (V m c main_arg2 : S9280x2048.Idx → EReal) i = (r : EReal)) ∧ (∀ i, ∃ r : ℝ, (V m c main_v1 : S1x2048.Idx → EReal) i = (r : EReal))

variable (t : Fin cfg0.N) (d0 : win0_0.block.Idx → EReal) (d1 : win0_1.block.Idx → EReal) (d2 : win0_2.block.Idx → EReal) (d3 : win0_3.block.Idx → EReal) (d4 : win0_4.block.Idx → EReal)

/-- What the body leaves in the result's buffer. -/
def left : S256x2048.Idx → EReal :=
  gated (win0_0.fill (grid0.coords t) d0 (iblk m c 0 t)) (win0_1.fill (grid0.coords t) d1 (iblk m c 1 t)) (win0_2.fill (grid0.coords t) d2 (iblk m c 2 t))
    (win0_3.fill (grid0.coords t) d3 (iblk m c 3 t)) (win0_4.fill (grid0.coords t) d4 (iblk m c 4 t)) (iblk m c 5 t) (iblk m c 6 t) (iblk m c 7 t)

theorem written (h : Real m c) : win0_8.cut (grid0.coords t) (left m c t d0 d1 d2 d3 d4)
    = (win0_8.blk t).view.read (Elt Ideal) (model (V m c main_arg0) (V m c main_arg1) (V m c main_arg2) (V m c main_arg3) (V m c main_arg4) (V m c main_v1) (V m c main_v2) (V m c main_v3)) := by
  have w5 : (iblk m c 5 t : S1x2048.Idx → EReal) = (V m c main_v1 : S1x2048.Idx → EReal) := row_of (V m c main_v1) t
  have w6 : (iblk m c 6 t : S1x2048.Idx → EReal) = (V m c main_v2 : S1x2048.Idx → EReal) := row_of (V m c main_v2) t
  have w7 : (iblk m c 7 t : S1x2048.Idx → EReal) = (V m c main_v3 : S1x2048.Idx → EReal) := row_of (V m c main_v3) t
  refine cut8 t _ _ fun p s hs q => ?_
  unfold left
  rw [w5, w6, w7]
  exact gated_moved _ _ _ _ _ (V m c main_arg0) (V m c main_arg1) (V m c main_arg2) (V m c main_arg3) (V m c main_arg4) _ _ _ p s (rows_of (V m c main_arg0) t d0 p s hs)
    (rows_of (V m c main_arg1) t d1 p s hs) (rows_of (V m c main_arg2) t d2 p s hs) (rows_of (V m c main_arg3) t d3 p s hs) (rows_of (V m c main_arg4) t d4 p s hs) h.1.1 h.1.2 h.2.1 h.2.2 q

end Post

end
-- ==== Proof.PostRun.lean ====
/- The run that norms and gates the scan's read-out at the extended reals: its result is the closed form. -/
module

public import proofs.«01_k».proof.Proof.PostValue

@[expose] public section

set_option maxRecDepth 16384

noncomputable section

namespace Post

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The result's closed form at a core's arguments. -/
def result (c : Dev nD) : S9280x2048.Idx → EReal :=
  model (V m c main_arg0) (V m c main_arg1) (V m c main_arg2) (V m c main_arg3) (V m c main_arg4) (V m c main_v1) (V m c main_v2) (V m c main_v3)

def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => win0_2.fill (grid0.coords t) (fun _ => (0 : EReal)) (iblk m c 2 t)
    | ⟨3, _⟩ => win0_3.fill (grid0.coords t) (fun _ => (0 : EReal)) (iblk m c 3 t)
    | ⟨4, _⟩ => win0_4.fill (grid0.coords t) (fun _ => (0 : EReal)) (iblk m c 4 t)
    | ⟨5, _⟩ => iblk m c 5 t
    | ⟨6, _⟩ => iblk m c 6 t
    | ⟨7, _⟩ => iblk m c 7 t
    | ⟨8, _⟩ => win0_8.fill (grid0.coords t) (fun _ => (0 : EReal)) ((win0_8.blk t).view.read (Elt Ideal) (result m c))
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = win0_0.fill (grid0.coords t) (fun _ => (0 : EReal)) (iblk m c 0 t) := by dsimp only [dats]
theorem after1 (c : Dev nD) (t : Fin cfg0.N) : (dats m 0 c).after 1 t = win0_1.fill (grid0.coords t) (fun _ => (0 : EReal)) (iblk m c 1 t) := by dsimp only [dats]
theorem after2 (c : Dev nD) (t : Fin cfg0.N) : (dats m 0 c).after 2 t = win0_2.fill (grid0.coords t) (fun _ => (0 : EReal)) (iblk m c 2 t) := by dsimp only [dats]
theorem after3 (c : Dev nD) (t : Fin cfg0.N) : (dats m 0 c).after 3 t = win0_3.fill (grid0.coords t) (fun _ => (0 : EReal)) (iblk m c 3 t) := by dsimp only [dats]
theorem after4 (c : Dev nD) (t : Fin cfg0.N) : (dats m 0 c).after 4 t = win0_4.fill (grid0.coords t) (fun _ => (0 : EReal)) (iblk m c 4 t) := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) :
    (dats m 0 c).after 8 t = win0_8.fill (grid0.coords t) (fun _ => (0 : EReal)) ((win0_8.blk t).view.read (Elt Ideal) (result m c)) := by dsimp only [dats]

/-- A window that fetches at every point holds its block of the array, over what the buffer held before. -/
theorem before_of (c : Dev nD) (w : Fin cfg0.W) (t : Fin cfg0.N) (hf : (cfg0.win w).fetch t = true) (d) :
    (dats m 0 c).before w t d = (cfg0.win w).fill (grid0.coords t) d (iblk m c w t) := by
  unfold Dat.before; rw [if_pos hf]; rfl

theorem before0 (c : Dev nD) (t : Fin cfg0.N) (d) : (dats m 0 c).before 0 t d = win0_0.fill (grid0.coords t) d (iblk m c 0 t) := before_of m c 0 t (fetch0_0 t) d
theorem before1 (c : Dev nD) (t : Fin cfg0.N) (d) : (dats m 0 c).before 1 t d = win0_1.fill (grid0.coords t) d (iblk m c 1 t) := before_of m c 1 t (fetch0_1 t) d
theorem before2 (c : Dev nD) (t : Fin cfg0.N) (d) : (dats m 0 c).before 2 t d = win0_2.fill (grid0.coords t) d (iblk m c 2 t) := before_of m c 2 t (fetch0_2 t) d
theorem before3 (c : Dev nD) (t : Fin cfg0.N) (d) : (dats m 0 c).before 3 t d = win0_3.fill (grid0.coords t) d (iblk m c 3 t) := before_of m c 3 t (fetch0_3 t) d
theorem before4 (c : Dev nD) (t : Fin cfg0.N) (d) : (dats m 0 c).before 4 t d = win0_4.fill (grid0.coords t) d (iblk m c 4 t) := before_of m c 4 t (fetch0_4 t) d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d

theorem sound (c : Dev nD) (h : Real m c) : BodyObligationLoose (dats m 0 c) (defs₀ (F := Ideal)) Variants.none () Set.univ := by
  intro t
  rw [row]
  dsimp only
  rw [show (dats m 0 c).Φ t.succ = (dats m 0 c).Φ t.castSucc from rfl, show (dats m 0 c).owesAt () t.succ = (dats m 0 c).owesAt () t.castSucc from rfl]
  show iprop(_ ∗ _ ∗ bigSep (Finset.univ : Finset (Fin 9)) _) ⊢ wp _ _ _ _ (fun _ => iprop(_ ∗ _ ∗ bigSep (Finset.univ : Finset (Fin 9)) _))
  simp only [bigSep_W0]
  simp only [before0, before1, before2, before3, before4, before5, before6, before7, after0, after1, after2, after3, after4, after5, after6, after7, after8]
  iintro ⟨HR, Ho, ⟨%d0, H0⟩, ⟨%d1, H1⟩, ⟨%d2, H2⟩, ⟨%d3, H3⟩, ⟨%d4, H4⟩, ⟨%d5, H5⟩, ⟨%d6, H6⟩, ⟨%d7, H7⟩, ⟨%o, H8⟩⟩
  iapply (body c (grid0.coords t) _ _ _ _ _ _ _ _ _ _ _ _ _ _ _ _ _ _ (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t)) (win0_4.fill (grid0.coords t) d4 (iblk m c 4 t))
    (iblk m c 5 t) (iblk m c 6 t) (iblk m c 7 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨G0, G1, G2, G3, G4, G5, G6, G7, G8⟩
  isplitl [HR]; · iexact HR
  isplitl [Ho]; · iexact Ho
  isplitl [G0]
  · iexists d0
    rw [Pipeline.Window.cut_fill]
    iexact G0
  isplitl [G1]
  · iexists d1
    rw [Pipeline.Window.cut_fill]
    iexact G1
  isplitl [G2]
  · iexists d2
    rw [Pipeline.Window.cut_fill]
    iexact G2
  isplitl [G3]
  · iexists d3
    rw [Pipeline.Window.cut_fill]
    iexact G3
  isplitl [G4]
  · iexists d4
    rw [Pipeline.Window.cut_fill]
    iexact G4
  isplitl [G5]; · iexact G5
  isplitl [G6]; · iexact G6
  isplitl [G7]; · iexact G7
  iexists (left m c t d0 d1 d2 d3 d4)
  rw [Pipeline.Window.cut_fill]
  unfold result
  rw [← written m c t d0 d1 d2 d3 d4 h, Pipeline.Window.fill_cut]
  iexact G8

theorem array8 (c : Dev nD) : (dats m 0 c).arrAt 8 cfg0.N = result m c := by
  refine (dats m 0 c).arrAt_eq_of_covers 8 (result m c) (by decide +kernel) fun t hf y => ?_
  rw [after8]
  exact congrFun (win0_8.cut_fill (grid0.coords t) (fun _ => (0 : EReal)) ((win0_8.blk t).view.read (Elt Ideal) (result m c))) y

set_option backward.isDefEq.respectTransparency.types false in
theorem run_value (h : ∀ c, Real m c) : θ_run defs (onTc (τ := τ) (main (F := Ideal))) (s₀ m ρ) (Pipeline.FramePost cfgs (dats m) 0 (V m)) :=
  Pipeline.θ_run_frame_track cfgs (dats m) 0 launch0 defs₀ Variants.none m ρ main (fun c => sound m c (h c))
    (fun c => (dats m 0 c).share_full fun _ => rfl) (fun _ _ => rfl) (V := V m) (hmain := hmain m Variants.none) (hA := A_eq m)
    (hin := fun c => by show (Pipeline.ΦA spec0 c : sProp 𝕄) ⊢ (Pipeline.ΦA spec0 c : sProp 𝕄); iintro H; iexact H)
    (hout := fun c => by show (Pipeline.ΦA spec0 c : sProp 𝕄) ⊢ (Pipeline.ΦA spec0 c : sProp 𝕄); iintro H; iexact H)

/-- On real read-outs and keys the result is the closed form, and the arguments end as they began. -/
theorem value (h : ∀ c, Real m c) : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (array8 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩) (run_value m ρ h)

end Post

end
-- ==== Proof.PostEqual.lean ====
/- The norm and gate of the scan's read-out: the closed form is what the reference computes. -/
module

public import proofs.«01_k».proof.Proof.PostRun
public import proofs.«01_k».proof.Proof.PrepEqual
public import proofs.«01_k».proof.Proof.RealEntries
public import proofs.«01_k».proof.Proof.Gen.Pre_finite13
public import proofs.«01_k».proof.Proof.Gen.Reference13Ideal
public import proofs.«01_k».proof.Proof.Gen.Reference13Ideal.Run
public import proofs.«01_k».proof.Proof.Gen.Reference13Ideal.Read

@[expose] public section

set_option maxRecDepth 16384

noncomputable section

namespace Post

open Idealize.ShloMosaic Idealize.ShloMosaic.TcCoe Idealize.SL.Sem

section Launch
open Cert.Kernel13Ideal Cert.Kernel13Ideal.Gen RealEntries

variable (m : (ℓ : Loc nD τ sig) → Buf (Elt Ideal) ℓ)

theorem flat (u : S32x64.Idx → EReal) (k : Fin 2048) :
    (shapeCast S2048 u shapeCasts_S32x64_S2048 : S2048.Idx → EReal) (ix1 k) = u (ix2 (⟨k.val / 64, by omega⟩ : Fin 32) (⟨k.val % 64, by omega⟩ : Fin 64)) :=
  shapeCast_apply u shapeCasts_S32x64_S2048 _ _
    (by rewrite [Shape.rowMajor_val_two, Shape.rowMajor_val_one]; show k.val / 64 * 64 + k.val % 64 = k.val; omega)

/-- The bonus's weights as the launch finds them: each head's after another's, as a row. -/
theorem row1 (c : Dev nD) (k : Fin 2048) : (V m c main_v1 : S1x2048.Idx → EReal) (ix2 0 k)
    = (m ((c.tc : Thread nD τ).loc main_arg5) : S32x64.Idx → EReal) (ix2 (⟨k.val / 64, by omega⟩ : Fin 32) (⟨k.val % 64, by omega⟩ : Fin 64)) :=
  Eq.trans (congrFun (show V m c main_v1 = shapeCast S1x2048 (shapeCast S2048 (m ((c.tc : Thread nD τ).loc main_arg5)) shapeCasts_S32x64_S2048) shapeCasts_S2048_S1x2048 by
    unfold V; after_results; rfl) _) ((Prep.in_row _ k).trans (flat _ k))

/-- The gain and the shift as the launch finds them: each argument as a row. -/
theorem row2 (c : Dev nD) (k : Fin 2048) :
    (V m c main_v2 : S1x2048.Idx → EReal) (ix2 0 k) = (m ((c.tc : Thread nD τ).loc main_arg6) : S2048.Idx → EReal) (ix1 k) :=
  Eq.trans (congrFun (show V m c main_v2 = shapeCast S1x2048 (m ((c.tc : Thread nD τ).loc main_arg6)) shapeCasts_S2048_S1x2048 by unfold V; after_results; rfl) _) (Prep.in_row _ k)
theorem row3 (c : Dev nD) (k : Fin 2048) :
    (V m c main_v3 : S1x2048.Idx → EReal) (ix2 0 k) = (m ((c.tc : Thread nD τ).loc main_arg7) : S2048.Idx → EReal) (ix1 k) :=
  Eq.trans (congrFun (show V m c main_v3 = shapeCast S1x2048 (m ((c.tc : Thread nD τ).loc main_arg7)) shapeCasts_S2048_S1x2048 by unfold V; after_results; rfl) _) (Prep.in_row _ k)

/-- The precondition, read: the read-outs, the bonus's operands and its weights are real. -/
theorem real (c : Dev nD)
    (h : Cert.Pre_finite13.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) = fun _ => 1#1) : Real m c := by
  have e := congrFun h (fun k => k.elim0)
  dsimp only [Cert.Pre_finite13.fn, Cert.Pre_finite13.fn_part1] at e
  obtain ⟨e, e5⟩ := both e
  obtain ⟨e, e2⟩ := both e
  obtain ⟨e0, e1⟩ := both e
  have r0 := all_real _ _ _ _ _ _ e0
  have r1 := all_real _ _ _ _ _ _ e1
  have r2 := all_real _ _ _ _ _ _ e2
  have r5 := all_real _ _ _ _ _ _ e5
  refine ⟨⟨fun i => ?_, fun i => ?_⟩, fun i => ?_, fun i => ?_⟩
  · rw [V_main_arg0]; exact r0 i
  · rw [V_main_arg1]; exact r1 i
  · rw [V_main_arg2]; exact r2 i
  · obtain ⟨r, hr⟩ := r5 (ix2 (⟨(i 1).val / 64, by have := (i 1).isLt; show _ < 32; change (i 1).val < 2048 at this; omega⟩ : Fin 32) (⟨(i 1).val % 64, by omega⟩ : Fin 64))
    refine ⟨r, Eq.trans ?_ hr⟩
    rw [← row1 m c (i 1)]
    exact congrArg _ ((eq_ix2 i).trans (congrArg (fun z => ix2 z (i 1)) (Subsingleton.elim (α := Fin 1) (i 0) 0)))

end Launch

open Cert.Reference13Ideal Cert.Reference13Ideal.Gen Cert.Reference13Ideal.Read
open Prep (mate)

/-- A quotient by a head's length is a product with one over it. -/
theorem over_length (x : EReal) : Ideal.div x (Ideal.ofBits .f32 0x42800000#32) = x * Ideal.ofBits .f32 0x3C800000#32 := by
  rw [part_real, show Ideal.ofBits .f32 0x42800000#32 = ((64 : ℝ) : EReal) by
    simp [Ideal.ofBits, Ideal.ieee]
    rw [← EReal.coe_mul]
    norm_num]
  exact Ideal.div_coe (by norm_num) x

theorem reference_at (y r k v g : FVec Ideal S9280x2048 .f32) (u : FVec Ideal S32x64 .f32) (w b : FVec Ideal S2048 .f32) (s' w' b' : Cert.Kernel13Ideal.S1x2048.Idx → EReal)
    (hs : ∀ k : Fin 2048, s' (ix2 0 k) = u (ix2 (⟨k.val / 64, by omega⟩ : Fin 32) (⟨k.val % 64, by omega⟩ : Fin 64)))
    (hw : ∀ k : Fin 2048, w' (ix2 0 k) = w (ix1 k)) (hb : ∀ k : Fin 2048, b' (ix2 0 k) = b (ix1 k)) (p : Fin 9280) (q : Fin 2048) :
    val_main_v39 (F := Ideal) y r k v g u w b (ix2 p q) = gatedAt y r k v g s' w' b' p q := by
  unfold gatedAt varianceAt centredAt meanAt bonusAt
  simp only [hs, hw, hb, ← over_length]
  rw [← val_main_v39_eq]
  pointwise
  have same : ∀ x j : Fin 64, mate (mate q x) j = mate q j := fun x j => Fin.ext (by simp only [mate]; omega)
  have head : ∀ x : Fin 64, (⟨(mate q x).val / 64, by omega⟩ : Fin 32) = ⟨q.val / 64, by omega⟩ := fun x => Fin.ext (by simp only [mate]; omega)
  have place : ∀ x : Fin 64, (⟨(mate q x).val % 64, by omega⟩ : Fin 64) = x := fun x => Fin.ext (by simp only [mate]; omega)
  simp only [same, head, place]
  rfl

theorem reference_eq (y r k v g : FVec Ideal S9280x2048 .f32) (u : FVec Ideal S32x64 .f32) (w b : FVec Ideal S2048 .f32) (s' w' b' : Cert.Kernel13Ideal.S1x2048.Idx → EReal)
    (hs : ∀ k : Fin 2048, s' (ix2 0 k) = u (ix2 (⟨k.val / 64, by omega⟩ : Fin 32) (⟨k.val % 64, by omega⟩ : Fin 64)))
    (hw : ∀ k : Fin 2048, w' (ix2 0 k) = w (ix1 k)) (hb : ∀ k : Fin 2048, b' (ix2 0 k) = b (ix1 k)) :
    val_main_v39 (F := Ideal) y r k v g u w b = model y r k v g s' w' b' := by
  funext i
  rw [eq_ix2 i]
  exact reference_at y r k v g u w b s' w' b' hs hw hb _ _

end Post

end
-- ==== Proof.lean ====
/- The claims about the scan's call, the dense products' calls, the experts' calls, the norm's call, the routing's call and the calls before and after the scan, put together from the modules under `Proof/`. -/
module

public import proofs.«01_k».proof.Proof.Gen.Kernel7
public import proofs.«01_k».proof.Proof.Gen.Kernel7Ideal.Frame
public import proofs.«01_k».proof.Proof.Gen.Kernel7Ideal.Points
public import proofs.«01_k».proof.Proof.Gen.Kernel7Ideal.Skeleton
public import proofs.«01_k».proof.Proof.Gen.Kernel7Ideal.Launch
public import proofs.«01_k».proof.Proof.Gen.Kernel7Ideal
public import proofs.«01_k».proof.Proof.Gen.Reference7Ideal.Run
public import proofs.«01_k».proof.Proof.Gen.Reference7Ideal.Read
public import proofs.«01_k».proof.Proof.Gen.Reference7Ideal
public import proofs.«01_k».proof.Proof.Gen.Kernel8
public import proofs.«01_k».proof.Proof.Gen.Kernel8Ideal.Frame
public import proofs.«01_k».proof.Proof.Gen.Kernel8Ideal.Points
public import proofs.«01_k».proof.Proof.Gen.Kernel8Ideal.Skeleton
public import proofs.«01_k».proof.Proof.Gen.Kernel8Ideal.Launch
public import proofs.«01_k».proof.Proof.Gen.Kernel8Ideal
public import proofs.«01_k».proof.Proof.Gen.Reference8Ideal.Run
public import proofs.«01_k».proof.Proof.Gen.Reference8Ideal.Read
public import proofs.«01_k».proof.Proof.Gen.Reference8Ideal
public import proofs.«01_k».proof.Proof.Gen.Kernel9
public import proofs.«01_k».proof.Proof.Gen.Kernel9Ideal.Frame
public import proofs.«01_k».proof.Proof.Gen.Kernel9Ideal.Points
public import proofs.«01_k».proof.Proof.Gen.Kernel9Ideal.Skeleton
public import proofs.«01_k».proof.Proof.Gen.Kernel9Ideal.Launch
public import proofs.«01_k».proof.Proof.Gen.Kernel9Ideal
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal.Frame
public import proofs.«01_k».proof.Proof.Gen.Kernel10Ideal.Points
public import proofs.«01_k».proof.Proof.Gen.Kernel10Ideal.Skeleton
public import proofs.«01_k».proof.Proof.Gen.Kernel10Ideal.Launch
public import proofs.«01_k».proof.Proof.Gen.Kernel10Ideal
public import proofs.«01_k».proof.Proof.Gen.Reference10Ideal.Run
public import proofs.«01_k».proof.Proof.Gen.Reference10Ideal.Read
public import proofs.«01_k».proof.Proof.Gen.Reference10Ideal
public import proofs.«01_k».proof.Proof.Gen.Kernel11
public import proofs.«01_k».proof.Proof.Gen.Kernel11Ideal.Frame
public import proofs.«01_k».proof.Proof.Gen.Kernel11Ideal.Points
public import proofs.«01_k».proof.Proof.Gen.Kernel11Ideal.Skeleton
public import proofs.«01_k».proof.Proof.Gen.Kernel11Ideal.Launch
public import proofs.«01_k».proof.Proof.Gen.Kernel11Ideal
public import proofs.«01_k».proof.Proof.Gen.Reference11Ideal.Run
public import proofs.«01_k».proof.Proof.Gen.Reference11Ideal.Read
public import proofs.«01_k».proof.Proof.Gen.Reference11Ideal
public import proofs.«01_k».proof.Proof.Gen.Kernel12
public import proofs.«01_k».proof.Proof.Gen.Kernel12Ideal.Frame
public import proofs.«01_k».proof.Proof.Gen.Kernel12Ideal.Points
public import proofs.«01_k».proof.Proof.Gen.Kernel12Ideal.Skeleton
public import proofs.«01_k».proof.Proof.Gen.Kernel12Ideal.Launch
public import proofs.«01_k».proof.Proof.Gen.Kernel12Ideal
public import proofs.«01_k».proof.Proof.Gen.Reference12Ideal.Run
public import proofs.«01_k».proof.Proof.Gen.Reference12Ideal.Read
public import proofs.«01_k».proof.Proof.Gen.Reference12Ideal
public import proofs.«01_k».proof.Proof.Gen.Pre_finite12
public import proofs.«01_k».proof.Proof.Gen.Kernel13
public import proofs.«01_k».proof.Proof.Gen.Kernel13Ideal.Frame
public import proofs.«01_k».proof.Proof.Gen.Kernel13Ideal.Points
public import proofs.«01_k».proof.Proof.Gen.Kernel13Ideal.Skeleton
public import proofs.«01_k».proof.Proof.Gen.Kernel13Ideal.Launch
public import proofs.«01_k».proof.Proof.Gen.Kernel13Ideal
public import proofs.«01_k».proof.Proof.Gen.Reference13Ideal.Run
public import proofs.«01_k».proof.Proof.Gen.Reference13Ideal.Read
public import proofs.«01_k».proof.Proof.Gen.Reference13Ideal
public import proofs.«01_k».proof.Proof.Gen.Pre_finite13
public import proofs.«01_k».proof.Proof.Gen.Kernel6
public import proofs.«01_k».proof.Proof.Gen.Kernel6Ideal.Skeleton
public import proofs.«01_k».proof.Proof.Gen.Kernel6Ideal.Launch
public import proofs.«01_k».proof.Proof.Gen.Kernel6Ideal
public import proofs.«01_k».proof.Proof.Gen.Reference6Ideal.Run
public import proofs.«01_k».proof.Proof.Gen.Reference6Ideal.Read
public import proofs.«01_k».proof.Proof.Gen.Reference6Ideal
public import proofs.«01_k».proof.Proof.Gen.Pre_in_range6
public import proofs.«01_k».proof.Proof.Gen.Pre_dispatched
public import proofs.«01_k».proof.Proof.Gen.Kernel5
public import proofs.«01_k».proof.Proof.Gen.Kernel5Ideal.Skeleton
public import proofs.«01_k».proof.Proof.Gen.Kernel5Ideal.Launch
public import proofs.«01_k».proof.Proof.Gen.Kernel5Ideal
public import proofs.«01_k».proof.Proof.Gen.Reference5Ideal.Run
public import proofs.«01_k».proof.Proof.Gen.Reference5Ideal.Read
public import proofs.«01_k».proof.Proof.Gen.Reference5Ideal
public import proofs.«01_k».proof.Proof.Gen.Pre_in_range5
public import proofs.«01_k».proof.Proof.Gen.Pre_routed
public import proofs.«01_k».proof.Proof.Gen.Kernel2
public import proofs.«01_k».proof.Proof.Gen.Kernel2Ideal.Frame
public import proofs.«01_k».proof.Proof.Gen.Kernel2Ideal.Points
public import proofs.«01_k».proof.Proof.Gen.Kernel2Ideal.Skeleton
public import proofs.«01_k».proof.Proof.Gen.Kernel2Ideal.Launch
public import proofs.«01_k».proof.Proof.Gen.Kernel2Ideal
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3Ideal.Frame
public import proofs.«01_k».proof.Proof.Gen.Kernel3Ideal.Points
public import proofs.«01_k».proof.Proof.Gen.Kernel3Ideal.Skeleton
public import proofs.«01_k».proof.Proof.Gen.Kernel3Ideal.Launch
public import proofs.«01_k».proof.Proof.Gen.Kernel3Ideal
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel4
public import proofs.«01_k».proof.Proof.Gen.Kernel4Ideal.Frame
public import proofs.«01_k».proof.Proof.Gen.Kernel4Ideal.Points
public import proofs.«01_k».proof.Proof.Gen.Kernel4Ideal.Skeleton
public import proofs.«01_k».proof.Proof.Gen.Kernel4Ideal.Launch
public import proofs.«01_k».proof.Proof.Gen.Kernel4Ideal
public import proofs.«01_k».proof.Proof.Gen.Reference4Ideal.Run
public import proofs.«01_k».proof.Proof.Gen.Reference4Ideal.Read
public import proofs.«01_k».proof.Proof.Gen.Reference4Ideal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.WkvEqual
public import proofs.«01_k».proof.Proof.ResEqual
public import proofs.«01_k».proof.Proof.MixEqual
public import proofs.«01_k».proof.Proof.QkvEqual
public import proofs.«01_k».proof.Proof.DownEqual
public import proofs.«01_k».proof.Proof.LowEqual
public import proofs.«01_k».proof.Proof.GateEqual
public import proofs.«01_k».proof.Proof.RankEqual
public import proofs.«01_k».proof.Proof.UpEqual
public import proofs.«01_k».proof.Proof.NormEqual
public import proofs.«01_k».proof.Proof.RouteEqual
public import proofs.«01_k».proof.Proof.PrepEqual
public import proofs.«01_k».proof.Proof.PostEqual
public import Idealize.ShloMosaic.Lib.Quiescent
public import Idealize.ShloMosaic.Adequacy
public import Idealize.ShloMosaic.Init

@[expose] public section

noncomputable section

namespace Cert.Proof

open Idealize.ShloMosaic Idealize.SL.Sem

theorem frame_ref : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem values : Cert.algebraic_KernelIdeal_ReferenceIdeal_pre_finite := fun m g m' g' hp hag =>
  ⟨fun c => (Cert.KernelIdeal.Gen.dats m 0 c).arrAt 7 Cert.KernelIdeal.cfg0.N, fun c => (Cert.KernelIdeal.Gen.dats m 0 c).arrAt 8 Cert.KernelIdeal.cfg0.N,
    Cert.KernelIdeal.Value.run_blocks m g,
    (θ_run Cert.ReferenceIdeal.defs _ _).mono (fun r h c => by
      obtain ⟨e1, e2⟩ := WkvEqual.equal m c m' (hp c) (hag c).1 (hag c).2.1 (hag c).2.2.1 (hag c).2.2.2.1 (hag c).2.2.2.2.1 (hag c).2.2.2.2.2.1 (hag c).2.2.2.2.2.2
      exact ⟨(h c).1.trans e1, (h c).2.1.trans e2, (h c).2.2⟩) (Cert.ReferenceIdeal.Value.run m' g')⟩

/-! Each product's kernel and its idealized kernel have the same text, so that one run gives both frames. -/

theorem bodies2 : Cert.Kernel2.defs₀ (F := Bits) = Cert.Kernel2Ideal.defs₀ (F := Bits) := by
  unfold Cert.Kernel2.defs₀ Cert.Kernel2Ideal.defs₀
  refine congrArg Defs.onTc (funext fun l => funext fun a => ?_)
  fin_cases l
  rfl

theorem same2 : Cert.Kernel2.defs (F := Bits) = Cert.Kernel2Ideal.defs (F := Bits) := congrArg (Pipeline.defs Cert.Kernel2Ideal.pcfgs) bodies2

theorem frame_kernel2 : Cert.quiescent_Kernel2 := fun m ρ _ => by
  have h := Res.kept_args (F := Bits) m ρ
  rw [← same2] at h
  exact h

theorem frame_ideal2 : Cert.quiescent_Kernel2Ideal := fun m ρ _ => (θ_run Cert.Kernel2Ideal.defs _ _).mono (fun _ h => h) (Res.kept_args (F := Ideal) m ρ)

theorem frame_ref2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem bodies3 : Cert.Kernel3.defs₀ (F := Bits) = Cert.Kernel3Ideal.defs₀ (F := Bits) := by
  unfold Cert.Kernel3.defs₀ Cert.Kernel3Ideal.defs₀
  refine congrArg Defs.onTc (funext fun l => funext fun a => ?_)
  fin_cases l
  rfl

theorem same3 : Cert.Kernel3.defs (F := Bits) = Cert.Kernel3Ideal.defs (F := Bits) := congrArg (Pipeline.defs Cert.Kernel3Ideal.pcfgs) bodies3

theorem frame_kernel3 : Cert.quiescent_Kernel3 := fun m ρ _ => by
  have h := Mix.kept_args (F := Bits) m ρ
  rw [← same3] at h
  exact h

theorem frame_ideal3 : Cert.quiescent_Kernel3Ideal := fun m ρ _ => (θ_run Cert.Kernel3Ideal.defs _ _).mono (fun _ h => h) (Mix.kept_args (F := Ideal) m ρ)

theorem frame_ref3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem bodies4 : Cert.Kernel4.defs₀ (F := Bits) = Cert.Kernel4Ideal.defs₀ (F := Bits) := by
  unfold Cert.Kernel4.defs₀ Cert.Kernel4Ideal.defs₀
  refine congrArg Defs.onTc (funext fun l => funext fun a => ?_)
  fin_cases l
  rfl

theorem same4 : Cert.Kernel4.defs (F := Bits) = Cert.Kernel4Ideal.defs (F := Bits) := congrArg (Pipeline.defs Cert.Kernel4Ideal.pcfgs) bodies4

theorem frame_kernel4 : Cert.quiescent_Kernel4 := fun m ρ _ => by
  have h := Qkv.kept_args (F := Bits) m ρ
  rw [← same4] at h
  exact h

theorem frame_ideal4 : Cert.quiescent_Kernel4Ideal := fun m ρ _ => (θ_run Cert.Kernel4Ideal.defs _ _).mono (fun _ h => h) (Qkv.kept_args (F := Ideal) m ρ)

theorem frame_ref4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem bodies5 : Cert.Kernel5.defs₀ (F := Bits) = Cert.Kernel5Ideal.defs₀ (F := Bits) := by
  unfold Cert.Kernel5.defs₀ Cert.Kernel5Ideal.defs₀
  refine congrArg Defs.onTc (funext fun l => funext fun a => ?_)
  fin_cases l
  rfl

theorem same5 : Cert.Kernel5.defs (F := Bits) = Cert.Kernel5Ideal.defs (F := Bits) := congrArg (Pipeline.defs Cert.Kernel5Ideal.pcfgs) bodies5

theorem frame_kernel5 : Cert.quiescent_Kernel5 := fun m ρ hp => by
  have h := Down.kept_args (F := Bits) m ρ (Down.in_range m (hp 0))
  rw [← same5] at h
  exact h

theorem frame_ideal5 : Cert.quiescent_Kernel5Ideal := fun m ρ hp =>
  (θ_run Cert.Kernel5Ideal.defs _ _).mono (fun _ h => h) (Down.kept_args (F := Ideal) m ρ (Down.in_range m (hp 0)))

theorem frame_routed5 : Cert.quiescent_Kernel5Ideal_pre_routed := fun m ρ hp =>
  (θ_run Cert.Kernel5Ideal.defs _ _).mono (fun _ h => h) (Down.kept_args (F := Ideal) m ρ (Down.in_range_routed m (hp 0).1))

theorem frame_ref5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem bodies6 : Cert.Kernel6.defs₀ (F := Bits) = Cert.Kernel6Ideal.defs₀ (F := Bits) := by
  unfold Cert.Kernel6.defs₀ Cert.Kernel6Ideal.defs₀
  refine congrArg Defs.onTc (funext fun l => funext fun a => ?_)
  fin_cases l
  rfl

theorem same6 : Cert.Kernel6.defs (F := Bits) = Cert.Kernel6Ideal.defs (F := Bits) := congrArg (Pipeline.defs Cert.Kernel6Ideal.pcfgs) bodies6

theorem frame_kernel6 : Cert.quiescent_Kernel6 := fun m ρ hp => by
  have h := Up.kept_args (F := Bits) m ρ (Up.in_range m (hp 0))
  rw [← same6] at h
  exact h

theorem frame_ideal6 : Cert.quiescent_Kernel6Ideal := fun m ρ hp =>
  (θ_run Cert.Kernel6Ideal.defs _ _).mono (fun _ h => h) (Up.kept_args (F := Ideal) m ρ (Up.in_range m (hp 0)))

theorem frame_dispatched6 : Cert.quiescent_Kernel6Ideal_pre_dispatched := fun m ρ hp =>
  (θ_run Cert.Kernel6Ideal.defs _ _).mono (fun _ h => h) (Up.kept_args (F := Ideal) m ρ (Up.in_range_dispatched m (hp 0).1))

theorem frame_ref6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem bodies7 : Cert.Kernel7.defs₀ (F := Bits) = Cert.Kernel7Ideal.defs₀ (F := Bits) := by
  unfold Cert.Kernel7.defs₀ Cert.Kernel7Ideal.defs₀
  refine congrArg Defs.onTc (funext fun l => funext fun a => ?_)
  fin_cases l
  rfl

theorem same7 : Cert.Kernel7.defs (F := Bits) = Cert.Kernel7Ideal.defs (F := Bits) := congrArg (Pipeline.defs Cert.Kernel7Ideal.pcfgs) bodies7

theorem frame_kernel7 : Cert.quiescent_Kernel7 := fun m ρ _ => by
  have h := Low.kept_args (F := Bits) m ρ
  rw [← same7] at h
  exact h

theorem frame_ideal7 : Cert.quiescent_Kernel7Ideal := fun m ρ _ => (θ_run Cert.Kernel7Ideal.defs _ _).mono (fun _ h => h) (Low.kept_args (F := Ideal) m ρ)

theorem frame_ref7 : Cert.quiescent_Reference7Ideal := fun m ρ _ =>
  (θ_run Cert.Reference7Ideal.defs _ _).mono (fun r h => ⟨fun c => (h c).2.2.2, Idealize.ShloMosaic.sem_eq_zero_of_no_sems (by decide) r.2⟩)
    (Cert.Reference7Ideal.Value.run (F := Ideal) m ρ)

theorem bodies8 : Cert.Kernel8.defs₀ (F := Bits) = Cert.Kernel8Ideal.defs₀ (F := Bits) := by
  unfold Cert.Kernel8.defs₀ Cert.Kernel8Ideal.defs₀
  refine congrArg Defs.onTc (funext fun l => funext fun a => ?_)
  fin_cases l
  rfl

theorem same8 : Cert.Kernel8.defs (F := Bits) = Cert.Kernel8Ideal.defs (F := Bits) := congrArg (Pipeline.defs Cert.Kernel8Ideal.pcfgs) bodies8

theorem frame_kernel8 : Cert.quiescent_Kernel8 := fun m ρ _ => by
  have h := Gate.kept_args (F := Bits) m ρ
  rw [← same8] at h
  exact h

theorem frame_ideal8 : Cert.quiescent_Kernel8Ideal := fun m ρ _ => (θ_run Cert.Kernel8Ideal.defs _ _).mono (fun _ h => h) (Gate.kept_args (F := Ideal) m ρ)

theorem frame_ref8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem bodies9 : Cert.Kernel9.defs₀ (F := Bits) = Cert.Kernel9Ideal.defs₀ (F := Bits) := by
  unfold Cert.Kernel9.defs₀ Cert.Kernel9Ideal.defs₀
  refine congrArg Defs.onTc (funext fun l => funext fun a => ?_)
  fin_cases l
  rfl

theorem same9 : Cert.Kernel9.defs (F := Bits) = Cert.Kernel9Ideal.defs (F := Bits) := congrArg (Pipeline.defs Cert.Kernel9Ideal.pcfgs) bodies9

theorem frame_kernel9 : Cert.quiescent_Kernel9 := fun m ρ _ => by
  have h := Rank.kept_args (F := Bits) m ρ
  rw [← same9] at h
  exact h

theorem frame_ideal9 : Cert.quiescent_Kernel9Ideal := fun m ρ _ => (θ_run Cert.Kernel9Ideal.defs _ _).mono (fun _ h => h) (Rank.kept_args (F := Ideal) m ρ)

theorem frame_ref9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem bodies10 : Cert.Kernel10.defs₀ (F := Bits) = Cert.Kernel10Ideal.defs₀ (F := Bits) := by
  unfold Cert.Kernel10.defs₀ Cert.Kernel10Ideal.defs₀
  refine congrArg Defs.onTc (funext fun l => funext fun a => ?_)
  fin_cases l
  rfl

theorem same10 : Cert.Kernel10.defs (F := Bits) = Cert.Kernel10Ideal.defs (F := Bits) := congrArg (Pipeline.defs Cert.Kernel10Ideal.pcfgs) bodies10

theorem frame_kernel10 : Cert.quiescent_Kernel10 := fun m ρ _ => by
  have h := Norm.kept_args (F := Bits) m ρ
  rw [← same10] at h
  exact h

theorem frame_ideal10 : Cert.quiescent_Kernel10Ideal := fun m ρ _ => (θ_run Cert.Kernel10Ideal.defs _ _).mono (fun _ h => h) (Norm.kept_args (F := Ideal) m ρ)

theorem frame_ref10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem bodies11 : Cert.Kernel11.defs₀ (F := Bits) = Cert.Kernel11Ideal.defs₀ (F := Bits) := by
  unfold Cert.Kernel11.defs₀ Cert.Kernel11Ideal.defs₀
  refine congrArg Defs.onTc (funext fun l => funext fun a => ?_)
  fin_cases l
  rfl

theorem same11 : Cert.Kernel11.defs (F := Bits) = Cert.Kernel11Ideal.defs (F := Bits) := congrArg (Pipeline.defs Cert.Kernel11Ideal.pcfgs) bodies11

theorem frame_kernel11 : Cert.quiescent_Kernel11 := fun m ρ _ => by
  have h := Route.kept_args (F := Bits) m ρ
  rw [← same11] at h
  exact h

theorem frame_ideal11 : Cert.quiescent_Kernel11Ideal := fun m ρ _ => (θ_run Cert.Kernel11Ideal.defs _ _).mono (fun _ h => h) (Route.kept_args (F := Ideal) m ρ)

theorem frame_ref11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

theorem values2 : Cert.algebraic_Kernel2Ideal_Reference2Ideal := fun m g m' g' _ hag =>
  ⟨Res.result m, Res.value m g, (θ_run Cert.Reference2Ideal.defs _ _).mono (fun r h c => by
    obtain ⟨a0, a1, a2⟩ := hag c
    refine ⟨(h c).1.trans ?_, (h c).2⟩
    rw [a0, a1, a2]
    exact Res.reference _ _ _) (Cert.Reference2Ideal.Value.run (F := Ideal) m' g')⟩

theorem values3 : Cert.algebraic_Kernel3Ideal_Reference3Ideal := fun m g m' g' _ hag =>
  ⟨Mix.result m, Mix.value m g, (θ_run Cert.Reference3Ideal.defs _ _).mono (fun r h c => by
    obtain ⟨a0, a1, a2, a3⟩ := hag c
    refine ⟨(h c).1.trans ?_, (h c).2⟩
    rw [a0, a1, a2, a3]
    unfold Mix.result
    rw [Cert.Kernel3Ideal.Gen.V_main_arg0, Cert.Kernel3Ideal.Gen.V_main_arg1, Cert.Kernel3Ideal.Gen.V_main_arg3]
    exact Mix.reference _ _ _ _ _ (Mix.row_of m c)) (Cert.Reference3Ideal.Value.run (F := Ideal) m' g')⟩

theorem values4 : Cert.algebraic_Kernel4Ideal_Reference4Ideal := fun m g m' g' _ hag =>
  ⟨Qkv.result m, Qkv.value m g, (θ_run Cert.Reference4Ideal.defs _ _).mono (fun r h c => by
    obtain ⟨a0, a1, a2, a3⟩ := hag c
    refine ⟨((h c).1.trans (Cert.Reference4Ideal.Read.val_main_v34_eq _ _ _ _)).trans ?_, (h c).2⟩
    rw [a0, a1, a2, a3]
    unfold Qkv.result
    rw [Cert.Kernel4Ideal.Gen.V_main_arg0, Cert.Kernel4Ideal.Gen.V_main_arg1]
    exact Qkv.reference _ _ _ _ _ _ (Qkv.row2 m c) (Qkv.row3 m c)) (Cert.Reference4Ideal.Value.run (F := Ideal) m' g')⟩

theorem values5 : Cert.algebraic_Kernel5Ideal_Reference5Ideal_pre_routed := fun m g m' g' hp hag =>
  ⟨Down.result m, Down.value m g (Down.in_range_routed m (hp 0).1), (θ_run Cert.Reference5Ideal.defs _ _).mono (fun r h c => by
    obtain rfl : c = 0 := Subsingleton.elim (α := Fin 1) c 0
    obtain ⟨a0, a1, a2, a3⟩ := hag 0
    refine ⟨((h 0).1.trans (Cert.Reference5Ideal.Read.val_main_v23_eq _ _ _)).trans ?_, (h 0).2⟩
    rw [a0, a1, a3]
    exact Down.reference _ _ _ _ (hp 0)) (Cert.Reference5Ideal.Value.run (F := Ideal) m' g')⟩

theorem values6 : Cert.algebraic_Kernel6Ideal_Reference6Ideal_pre_dispatched := fun m g m' g' hp hag =>
  ⟨Up.result m, Up.value m g (Up.in_range_dispatched m (hp 0).1), (θ_run Cert.Reference6Ideal.defs _ _).mono (fun r h c => by
    obtain rfl : c = 0 := Subsingleton.elim (α := Fin 1) c 0
    obtain ⟨a0, a1, a2, a3⟩ := hag 0
    refine ⟨((h 0).1.trans (Cert.Reference6Ideal.Read.val_main_v27_eq _ _)).trans ?_, (h 0).2⟩
    rw [a0, a1, a3]
    exact Up.reference _ _ _ _ (hp 0)) (Cert.Reference6Ideal.Value.run (F := Ideal) m' g')⟩

theorem values7 : Cert.algebraic_Kernel7Ideal_Reference7Ideal := fun m g m' g' _ hag =>
  ⟨Low.resultW m, Low.resultA m, Low.resultG m, Low.value m g, (θ_run Cert.Reference7Ideal.defs _ _).mono (fun r h c => by
    obtain ⟨a0, a1, a2, a3, a4, a5⟩ := hag c
    refine ⟨((h c).1.trans (Cert.Reference7Ideal.Read.val_main_v20_eq _ _ _ _)).trans ?_, ((h c).2.1.trans (Cert.Reference7Ideal.Read.val_main_v21_eq _ _ _ _)).trans ?_,
      ((h c).2.2.1.trans (Cert.Reference7Ideal.Read.val_main_v28_eq _ _ _ _)).trans ?_, (h c).2.2.2⟩
    · rw [a0, a1, a2, a3]
      unfold Low.resultW
      rw [Cert.Kernel7Ideal.Gen.V_main_arg0, Cert.Kernel7Ideal.Gen.V_main_arg1, Cert.Kernel7Ideal.Gen.V_main_arg3]
      exact Low.referenceW _ _ _ _ (Low.row_of m c) _
    · rw [a0, a1, a2, a4]
      unfold Low.resultA
      rw [Cert.Kernel7Ideal.Gen.V_main_arg0, Cert.Kernel7Ideal.Gen.V_main_arg1, Cert.Kernel7Ideal.Gen.V_main_arg4]
      exact Low.referenceA _ _ _ _ (Low.row_of m c) _
    · rw [a0, a1, a2, a5]
      unfold Low.resultG
      rw [Cert.Kernel7Ideal.Gen.V_main_arg0, Cert.Kernel7Ideal.Gen.V_main_arg1, Cert.Kernel7Ideal.Gen.V_main_arg5]
      exact Low.referenceG _ _ _ _ (Low.row_of m c) _) (Cert.Reference7Ideal.Value.run (F := Ideal) m' g')⟩

theorem values8 : Cert.algebraic_Kernel8Ideal_Reference8Ideal := fun m g m' g' _ hag =>
  ⟨Gate.result m, Gate.value m g, (θ_run Cert.Reference8Ideal.defs _ _).mono (fun r h c => by
    obtain ⟨a0, a1⟩ := hag c
    refine ⟨(h c).1.trans ?_, (h c).2⟩
    rw [a0, a1]
    exact Gate.reference _ _) (Cert.Reference8Ideal.Value.run (F := Ideal) m' g')⟩

theorem values9 : Cert.algebraic_Kernel9Ideal_Reference9Ideal := fun m g m' g' _ hag =>
  ⟨Rank.result m, Rank.value m g, (θ_run Cert.Reference9Ideal.defs _ _).mono (fun r h c => by
    obtain ⟨a0, a1⟩ := hag c
    refine ⟨(h c).1.trans ?_, (h c).2⟩
    rw [a0, a1]
    exact Rank.reference _ _) (Cert.Reference9Ideal.Value.run (F := Ideal) m' g')⟩

theorem values10 : Cert.algebraic_Kernel10Ideal_Reference10Ideal := fun m g m' g' _ hag =>
  ⟨Norm.result m, Norm.value m g, (θ_run Cert.Reference10Ideal.defs _ _).mono (fun r h c => by
    obtain ⟨a0, a1⟩ := hag c
    refine ⟨((h c).1.trans (Cert.Reference10Ideal.Read.val_main_v12_eq _ _)).trans ?_, (h c).2⟩
    rw [a0, a1]
    unfold Norm.result
    rw [Cert.Kernel10Ideal.Gen.V_main_arg0]
    exact Norm.reference _ _ _ (Norm.row_of m c)) (Cert.Reference10Ideal.Value.run (F := Ideal) m' g')⟩

theorem values11 : Cert.algebraic_Kernel11Ideal_Reference11Ideal := fun m g m' g' _ hag =>
  ⟨Route.result m, Route.value m g, (θ_run Cert.Reference11Ideal.defs _ _).mono (fun r h c => by
    obtain ⟨a0, a1, a2⟩ := hag c
    refine ⟨((h c).1.trans (Cert.Reference11Ideal.Read.val_main_v2_eq _ _ _)).trans ?_, (h c).2⟩
    rw [a0, a1, a2]
    unfold Route.result
    rw [Cert.Kernel11Ideal.Gen.V_main_arg0]
    exact Route.reference _ _ _ _ (Route.columns_of m c)) (Cert.Reference11Ideal.Value.run (F := Ideal) m' g')⟩

theorem bodies12 : Cert.Kernel12.defs₀ (F := Bits) = Cert.Kernel12Ideal.defs₀ (F := Bits) := by
  unfold Cert.Kernel12.defs₀ Cert.Kernel12Ideal.defs₀
  refine congrArg Defs.onTc (funext fun l => funext fun a => ?_)
  fin_cases l
  rfl

theorem same12 : Cert.Kernel12.defs (F := Bits) = Cert.Kernel12Ideal.defs (F := Bits) := congrArg (Pipeline.defs Cert.Kernel12Ideal.pcfgs) bodies12

theorem frame_kernel12 : Cert.quiescent_Kernel12 := fun m ρ _ => by
  have h := Prep.kept_args (F := Bits) m ρ
  rw [← same12] at h
  exact h

theorem frame_ideal12 : Cert.quiescent_Kernel12Ideal := fun m ρ _ => (θ_run Cert.Kernel12Ideal.defs _ _).mono (fun _ h => h) (Prep.kept_args (F := Ideal) m ρ)

theorem frame_ref12 : Cert.quiescent_Reference12Ideal := fun m ρ _ =>
  (θ_run Cert.Reference12Ideal.defs _ _).mono (fun r h => ⟨fun c => (h c).2.2.2.2, Idealize.ShloMosaic.sem_eq_zero_of_no_sems (by decide) r.2⟩)
    (Cert.Reference12Ideal.Value.run (F := Ideal) m ρ)

theorem values12 : Cert.algebraic_Kernel12Ideal_Reference12Ideal_pre_finite12 := fun m g m' g' hp hag =>
  ⟨Prep.resultD m, Prep.resultU m, Prep.resultR m, Prep.resultK m, Prep.value m g fun c => Prep.real m c (hp c),
    (θ_run Cert.Reference12Ideal.defs _ _).mono (fun r h c => by
      obtain ⟨a0, a1, a2, a3, a4, a5, a6⟩ := hag c
      refine ⟨((h c).1.trans (Cert.Reference12Ideal.Read.val_main_v10_eq _ _)).trans ?_, ((h c).2.1.trans (Cert.Reference12Ideal.Read.val_main_v32_eq _ _)).trans ?_,
        ((h c).2.2.1.trans (Cert.Reference12Ideal.Read.val_main_v33_eq _ _ _ _)).trans ?_,
        ((h c).2.2.2.1.trans (Cert.Reference12Ideal.Read.val_main_v41_eq _ _ _ _)).trans ?_, (h c).2.2.2.2⟩
      · rw [a1, a3]
        unfold Prep.resultD
        rw [Cert.Kernel12Ideal.Gen.V_main_arg1]
        exact Prep.referenceD _ _ _ (Prep.row0 m c)
      · rw [a0, a5]
        unfold Prep.resultU
        rw [Cert.Kernel12Ideal.Gen.V_main_arg0]
        exact Prep.referenceU _ _ _ (Prep.row2 m c)
      · rw [a0, a2, a4, a5]
        unfold Prep.resultR
        rw [Cert.Kernel12Ideal.Gen.V_main_arg0, Cert.Kernel12Ideal.Gen.V_main_arg2]
        exact Prep.referenceR _ _ _ (Prep.row2 m c) _ _ _ (Prep.row1 m c)
      · rw [a0, a2, a4, a6]
        unfold Prep.resultK
        rw [Cert.Kernel12Ideal.Gen.V_main_arg0, Cert.Kernel12Ideal.Gen.V_main_arg2]
        exact Prep.referenceK _ _ _ (Prep.row3 m c) _ _ _ (Prep.row1 m c)) (Cert.Reference12Ideal.Value.run (F := Ideal) m' g')⟩

theorem bodies13 : Cert.Kernel13.defs₀ (F := Bits) = Cert.Kernel13Ideal.defs₀ (F := Bits) := by
  unfold Cert.Kernel13.defs₀ Cert.Kernel13Ideal.defs₀
  refine congrArg Defs.onTc (funext fun l => funext fun a => ?_)
  fin_cases l
  rfl

theorem same13 : Cert.Kernel13.defs (F := Bits) = Cert.Kernel13Ideal.defs (F := Bits) := congrArg (Pipeline.defs Cert.Kernel13Ideal.pcfgs) bodies13

theorem frame_kernel13 : Cert.quiescent_Kernel13 := fun m ρ _ => by
  have h := Post.kept_args (F := Bits) m ρ
  rw [← same13] at h
  exact h

theorem frame_ideal13 : Cert.quiescent_Kernel13Ideal := fun m ρ _ => (θ_run Cert.Kernel13Ideal.defs _ _).mono (fun _ h => h) (Post.kept_args (F := Ideal) m ρ)

theorem frame_ref13 : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

theorem values13 : Cert.algebraic_Kernel13Ideal_Reference13Ideal_pre_finite13 := fun m g m' g' hp hag =>
  ⟨Post.result m, Post.value m g fun c => Post.real m c (hp c),
    (θ_run Cert.Reference13Ideal.defs _ _).mono (fun r h c => by
      obtain ⟨a0, a1, a2, a3, a4, a5, a6, a7⟩ := hag c
      refine ⟨((h c).1.trans (Cert.Reference13Ideal.Read.val_main_v39_eq _ _ _ _ _ _ _ _)).trans ?_, (h c).2⟩
      rw [a0, a1, a2, a3, a4, a5, a6, a7]
      unfold Post.result
      rw [Cert.Kernel13Ideal.Gen.V_main_arg0, Cert.Kernel13Ideal.Gen.V_main_arg1, Cert.Kernel13Ideal.Gen.V_main_arg2, Cert.Kernel13Ideal.Gen.V_main_arg3, Cert.Kernel13Ideal.Gen.V_main_arg4]
      exact Post.reference_eq _ _ _ _ _ _ _ _ _ _ _ (Post.row1 m c) (Post.row2 m c) (Post.row3 m c)) (Cert.Reference13Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite.Gen.facts, Cert.Pre_in_range5.Gen.facts, Cert.Pre_routed.Gen.facts, Cert.Pre_in_range6.Gen.facts, Cert.Pre_dispatched.Gen.facts, Cert.Pre_finite12.Gen.facts, Cert.Pre_finite13.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial, frame_kernel2, frame_ideal2, frame_ref2, frame_kernel3, frame_ideal3, frame_ref3,
  frame_kernel4, frame_ideal4, frame_ref4,
  frame_kernel5, frame_ideal5, frame_routed5, frame_ref5, fun m ρ _ => frame_ref5 m ρ trivial,
  frame_kernel6, frame_ideal6, frame_dispatched6, frame_ref6, fun m ρ _ => frame_ref6 m ρ trivial,
  frame_kernel7, frame_ideal7, frame_ref7,
  frame_kernel8, frame_ideal8, frame_ref8,
  frame_kernel9, frame_ideal9, frame_ref9,
  frame_kernel10, frame_ideal10, frame_ref10,
  frame_kernel11, frame_ideal11, frame_ref11,
  frame_kernel12, frame_ideal12, fun m ρ _ => frame_ideal12 m ρ trivial, frame_ref12, fun m ρ _ => frame_ref12 m ρ trivial,
  frame_kernel13, frame_ideal13, fun m ρ _ => frame_ideal13 m ρ trivial, frame_ref13, fun m ρ _ => frame_ref13 m ρ trivial,
  trivial, values, trivial, values2, trivial, values3, trivial, values4, trivial, values5, trivial, values6, trivial, values7, trivial, values8, trivial, values9, trivial, values10, trivial, values11, trivial, values12, trivial, values13⟩

end Cert.Proof

end
